-- ==== Defs.lean ====
def Pre_Kernel (m : (ℓ : Loc Cert.Kernel.nD Cert.Kernel.τ Cert.Kernel.sig) → Buf (Elt Bits) ℓ) : Prop :=
  True

def Pre_MlpBwd (m : (ℓ : Loc Cert.MlpBwd.nD Cert.MlpBwd.τ Cert.MlpBwd.sig) → Buf (Elt Bits) ℓ) : Prop :=
  True

def Pre_InProjBwd (m : (ℓ : Loc Cert.InProjBwd.nD Cert.InProjBwd.τ Cert.InProjBwd.sig) → Buf (Elt Bits) ℓ) : Prop :=
  True

def Pre_DwDown (m : (ℓ : Loc Cert.DwDown.nD Cert.DwDown.τ Cert.DwDown.sig) → Buf (Elt Bits) ℓ) : Prop :=
  True

def Pre_DwUp (m : (ℓ : Loc Cert.DwUp.nD Cert.DwUp.τ Cert.DwUp.sig) → Buf (Elt Bits) ℓ) : Prop :=
  True

def Pre_DwOut (m : (ℓ : Loc Cert.DwOut.nD Cert.DwOut.τ Cert.DwOut.sig) → Buf (Elt Bits) ℓ) : Prop :=
  True

def Pre_DwInZ (m : (ℓ : Loc Cert.DwInZ.nD Cert.DwInZ.τ Cert.DwInZ.sig) → Buf (Elt Bits) ℓ) : Prop :=
  True

def Pre_DwInXbc (m : (ℓ : Loc Cert.DwInXbc.nD Cert.DwInXbc.τ Cert.DwInXbc.sig) → Buf (Elt Bits) ℓ) : Prop :=
  True

def Pre_DwInCvg (m : (ℓ : Loc Cert.DwInCvg.nD Cert.DwInCvg.τ Cert.DwInCvg.sig) → Buf (Elt Bits) ℓ) : Prop :=
  True

def Pre_MlpDown (m : (ℓ : Loc Cert.MlpDown.nD Cert.MlpDown.τ Cert.MlpDown.sig) → Buf (Elt Bits) ℓ) : Prop :=
  True

def Pre_MlpUp (m : (ℓ : Loc Cert.MlpUp.nD Cert.MlpUp.τ Cert.MlpUp.sig) → Buf (Elt Bits) ℓ) : Prop :=
  True

def Pre_InProj (m : (ℓ : Loc Cert.InProj.nD Cert.InProj.τ Cert.InProj.sig) → Buf (Elt Bits) ℓ) : Prop :=
  True

def Pre_OutProjFwd (m : (ℓ : Loc Cert.OutProjFwd.nD Cert.OutProjFwd.τ Cert.OutProjFwd.sig) → Buf (Elt Bits) ℓ) : Prop :=
  True

def Pre_Tail (m : (ℓ : Loc Cert.Tail.nD Cert.Tail.τ Cert.Tail.sig) → Buf (Elt Bits) ℓ) : Prop :=
  True

def Pre_Filters (m : (ℓ : Loc Cert.Filters.nD Cert.Filters.τ Cert.Filters.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_DwDownIdeal (m : (ℓ : Loc Cert.DwDownIdeal.nD Cert.DwDownIdeal.τ Cert.DwDownIdeal.sig) → Buf (Elt Ideal) ℓ) : Prop :=
  True

def Pre_DwUpIdeal (m : (ℓ : Loc Cert.DwUpIdeal.nD Cert.DwUpIdeal.τ Cert.DwUpIdeal.sig) → Buf (Elt Ideal) ℓ) : Prop :=
  True

def Pre_DwOutIdeal (m : (ℓ : Loc Cert.DwOutIdeal.nD Cert.DwOutIdeal.τ Cert.DwOutIdeal.sig) → Buf (Elt Ideal) ℓ) : Prop :=
  True

def Pre_DwInZIdeal (m : (ℓ : Loc Cert.DwInZIdeal.nD Cert.DwInZIdeal.τ Cert.DwInZIdeal.sig) → Buf (Elt Ideal) ℓ) : Prop :=
  True

def Pre_DwInXbcIdeal (m : (ℓ : Loc Cert.DwInXbcIdeal.nD Cert.DwInXbcIdeal.τ Cert.DwInXbcIdeal.sig) → Buf (Elt Ideal) ℓ) : Prop :=
  True

def Pre_DwInCvgIdeal (m : (ℓ : Loc Cert.DwInCvgIdeal.nD Cert.DwInCvgIdeal.τ Cert.DwInCvgIdeal.sig) → Buf (Elt Ideal) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpUpIdeal (m : (ℓ : Loc Cert.MlpUpIdeal.nD Cert.MlpUpIdeal.τ Cert.MlpUpIdeal.sig) → Buf (Elt Ideal) ℓ) : Prop :=
  True

def Pre_InProjIdeal (m : (ℓ : Loc Cert.InProjIdeal.nD Cert.InProjIdeal.τ Cert.InProjIdeal.sig) → Buf (Elt Ideal) ℓ) : Prop :=
  True

def Pre_OutProjFwdIdeal (m : (ℓ : Loc Cert.OutProjFwdIdeal.nD Cert.OutProjFwdIdeal.τ Cert.OutProjFwdIdeal.sig) → Buf (Elt Ideal) ℓ) : Prop :=
  True

def Pre_TailIdeal (m : (ℓ : Loc Cert.TailIdeal.nD Cert.TailIdeal.τ Cert.TailIdeal.sig) → Buf (Elt Ideal) ℓ) : Prop :=
  True

def Pre_FiltersIdeal (m : (ℓ : Loc Cert.FiltersIdeal.nD Cert.FiltersIdeal.τ Cert.FiltersIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MlpBwdRefIdeal (m : (ℓ : Loc Cert.MlpBwdRefIdeal.nD Cert.MlpBwdRefIdeal.τ Cert.MlpBwdRefIdeal.sig) → Buf (Elt Ideal) ℓ) : Prop :=
  True

def Pre_InProjBwdRefIdeal (m : (ℓ : Loc Cert.InProjBwdRefIdeal.nD Cert.InProjBwdRefIdeal.τ Cert.InProjBwdRefIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwInZRefIdeal (m : (ℓ : Loc Cert.DwInZRefIdeal.nD Cert.DwInZRefIdeal.τ Cert.DwInZRefIdeal.sig) → Buf (Elt Ideal) ℓ) : Prop :=
  True

def Pre_DwInXbcRefIdeal (m : (ℓ : Loc Cert.DwInXbcRefIdeal.nD Cert.DwInXbcRefIdeal.τ Cert.DwInXbcRefIdeal.sig) → Buf (Elt Ideal) ℓ) : Prop :=
  True

def Pre_DwInCvgRefIdeal (m : (ℓ : Loc Cert.DwInCvgRefIdeal.nD Cert.DwInCvgRefIdeal.τ Cert.DwInCvgRefIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProjFwdRefIdeal (m : (ℓ : Loc Cert.OutProjFwdRefIdeal.nD Cert.OutProjFwdRefIdeal.τ Cert.OutProjFwdRefIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_FiltersRefIdeal (m : (ℓ : Loc Cert.FiltersRefIdeal.nD Cert.FiltersRefIdeal.τ Cert.FiltersRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3)
      ∧ r.2.mem ((c.tc : Thread Cert.DwOut.nD Cert.DwOut.τ).loc Cert.DwOut.main_arg4) = m ((c.tc : Thread Cert.DwOut.nD Cert.DwOut.τ).loc Cert.DwOut.main_arg4)
      ∧ r.2.mem ((c.tc : Thread Cert.DwOut.nD Cert.DwOut.τ).loc Cert.DwOut.main_arg5) = m ((c.tc : Thread Cert.DwOut.nD Cert.DwOut.τ).loc Cert.DwOut.main_arg5)
      ∧ r.2.mem ((c.tc : Thread Cert.DwOut.nD Cert.DwOut.τ).loc Cert.DwOut.main_arg6) = m ((c.tc : Thread Cert.DwOut.nD Cert.DwOut.τ).loc Cert.DwOut.main_arg6))
      ∧ r.2.sem = fun _ => 0)

def quiescent_DwInZ [hDwInZ : Cert.DwInZ.Facts] : Prop :=
  ∀ (m : (ℓ : Loc Cert.DwInZ.nD Cert.DwInZ.τ Cert.DwInZ.sig) → Buf (Elt Bits) ℓ) (g : Dev Cert.DwInZ.nD → PrngReg), Pre_DwInZ m →
    θ_run (Cert.DwInZ.defs (F := Bits)) (onTc (τ := Cert.DwInZ.τ) (Cert.DwInZ.main (F := Bits))) ⟨m, fun _ => 0, g⟩ (fun r => (∀ c : Dev Cert.DwInZ.nD,
      r.2.mem ((c.tc : Thread Cert.DwInZ.nD Cert.DwInZ.τ).loc Cert.DwInZ.main_arg0) = m ((c.tc : Thread Cert.DwInZ.nD Cert.DwInZ.τ).loc Cert.DwInZ.main_arg0)
      ∧ r.2.mem ((c.tc : Thread Cert.DwInZ.nD Cert.DwInZ.τ).loc Cert.DwInZ.main_arg1) = m ((c.tc : Thread Cert.DwInZ.nD Cert.DwInZ.τ).loc Cert.DwInZ.main_arg1)
      ∧ r.2.mem ((c.tc : Thread Cert.DwInZ.nD Cert.DwInZ.τ).loc Cert.DwInZ.main_arg2) = m ((c.tc : Thread Cert.DwInZ.nD Cert.DwInZ.τ).loc Cert.DwInZ.main_arg2))
      ∧ r.2.sem = fun _ => 0)

def quiescent_DwInXbc [hDwInXbc : Cert.DwInXbc.Facts] : Prop :=
  ∀ (m : (ℓ : Loc Cert.DwInXbc.nD Cert.DwInXbc.τ Cert.DwInXbc.sig) → Buf (Elt Bits) ℓ) (g : Dev Cert.DwInXbc.nD → PrngReg), Pre_DwInXbc m →
    θ_run (Cert.DwInXbc.defs (F := Bits)) (onTc (τ := Cert.DwInXbc.τ) (Cert.DwInXbc.main (F := Bits))) ⟨m, fun _ => 0, g⟩ (fun r => (∀ c : Dev Cert.DwInXbc.nD,
      r.2.mem ((c.tc : Thread Cert.DwInXbc.nD Cert.DwInXbc.τ).loc Cert.DwInXbc.main_arg0) = m ((c.tc : Thread Cert.DwInXbc.nD Cert.DwInXbc.τ).loc Cert.DwInXbc.main_arg0)
      ∧ r.2.mem ((c.tc : Thread Cert.DwInXbc.nD Cert.DwInXbc.τ).loc Cert.DwInXbc.main_arg1) = m ((c.tc : Thread Cert.DwInXbc.nD Cert.DwInXbc.τ).loc Cert.DwInXbc.main_arg1)
      ∧ r.2.mem ((c.tc : Thread Cert.DwInXbc.nD Cert.DwInXbc.τ).loc Cert.DwInXbc.main_arg2) = m ((c.tc : Thread Cert.DwInXbc.nD Cert.DwInXbc.τ).loc Cert.DwInXbc.main_arg2))
      ∧ r.2.sem = fun _ => 0)

def quiescent_DwInCvg [hDwInCvg : Cert.DwInCvg.Facts] : Prop :=
  ∀ (m : (ℓ : Loc Cert.DwInCvg.nD Cert.DwInCvg.τ Cert.DwInCvg.sig) → Buf (Elt Bits) ℓ) (g : Dev Cert.DwInCvg.nD → PrngReg), Pre_DwInCvg m →
    θ_run (Cert.DwInCvg.defs (F := Bits)) (onTc (τ := Cert.DwInCvg.τ) (Cert.DwInCvg.main (F := Bits))) ⟨m, fun _ => 0, g⟩ (fun r => (∀ c : Dev Cert.DwInCvg.nD,
      r.2.mem ((c.tc : Thread Cert.DwInCvg.nD Cert.DwInCvg.τ).loc Cert.DwInCvg.main_arg0) = m ((c.tc : Thread Cert.DwInCvg.nD Cert.DwInCvg.τ).loc Cert.DwInCvg.main_arg0)
      ∧ r.2.mem ((c.tc : Thread Cert.DwInCvg.nD Cert.DwInCvg.τ).loc Cert.DwInCvg.main_arg1) = m ((c.tc : Thread Cert.DwInCvg.nD Cert.DwInCvg.τ).loc Cert.DwInCvg.main_arg1)
      ∧ r.2.mem ((c.tc : Thread Cert.DwInCvg.nD Cert.DwInCvg.τ).loc Cert.DwInCvg.main_arg2) = m ((c.tc : Thread Cert.DwInCvg.nD Cert.DwInCvg.τ).loc Cert.DwInCvg.main_arg2))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_OutProjFwd [hOutProjFwd : Cert.OutProjFwd.Facts] : Prop :=
  ∀ (m : (ℓ : Loc Cert.OutProjFwd.nD Cert.OutProjFwd.τ Cert.OutProjFwd.sig) → Buf (Elt Bits) ℓ) (g : Dev Cert.OutProjFwd.nD → PrngReg), Pre_OutProjFwd m →
    θ_run (Cert.OutProjFwd.defs (F := Bits)) (onTc (τ := Cert.OutProjFwd.τ) (Cert.OutProjFwd.main (F := Bits))) ⟨m, fun _ => 0, g⟩ (fun r => (∀ c : Dev Cert.OutProjFwd.nD,
      r.2.mem ((c.tc : Thread Cert.OutProjFwd.nD Cert.OutProjFwd.τ).loc Cert.OutProjFwd.main_arg0) = m ((c.tc : Thread Cert.OutProjFwd.nD Cert.OutProjFwd.τ).loc Cert.OutProjFwd.main_arg0)
      ∧ r.2.mem ((c.tc : Thread Cert.OutProjFwd.nD Cert.OutProjFwd.τ).loc Cert.OutProjFwd.main_arg1) = m ((c.tc : Thread Cert.OutProjFwd.nD Cert.OutProjFwd.τ).loc Cert.OutProjFwd.main_arg1)
      ∧ r.2.mem ((c.tc : Thread Cert.OutProjFwd.nD Cert.OutProjFwd.τ).loc Cert.OutProjFwd.main_arg2) = m ((c.tc : Thread Cert.OutProjFwd.nD Cert.OutProjFwd.τ).loc Cert.OutProjFwd.main_arg2)
      ∧ r.2.mem ((c.tc : Thread Cert.OutProjFwd.nD Cert.OutProjFwd.τ).loc Cert.OutProjFwd.main_arg3) = m ((c.tc : Thread Cert.OutProjFwd.nD Cert.OutProjFwd.τ).loc Cert.OutProjFwd.main_arg3)
      ∧ r.2.mem ((c.tc : Thread Cert.OutProjFwd.nD Cert.OutProjFwd.τ).loc Cert.OutProjFwd.main_arg4) = m ((c.tc : Thread Cert.OutProjFwd.nD Cert.OutProjFwd.τ).loc Cert.OutProjFwd.main_arg4)
      ∧ r.2.mem ((c.tc : Thread Cert.OutProjFwd.nD Cert.OutProjFwd.τ).loc Cert.OutProjFwd.main_arg5) = m ((c.tc : Thread Cert.OutProjFwd.nD Cert.OutProjFwd.τ).loc Cert.OutProjFwd.main_arg5)
      ∧ r.2.mem ((c.tc : Thread Cert.OutProjFwd.nD Cert.OutProjFwd.τ).loc Cert.OutProjFwd.main_arg6) = m ((c.tc : Thread Cert.OutProjFwd.nD Cert.OutProjFwd.τ).loc Cert.OutProjFwd.main_arg6)
      ∧ r.2.mem ((c.tc : Thread Cert.OutProjFwd.nD Cert.OutProjFwd.τ).loc Cert.OutProjFwd.main_arg7) = m ((c.tc : Thread Cert.OutProjFwd.nD Cert.OutProjFwd.τ).loc Cert.OutProjFwd.main_arg7)
      ∧ r.2.mem ((c.tc : Thread Cert.OutProjFwd.nD Cert.OutProjFwd.τ).loc Cert.OutProjFwd.main_arg8) = m ((c.tc : Thread Cert.OutProjFwd.nD Cert.OutProjFwd.τ).loc Cert.OutProjFwd.main_arg8))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_Filters [hFilters : Cert.Filters.Facts] : Prop :=
  ∀ (m : (ℓ : Loc Cert.Filters.nD Cert.Filters.τ Cert.Filters.sig) → Buf (Elt Bits) ℓ) (g : Dev Cert.Filters.nD → PrngReg), Pre_Filters m →
    θ_run (Cert.Filters.defs (F := Bits)) (onTc (τ := Cert.Filters.τ) (Cert.Filters.main (F := Bits))) ⟨m, fun _ => 0, g⟩ (fun r => (∀ c : Dev Cert.Filters.nD,
      r.2.mem ((c.tc : Thread Cert.Filters.nD Cert.Filters.τ).loc Cert.Filters.main_arg0) = m ((c.tc : Thread Cert.Filters.nD Cert.Filters.τ).loc Cert.Filters.main_arg0)
      ∧ r.2.mem ((c.tc : Thread Cert.Filters.nD Cert.Filters.τ).loc Cert.Filters.main_arg1) = m ((c.tc : Thread Cert.Filters.nD Cert.Filters.τ).loc Cert.Filters.main_arg1)
      ∧ r.2.mem ((c.tc : Thread Cert.Filters.nD Cert.Filters.τ).loc Cert.Filters.main_arg2) = m ((c.tc : Thread Cert.Filters.nD Cert.Filters.τ).loc Cert.Filters.main_arg2)
      ∧ r.2.mem ((c.tc : Thread Cert.Filters.nD Cert.Filters.τ).loc Cert.Filters.main_arg3) = m ((c.tc : Thread Cert.Filters.nD Cert.Filters.τ).loc Cert.Filters.main_arg3)
      ∧ r.2.mem ((c.tc : Thread Cert.Filters.nD Cert.Filters.τ).loc Cert.Filters.main_arg4) = m ((c.tc : Thread Cert.Filters.nD Cert.Filters.τ).loc Cert.Filters.main_arg4)
      ∧ r.2.mem ((c.tc : Thread Cert.Filters.nD Cert.Filters.τ).loc Cert.Filters.main_arg5) = m ((c.tc : Thread Cert.Filters.nD Cert.Filters.τ).loc Cert.Filters.main_arg5)
      ∧ r.2.mem ((c.tc : Thread Cert.Filters.nD Cert.Filters.τ).loc Cert.Filters.main_arg6) = m ((c.tc : Thread Cert.Filters.nD Cert.Filters.τ).loc Cert.Filters.main_arg6)
      ∧ r.2.mem ((c.tc : Thread Cert.Filters.nD Cert.Filters.τ).loc Cert.Filters.main_arg7) = m ((c.tc : Thread Cert.Filters.nD Cert.Filters.τ).loc Cert.Filters.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3)
      ∧ r.2.mem ((c.tc : Thread Cert.DwOutIdeal.nD Cert.DwOutIdeal.τ).loc Cert.DwOutIdeal.main_arg4) = m ((c.tc : Thread Cert.DwOutIdeal.nD Cert.DwOutIdeal.τ).loc Cert.DwOutIdeal.main_arg4)
      ∧ r.2.mem ((c.tc : Thread Cert.DwOutIdeal.nD Cert.DwOutIdeal.τ).loc Cert.DwOutIdeal.main_arg5) = m ((c.tc : Thread Cert.DwOutIdeal.nD Cert.DwOutIdeal.τ).loc Cert.DwOutIdeal.main_arg5)
      ∧ r.2.mem ((c.tc : Thread Cert.DwOutIdeal.nD Cert.DwOutIdeal.τ).loc Cert.DwOutIdeal.main_arg6) = m ((c.tc : Thread Cert.DwOutIdeal.nD Cert.DwOutIdeal.τ).loc Cert.DwOutIdeal.main_arg6))
      ∧ r.2.sem = fun _ => 0)

def quiescent_DwInZIdeal [hDwInZIdeal : Cert.DwInZIdeal.Facts] : Prop :=
  ∀ (m : (ℓ : Loc Cert.DwInZIdeal.nD Cert.DwInZIdeal.τ Cert.DwInZIdeal.sig) → Buf (Elt Ideal) ℓ) (g : Dev Cert.DwInZIdeal.nD → PrngReg), Pre_DwInZIdeal m →
    θ_run (Cert.DwInZIdeal.defs (F := Ideal)) (onTc (τ := Cert.DwInZIdeal.τ) (Cert.DwInZIdeal.main (F := Ideal))) ⟨m, fun _ => 0, g⟩ (fun r => (∀ c : Dev Cert.DwInZIdeal.nD,
      r.2.mem ((c.tc : Thread Cert.DwInZIdeal.nD Cert.DwInZIdeal.τ).loc Cert.DwInZIdeal.main_arg0) = m ((c.tc : Thread Cert.DwInZIdeal.nD Cert.DwInZIdeal.τ).loc Cert.DwInZIdeal.main_arg0)
      ∧ r.2.mem ((c.tc : Thread Cert.DwInZIdeal.nD Cert.DwInZIdeal.τ).loc Cert.DwInZIdeal.main_arg1) = m ((c.tc : Thread Cert.DwInZIdeal.nD Cert.DwInZIdeal.τ).loc Cert.DwInZIdeal.main_arg1)
      ∧ r.2.mem ((c.tc : Thread Cert.DwInZIdeal.nD Cert.DwInZIdeal.τ).loc Cert.DwInZIdeal.main_arg2) = m ((c.tc : Thread Cert.DwInZIdeal.nD Cert.DwInZIdeal.τ).loc Cert.DwInZIdeal.main_arg2))
      ∧ r.2.sem = fun _ => 0)

def quiescent_DwInXbcIdeal [hDwInXbcIdeal : Cert.DwInXbcIdeal.Facts] : Prop :=
  ∀ (m : (ℓ : Loc Cert.DwInXbcIdeal.nD Cert.DwInXbcIdeal.τ Cert.DwInXbcIdeal.sig) → Buf (Elt Ideal) ℓ) (g : Dev Cert.DwInXbcIdeal.nD → PrngReg), Pre_DwInXbcIdeal m →
    θ_run (Cert.DwInXbcIdeal.defs (F := Ideal)) (onTc (τ := Cert.DwInXbcIdeal.τ) (Cert.DwInXbcIdeal.main (F := Ideal))) ⟨m, fun _ => 0, g⟩ (fun r => (∀ c : Dev Cert.DwInXbcIdeal.nD,
      r.2.mem ((c.tc : Thread Cert.DwInXbcIdeal.nD Cert.DwInXbcIdeal.τ).loc Cert.DwInXbcIdeal.main_arg0) = m ((c.tc : Thread Cert.DwInXbcIdeal.nD Cert.DwInXbcIdeal.τ).loc Cert.DwInXbcIdeal.main_arg0)
      ∧ r.2.mem ((c.tc : Thread Cert.DwInXbcIdeal.nD Cert.DwInXbcIdeal.τ).loc Cert.DwInXbcIdeal.main_arg1) = m ((c.tc : Thread Cert.DwInXbcIdeal.nD Cert.DwInXbcIdeal.τ).loc Cert.DwInXbcIdeal.main_arg1)
      ∧ r.2.mem ((c.tc : Thread Cert.DwInXbcIdeal.nD Cert.DwInXbcIdeal.τ).loc Cert.DwInXbcIdeal.main_arg2) = m ((c.tc : Thread Cert.DwInXbcIdeal.nD Cert.DwInXbcIdeal.τ).loc Cert.DwInXbcIdeal.main_arg2))
      ∧ r.2.sem = fun _ => 0)

def quiescent_DwInCvgIdeal [hDwInCvgIdeal : Cert.DwInCvgIdeal.Facts] : Prop :=
  ∀ (m : (ℓ : Loc Cert.DwInCvgIdeal.nD Cert.DwInCvgIdeal.τ Cert.DwInCvgIdeal.sig) → Buf (Elt Ideal) ℓ) (g : Dev Cert.DwInCvgIdeal.nD → PrngReg), Pre_DwInCvgIdeal m →
    θ_run (Cert.DwInCvgIdeal.defs (F := Ideal)) (onTc (τ := Cert.DwInCvgIdeal.τ) (Cert.DwInCvgIdeal.main (F := Ideal))) ⟨m, fun _ => 0, g⟩ (fun r => (∀ c : Dev Cert.DwInCvgIdeal.nD,
      r.2.mem ((c.tc : Thread Cert.DwInCvgIdeal.nD Cert.DwInCvgIdeal.τ).loc Cert.DwInCvgIdeal.main_arg0) = m ((c.tc : Thread Cert.DwInCvgIdeal.nD Cert.DwInCvgIdeal.τ).loc Cert.DwInCvgIdeal.main_arg0)
      ∧ r.2.mem ((c.tc : Thread Cert.DwInCvgIdeal.nD Cert.DwInCvgIdeal.τ).loc Cert.DwInCvgIdeal.main_arg1) = m ((c.tc : Thread Cert.DwInCvgIdeal.nD Cert.DwInCvgIdeal.τ).loc Cert.DwInCvgIdeal.main_arg1)
      ∧ r.2.mem ((c.tc : Thread Cert.DwInCvgIdeal.nD Cert.DwInCvgIdeal.τ).loc Cert.DwInCvgIdeal.main_arg2) = m ((c.tc : Thread Cert.DwInCvgIdeal.nD Cert.DwInCvgIdeal.τ).loc Cert.DwInCvgIdeal.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_OutProjFwdIdeal [hOutProjFwdIdeal : Cert.OutProjFwdIdeal.Facts] : Prop :=
  ∀ (m : (ℓ : Loc Cert.OutProjFwdIdeal.nD Cert.OutProjFwdIdeal.τ Cert.OutProjFwdIdeal.sig) → Buf (Elt Ideal) ℓ) (g : Dev Cert.OutProjFwdIdeal.nD → PrngReg), Pre_OutProjFwdIdeal m →
    θ_run (Cert.OutProjFwdIdeal.defs (F := Ideal)) (onTc (τ := Cert.OutProjFwdIdeal.τ) (Cert.OutProjFwdIdeal.main (F := Ideal))) ⟨m, fun _ => 0, g⟩ (fun r => (∀ c : Dev Cert.OutProjFwdIdeal.nD,
      r.2.mem ((c.tc : Thread Cert.OutProjFwdIdeal.nD Cert.OutProjFwdIdeal.τ).loc Cert.OutProjFwdIdeal.main_arg0) = m ((c.tc : Thread Cert.OutProjFwdIdeal.nD Cert.OutProjFwdIdeal.τ).loc Cert.OutProjFwdIdeal.main_arg0)
      ∧ r.2.mem ((c.tc : Thread Cert.OutProjFwdIdeal.nD Cert.OutProjFwdIdeal.τ).loc Cert.OutProjFwdIdeal.main_arg1) = m ((c.tc : Thread Cert.OutProjFwdIdeal.nD Cert.OutProjFwdIdeal.τ).loc Cert.OutProjFwdIdeal.main_arg1)
      ∧ r.2.mem ((c.tc : Thread Cert.OutProjFwdIdeal.nD Cert.OutProjFwdIdeal.τ).loc Cert.OutProjFwdIdeal.main_arg2) = m ((c.tc : Thread Cert.OutProjFwdIdeal.nD Cert.OutProjFwdIdeal.τ).loc Cert.OutProjFwdIdeal.main_arg2)
      ∧ r.2.mem ((c.tc : Thread Cert.OutProjFwdIdeal.nD Cert.OutProjFwdIdeal.τ).loc Cert.OutProjFwdIdeal.main_arg3) = m ((c.tc : Thread Cert.OutProjFwdIdeal.nD Cert.OutProjFwdIdeal.τ).loc Cert.OutProjFwdIdeal.main_arg3)
      ∧ r.2.mem ((c.tc : Thread Cert.OutProjFwdIdeal.nD Cert.OutProjFwdIdeal.τ).loc Cert.OutProjFwdIdeal.main_arg4) = m ((c.tc : Thread Cert.OutProjFwdIdeal.nD Cert.OutProjFwdIdeal.τ).loc Cert.OutProjFwdIdeal.main_arg4)
      ∧ r.2.mem ((c.tc : Thread Cert.OutProjFwdIdeal.nD Cert.OutProjFwdIdeal.τ).loc Cert.OutProjFwdIdeal.main_arg5) = m ((c.tc : Thread Cert.OutProjFwdIdeal.nD Cert.OutProjFwdIdeal.τ).loc Cert.OutProjFwdIdeal.main_arg5)
      ∧ r.2.mem ((c.tc : Thread Cert.OutProjFwdIdeal.nD Cert.OutProjFwdIdeal.τ).loc Cert.OutProjFwdIdeal.main_arg6) = m ((c.tc : Thread Cert.OutProjFwdIdeal.nD Cert.OutProjFwdIdeal.τ).loc Cert.OutProjFwdIdeal.main_arg6)
      ∧ r.2.mem ((c.tc : Thread Cert.OutProjFwdIdeal.nD Cert.OutProjFwdIdeal.τ).loc Cert.OutProjFwdIdeal.main_arg7) = m ((c.tc : Thread Cert.OutProjFwdIdeal.nD Cert.OutProjFwdIdeal.τ).loc Cert.OutProjFwdIdeal.main_arg7)
      ∧ r.2.mem ((c.tc : Thread Cert.OutProjFwdIdeal.nD Cert.OutProjFwdIdeal.τ).loc Cert.OutProjFwdIdeal.main_arg8) = m ((c.tc : Thread Cert.OutProjFwdIdeal.nD Cert.OutProjFwdIdeal.τ).loc Cert.OutProjFwdIdeal.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_FiltersIdeal [hFiltersIdeal : Cert.FiltersIdeal.Facts] : Prop :=
  ∀ (m : (ℓ : Loc Cert.FiltersIdeal.nD Cert.FiltersIdeal.τ Cert.FiltersIdeal.sig) → Buf (Elt Ideal) ℓ) (g : Dev Cert.FiltersIdeal.nD → PrngReg), Pre_FiltersIdeal m →
    θ_run (Cert.FiltersIdeal.defs (F := Ideal)) (onTc (τ := Cert.FiltersIdeal.τ) (Cert.FiltersIdeal.main (F := Ideal))) ⟨m, fun _ => 0, g⟩ (fun r => (∀ c : Dev Cert.FiltersIdeal.nD,
      r.2.mem ((c.tc : Thread Cert.FiltersIdeal.nD Cert.FiltersIdeal.τ).loc Cert.FiltersIdeal.main_arg0) = m ((c.tc : Thread Cert.FiltersIdeal.nD Cert.FiltersIdeal.τ).loc Cert.FiltersIdeal.main_arg0)
      ∧ r.2.mem ((c.tc : Thread Cert.FiltersIdeal.nD Cert.FiltersIdeal.τ).loc Cert.FiltersIdeal.main_arg1) = m ((c.tc : Thread Cert.FiltersIdeal.nD Cert.FiltersIdeal.τ).loc Cert.FiltersIdeal.main_arg1)
      ∧ r.2.mem ((c.tc : Thread Cert.FiltersIdeal.nD Cert.FiltersIdeal.τ).loc Cert.FiltersIdeal.main_arg2) = m ((c.tc : Thread Cert.FiltersIdeal.nD Cert.FiltersIdeal.τ).loc Cert.FiltersIdeal.main_arg2)
      ∧ r.2.mem ((c.tc : Thread Cert.FiltersIdeal.nD Cert.FiltersIdeal.τ).loc Cert.FiltersIdeal.main_arg3) = m ((c.tc : Thread Cert.FiltersIdeal.nD Cert.FiltersIdeal.τ).loc Cert.FiltersIdeal.main_arg3)
      ∧ r.2.mem ((c.tc : Thread Cert.FiltersIdeal.nD Cert.FiltersIdeal.τ).loc Cert.FiltersIdeal.main_arg4) = m ((c.tc : Thread Cert.FiltersIdeal.nD Cert.FiltersIdeal.τ).loc Cert.FiltersIdeal.main_arg4)
      ∧ r.2.mem ((c.tc : Thread Cert.FiltersIdeal.nD Cert.FiltersIdeal.τ).loc Cert.FiltersIdeal.main_arg5) = m ((c.tc : Thread Cert.FiltersIdeal.nD Cert.FiltersIdeal.τ).loc Cert.FiltersIdeal.main_arg5)
      ∧ r.2.mem ((c.tc : Thread Cert.FiltersIdeal.nD Cert.FiltersIdeal.τ).loc Cert.FiltersIdeal.main_arg6) = m ((c.tc : Thread Cert.FiltersIdeal.nD Cert.FiltersIdeal.τ).loc Cert.FiltersIdeal.main_arg6)
      ∧ r.2.mem ((c.tc : Thread Cert.FiltersIdeal.nD Cert.FiltersIdeal.τ).loc Cert.FiltersIdeal.main_arg7) = m ((c.tc : Thread Cert.FiltersIdeal.nD Cert.FiltersIdeal.τ).loc Cert.FiltersIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3)
      ∧ r.2.mem ((c.tc : Thread Cert.DwOutRefIdeal.nD Cert.DwOutRefIdeal.τ).loc Cert.DwOutRefIdeal.main_arg4) = m ((c.tc : Thread Cert.DwOutRefIdeal.nD Cert.DwOutRefIdeal.τ).loc Cert.DwOutRefIdeal.main_arg4)
      ∧ r.2.mem ((c.tc : Thread Cert.DwOutRefIdeal.nD Cert.DwOutRefIdeal.τ).loc Cert.DwOutRefIdeal.main_arg5) = m ((c.tc : Thread Cert.DwOutRefIdeal.nD Cert.DwOutRefIdeal.τ).loc Cert.DwOutRefIdeal.main_arg5)
      ∧ r.2.mem ((c.tc : Thread Cert.DwOutRefIdeal.nD Cert.DwOutRefIdeal.τ).loc Cert.DwOutRefIdeal.main_arg6) = m ((c.tc : Thread Cert.DwOutRefIdeal.nD Cert.DwOutRefIdeal.τ).loc Cert.DwOutRefIdeal.main_arg6))
      ∧ r.2.sem = fun _ => 0)

def quiescent_DwInZRefIdeal [hDwInZRefIdeal : Cert.DwInZRefIdeal.Facts] : Prop :=
  ∀ (m : (ℓ : Loc Cert.DwInZRefIdeal.nD Cert.DwInZRefIdeal.τ Cert.DwInZRefIdeal.sig) → Buf (Elt Ideal) ℓ) (g : Dev Cert.DwInZRefIdeal.nD → PrngReg), Pre_DwInZRefIdeal m →
    θ_run (Cert.DwInZRefIdeal.defs (F := Ideal)) (onTc (τ := Cert.DwInZRefIdeal.τ) (Cert.DwInZRefIdeal.main (F := Ideal))) ⟨m, fun _ => 0, g⟩ (fun r => (∀ c : Dev Cert.DwInZRefIdeal.nD,
      r.2.mem ((c.tc : Thread Cert.DwInZRefIdeal.nD Cert.DwInZRefIdeal.τ).loc Cert.DwInZRefIdeal.main_arg0) = m ((c.tc : Thread Cert.DwInZRefIdeal.nD Cert.DwInZRefIdeal.τ).loc Cert.DwInZRefIdeal.main_arg0)
      ∧ r.2.mem ((c.tc : Thread Cert.DwInZRefIdeal.nD Cert.DwInZRefIdeal.τ).loc Cert.DwInZRefIdeal.main_arg1) = m ((c.tc : Thread Cert.DwInZRefIdeal.nD Cert.DwInZRefIdeal.τ).loc Cert.DwInZRefIdeal.main_arg1)
      ∧ r.2.mem ((c.tc : Thread Cert.DwInZRefIdeal.nD Cert.DwInZRefIdeal.τ).loc Cert.DwInZRefIdeal.main_arg2) = m ((c.tc : Thread Cert.DwInZRefIdeal.nD Cert.DwInZRefIdeal.τ).loc Cert.DwInZRefIdeal.main_arg2))
      ∧ r.2.sem = fun _ => 0)

def quiescent_DwInXbcRefIdeal [hDwInXbcRefIdeal : Cert.DwInXbcRefIdeal.Facts] : Prop :=
  ∀ (m : (ℓ : Loc Cert.DwInXbcRefIdeal.nD Cert.DwInXbcRefIdeal.τ Cert.DwInXbcRefIdeal.sig) → Buf (Elt Ideal) ℓ) (g : Dev Cert.DwInXbcRefIdeal.nD → PrngReg), Pre_DwInXbcRefIdeal m →
    θ_run (Cert.DwInXbcRefIdeal.defs (F := Ideal)) (onTc (τ := Cert.DwInXbcRefIdeal.τ) (Cert.DwInXbcRefIdeal.main (F := Ideal))) ⟨m, fun _ => 0, g⟩ (fun r => (∀ c : Dev Cert.DwInXbcRefIdeal.nD,
      r.2.mem ((c.tc : Thread Cert.DwInXbcRefIdeal.nD Cert.DwInXbcRefIdeal.τ).loc Cert.DwInXbcRefIdeal.main_arg0) = m ((c.tc : Thread Cert.DwInXbcRefIdeal.nD Cert.DwInXbcRefIdeal.τ).loc Cert.DwInXbcRefIdeal.main_arg0)
      ∧ r.2.mem ((c.tc : Thread Cert.DwInXbcRefIdeal.nD Cert.DwInXbcRefIdeal.τ).loc Cert.DwInXbcRefIdeal.main_arg1) = m ((c.tc : Thread Cert.DwInXbcRefIdeal.nD Cert.DwInXbcRefIdeal.τ).loc Cert.DwInXbcRefIdeal.main_arg1)
      ∧ r.2.mem ((c.tc : Thread Cert.DwInXbcRefIdeal.nD Cert.DwInXbcRefIdeal.τ).loc Cert.DwInXbcRefIdeal.main_arg2) = m ((c.tc : Thread Cert.DwInXbcRefIdeal.nD Cert.DwInXbcRefIdeal.τ).loc Cert.DwInXbcRefIdeal.main_arg2))
      ∧ r.2.sem = fun _ => 0)

def quiescent_DwInCvgRefIdeal [hDwInCvgRefIdeal : Cert.DwInCvgRefIdeal.Facts] : Prop :=
  ∀ (m : (ℓ : Loc Cert.DwInCvgRefIdeal.nD Cert.DwInCvgRefIdeal.τ Cert.DwInCvgRefIdeal.sig) → Buf (Elt Ideal) ℓ) (g : Dev Cert.DwInCvgRefIdeal.nD → PrngReg), Pre_DwInCvgRefIdeal m →
    θ_run (Cert.DwInCvgRefIdeal.defs (F := Ideal)) (onTc (τ := Cert.DwInCvgRefIdeal.τ) (Cert.DwInCvgRefIdeal.main (F := Ideal))) ⟨m, fun _ => 0, g⟩ (fun r => (∀ c : Dev Cert.DwInCvgRefIdeal.nD,
      r.2.mem ((c.tc : Thread Cert.DwInCvgRefIdeal.nD Cert.DwInCvgRefIdeal.τ).loc Cert.DwInCvgRefIdeal.main_arg0) = m ((c.tc : Thread Cert.DwInCvgRefIdeal.nD Cert.DwInCvgRefIdeal.τ).loc Cert.DwInCvgRefIdeal.main_arg0)
      ∧ r.2.mem ((c.tc : Thread Cert.DwInCvgRefIdeal.nD Cert.DwInCvgRefIdeal.τ).loc Cert.DwInCvgRefIdeal.main_arg1) = m ((c.tc : Thread Cert.DwInCvgRefIdeal.nD Cert.DwInCvgRefIdeal.τ).loc Cert.DwInCvgRefIdeal.main_arg1)
      ∧ r.2.mem ((c.tc : Thread Cert.DwInCvgRefIdeal.nD Cert.DwInCvgRefIdeal.τ).loc Cert.DwInCvgRefIdeal.main_arg2) = m ((c.tc : Thread Cert.DwInCvgRefIdeal.nD Cert.DwInCvgRefIdeal.τ).loc Cert.DwInCvgRefIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProjFwdRefIdeal [hOutProjFwdRefIdeal : Cert.OutProjFwdRefIdeal.Facts] : Prop :=
  ∀ (m : (ℓ : Loc Cert.OutProjFwdRefIdeal.nD Cert.OutProjFwdRefIdeal.τ Cert.OutProjFwdRefIdeal.sig) → Buf (Elt Ideal) ℓ) (g : Dev Cert.OutProjFwdRefIdeal.nD → PrngReg), Pre_OutProjFwdRefIdeal m →
    θ_run (Cert.OutProjFwdRefIdeal.defs (F := Ideal)) (onTc (τ := Cert.OutProjFwdRefIdeal.τ) (Cert.OutProjFwdRefIdeal.main (F := Ideal))) ⟨m, fun _ => 0, g⟩ (fun r => (∀ c : Dev Cert.OutProjFwdRefIdeal.nD,
      r.2.mem ((c.tc : Thread Cert.OutProjFwdRefIdeal.nD Cert.OutProjFwdRefIdeal.τ).loc Cert.OutProjFwdRefIdeal.main_arg0) = m ((c.tc : Thread Cert.OutProjFwdRefIdeal.nD Cert.OutProjFwdRefIdeal.τ).loc Cert.OutProjFwdRefIdeal.main_arg0)
      ∧ r.2.mem ((c.tc : Thread Cert.OutProjFwdRefIdeal.nD Cert.OutProjFwdRefIdeal.τ).loc Cert.OutProjFwdRefIdeal.main_arg1) = m ((c.tc : Thread Cert.OutProjFwdRefIdeal.nD Cert.OutProjFwdRefIdeal.τ).loc Cert.OutProjFwdRefIdeal.main_arg1)
      ∧ r.2.mem ((c.tc : Thread Cert.OutProjFwdRefIdeal.nD Cert.OutProjFwdRefIdeal.τ).loc Cert.OutProjFwdRefIdeal.main_arg2) = m ((c.tc : Thread Cert.OutProjFwdRefIdeal.nD Cert.OutProjFwdRefIdeal.τ).loc Cert.OutProjFwdRefIdeal.main_arg2)
      ∧ r.2.mem ((c.tc : Thread Cert.OutProjFwdRefIdeal.nD Cert.OutProjFwdRefIdeal.τ).loc Cert.OutProjFwdRefIdeal.main_arg3) = m ((c.tc : Thread Cert.OutProjFwdRefIdeal.nD Cert.OutProjFwdRefIdeal.τ).loc Cert.OutProjFwdRefIdeal.main_arg3)
      ∧ r.2.mem ((c.tc : Thread Cert.OutProjFwdRefIdeal.nD Cert.OutProjFwdRefIdeal.τ).loc Cert.OutProjFwdRefIdeal.main_arg4) = m ((c.tc : Thread Cert.OutProjFwdRefIdeal.nD Cert.OutProjFwdRefIdeal.τ).loc Cert.OutProjFwdRefIdeal.main_arg4)
      ∧ r.2.mem ((c.tc : Thread Cert.OutProjFwdRefIdeal.nD Cert.OutProjFwdRefIdeal.τ).loc Cert.OutProjFwdRefIdeal.main_arg5) = m ((c.tc : Thread Cert.OutProjFwdRefIdeal.nD Cert.OutProjFwdRefIdeal.τ).loc Cert.OutProjFwdRefIdeal.main_arg5)
      ∧ r.2.mem ((c.tc : Thread Cert.OutProjFwdRefIdeal.nD Cert.OutProjFwdRefIdeal.τ).loc Cert.OutProjFwdRefIdeal.main_arg6) = m ((c.tc : Thread Cert.OutProjFwdRefIdeal.nD Cert.OutProjFwdRefIdeal.τ).loc Cert.OutProjFwdRefIdeal.main_arg6)
      ∧ r.2.mem ((c.tc : Thread Cert.OutProjFwdRefIdeal.nD Cert.OutProjFwdRefIdeal.τ).loc Cert.OutProjFwdRefIdeal.main_arg7) = m ((c.tc : Thread Cert.OutProjFwdRefIdeal.nD Cert.OutProjFwdRefIdeal.τ).loc Cert.OutProjFwdRefIdeal.main_arg7)
      ∧ r.2.mem ((c.tc : Thread Cert.OutProjFwdRefIdeal.nD Cert.OutProjFwdRefIdeal.τ).loc Cert.OutProjFwdRefIdeal.main_arg8) = m ((c.tc : Thread Cert.OutProjFwdRefIdeal.nD Cert.OutProjFwdRefIdeal.τ).loc Cert.OutProjFwdRefIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_FiltersRefIdeal [hFiltersRefIdeal : Cert.FiltersRefIdeal.Facts] : Prop :=
  ∀ (m : (ℓ : Loc Cert.FiltersRefIdeal.nD Cert.FiltersRefIdeal.τ Cert.FiltersRefIdeal.sig) → Buf (Elt Ideal) ℓ) (g : Dev Cert.FiltersRefIdeal.nD → PrngReg), Pre_FiltersRefIdeal m →
    θ_run (Cert.FiltersRefIdeal.defs (F := Ideal)) (onTc (τ := Cert.FiltersRefIdeal.τ) (Cert.FiltersRefIdeal.main (F := Ideal))) ⟨m, fun _ => 0, g⟩ (fun r => (∀ c : Dev Cert.FiltersRefIdeal.nD,
      r.2.mem ((c.tc : Thread Cert.FiltersRefIdeal.nD Cert.FiltersRefIdeal.τ).loc Cert.FiltersRefIdeal.main_arg0) = m ((c.tc : Thread Cert.FiltersRefIdeal.nD Cert.FiltersRefIdeal.τ).loc Cert.FiltersRefIdeal.main_arg0)
      ∧ r.2.mem ((c.tc : Thread Cert.FiltersRefIdeal.nD Cert.FiltersRefIdeal.τ).loc Cert.FiltersRefIdeal.main_arg1) = m ((c.tc : Thread Cert.FiltersRefIdeal.nD Cert.FiltersRefIdeal.τ).loc Cert.FiltersRefIdeal.main_arg1)
      ∧ r.2.mem ((c.tc : Thread Cert.FiltersRefIdeal.nD Cert.FiltersRefIdeal.τ).loc Cert.FiltersRefIdeal.main_arg2) = m ((c.tc : Thread Cert.FiltersRefIdeal.nD Cert.FiltersRefIdeal.τ).loc Cert.FiltersRefIdeal.main_arg2)
      ∧ r.2.mem ((c.tc : Thread Cert.FiltersRefIdeal.nD Cert.FiltersRefIdeal.τ).loc Cert.FiltersRefIdeal.main_arg3) = m ((c.tc : Thread Cert.FiltersRefIdeal.nD Cert.FiltersRefIdeal.τ).loc Cert.FiltersRefIdeal.main_arg3)
      ∧ r.2.mem ((c.tc : Thread Cert.FiltersRefIdeal.nD Cert.FiltersRefIdeal.τ).loc Cert.FiltersRefIdeal.main_arg4) = m ((c.tc : Thread Cert.FiltersRefIdeal.nD Cert.FiltersRefIdeal.τ).loc Cert.FiltersRefIdeal.main_arg4)
      ∧ r.2.mem ((c.tc : Thread Cert.FiltersRefIdeal.nD Cert.FiltersRefIdeal.τ).loc Cert.FiltersRefIdeal.main_arg5) = m ((c.tc : Thread Cert.FiltersRefIdeal.nD Cert.FiltersRefIdeal.τ).loc Cert.FiltersRefIdeal.main_arg5)
      ∧ r.2.mem ((c.tc : Thread Cert.FiltersRefIdeal.nD Cert.FiltersRefIdeal.τ).loc Cert.FiltersRefIdeal.main_arg6) = m ((c.tc : Thread Cert.FiltersRefIdeal.nD Cert.FiltersRefIdeal.τ).loc Cert.FiltersRefIdeal.main_arg6)
      ∧ r.2.mem ((c.tc : Thread Cert.FiltersRefIdeal.nD Cert.FiltersRefIdeal.τ).loc Cert.FiltersRefIdeal.main_arg7) = m ((c.tc : Thread Cert.FiltersRefIdeal.nD Cert.FiltersRefIdeal.τ).loc Cert.FiltersRefIdeal.main_arg7))
      ∧ r.2.sem = fun _ => 0)

def preserves_Kernel_KernelIdeal : Prop :=
  True

def preserves_MlpBwd_MlpBwdIdeal : Prop :=
  True

def preserves_InProjBwd_InProjBwdIdeal : Prop :=
  True

def preserves_DwDown_DwDownIdeal : Prop :=
  True

def preserves_DwUp_DwUpIdeal : Prop :=
  True

def preserves_DwOut_DwOutIdeal : Prop :=
  True

def preserves_DwInZ_DwInZIdeal : Prop :=
  True

def preserves_DwInXbc_DwInXbcIdeal : Prop :=
  True

def preserves_DwInCvg_DwInCvgIdeal : Prop :=
  True

def preserves_MlpDown_MlpDownIdeal : Prop :=
  True

def preserves_MlpUp_MlpUpIdeal : Prop :=
  True

def preserves_InProj_InProjIdeal : Prop :=
  True

def preserves_OutProjFwd_OutProjFwdIdeal : Prop :=
  True

def preserves_Tail_TailIdeal : Prop :=
  True

def preserves_Filters_FiltersIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def algebraic_MlpBwdIdeal_MlpBwdRefIdeal [hMlpBwdIdeal : Cert.MlpBwdIdeal.Facts] [hMlpBwdRefIdeal : Cert.MlpBwdRefIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)
      ∧ m' ((c.tc : Thread Cert.MlpBwdRefIdeal.nD Cert.MlpBwdRefIdeal.τ).loc Cert.MlpBwdRefIdeal.main_arg4) = m ((c.tc : Thread Cert.MlpBwdIdeal.nD Cert.MlpBwdIdeal.τ).loc Cert.MlpBwdIdeal.main_arg4)) →
    ∃ (v0 : (c : Dev Cert.MlpBwdIdeal.nD) → Buf (Elt Ideal) ((c.tc : Thread Cert.MlpBwdIdeal.nD Cert.MlpBwdIdeal.τ).loc Cert.MlpBwdIdeal.main_v18_0)) (v1 : (c : Dev Cert.MlpBwdIdeal.nD) → Buf (Elt Ideal) ((c.tc : Thread Cert.MlpBwdIdeal.nD Cert.MlpBwdIdeal.τ).loc Cert.MlpBwdIdeal.main_v18_1)) (v2 : (c : Dev Cert.MlpBwdIdeal.nD) → Buf (Elt Ideal) ((c.tc : Thread Cert.MlpBwdIdeal.nD Cert.MlpBwdIdeal.τ).loc Cert.MlpBwdIdeal.main_v18_2)) (v3 : (c : Dev Cert.MlpBwdIdeal.nD) → Buf (Elt Ideal) ((c.tc : Thread Cert.MlpBwdIdeal.nD Cert.MlpBwdIdeal.τ).loc Cert.MlpBwdIdeal.main_v18_3)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v18_0) = v0 c
          ∧ r.2.mem ((c.tc : Thread Cert.MlpBwdIdeal.nD Cert.MlpBwdIdeal.τ).loc Cert.MlpBwdIdeal.main_v18_1) = v1 c
          ∧ r.2.mem ((c.tc : Thread Cert.MlpBwdIdeal.nD Cert.MlpBwdIdeal.τ).loc Cert.MlpBwdIdeal.main_v18_2) = v2 c
          ∧ r.2.mem ((c.tc : Thread Cert.MlpBwdIdeal.nD Cert.MlpBwdIdeal.τ).loc Cert.MlpBwdIdeal.main_v18_3) = v3 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v55) = v0 c
          ∧ r.2.mem ((c.tc : Thread Cert.MlpBwdRefIdeal.nD Cert.MlpBwdRefIdeal.τ).loc Cert.MlpBwdRefIdeal.main_v54) = v1 c
          ∧ r.2.mem ((c.tc : Thread Cert.MlpBwdRefIdeal.nD Cert.MlpBwdRefIdeal.τ).loc Cert.MlpBwdRefIdeal.main_v56) = v2 c
          ∧ r.2.mem ((c.tc : Thread Cert.MlpBwdRefIdeal.nD Cert.MlpBwdRefIdeal.τ).loc Cert.MlpBwdRefIdeal.main_v58) = v3 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3)
          ∧ r.2.mem ((c.tc : Thread Cert.MlpBwdRefIdeal.nD Cert.MlpBwdRefIdeal.τ).loc Cert.MlpBwdRefIdeal.main_arg4) = m' ((c.tc : Thread Cert.MlpBwdRefIdeal.nD Cert.MlpBwdRefIdeal.τ).loc Cert.MlpBwdRefIdeal.main_arg4))

def algebraic_InProjBwdIdeal_InProjBwdRefIdeal [hInProjBwdIdeal : Cert.InProjBwdIdeal.Facts] [hInProjBwdRefIdeal : Cert.InProjBwdRefIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)
      ∧ m' ((c.tc : Thread Cert.InProjBwdRefIdeal.nD Cert.InProjBwdRefIdeal.τ).loc Cert.InProjBwdRefIdeal.main_arg5) = m ((c.tc : Thread Cert.InProjBwdIdeal.nD Cert.InProjBwdIdeal.τ).loc Cert.InProjBwdIdeal.main_arg5)
      ∧ m' ((c.tc : Thread Cert.InProjBwdRefIdeal.nD Cert.InProjBwdRefIdeal.τ).loc Cert.InProjBwdRefIdeal.main_arg6) = m ((c.tc : Thread Cert.InProjBwdIdeal.nD Cert.InProjBwdIdeal.τ).loc Cert.InProjBwdIdeal.main_arg6)
      ∧ m' ((c.tc : Thread Cert.InProjBwdRefIdeal.nD Cert.InProjBwdRefIdeal.τ).loc Cert.InProjBwdRefIdeal.main_arg7) = m ((c.tc : Thread Cert.InProjBwdIdeal.nD Cert.InProjBwdIdeal.τ).loc Cert.InProjBwdIdeal.main_arg7)) →
    ∃ (v0 : (c : Dev Cert.InProjBwdIdeal.nD) → Buf (Elt Ideal) ((c.tc : Thread Cert.InProjBwdIdeal.nD Cert.InProjBwdIdeal.τ).loc Cert.InProjBwdIdeal.main_v0_0)) (v1 : (c : Dev Cert.InProjBwdIdeal.nD) → Buf (Elt Ideal) ((c.tc : Thread Cert.InProjBwdIdeal.nD Cert.InProjBwdIdeal.τ).loc Cert.InProjBwdIdeal.main_v0_1)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v0_0) = v0 c
          ∧ r.2.mem ((c.tc : Thread Cert.InProjBwdIdeal.nD Cert.InProjBwdIdeal.τ).loc Cert.InProjBwdIdeal.main_v0_1) = v1 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v47) = v0 c
          ∧ r.2.mem ((c.tc : Thread Cert.InProjBwdRefIdeal.nD Cert.InProjBwdRefIdeal.τ).loc Cert.InProjBwdRefIdeal.main_v49) = v1 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4)
          ∧ r.2.mem ((c.tc : Thread Cert.InProjBwdRefIdeal.nD Cert.InProjBwdRefIdeal.τ).loc Cert.InProjBwdRefIdeal.main_arg5) = m' ((c.tc : Thread Cert.InProjBwdRefIdeal.nD Cert.InProjBwdRefIdeal.τ).loc Cert.InProjBwdRefIdeal.main_arg5)
          ∧ r.2.mem ((c.tc : Thread Cert.InProjBwdRefIdeal.nD Cert.InProjBwdRefIdeal.τ).loc Cert.InProjBwdRefIdeal.main_arg6) = m' ((c.tc : Thread Cert.InProjBwdRefIdeal.nD Cert.InProjBwdRefIdeal.τ).loc Cert.InProjBwdRefIdeal.main_arg6)
          ∧ r.2.mem ((c.tc : Thread Cert.InProjBwdRefIdeal.nD Cert.InProjBwdRefIdeal.τ).loc Cert.InProjBwdRefIdeal.main_arg7) = m' ((c.tc : Thread Cert.InProjBwdRefIdeal.nD Cert.InProjBwdRefIdeal.τ).loc Cert.InProjBwdRefIdeal.main_arg7))

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v4)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v4) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v7) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2))

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v13)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v13) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v21) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)
      ∧ m' ((c.tc : Thread Cert.DwOutRefIdeal.nD Cert.DwOutRefIdeal.τ).loc Cert.DwOutRefIdeal.main_arg4) = m ((c.tc : Thread Cert.DwOutIdeal.nD Cert.DwOutIdeal.τ).loc Cert.DwOutIdeal.main_arg4)
      ∧ m' ((c.tc : Thread Cert.DwOutRefIdeal.nD Cert.DwOutRefIdeal.τ).loc Cert.DwOutRefIdeal.main_arg5) = m ((c.tc : Thread Cert.DwOutIdeal.nD Cert.DwOutIdeal.τ).loc Cert.DwOutIdeal.main_arg5)
      ∧ m' ((c.tc : Thread Cert.DwOutRefIdeal.nD Cert.DwOutRefIdeal.τ).loc Cert.DwOutRefIdeal.main_arg6) = m ((c.tc : Thread Cert.DwOutIdeal.nD Cert.DwOutIdeal.τ).loc Cert.DwOutIdeal.main_arg6)) →
    ∃ (v0 : (c : Dev Cert.DwOutIdeal.nD) → Buf (Elt Ideal) ((c.tc : Thread Cert.DwOutIdeal.nD Cert.DwOutIdeal.τ).loc Cert.DwOutIdeal.main_v39)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v39) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3)
          ∧ r.2.mem ((c.tc : Thread Cert.DwOutIdeal.nD Cert.DwOutIdeal.τ).loc Cert.DwOutIdeal.main_arg4) = m ((c.tc : Thread Cert.DwOutIdeal.nD Cert.DwOutIdeal.τ).loc Cert.DwOutIdeal.main_arg4)
          ∧ r.2.mem ((c.tc : Thread Cert.DwOutIdeal.nD Cert.DwOutIdeal.τ).loc Cert.DwOutIdeal.main_arg5) = m ((c.tc : Thread Cert.DwOutIdeal.nD Cert.DwOutIdeal.τ).loc Cert.DwOutIdeal.main_arg5)
          ∧ r.2.mem ((c.tc : Thread Cert.DwOutIdeal.nD Cert.DwOutIdeal.τ).loc Cert.DwOutIdeal.main_arg6) = m ((c.tc : Thread Cert.DwOutIdeal.nD Cert.DwOutIdeal.τ).loc Cert.DwOutIdeal.main_arg6))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v43) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3)
          ∧ r.2.mem ((c.tc : Thread Cert.DwOutRefIdeal.nD Cert.DwOutRefIdeal.τ).loc Cert.DwOutRefIdeal.main_arg4) = m' ((c.tc : Thread Cert.DwOutRefIdeal.nD Cert.DwOutRefIdeal.τ).loc Cert.DwOutRefIdeal.main_arg4)
          ∧ r.2.mem ((c.tc : Thread Cert.DwOutRefIdeal.nD Cert.DwOutRefIdeal.τ).loc Cert.DwOutRefIdeal.main_arg5) = m' ((c.tc : Thread Cert.DwOutRefIdeal.nD Cert.DwOutRefIdeal.τ).loc Cert.DwOutRefIdeal.main_arg5)
          ∧ r.2.mem ((c.tc : Thread Cert.DwOutRefIdeal.nD Cert.DwOutRefIdeal.τ).loc Cert.DwOutRefIdeal.main_arg6) = m' ((c.tc : Thread Cert.DwOutRefIdeal.nD Cert.DwOutRefIdeal.τ).loc Cert.DwOutRefIdeal.main_arg6))

def algebraic_DwInZIdeal_DwInZRefIdeal [hDwInZIdeal : Cert.DwInZIdeal.Facts] [hDwInZRefIdeal : Cert.DwInZRefIdeal.Facts] : Prop :=
  ∀ (m : (ℓ : Loc Cert.DwInZIdeal.nD Cert.DwInZIdeal.τ Cert.DwInZIdeal.sig) → Buf (Elt Ideal) ℓ) (g : Dev Cert.DwInZIdeal.nD → PrngReg)
    (m' : (ℓ : Loc Cert.DwInZRefIdeal.nD Cert.DwInZRefIdeal.τ Cert.DwInZRefIdeal.sig) → Buf (Elt Ideal) ℓ) (g' : Dev Cert.DwInZRefIdeal.nD → PrngReg), Pre_DwInZIdeal m →
    (∀ c : Dev Cert.DwInZIdeal.nD,
      m' ((c.tc : Thread Cert.DwInZRefIdeal.nD Cert.DwInZRefIdeal.τ).loc Cert.DwInZRefIdeal.main_arg0) = m ((c.tc : Thread Cert.DwInZIdeal.nD Cert.DwInZIdeal.τ).loc Cert.DwInZIdeal.main_arg0)
      ∧ m' ((c.tc : Thread Cert.DwInZRefIdeal.nD Cert.DwInZRefIdeal.τ).loc Cert.DwInZRefIdeal.main_arg1) = m ((c.tc : Thread Cert.DwInZIdeal.nD Cert.DwInZIdeal.τ).loc Cert.DwInZIdeal.main_arg1)
      ∧ m' ((c.tc : Thread Cert.DwInZRefIdeal.nD Cert.DwInZRefIdeal.τ).loc Cert.DwInZRefIdeal.main_arg2) = m ((c.tc : Thread Cert.DwInZIdeal.nD Cert.DwInZIdeal.τ).loc Cert.DwInZIdeal.main_arg2)) →
    ∃ (v0 : (c : Dev Cert.DwInZIdeal.nD) → Buf (Elt Ideal) ((c.tc : Thread Cert.DwInZIdeal.nD Cert.DwInZIdeal.τ).loc Cert.DwInZIdeal.main_v13)),
      θ_run (Cert.DwInZIdeal.defs (F := Ideal)) (onTc (τ := Cert.DwInZIdeal.τ) (Cert.DwInZIdeal.main (F := Ideal))) ⟨m, fun _ => 0, g⟩ (fun r => ∀ c : Dev Cert.DwInZIdeal.nD,
          r.2.mem ((c.tc : Thread Cert.DwInZIdeal.nD Cert.DwInZIdeal.τ).loc Cert.DwInZIdeal.main_v13) = v0 c
          ∧ r.2.mem ((c.tc : Thread Cert.DwInZIdeal.nD Cert.DwInZIdeal.τ).loc Cert.DwInZIdeal.main_arg0) = m ((c.tc : Thread Cert.DwInZIdeal.nD Cert.DwInZIdeal.τ).loc Cert.DwInZIdeal.main_arg0)
          ∧ r.2.mem ((c.tc : Thread Cert.DwInZIdeal.nD Cert.DwInZIdeal.τ).loc Cert.DwInZIdeal.main_arg1) = m ((c.tc : Thread Cert.DwInZIdeal.nD Cert.DwInZIdeal.τ).loc Cert.DwInZIdeal.main_arg1)
          ∧ r.2.mem ((c.tc : Thread Cert.DwInZIdeal.nD Cert.DwInZIdeal.τ).loc Cert.DwInZIdeal.main_arg2) = m ((c.tc : Thread Cert.DwInZIdeal.nD Cert.DwInZIdeal.τ).loc Cert.DwInZIdeal.main_arg2))
      ∧ θ_run (Cert.DwInZRefIdeal.defs (F := Ideal)) (onTc (τ := Cert.DwInZRefIdeal.τ) (Cert.DwInZRefIdeal.main (F := Ideal))) ⟨m', fun _ => 0, g'⟩ (fun r => ∀ c : Dev Cert.DwInZRefIdeal.nD,
          r.2.mem ((c.tc : Thread Cert.DwInZRefIdeal.nD Cert.DwInZRefIdeal.τ).loc Cert.DwInZRefIdeal.main_v19) = v0 c
          ∧ r.2.mem ((c.tc : Thread Cert.DwInZRefIdeal.nD Cert.DwInZRefIdeal.τ).loc Cert.DwInZRefIdeal.main_arg0) = m' ((c.tc : Thread Cert.DwInZRefIdeal.nD Cert.DwInZRefIdeal.τ).loc Cert.DwInZRefIdeal.main_arg0)
          ∧ r.2.mem ((c.tc : Thread Cert.DwInZRefIdeal.nD Cert.DwInZRefIdeal.τ).loc Cert.DwInZRefIdeal.main_arg1) = m' ((c.tc : Thread Cert.DwInZRefIdeal.nD Cert.DwInZRefIdeal.τ).loc Cert.DwInZRefIdeal.main_arg1)
          ∧ r.2.mem ((c.tc : Thread Cert.DwInZRefIdeal.nD Cert.DwInZRefIdeal.τ).loc Cert.DwInZRefIdeal.main_arg2) = m' ((c.tc : Thread Cert.DwInZRefIdeal.nD Cert.DwInZRefIdeal.τ).loc Cert.DwInZRefIdeal.main_arg2))

def algebraic_DwInXbcIdeal_DwInXbcRefIdeal [hDwInXbcIdeal : Cert.DwInXbcIdeal.Facts] [hDwInXbcRefIdeal : Cert.DwInXbcRefIdeal.Facts] : Prop :=
  ∀ (m : (ℓ : Loc Cert.DwInXbcIdeal.nD Cert.DwInXbcIdeal.τ Cert.DwInXbcIdeal.sig) → Buf (Elt Ideal) ℓ) (g : Dev Cert.DwInXbcIdeal.nD → PrngReg)
    (m' : (ℓ : Loc Cert.DwInXbcRefIdeal.nD Cert.DwInXbcRefIdeal.τ Cert.DwInXbcRefIdeal.sig) → Buf (Elt Ideal) ℓ) (g' : Dev Cert.DwInXbcRefIdeal.nD → PrngReg), Pre_DwInXbcIdeal m →
    (∀ c : Dev Cert.DwInXbcIdeal.nD,
      m' ((c.tc : Thread Cert.DwInXbcRefIdeal.nD Cert.DwInXbcRefIdeal.τ).loc Cert.DwInXbcRefIdeal.main_arg0) = m ((c.tc : Thread Cert.DwInXbcIdeal.nD Cert.DwInXbcIdeal.τ).loc Cert.DwInXbcIdeal.main_arg0)
      ∧ m' ((c.tc : Thread Cert.DwInXbcRefIdeal.nD Cert.DwInXbcRefIdeal.τ).loc Cert.DwInXbcRefIdeal.main_arg1) = m ((c.tc : Thread Cert.DwInXbcIdeal.nD Cert.DwInXbcIdeal.τ).loc Cert.DwInXbcIdeal.main_arg1)
      ∧ m' ((c.tc : Thread Cert.DwInXbcRefIdeal.nD Cert.DwInXbcRefIdeal.τ).loc Cert.DwInXbcRefIdeal.main_arg2) = m ((c.tc : Thread Cert.DwInXbcIdeal.nD Cert.DwInXbcIdeal.τ).loc Cert.DwInXbcIdeal.main_arg2)) →
    ∃ (v0 : (c : Dev Cert.DwInXbcIdeal.nD) → Buf (Elt Ideal) ((c.tc : Thread Cert.DwInXbcIdeal.nD Cert.DwInXbcIdeal.τ).loc Cert.DwInXbcIdeal.main_v13)),
      θ_run (Cert.DwInXbcIdeal.defs (F := Ideal)) (onTc (τ := Cert.DwInXbcIdeal.τ) (Cert.DwInXbcIdeal.main (F := Ideal))) ⟨m, fun _ => 0, g⟩ (fun r => ∀ c : Dev Cert.DwInXbcIdeal.nD,
          r.2.mem ((c.tc : Thread Cert.DwInXbcIdeal.nD Cert.DwInXbcIdeal.τ).loc Cert.DwInXbcIdeal.main_v13) = v0 c
          ∧ r.2.mem ((c.tc : Thread Cert.DwInXbcIdeal.nD Cert.DwInXbcIdeal.τ).loc Cert.DwInXbcIdeal.main_arg0) = m ((c.tc : Thread Cert.DwInXbcIdeal.nD Cert.DwInXbcIdeal.τ).loc Cert.DwInXbcIdeal.main_arg0)
          ∧ r.2.mem ((c.tc : Thread Cert.DwInXbcIdeal.nD Cert.DwInXbcIdeal.τ).loc Cert.DwInXbcIdeal.main_arg1) = m ((c.tc : Thread Cert.DwInXbcIdeal.nD Cert.DwInXbcIdeal.τ).loc Cert.DwInXbcIdeal.main_arg1)
          ∧ r.2.mem ((c.tc : Thread Cert.DwInXbcIdeal.nD Cert.DwInXbcIdeal.τ).loc Cert.DwInXbcIdeal.main_arg2) = m ((c.tc : Thread Cert.DwInXbcIdeal.nD Cert.DwInXbcIdeal.τ).loc Cert.DwInXbcIdeal.main_arg2))
      ∧ θ_run (Cert.DwInXbcRefIdeal.defs (F := Ideal)) (onTc (τ := Cert.DwInXbcRefIdeal.τ) (Cert.DwInXbcRefIdeal.main (F := Ideal))) ⟨m', fun _ => 0, g'⟩ (fun r => ∀ c : Dev Cert.DwInXbcRefIdeal.nD,
          r.2.mem ((c.tc : Thread Cert.DwInXbcRefIdeal.nD Cert.DwInXbcRefIdeal.τ).loc Cert.DwInXbcRefIdeal.main_v19) = v0 c
          ∧ r.2.mem ((c.tc : Thread Cert.DwInXbcRefIdeal.nD Cert.DwInXbcRefIdeal.τ).loc Cert.DwInXbcRefIdeal.main_arg0) = m' ((c.tc : Thread Cert.DwInXbcRefIdeal.nD Cert.DwInXbcRefIdeal.τ).loc Cert.DwInXbcRefIdeal.main_arg0)
          ∧ r.2.mem ((c.tc : Thread Cert.DwInXbcRefIdeal.nD Cert.DwInXbcRefIdeal.τ).loc Cert.DwInXbcRefIdeal.main_arg1) = m' ((c.tc : Thread Cert.DwInXbcRefIdeal.nD Cert.DwInXbcRefIdeal.τ).loc Cert.DwInXbcRefIdeal.main_arg1)
          ∧ r.2.mem ((c.tc : Thread Cert.DwInXbcRefIdeal.nD Cert.DwInXbcRefIdeal.τ).loc Cert.DwInXbcRefIdeal.main_arg2) = m' ((c.tc : Thread Cert.DwInXbcRefIdeal.nD Cert.DwInXbcRefIdeal.τ).loc Cert.DwInXbcRefIdeal.main_arg2))

def algebraic_DwInCvgIdeal_DwInCvgRefIdeal [hDwInCvgIdeal : Cert.DwInCvgIdeal.Facts] [hDwInCvgRefIdeal : Cert.DwInCvgRefIdeal.Facts] : Prop :=
  ∀ (m : (ℓ : Loc Cert.DwInCvgIdeal.nD Cert.DwInCvgIdeal.τ Cert.DwInCvgIdeal.sig) → Buf (Elt Ideal) ℓ) (g : Dev Cert.DwInCvgIdeal.nD → PrngReg)
    (m' : (ℓ : Loc Cert.DwInCvgRefIdeal.nD Cert.DwInCvgRefIdeal.τ Cert.DwInCvgRefIdeal.sig) → Buf (Elt Ideal) ℓ) (g' : Dev Cert.DwInCvgRefIdeal.nD → PrngReg), Pre_DwInCvgIdeal m →
    (∀ c : Dev Cert.DwInCvgIdeal.nD,
      m' ((c.tc : Thread Cert.DwInCvgRefIdeal.nD Cert.DwInCvgRefIdeal.τ).loc Cert.DwInCvgRefIdeal.main_arg0) = m ((c.tc : Thread Cert.DwInCvgIdeal.nD Cert.DwInCvgIdeal.τ).loc Cert.DwInCvgIdeal.main_arg0)
      ∧ m' ((c.tc : Thread Cert.DwInCvgRefIdeal.nD Cert.DwInCvgRefIdeal.τ).loc Cert.DwInCvgRefIdeal.main_arg1) = m ((c.tc : Thread Cert.DwInCvgIdeal.nD Cert.DwInCvgIdeal.τ).loc Cert.DwInCvgIdeal.main_arg1)
      ∧ m' ((c.tc : Thread Cert.DwInCvgRefIdeal.nD Cert.DwInCvgRefIdeal.τ).loc Cert.DwInCvgRefIdeal.main_arg2) = m ((c.tc : Thread Cert.DwInCvgIdeal.nD Cert.DwInCvgIdeal.τ).loc Cert.DwInCvgIdeal.main_arg2)) →
    ∃ (v0 : (c : Dev Cert.DwInCvgIdeal.nD) → Buf (Elt Ideal) ((c.tc : Thread Cert.DwInCvgIdeal.nD Cert.DwInCvgIdeal.τ).loc Cert.DwInCvgIdeal.main_v13)),
      θ_run (Cert.DwInCvgIdeal.defs (F := Ideal)) (onTc (τ := Cert.DwInCvgIdeal.τ) (Cert.DwInCvgIdeal.main (F := Ideal))) ⟨m, fun _ => 0, g⟩ (fun r => ∀ c : Dev Cert.DwInCvgIdeal.nD,
          r.2.mem ((c.tc : Thread Cert.DwInCvgIdeal.nD Cert.DwInCvgIdeal.τ).loc Cert.DwInCvgIdeal.main_v13) = v0 c
          ∧ r.2.mem ((c.tc : Thread Cert.DwInCvgIdeal.nD Cert.DwInCvgIdeal.τ).loc Cert.DwInCvgIdeal.main_arg0) = m ((c.tc : Thread Cert.DwInCvgIdeal.nD Cert.DwInCvgIdeal.τ).loc Cert.DwInCvgIdeal.main_arg0)
          ∧ r.2.mem ((c.tc : Thread Cert.DwInCvgIdeal.nD Cert.DwInCvgIdeal.τ).loc Cert.DwInCvgIdeal.main_arg1) = m ((c.tc : Thread Cert.DwInCvgIdeal.nD Cert.DwInCvgIdeal.τ).loc Cert.DwInCvgIdeal.main_arg1)
          ∧ r.2.mem ((c.tc : Thread Cert.DwInCvgIdeal.nD Cert.DwInCvgIdeal.τ).loc Cert.DwInCvgIdeal.main_arg2) = m ((c.tc : Thread Cert.DwInCvgIdeal.nD Cert.DwInCvgIdeal.τ).loc Cert.DwInCvgIdeal.main_arg2))
      ∧ θ_run (Cert.DwInCvgRefIdeal.defs (F := Ideal)) (onTc (τ := Cert.DwInCvgRefIdeal.τ) (Cert.DwInCvgRefIdeal.main (F := Ideal))) ⟨m', fun _ => 0, g'⟩ (fun r => ∀ c : Dev Cert.DwInCvgRefIdeal.nD,
          r.2.mem ((c.tc : Thread Cert.DwInCvgRefIdeal.nD Cert.DwInCvgRefIdeal.τ).loc Cert.DwInCvgRefIdeal.main_v19) = v0 c
          ∧ r.2.mem ((c.tc : Thread Cert.DwInCvgRefIdeal.nD Cert.DwInCvgRefIdeal.τ).loc Cert.DwInCvgRefIdeal.main_arg0) = m' ((c.tc : Thread Cert.DwInCvgRefIdeal.nD Cert.DwInCvgRefIdeal.τ).loc Cert.DwInCvgRefIdeal.main_arg0)
          ∧ r.2.mem ((c.tc : Thread Cert.DwInCvgRefIdeal.nD Cert.DwInCvgRefIdeal.τ).loc Cert.DwInCvgRefIdeal.main_arg1) = m' ((c.tc : Thread Cert.DwInCvgRefIdeal.nD Cert.DwInCvgRefIdeal.τ).loc Cert.DwInCvgRefIdeal.main_arg1)
          ∧ r.2.mem ((c.tc : Thread Cert.DwInCvgRefIdeal.nD Cert.DwInCvgRefIdeal.τ).loc Cert.DwInCvgRefIdeal.main_arg2) = m' ((c.tc : Thread Cert.DwInCvgRefIdeal.nD Cert.DwInCvgRefIdeal.τ).loc Cert.DwInCvgRefIdeal.main_arg2))

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v3)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v3) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v4) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)) →
    ∃ (v0 : (c : Dev Cert.MlpUpIdeal.nD) → Buf (Elt Ideal) ((c.tc : Thread Cert.MlpUpIdeal.nD Cert.MlpUpIdeal.τ).loc Cert.MlpUpIdeal.main_v13_0)) (v1 : (c : Dev Cert.MlpUpIdeal.nD) → Buf (Elt Ideal) ((c.tc : Thread Cert.MlpUpIdeal.nD Cert.MlpUpIdeal.τ).loc Cert.MlpUpIdeal.main_v13_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v13_0) = v0 c
          ∧ r.2.mem ((c.tc : Thread Cert.MlpUpIdeal.nD Cert.MlpUpIdeal.τ).loc Cert.MlpUpIdeal.main_v13_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v17) = v0 c
          ∧ r.2.mem ((c.tc : Thread Cert.MlpUpRefIdeal.nD Cert.MlpUpRefIdeal.τ).loc Cert.MlpUpRefIdeal.main_v19) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2))

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)) (v5 : (c : Dev Cert.InProjIdeal.nD) → Buf (Elt Ideal) ((c.tc : Thread Cert.InProjIdeal.nD Cert.InProjIdeal.τ).loc Cert.InProjIdeal.main_v0_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_v0_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v12) = v0 c
          ∧ r.2.mem ((c.tc : Thread Cert.InProjRefIdeal.nD Cert.InProjRefIdeal.τ).loc Cert.InProjRefIdeal.main_v16) = v1 c
          ∧ r.2.mem ((c.tc : Thread Cert.InProjRefIdeal.nD Cert.InProjRefIdeal.τ).loc Cert.InProjRefIdeal.main_v17) = v2 c
          ∧ r.2.mem ((c.tc : Thread Cert.InProjRefIdeal.nD Cert.InProjRefIdeal.τ).loc Cert.InProjRefIdeal.main_v18) = v3 c
          ∧ r.2.mem ((c.tc : Thread Cert.InProjRefIdeal.nD Cert.InProjRefIdeal.τ).loc Cert.InProjRefIdeal.main_v19) = v4 c
          ∧ r.2.mem ((c.tc : Thread Cert.InProjRefIdeal.nD Cert.InProjRefIdeal.τ).loc Cert.InProjRefIdeal.main_v20) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def algebraic_OutProjFwdIdeal_OutProjFwdRefIdeal [hOutProjFwdIdeal : Cert.OutProjFwdIdeal.Facts] [hOutProjFwdRefIdeal : Cert.OutProjFwdRefIdeal.Facts] : Prop :=
  ∀ (m : (ℓ : Loc Cert.OutProjFwdIdeal.nD Cert.OutProjFwdIdeal.τ Cert.OutProjFwdIdeal.sig) → Buf (Elt Ideal) ℓ) (g : Dev Cert.OutProjFwdIdeal.nD → PrngReg)
    (m' : (ℓ : Loc Cert.OutProjFwdRefIdeal.nD Cert.OutProjFwdRefIdeal.τ Cert.OutProjFwdRefIdeal.sig) → Buf (Elt Ideal) ℓ) (g' : Dev Cert.OutProjFwdRefIdeal.nD → PrngReg), Pre_OutProjFwdIdeal m →
    (∀ c : Dev Cert.OutProjFwdIdeal.nD,
      m' ((c.tc : Thread Cert.OutProjFwdRefIdeal.nD Cert.OutProjFwdRefIdeal.τ).loc Cert.OutProjFwdRefIdeal.main_arg0) = m ((c.tc : Thread Cert.OutProjFwdIdeal.nD Cert.OutProjFwdIdeal.τ).loc Cert.OutProjFwdIdeal.main_arg0)
      ∧ m' ((c.tc : Thread Cert.OutProjFwdRefIdeal.nD Cert.OutProjFwdRefIdeal.τ).loc Cert.OutProjFwdRefIdeal.main_arg1) = m ((c.tc : Thread Cert.OutProjFwdIdeal.nD Cert.OutProjFwdIdeal.τ).loc Cert.OutProjFwdIdeal.main_arg1)
      ∧ m' ((c.tc : Thread Cert.OutProjFwdRefIdeal.nD Cert.OutProjFwdRefIdeal.τ).loc Cert.OutProjFwdRefIdeal.main_arg2) = m ((c.tc : Thread Cert.OutProjFwdIdeal.nD Cert.OutProjFwdIdeal.τ).loc Cert.OutProjFwdIdeal.main_arg2)
      ∧ m' ((c.tc : Thread Cert.OutProjFwdRefIdeal.nD Cert.OutProjFwdRefIdeal.τ).loc Cert.OutProjFwdRefIdeal.main_arg3) = m ((c.tc : Thread Cert.OutProjFwdIdeal.nD Cert.OutProjFwdIdeal.τ).loc Cert.OutProjFwdIdeal.main_arg3)
      ∧ m' ((c.tc : Thread Cert.OutProjFwdRefIdeal.nD Cert.OutProjFwdRefIdeal.τ).loc Cert.OutProjFwdRefIdeal.main_arg4) = m ((c.tc : Thread Cert.OutProjFwdIdeal.nD Cert.OutProjFwdIdeal.τ).loc Cert.OutProjFwdIdeal.main_arg4)
      ∧ m' ((c.tc : Thread Cert.OutProjFwdRefIdeal.nD Cert.OutProjFwdRefIdeal.τ).loc Cert.OutProjFwdRefIdeal.main_arg5) = m ((c.tc : Thread Cert.OutProjFwdIdeal.nD Cert.OutProjFwdIdeal.τ).loc Cert.OutProjFwdIdeal.main_arg5)
      ∧ m' ((c.tc : Thread Cert.OutProjFwdRefIdeal.nD Cert.OutProjFwdRefIdeal.τ).loc Cert.OutProjFwdRefIdeal.main_arg6) = m ((c.tc : Thread Cert.OutProjFwdIdeal.nD Cert.OutProjFwdIdeal.τ).loc Cert.OutProjFwdIdeal.main_arg6)
      ∧ m' ((c.tc : Thread Cert.OutProjFwdRefIdeal.nD Cert.OutProjFwdRefIdeal.τ).loc Cert.OutProjFwdRefIdeal.main_arg7) = m ((c.tc : Thread Cert.OutProjFwdIdeal.nD Cert.OutProjFwdIdeal.τ).loc Cert.OutProjFwdIdeal.main_arg7)
      ∧ m' ((c.tc : Thread Cert.OutProjFwdRefIdeal.nD Cert.OutProjFwdRefIdeal.τ).loc Cert.OutProjFwdRefIdeal.main_arg8) = m ((c.tc : Thread Cert.OutProjFwdIdeal.nD Cert.OutProjFwdIdeal.τ).loc Cert.OutProjFwdIdeal.main_arg8)) →
    ∃ (v0 : (c : Dev Cert.OutProjFwdIdeal.nD) → Buf (Elt Ideal) ((c.tc : Thread Cert.OutProjFwdIdeal.nD Cert.OutProjFwdIdeal.τ).loc Cert.OutProjFwdIdeal.main_v0_0)) (v1 : (c : Dev Cert.OutProjFwdIdeal.nD) → Buf (Elt Ideal) ((c.tc : Thread Cert.OutProjFwdIdeal.nD Cert.OutProjFwdIdeal.τ).loc Cert.OutProjFwdIdeal.main_v0_1)) (v2 : (c : Dev Cert.OutProjFwdIdeal.nD) → Buf (Elt Ideal) ((c.tc : Thread Cert.OutProjFwdIdeal.nD Cert.OutProjFwdIdeal.τ).loc Cert.OutProjFwdIdeal.main_v0_2)),
      θ_run (Cert.OutProjFwdIdeal.defs (F := Ideal)) (onTc (τ := Cert.OutProjFwdIdeal.τ) (Cert.OutProjFwdIdeal.main (F := Ideal))) ⟨m, fun _ => 0, g⟩ (fun r => ∀ c : Dev Cert.OutProjFwdIdeal.nD,
          r.2.mem ((c.tc : Thread Cert.OutProjFwdIdeal.nD Cert.OutProjFwdIdeal.τ).loc Cert.OutProjFwdIdeal.main_v0_0) = v0 c
          ∧ r.2.mem ((c.tc : Thread Cert.OutProjFwdIdeal.nD Cert.OutProjFwdIdeal.τ).loc Cert.OutProjFwdIdeal.main_v0_1) = v1 c
          ∧ r.2.mem ((c.tc : Thread Cert.OutProjFwdIdeal.nD Cert.OutProjFwdIdeal.τ).loc Cert.OutProjFwdIdeal.main_v0_2) = v2 c
          ∧ r.2.mem ((c.tc : Thread Cert.OutProjFwdIdeal.nD Cert.OutProjFwdIdeal.τ).loc Cert.OutProjFwdIdeal.main_arg0) = m ((c.tc : Thread Cert.OutProjFwdIdeal.nD Cert.OutProjFwdIdeal.τ).loc Cert.OutProjFwdIdeal.main_arg0)
          ∧ r.2.mem ((c.tc : Thread Cert.OutProjFwdIdeal.nD Cert.OutProjFwdIdeal.τ).loc Cert.OutProjFwdIdeal.main_arg1) = m ((c.tc : Thread Cert.OutProjFwdIdeal.nD Cert.OutProjFwdIdeal.τ).loc Cert.OutProjFwdIdeal.main_arg1)
          ∧ r.2.mem ((c.tc : Thread Cert.OutProjFwdIdeal.nD Cert.OutProjFwdIdeal.τ).loc Cert.OutProjFwdIdeal.main_arg2) = m ((c.tc : Thread Cert.OutProjFwdIdeal.nD Cert.OutProjFwdIdeal.τ).loc Cert.OutProjFwdIdeal.main_arg2)
          ∧ r.2.mem ((c.tc : Thread Cert.OutProjFwdIdeal.nD Cert.OutProjFwdIdeal.τ).loc Cert.OutProjFwdIdeal.main_arg3) = m ((c.tc : Thread Cert.OutProjFwdIdeal.nD Cert.OutProjFwdIdeal.τ).loc Cert.OutProjFwdIdeal.main_arg3)
          ∧ r.2.mem ((c.tc : Thread Cert.OutProjFwdIdeal.nD Cert.OutProjFwdIdeal.τ).loc Cert.OutProjFwdIdeal.main_arg4) = m ((c.tc : Thread Cert.OutProjFwdIdeal.nD Cert.OutProjFwdIdeal.τ).loc Cert.OutProjFwdIdeal.main_arg4)
          ∧ r.2.mem ((c.tc : Thread Cert.OutProjFwdIdeal.nD Cert.OutProjFwdIdeal.τ).loc Cert.OutProjFwdIdeal.main_arg5) = m ((c.tc : Thread Cert.OutProjFwdIdeal.nD Cert.OutProjFwdIdeal.τ).loc Cert.OutProjFwdIdeal.main_arg5)
          ∧ r.2.mem ((c.tc : Thread Cert.OutProjFwdIdeal.nD Cert.OutProjFwdIdeal.τ).loc Cert.OutProjFwdIdeal.main_arg6) = m ((c.tc : Thread Cert.OutProjFwdIdeal.nD Cert.OutProjFwdIdeal.τ).loc Cert.OutProjFwdIdeal.main_arg6)
          ∧ r.2.mem ((c.tc : Thread Cert.OutProjFwdIdeal.nD Cert.OutProjFwdIdeal.τ).loc Cert.OutProjFwdIdeal.main_arg7) = m ((c.tc : Thread Cert.OutProjFwdIdeal.nD Cert.OutProjFwdIdeal.τ).loc Cert.OutProjFwdIdeal.main_arg7)
          ∧ r.2.mem ((c.tc : Thread Cert.OutProjFwdIdeal.nD Cert.OutProjFwdIdeal.τ).loc Cert.OutProjFwdIdeal.main_arg8) = m ((c.tc : Thread Cert.OutProjFwdIdeal.nD Cert.OutProjFwdIdeal.τ).loc Cert.OutProjFwdIdeal.main_arg8))
      ∧ θ_run (Cert.OutProjFwdRefIdeal.defs (F := Ideal)) (onTc (τ := Cert.OutProjFwdRefIdeal.τ) (Cert.OutProjFwdRefIdeal.main (F := Ideal))) ⟨m', fun _ => 0, g'⟩ (fun r => ∀ c : Dev Cert.OutProjFwdRefIdeal.nD,
          r.2.mem ((c.tc : Thread Cert.OutProjFwdRefIdeal.nD Cert.OutProjFwdRefIdeal.τ).loc Cert.OutProjFwdRefIdeal.main_v41) = v0 c
          ∧ r.2.mem ((c.tc : Thread Cert.OutProjFwdRefIdeal.nD Cert.OutProjFwdRefIdeal.τ).loc Cert.OutProjFwdRefIdeal.main_v40) = v1 c
          ∧ r.2.mem ((c.tc : Thread Cert.OutProjFwdRefIdeal.nD Cert.OutProjFwdRefIdeal.τ).loc Cert.OutProjFwdRefIdeal.main_v54) = v2 c
          ∧ r.2.mem ((c.tc : Thread Cert.OutProjFwdRefIdeal.nD Cert.OutProjFwdRefIdeal.τ).loc Cert.OutProjFwdRefIdeal.main_arg0) = m' ((c.tc : Thread Cert.OutProjFwdRefIdeal.nD Cert.OutProjFwdRefIdeal.τ).loc Cert.OutProjFwdRefIdeal.main_arg0)
          ∧ r.2.mem ((c.tc : Thread Cert.OutProjFwdRefIdeal.nD Cert.OutProjFwdRefIdeal.τ).loc Cert.OutProjFwdRefIdeal.main_arg1) = m' ((c.tc : Thread Cert.OutProjFwdRefIdeal.nD Cert.OutProjFwdRefIdeal.τ).loc Cert.OutProjFwdRefIdeal.main_arg1)
          ∧ r.2.mem ((c.tc : Thread Cert.OutProjFwdRefIdeal.nD Cert.OutProjFwdRefIdeal.τ).loc Cert.OutProjFwdRefIdeal.main_arg2) = m' ((c.tc : Thread Cert.OutProjFwdRefIdeal.nD Cert.OutProjFwdRefIdeal.τ).loc Cert.OutProjFwdRefIdeal.main_arg2)
          ∧ r.2.mem ((c.tc : Thread Cert.OutProjFwdRefIdeal.nD Cert.OutProjFwdRefIdeal.τ).loc Cert.OutProjFwdRefIdeal.main_arg3) = m' ((c.tc : Thread Cert.OutProjFwdRefIdeal.nD Cert.OutProjFwdRefIdeal.τ).loc Cert.OutProjFwdRefIdeal.main_arg3)
          ∧ r.2.mem ((c.tc : Thread Cert.OutProjFwdRefIdeal.nD Cert.OutProjFwdRefIdeal.τ).loc Cert.OutProjFwdRefIdeal.main_arg4) = m' ((c.tc : Thread Cert.OutProjFwdRefIdeal.nD Cert.OutProjFwdRefIdeal.τ).loc Cert.OutProjFwdRefIdeal.main_arg4)
          ∧ r.2.mem ((c.tc : Thread Cert.OutProjFwdRefIdeal.nD Cert.OutProjFwdRefIdeal.τ).loc Cert.OutProjFwdRefIdeal.main_arg5) = m' ((c.tc : Thread Cert.OutProjFwdRefIdeal.nD Cert.OutProjFwdRefIdeal.τ).loc Cert.OutProjFwdRefIdeal.main_arg5)
          ∧ r.2.mem ((c.tc : Thread Cert.OutProjFwdRefIdeal.nD Cert.OutProjFwdRefIdeal.τ).loc Cert.OutProjFwdRefIdeal.main_arg6) = m' ((c.tc : Thread Cert.OutProjFwdRefIdeal.nD Cert.OutProjFwdRefIdeal.τ).loc Cert.OutProjFwdRefIdeal.main_arg6)
          ∧ r.2.mem ((c.tc : Thread Cert.OutProjFwdRefIdeal.nD Cert.OutProjFwdRefIdeal.τ).loc Cert.OutProjFwdRefIdeal.main_arg7) = m' ((c.tc : Thread Cert.OutProjFwdRefIdeal.nD Cert.OutProjFwdRefIdeal.τ).loc Cert.OutProjFwdRefIdeal.main_arg7)
          ∧ r.2.mem ((c.tc : Thread Cert.OutProjFwdRefIdeal.nD Cert.OutProjFwdRefIdeal.τ).loc Cert.OutProjFwdRefIdeal.main_arg8) = m' ((c.tc : Thread Cert.OutProjFwdRefIdeal.nD Cert.OutProjFwdRefIdeal.τ).loc Cert.OutProjFwdRefIdeal.main_arg8))

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)) (v2 : (c : Dev Cert.TailIdeal.nD) → Buf (Elt Ideal) ((c.tc : Thread Cert.TailIdeal.nD Cert.TailIdeal.τ).loc Cert.TailIdeal.main_v0_2)) (v3 : (c : Dev Cert.TailIdeal.nD) → Buf (Elt Ideal) ((c.tc : Thread Cert.TailIdeal.nD Cert.TailIdeal.τ).loc Cert.TailIdeal.main_v0_3)) (v4 : (c : Dev Cert.TailIdeal.nD) → Buf (Elt Ideal) ((c.tc : Thread Cert.TailIdeal.nD Cert.TailIdeal.τ).loc Cert.TailIdeal.main_v0_4)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_v0_2) = v2 c
          ∧ r.2.mem ((c.tc : Thread Cert.TailIdeal.nD Cert.TailIdeal.τ).loc Cert.TailIdeal.main_v0_3) = v3 c
          ∧ r.2.mem ((c.tc : Thread Cert.TailIdeal.nD Cert.TailIdeal.τ).loc Cert.TailIdeal.main_v0_4) = v4 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v144) = v0 c
          ∧ r.2.mem ((c.tc : Thread Cert.TailRefIdeal.nD Cert.TailRefIdeal.τ).loc Cert.TailRefIdeal.main_v148) = v1 c
          ∧ r.2.mem ((c.tc : Thread Cert.TailRefIdeal.nD Cert.TailRefIdeal.τ).loc Cert.TailRefIdeal.main_v123) = v2 c
          ∧ r.2.mem ((c.tc : Thread Cert.TailRefIdeal.nD Cert.TailRefIdeal.τ).loc Cert.TailRefIdeal.main_v118) = v3 c
          ∧ r.2.mem ((c.tc : Thread Cert.TailRefIdeal.nD Cert.TailRefIdeal.τ).loc Cert.TailRefIdeal.main_v147) = v4 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def algebraic_FiltersIdeal_FiltersRefIdeal [hFiltersIdeal : Cert.FiltersIdeal.Facts] [hFiltersRefIdeal : Cert.FiltersRefIdeal.Facts] : Prop :=
  ∀ (m : (ℓ : Loc Cert.FiltersIdeal.nD Cert.FiltersIdeal.τ Cert.FiltersIdeal.sig) → Buf (Elt Ideal) ℓ) (g : Dev Cert.FiltersIdeal.nD → PrngReg)
    (m' : (ℓ : Loc Cert.FiltersRefIdeal.nD Cert.FiltersRefIdeal.τ Cert.FiltersRefIdeal.sig) → Buf (Elt Ideal) ℓ) (g' : Dev Cert.FiltersRefIdeal.nD → PrngReg), Pre_FiltersIdeal m →
    (∀ c : Dev Cert.FiltersIdeal.nD,
      m' ((c.tc : Thread Cert.FiltersRefIdeal.nD Cert.FiltersRefIdeal.τ).loc Cert.FiltersRefIdeal.main_arg0) = m ((c.tc : Thread Cert.FiltersIdeal.nD Cert.FiltersIdeal.τ).loc Cert.FiltersIdeal.main_arg0)
      ∧ m' ((c.tc : Thread Cert.FiltersRefIdeal.nD Cert.FiltersRefIdeal.τ).loc Cert.FiltersRefIdeal.main_arg1) = m ((c.tc : Thread Cert.FiltersIdeal.nD Cert.FiltersIdeal.τ).loc Cert.FiltersIdeal.main_arg1)
      ∧ m' ((c.tc : Thread Cert.FiltersRefIdeal.nD Cert.FiltersRefIdeal.τ).loc Cert.FiltersRefIdeal.main_arg2) = m ((c.tc : Thread Cert.FiltersIdeal.nD Cert.FiltersIdeal.τ).loc Cert.FiltersIdeal.main_arg2)
      ∧ m' ((c.tc : Thread Cert.FiltersRefIdeal.nD Cert.FiltersRefIdeal.τ).loc Cert.FiltersRefIdeal.main_arg3) = m ((c.tc : Thread Cert.FiltersIdeal.nD Cert.FiltersIdeal.τ).loc Cert.FiltersIdeal.main_arg3)
      ∧ m' ((c.tc : Thread Cert.FiltersRefIdeal.nD Cert.FiltersRefIdeal.τ).loc Cert.FiltersRefIdeal.main_arg4) = m ((c.tc : Thread Cert.FiltersIdeal.nD Cert.FiltersIdeal.τ).loc Cert.FiltersIdeal.main_arg4)
      ∧ m' ((c.tc : Thread Cert.FiltersRefIdeal.nD Cert.FiltersRefIdeal.τ).loc Cert.FiltersRefIdeal.main_arg5) = m ((c.tc : Thread Cert.FiltersIdeal.nD Cert.FiltersIdeal.τ).loc Cert.FiltersIdeal.main_arg5)
      ∧ m' ((c.tc : Thread Cert.FiltersRefIdeal.nD Cert.FiltersRefIdeal.τ).loc Cert.FiltersRefIdeal.main_arg6) = m ((c.tc : Thread Cert.FiltersIdeal.nD Cert.FiltersIdeal.τ).loc Cert.FiltersIdeal.main_arg6)
      ∧ m' ((c.tc : Thread Cert.FiltersRefIdeal.nD Cert.FiltersRefIdeal.τ).loc Cert.FiltersRefIdeal.main_arg7) = m ((c.tc : Thread Cert.FiltersIdeal.nD Cert.FiltersIdeal.τ).loc Cert.FiltersIdeal.main_arg7)) →
    ∃ (v0 : (c : Dev Cert.FiltersIdeal.nD) → Buf (Elt Ideal) ((c.tc : Thread Cert.FiltersIdeal.nD Cert.FiltersIdeal.τ).loc Cert.FiltersIdeal.main_v0_0)) (v1 : (c : Dev Cert.FiltersIdeal.nD) → Buf (Elt Ideal) ((c.tc : Thread Cert.FiltersIdeal.nD Cert.FiltersIdeal.τ).loc Cert.FiltersIdeal.main_v0_1)) (v2 : (c : Dev Cert.FiltersIdeal.nD) → Buf (Elt Ideal) ((c.tc : Thread Cert.FiltersIdeal.nD Cert.FiltersIdeal.τ).loc Cert.FiltersIdeal.main_v0_2)) (v3 : (c : Dev Cert.FiltersIdeal.nD) → Buf (Elt Ideal) ((c.tc : Thread Cert.FiltersIdeal.nD Cert.FiltersIdeal.τ).loc Cert.FiltersIdeal.main_v0_3)) (v4 : (c : Dev Cert.FiltersIdeal.nD) → Buf (Elt Ideal) ((c.tc : Thread Cert.FiltersIdeal.nD Cert.FiltersIdeal.τ).loc Cert.FiltersIdeal.main_v0_4)) (v5 : (c : Dev Cert.FiltersIdeal.nD) → Buf (Elt Ideal) ((c.tc : Thread Cert.FiltersIdeal.nD Cert.FiltersIdeal.τ).loc Cert.FiltersIdeal.main_v0_5)),
      θ_run (Cert.FiltersIdeal.defs (F := Ideal)) (onTc (τ := Cert.FiltersIdeal.τ) (Cert.FiltersIdeal.main (F := Ideal))) ⟨m, fun _ => 0, g⟩ (fun r => ∀ c : Dev Cert.FiltersIdeal.nD,
          r.2.mem ((c.tc : Thread Cert.FiltersIdeal.nD Cert.FiltersIdeal.τ).loc Cert.FiltersIdeal.main_v0_0) = v0 c
          ∧ r.2.mem ((c.tc : Thread Cert.FiltersIdeal.nD Cert.FiltersIdeal.τ).loc Cert.FiltersIdeal.main_v0_1) = v1 c
          ∧ r.2.mem ((c.tc : Thread Cert.FiltersIdeal.nD Cert.FiltersIdeal.τ).loc Cert.FiltersIdeal.main_v0_2) = v2 c
          ∧ r.2.mem ((c.tc : Thread Cert.FiltersIdeal.nD Cert.FiltersIdeal.τ).loc Cert.FiltersIdeal.main_v0_3) = v3 c
          ∧ r.2.mem ((c.tc : Thread Cert.FiltersIdeal.nD Cert.FiltersIdeal.τ).loc Cert.FiltersIdeal.main_v0_4) = v4 c
          ∧ r.2.mem ((c.tc : Thread Cert.FiltersIdeal.nD Cert.FiltersIdeal.τ).loc Cert.FiltersIdeal.main_v0_5) = v5 c
          ∧ r.2.mem ((c.tc : Thread Cert.FiltersIdeal.nD Cert.FiltersIdeal.τ).loc Cert.FiltersIdeal.main_arg0) = m ((c.tc : Thread Cert.FiltersIdeal.nD Cert.FiltersIdeal.τ).loc Cert.FiltersIdeal.main_arg0)
          ∧ r.2.mem ((c.tc : Thread Cert.FiltersIdeal.nD Cert.FiltersIdeal.τ).loc Cert.FiltersIdeal.main_arg1) = m ((c.tc : Thread Cert.FiltersIdeal.nD Cert.FiltersIdeal.τ).loc Cert.FiltersIdeal.main_arg1)
          ∧ r.2.mem ((c.tc : Thread Cert.FiltersIdeal.nD Cert.FiltersIdeal.τ).loc Cert.FiltersIdeal.main_arg2) = m ((c.tc : Thread Cert.FiltersIdeal.nD Cert.FiltersIdeal.τ).loc Cert.FiltersIdeal.main_arg2)
          ∧ r.2.mem ((c.tc : Thread Cert.FiltersIdeal.nD Cert.FiltersIdeal.τ).loc Cert.FiltersIdeal.main_arg3) = m ((c.tc : Thread Cert.FiltersIdeal.nD Cert.FiltersIdeal.τ).loc Cert.FiltersIdeal.main_arg3)
          ∧ r.2.mem ((c.tc : Thread Cert.FiltersIdeal.nD Cert.FiltersIdeal.τ).loc Cert.FiltersIdeal.main_arg4) = m ((c.tc : Thread Cert.FiltersIdeal.nD Cert.FiltersIdeal.τ).loc Cert.FiltersIdeal.main_arg4)
          ∧ r.2.mem ((c.tc : Thread Cert.FiltersIdeal.nD Cert.FiltersIdeal.τ).loc Cert.FiltersIdeal.main_arg5) = m ((c.tc : Thread Cert.FiltersIdeal.nD Cert.FiltersIdeal.τ).loc Cert.FiltersIdeal.main_arg5)
          ∧ r.2.mem ((c.tc : Thread Cert.FiltersIdeal.nD Cert.FiltersIdeal.τ).loc Cert.FiltersIdeal.main_arg6) = m ((c.tc : Thread Cert.FiltersIdeal.nD Cert.FiltersIdeal.τ).loc Cert.FiltersIdeal.main_arg6)
          ∧ r.2.mem ((c.tc : Thread Cert.FiltersIdeal.nD Cert.FiltersIdeal.τ).loc Cert.FiltersIdeal.main_arg7) = m ((c.tc : Thread Cert.FiltersIdeal.nD Cert.FiltersIdeal.τ).loc Cert.FiltersIdeal.main_arg7))
      ∧ θ_run (Cert.FiltersRefIdeal.defs (F := Ideal)) (onTc (τ := Cert.FiltersRefIdeal.τ) (Cert.FiltersRefIdeal.main (F := Ideal))) ⟨m', fun _ => 0, g'⟩ (fun r => ∀ c : Dev Cert.FiltersRefIdeal.nD,
          r.2.mem ((c.tc : Thread Cert.FiltersRefIdeal.nD Cert.FiltersRefIdeal.τ).loc Cert.FiltersRefIdeal.main_v23) = v0 c
          ∧ r.2.mem ((c.tc : Thread Cert.FiltersRefIdeal.nD Cert.FiltersRefIdeal.τ).loc Cert.FiltersRefIdeal.main_v4) = v1 c
          ∧ r.2.mem ((c.tc : Thread Cert.FiltersRefIdeal.nD Cert.FiltersRefIdeal.τ).loc Cert.FiltersRefIdeal.main_v10) = v2 c
          ∧ r.2.mem ((c.tc : Thread Cert.FiltersRefIdeal.nD Cert.FiltersRefIdeal.τ).loc Cert.FiltersRefIdeal.main_v47) = v3 c
          ∧ r.2.mem ((c.tc : Thread Cert.FiltersRefIdeal.nD Cert.FiltersRefIdeal.τ).loc Cert.FiltersRefIdeal.main_v28) = v4 c
          ∧ r.2.mem ((c.tc : Thread Cert.FiltersRefIdeal.nD Cert.FiltersRefIdeal.τ).loc Cert.FiltersRefIdeal.main_v34) = v5 c
          ∧ r.2.mem ((c.tc : Thread Cert.FiltersRefIdeal.nD Cert.FiltersRefIdeal.τ).loc Cert.FiltersRefIdeal.main_arg0) = m' ((c.tc : Thread Cert.FiltersRefIdeal.nD Cert.FiltersRefIdeal.τ).loc Cert.FiltersRefIdeal.main_arg0)
          ∧ r.2.mem ((c.tc : Thread Cert.FiltersRefIdeal.nD Cert.FiltersRefIdeal.τ).loc Cert.FiltersRefIdeal.main_arg1) = m' ((c.tc : Thread Cert.FiltersRefIdeal.nD Cert.FiltersRefIdeal.τ).loc Cert.FiltersRefIdeal.main_arg1)
          ∧ r.2.mem ((c.tc : Thread Cert.FiltersRefIdeal.nD Cert.FiltersRefIdeal.τ).loc Cert.FiltersRefIdeal.main_arg2) = m' ((c.tc : Thread Cert.FiltersRefIdeal.nD Cert.FiltersRefIdeal.τ).loc Cert.FiltersRefIdeal.main_arg2)
          ∧ r.2.mem ((c.tc : Thread Cert.FiltersRefIdeal.nD Cert.FiltersRefIdeal.τ).loc Cert.FiltersRefIdeal.main_arg3) = m' ((c.tc : Thread Cert.FiltersRefIdeal.nD Cert.FiltersRefIdeal.τ).loc Cert.FiltersRefIdeal.main_arg3)
          ∧ r.2.mem ((c.tc : Thread Cert.FiltersRefIdeal.nD Cert.FiltersRefIdeal.τ).loc Cert.FiltersRefIdeal.main_arg4) = m' ((c.tc : Thread Cert.FiltersRefIdeal.nD Cert.FiltersRefIdeal.τ).loc Cert.FiltersRefIdeal.main_arg4)
          ∧ r.2.mem ((c.tc : Thread Cert.FiltersRefIdeal.nD Cert.FiltersRefIdeal.τ).loc Cert.FiltersRefIdeal.main_arg5) = m' ((c.tc : Thread Cert.FiltersRefIdeal.nD Cert.FiltersRefIdeal.τ).loc Cert.FiltersRefIdeal.main_arg5)
          ∧ r.2.mem ((c.tc : Thread Cert.FiltersRefIdeal.nD Cert.FiltersRefIdeal.τ).loc Cert.FiltersRefIdeal.main_arg6) = m' ((c.tc : Thread Cert.FiltersRefIdeal.nD Cert.FiltersRefIdeal.τ).loc Cert.FiltersRefIdeal.main_arg6)
          ∧ r.2.mem ((c.tc : Thread Cert.FiltersRefIdeal.nD Cert.FiltersRefIdeal.τ).loc Cert.FiltersRefIdeal.main_arg7) = m' ((c.tc : Thread Cert.FiltersRefIdeal.nD Cert.FiltersRefIdeal.τ).loc Cert.FiltersRefIdeal.main_arg7))

def Claim : Prop :=
  ∃ (hKernel : Cert.Kernel.Facts) (hMlpBwd : Cert.MlpBwd.Facts) (hInProjBwd : Cert.InProjBwd.Facts) (hDwDown : Cert.DwDown.Facts) (hDwUp : Cert.DwUp.Facts) (hDwOut : Cert.DwOut.Facts) (hDwInZ : Cert.DwInZ.Facts) (hDwInXbc : Cert.DwInXbc.Facts) (hDwInCvg : Cert.DwInCvg.Facts) (hMlpDown : Cert.MlpDown.Facts) (hMlpUp : Cert.MlpUp.Facts) (hInProj : Cert.InProj.Facts) (hOutProjFwd : Cert.OutProjFwd.Facts) (hTail : Cert.Tail.Facts) (hFilters : Cert.Filters.Facts) (hKernelIdeal : Cert.KernelIdeal.Facts) (hMlpBwdIdeal : Cert.MlpBwdIdeal.Facts) (hInProjBwdIdeal : Cert.InProjBwdIdeal.Facts) (hDwDownIdeal : Cert.DwDownIdeal.Facts) (hDwUpIdeal : Cert.DwUpIdeal.Facts) (hDwOutIdeal : Cert.DwOutIdeal.Facts) (hDwInZIdeal : Cert.DwInZIdeal.Facts) (hDwInXbcIdeal : Cert.DwInXbcIdeal.Facts) (hDwInCvgIdeal : Cert.DwInCvgIdeal.Facts) (hMlpDownIdeal : Cert.MlpDownIdeal.Facts) (hMlpUpIdeal : Cert.MlpUpIdeal.Facts) (hInProjIdeal : Cert.InProjIdeal.Facts) (hOutProjFwdIdeal : Cert.OutProjFwdIdeal.Facts) (hTailIdeal : Cert.TailIdeal.Facts) (hFiltersIdeal : Cert.FiltersIdeal.Facts) (hReferenceIdeal : Cert.ReferenceIdeal.Facts) (hMlpBwdRefIdeal : Cert.MlpBwdRefIdeal.Facts) (hInProjBwdRefIdeal : Cert.InProjBwdRefIdeal.Facts) (hDwDownRefIdeal : Cert.DwDownRefIdeal.Facts) (hDwUpRefIdeal : Cert.DwUpRefIdeal.Facts) (hDwOutRefIdeal : Cert.DwOutRefIdeal.Facts) (hDwInZRefIdeal : Cert.DwInZRefIdeal.Facts) (hDwInXbcRefIdeal : Cert.DwInXbcRefIdeal.Facts) (hDwInCvgRefIdeal : Cert.DwInCvgRefIdeal.Facts) (hMlpDownRefIdeal : Cert.MlpDownRefIdeal.Facts) (hMlpUpRefIdeal : Cert.MlpUpRefIdeal.Facts) (hInProjRefIdeal : Cert.InProjRefIdeal.Facts) (hOutProjFwdRefIdeal : Cert.OutProjFwdRefIdeal.Facts) (hTailRefIdeal : Cert.TailRefIdeal.Facts) (hFiltersRefIdeal : Cert.FiltersRefIdeal.Facts),
    quiescent_Kernel (hKernel := hKernel)
    ∧ quiescent_MlpBwd (hMlpBwd := hMlpBwd)
    ∧ quiescent_InProjBwd (hInProjBwd := hInProjBwd)
    ∧ quiescent_DwDown (hDwDown := hDwDown)
    ∧ quiescent_DwUp (hDwUp := hDwUp)
    ∧ quiescent_DwOut (hDwOut := hDwOut)
    ∧ quiescent_DwInZ (hDwInZ := hDwInZ)
    ∧ quiescent_DwInXbc (hDwInXbc := hDwInXbc)
    ∧ quiescent_DwInCvg (hDwInCvg := hDwInCvg)
    ∧ quiescent_MlpDown (hMlpDown := hMlpDown)
    ∧ quiescent_MlpUp (hMlpUp := hMlpUp)
    ∧ quiescent_InProj (hInProj := hInProj)
    ∧ quiescent_OutProjFwd (hOutProjFwd := hOutProjFwd)
    ∧ quiescent_Tail (hTail := hTail)
    ∧ quiescent_Filters (hFilters := hFilters)
    ∧ quiescent_KernelIdeal (hKernelIdeal := hKernelIdeal)
    ∧ quiescent_MlpBwdIdeal (hMlpBwdIdeal := hMlpBwdIdeal)
    ∧ quiescent_InProjBwdIdeal (hInProjBwdIdeal := hInProjBwdIdeal)
    ∧ quiescent_DwDownIdeal (hDwDownIdeal := hDwDownIdeal)
    ∧ quiescent_DwUpIdeal (hDwUpIdeal := hDwUpIdeal)
    ∧ quiescent_DwOutIdeal (hDwOutIdeal := hDwOutIdeal)
    ∧ quiescent_DwInZIdeal (hDwInZIdeal := hDwInZIdeal)
    ∧ quiescent_DwInXbcIdeal (hDwInXbcIdeal := hDwInXbcIdeal)
    ∧ quiescent_DwInCvgIdeal (hDwInCvgIdeal := hDwInCvgIdeal)
    ∧ quiescent_MlpDownIdeal (hMlpDownIdeal := hMlpDownIdeal)
    ∧ quiescent_MlpUpIdeal (hMlpUpIdeal := hMlpUpIdeal)
    ∧ quiescent_InProjIdeal (hInProjIdeal := hInProjIdeal)
    ∧ quiescent_OutProjFwdIdeal (hOutProjFwdIdeal := hOutProjFwdIdeal)
    ∧ quiescent_TailIdeal (hTailIdeal := hTailIdeal)
    ∧ quiescent_FiltersIdeal (hFiltersIdeal := hFiltersIdeal)
    ∧ quiescent_ReferenceIdeal (hReferenceIdeal := hReferenceIdeal)
    ∧ quiescent_MlpBwdRefIdeal (hMlpBwdRefIdeal := hMlpBwdRefIdeal)
    ∧ quiescent_InProjBwdRefIdeal (hInProjBwdRefIdeal := hInProjBwdRefIdeal)
    ∧ quiescent_DwDownRefIdeal (hDwDownRefIdeal := hDwDownRefIdeal)
    ∧ quiescent_DwUpRefIdeal (hDwUpRefIdeal := hDwUpRefIdeal)
    ∧ quiescent_DwOutRefIdeal (hDwOutRefIdeal := hDwOutRefIdeal)
    ∧ quiescent_DwInZRefIdeal (hDwInZRefIdeal := hDwInZRefIdeal)
    ∧ quiescent_DwInXbcRefIdeal (hDwInXbcRefIdeal := hDwInXbcRefIdeal)
    ∧ quiescent_DwInCvgRefIdeal (hDwInCvgRefIdeal := hDwInCvgRefIdeal)
    ∧ quiescent_MlpDownRefIdeal (hMlpDownRefIdeal := hMlpDownRefIdeal)
    ∧ quiescent_MlpUpRefIdeal (hMlpUpRefIdeal := hMlpUpRefIdeal)
    ∧ quiescent_InProjRefIdeal (hInProjRefIdeal := hInProjRefIdeal)
    ∧ quiescent_OutProjFwdRefIdeal (hOutProjFwdRefIdeal := hOutProjFwdRefIdeal)
    ∧ quiescent_TailRefIdeal (hTailRefIdeal := hTailRefIdeal)
    ∧ quiescent_FiltersRefIdeal (hFiltersRefIdeal := hFiltersRefIdeal)
    ∧ preserves_Kernel_KernelIdeal
    ∧ preserves_MlpBwd_MlpBwdIdeal
    ∧ preserves_InProjBwd_InProjBwdIdeal
    ∧ preserves_DwDown_DwDownIdeal
    ∧ preserves_DwUp_DwUpIdeal
    ∧ preserves_DwOut_DwOutIdeal
    ∧ preserves_DwInZ_DwInZIdeal
    ∧ preserves_DwInXbc_DwInXbcIdeal
    ∧ preserves_DwInCvg_DwInCvgIdeal
    ∧ preserves_MlpDown_MlpDownIdeal
    ∧ preserves_MlpUp_MlpUpIdeal
    ∧ preserves_InProj_InProjIdeal
    ∧ preserves_OutProjFwd_OutProjFwdIdeal
    ∧ preserves_Tail_TailIdeal
    ∧ preserves_Filters_FiltersIdeal
    ∧ algebraic_KernelIdeal_ReferenceIdeal (hKernelIdeal := hKernelIdeal) (hReferenceIdeal := hReferenceIdeal)
    ∧ algebraic_MlpBwdIdeal_MlpBwdRefIdeal (hMlpBwdIdeal := hMlpBwdIdeal) (hMlpBwdRefIdeal := hMlpBwdRefIdeal)
    ∧ algebraic_InProjBwdIdeal_InProjBwdRefIdeal (hInProjBwdIdeal := hInProjBwdIdeal) (hInProjBwdRefIdeal := hInProjBwdRefIdeal)
    ∧ algebraic_DwDownIdeal_DwDownRefIdeal (hDwDownIdeal := hDwDownIdeal) (hDwDownRefIdeal := hDwDownRefIdeal)
    ∧ algebraic_DwUpIdeal_DwUpRefIdeal (hDwUpIdeal := hDwUpIdeal) (hDwUpRefIdeal := hDwUpRefIdeal)
    ∧ algebraic_DwOutIdeal_DwOutRefIdeal (hDwOutIdeal := hDwOutIdeal) (hDwOutRefIdeal := hDwOutRefIdeal)
    ∧ algebraic_DwInZIdeal_DwInZRefIdeal (hDwInZIdeal := hDwInZIdeal) (hDwInZRefIdeal := hDwInZRefIdeal)
    ∧ algebraic_DwInXbcIdeal_DwInXbcRefIdeal (hDwInXbcIdeal := hDwInXbcIdeal) (hDwInXbcRefIdeal := hDwInXbcRefIdeal)
    ∧ algebraic_DwInCvgIdeal_DwInCvgRefIdeal (hDwInCvgIdeal := hDwInCvgIdeal) (hDwInCvgRefIdeal := hDwInCvgRefIdeal)
    ∧ algebraic_MlpDownIdeal_MlpDownRefIdeal (hMlpDownIdeal := hMlpDownIdeal) (hMlpDownRefIdeal := hMlpDownRefIdeal)
    ∧ algebraic_MlpUpIdeal_MlpUpRefIdeal (hMlpUpIdeal := hMlpUpIdeal) (hMlpUpRefIdeal := hMlpUpRefIdeal)
    ∧ algebraic_InProjIdeal_InProjRefIdeal (hInProjIdeal := hInProjIdeal) (hInProjRefIdeal := hInProjRefIdeal)
    ∧ algebraic_OutProjFwdIdeal_OutProjFwdRefIdeal (hOutProjFwdIdeal := hOutProjFwdIdeal) (hOutProjFwdRefIdeal := hOutProjFwdRefIdeal)
    ∧ algebraic_TailIdeal_TailRefIdeal (hTailIdeal := hTailIdeal) (hTailRefIdeal := hTailRefIdeal)
    ∧ algebraic_FiltersIdeal_FiltersRefIdeal (hFiltersIdeal := hFiltersIdeal) (hFiltersRefIdeal := hFiltersRefIdeal)
-- ==== Kernel.lean ====
abbrev S4096x1024 : Shape := ⟨2, ![4096, 1024]⟩
abbrev S1x1024 : Shape := ⟨2, ![1, 1024]⟩
abbrev S2048x1024 : Shape := ⟨2, ![2048, 1024]⟩
abbrev S8x1024 : Shape := ⟨2, ![8, 1024]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S2048x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MlpBwd.lean ====
abbrev S4096x1024 : Shape := ⟨2, ![4096, 1024]⟩
abbrev S1x1024 : Shape := ⟨2, ![1, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S8x1024 : Shape := ⟨2, ![8, 1024]⟩
abbrev S512x1024 : Shape := ⟨2, ![512, 1024]⟩
abbrev S512x4096 : Shape := ⟨2, ![512, 4096]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 30
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S8x1024x512, .bf16⟩
  | .hbm, ⟨5, _⟩ => ⟨S1024x8x512, .bf16⟩
  | .hbm, ⟨6, _⟩ => ⟨S1024x4096, .bf16⟩
  | .hbm, ⟨7, _⟩ => ⟨S1024x4096, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S4096x4096, .bf16⟩
  | .hbm, ⟨25, _⟩ => ⟨S4096x1024, .bf16⟩
  | .hbm, ⟨26, _⟩ => ⟨S4096x4096, .bf16⟩
  | .hbm, ⟨27, _⟩ => ⟨S4096x1024, .f32⟩
  | .hbm, ⟨28, _⟩ => ⟨S4096x1024, .bf16⟩
  | .hbm, ⟨29, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x1024, .f32⟩
  | .local _ .vmem, ⟨16, _⟩ => ⟨S4096x1024, .bf16⟩
  | .local _ .vmem, ⟨17, _⟩ => ⟨S8x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InProjBwd.lean ====
abbrev S4096x1024 : Shape := ⟨2, ![4096, 1024]⟩
abbrev S4096x1536 : Shape := ⟨2, ![4096, 1536]⟩
abbrev S4096x16 : Shape := ⟨2, ![4096, 16]⟩
abbrev S4096x2048 : Shape := ⟨2, ![4096, 2048]⟩
abbrev S1x1024 : Shape := ⟨2, ![1, 1024]⟩
abbrev S4624x1024 : Shape := ⟨2, ![4624, 1024]⟩
abbrev S8x1024 : Shape := ⟨2, ![8, 1024]⟩
abbrev S512x1024 : Shape := ⟨2, ![512, 1024]⟩
abbrev S512x1536 : Shape := ⟨2, ![512, 1536]⟩
abbrev S512x16 : Shape := ⟨2, ![512, 16]⟩
abbrev S512x2048 : Shape := ⟨2, ![512, 2048]⟩
abbrev S1024x1024 : Shape := ⟨2, ![1024, 1024]⟩
abbrev S1536x1024 : Shape := ⟨2, ![1536, 1024]⟩
abbrev S16x1024 : Shape := ⟨2, ![16, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x16, .bf16⟩
  | .hbm, ⟨3, _⟩ => ⟨S4096x2048, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4624x1024, .bf16⟩
  | .hbm, ⟨8, _⟩ => ⟨S4096x1024, .f32⟩
  | .hbm, ⟨9, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1536, .bf16⟩
  | .local _ .vmem, ⟨3, _⟩ => ⟨S512x1536, .bf16⟩
  | .local _ .vmem, ⟨4, _⟩ => ⟨S512x16, .bf16⟩
  | .local _ .vmem, ⟨5, _⟩ => ⟨S512x16, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S4624x1024, .bf16⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4624x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DwDown.lean ====
abbrev S4096x1024 : Shape := ⟨2, ![4096, 1024]⟩
abbrev S4096x4096 : Shape := ⟨2, ![4096, 4096]⟩
abbrev S_ : Shape := ⟨0, ![]⟩
abbrev S4096x512 : Shape := ⟨2, ![4096, 512]⟩
abbrev S512x1024 : Shape := ⟨2, ![512, 1024]⟩

abbrev nBuf : Space → Nat
  | .hbm => 10
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .hbm, ⟨9, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUp.lean ====
abbrev S4096x1024 : Shape := ⟨2, ![4096, 1024]⟩
abbrev S1x1024 : Shape := ⟨2, ![1, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S8x1024x512 : Shape := ⟨3, ![8, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 20
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4096, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== DwOut.lean ====
abbrev S4096x1024 : Shape := ⟨2, ![4096, 1024]⟩
abbrev S1x1024 : Shape := ⟨2, ![1, 1024]⟩
abbrev S_ : Shape := ⟨0, ![]⟩
abbrev S4096x2x512 : Shape := ⟨3, ![4096, 2, 512]⟩
abbrev S4096x2 : Shape := ⟨2, ![4096, 2]⟩
abbrev S4096x2x1 : Shape := ⟨3, ![4096, 2, 1]⟩
abbrev S4096 : Shape := ⟨1, ![4096]⟩
abbrev S4096x1 : Shape := ⟨2, ![4096, 1]⟩
abbrev S4096x2048 : Shape := ⟨2, ![4096, 2048]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 71
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x2x512, .f32⟩
  | .hbm, ⟨18, _⟩ => ⟨S4096x2x512, .f32⟩
  | .hbm, ⟨19, _⟩ => ⟨S_, .f32⟩
  | .hbm, ⟨20, _⟩ => ⟨S4096x2, .f32⟩
  | .hbm, ⟨21, _⟩ => ⟨S4096x2x1, .f32⟩
  | .hbm, ⟨22, _⟩ => ⟨S_, .f32⟩
  | .hbm, ⟨23, _⟩ => ⟨S4096x2x1, .f32⟩
  | .hbm, ⟨24, _⟩ => ⟨S4096x2x1, .f32⟩
  | .hbm, ⟨25, _⟩ => ⟨S_, .f32⟩
  | .hbm, ⟨26, _⟩ => ⟨S4096x2x1, .f32⟩
  | .hbm, ⟨27, _⟩ => ⟨S4096x2x1, .f32⟩
  | .hbm, ⟨28, _⟩ => ⟨S4096x2x1, .f32⟩
  | .hbm, ⟨29, _⟩ => ⟨S4096x2x512, .f32⟩
  | .hbm, ⟨30, _⟩ => ⟨S4096x2x512, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x2048, .f32⟩
  | .hbm, ⟨69, _⟩ => ⟨S4096x2048, .bf16⟩
  | .hbm, ⟨70, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInZ.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 20
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInXbc.lean ====
abbrev S4096x1024 : Shape := ⟨2, ![4096, 1024]⟩
abbrev S1x1024 : Shape := ⟨2, ![1, 1024]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1536x1024 : Shape := ⟨2, ![1536, 1024]⟩
abbrev S4096x512 : Shape := ⟨2, ![4096, 512]⟩
abbrev S512x1024 : Shape := ⟨2, ![512, 1024]⟩

abbrev nBuf : Space → Nat
  | .hbm => 20
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1536, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1536x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwInCvg.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x1024 : Shape := ⟨2, ![2048, 1024]⟩
abbrev S4096x512 : Shape := ⟨2, ![4096, 512]⟩
abbrev S512x1024 : Shape := ⟨2, ![512, 1024]⟩

abbrev nBuf : Space → Nat
  | .hbm => 20
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2048, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlpDown.lean ====
abbrev S4096x1024 : Shape := ⟨2, ![4096, 1024]⟩
abbrev S4096x4096 : Shape := ⟨2, ![4096, 4096]⟩
abbrev S_ : Shape := ⟨0, ![]⟩
abbrev S512x1024 : Shape := ⟨2, ![512, 1024]⟩
abbrev S512x4096 : Shape := ⟨2, ![512, 4096]⟩

abbrev nBuf : Space → Nat
  | .hbm => 9
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MlpUp.lean ====
abbrev S4096x1024 : Shape := ⟨2, ![4096, 1024]⟩
abbrev S1x1024 : Shape := ⟨2, ![1, 1024]⟩
abbrev S8x1024x512 : Shape := ⟨3, ![8, 1024, 512]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 21
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x1024x512, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x4096, .bf16⟩
  | .hbm, ⟨20, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InProj.lean ====
abbrev S4096x1024 : Shape := ⟨2, ![4096, 1024]⟩
abbrev S1x1024 : Shape := ⟨2, ![1, 1024]⟩
abbrev S4624x1024 : Shape := ⟨2, ![4624, 1024]⟩
abbrev S4096x1536 : Shape := ⟨2, ![4096, 1536]⟩
abbrev S4096x16 : Shape := ⟨2, ![4096, 16]⟩
abbrev S512x1024 : Shape := ⟨2, ![512, 1024]⟩
abbrev S512x1536 : Shape := ⟨2, ![512, 1536]⟩
abbrev S512x16 : Shape := ⟨2, ![512, 16]⟩
abbrev S512 : Shape := ⟨1, ![512]⟩
abbrev S512x1 : Shape := ⟨2, ![512, 1]⟩
abbrev S1024x1024 : Shape := ⟨2, ![1024, 1024]⟩
abbrev S1536x1024 : Shape := ⟨2, ![1536, 1024]⟩
abbrev S16x1024 : Shape := ⟨2, ![16, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4624x1024, .bf16⟩
  | .hbm, ⟨3, _⟩ => ⟨S4096x1024, .bf16⟩
  | .hbm, ⟨4, _⟩ => ⟨S4096x1024, .f32⟩
  | .hbm, ⟨5, _⟩ => ⟨S4096x1536, .f32⟩
  | .hbm, ⟨6, _⟩ => ⟨S4096x16, .f32⟩
  | .hbm, ⟨7, _⟩ => ⟨S4096x1024, .f32⟩
  | .hbm, ⟨8, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4624x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1536, .f32⟩
  | .local _ .vmem, ⟨9, _⟩ => ⟨S512x1536, .f32⟩
  | .local _ .vmem, ⟨10, _⟩ => ⟨S512x16, .f32⟩
  | .local _ .vmem, ⟨11, _⟩ => ⟨S512x16, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4624x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjFwd.lean ====
abbrev S4096x1024 : Shape := ⟨2, ![4096, 1024]⟩
abbrev S1x1024 : Shape := ⟨2, ![1, 1024]⟩
abbrev S2048x1024 : Shape := ⟨2, ![2048, 1024]⟩
abbrev S4096x2048 : Shape := ⟨2, ![4096, 2048]⟩
abbrev S512x1024 : Shape := ⟨2, ![512, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1024x1024 : Shape := ⟨2, ![1024, 1024]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .bf16⟩
  | .hbm, ⟨8, _⟩ => ⟨S1x1024, .f32⟩
  | .hbm, ⟨9, _⟩ => ⟨S4096x2048, .bf16⟩
  | .hbm, ⟨10, _⟩ => ⟨S4096x1024, .f32⟩
  | .hbm, ⟨11, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S2048x1024, .bf16⟩
  | .local _ .vmem, ⟨12, _⟩ => ⟨S1x1024, .f32⟩
  | .local _ .vmem, ⟨13, _⟩ => ⟨S512x2048, .bf16⟩
  | .local _ .vmem, ⟨14, _⟩ => ⟨S512x2048, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Tail.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 14
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x1024, .f32⟩
  | .hbm, ⟨3, _⟩ => ⟨S1x1024, .f32⟩
  | .hbm, ⟨4, _⟩ => ⟨S1024x1024, .bf16⟩
  | .hbm, ⟨5, _⟩ => ⟨S1x1024, .f32⟩
  | .hbm, ⟨6, _⟩ => ⟨S256x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .bf16⟩
  | .hbm, ⟨11, _⟩ => ⟨S1024x1024, .f32⟩
  | .hbm, ⟨12, _⟩ => ⟨S256x1024, .f32⟩
  | .hbm, ⟨13, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S256x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S256x1024, .f32⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Filters.lean ====
abbrev S4x1536 : Shape := ⟨2, ![4, 1536]⟩
abbrev S31x1024 : Shape := ⟨2, ![31, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S31x1024, .f32⟩
  | .hbm, ⟨5, _⟩ => ⟨S31x1024, .f32⟩
  | .hbm, ⟨6, _⟩ => ⟨S31x1024, .f32⟩
  | .hbm, ⟨7, _⟩ => ⟨S31x1024, .f32⟩
  | .hbm, ⟨8, _⟩ => ⟨S4x1536, .f32⟩
  | .hbm, ⟨9, _⟩ => ⟨S4x1536, .f32⟩
  | .hbm, ⟨10, _⟩ => ⟨S4x1536, .f32⟩
  | .hbm, ⟨11, _⟩ => ⟨S31x1024, .f32⟩
  | .hbm, ⟨12, _⟩ => ⟨S31x1024, .f32⟩
  | .hbm, ⟨13, _⟩ => ⟨S31x1024, .f32⟩
  | .local _ .vmem, ⟨0, _⟩ => ⟨S4x1536, .f32⟩
  | .local _ .vmem, ⟨1, _⟩ => ⟨S4x1536, .f32⟩
  | .local _ .vmem, ⟨2, _⟩ => ⟨S4x1536, .f32⟩
  | .local _ .vmem, ⟨3, _⟩ => ⟨S4x1536, .f32⟩
  | .local _ .vmem, ⟨4, _⟩ => ⟨S31x1024, .f32⟩
  | .local _ .vmem, ⟨5, _⟩ => ⟨S31x1024, .f32⟩
  | .local _ .vmem, ⟨6, _⟩ => ⟨S31x1024, .f32⟩
  | .local _ .vmem, ⟨7, _⟩ => ⟨S31x1024, .f32⟩
  | .local _ .vmem, ⟨8, _⟩ => ⟨S4x1536, .f32⟩
  | .local _ .vmem, ⟨9, _⟩ => ⟨S4x1536, .f32⟩
  | .local _ .vmem, ⟨10, _⟩ => ⟨S4x1536, .f32⟩
  | .local _ .vmem, ⟨11, _⟩ => ⟨S31x1024, .f32⟩
  | .local _ .vmem, ⟨12, _⟩ => ⟨S31x1024, .f32⟩
  | .local _ .vmem, ⟨13, _⟩ => ⟨S31x1024, .f32⟩
  | _, _ => ⟨S4x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S4x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S31x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S31x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S31x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S31x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== ReferenceIdeal.lean ====
abbrev S4096x1024 : Shape := ⟨2, ![4096, 1024]⟩
abbrev S1x1024 : Shape := ⟨2, ![1, 1024]⟩
abbrev S2048x1024 : Shape := ⟨2, ![2048, 1024]⟩
abbrev S_ : Shape := ⟨0, ![]⟩
abbrev S4096x2x512 : Shape := ⟨3, ![4096, 2, 512]⟩
abbrev S4096x2 : Shape := ⟨2, ![4096, 2]⟩
abbrev S4096x2x1 : Shape := ⟨3, ![4096, 2, 1]⟩
abbrev S4096 : Shape := ⟨1, ![4096]⟩
abbrev S4096x1 : Shape := ⟨2, ![4096, 1]⟩
abbrev S4096x2048 : Shape := ⟨2, ![4096, 2048]⟩
abbrev S1024 : Shape := ⟨1, ![1024]⟩
abbrev S4x1024 : Shape := ⟨2, ![4, 1024]⟩
abbrev S8x1024 : Shape := ⟨2, ![8, 1024]⟩

abbrev nBuf : Space → Nat
  | .hbm => 171
  | .vmem => 0
  | .smem => 0
  | _ => 0

abbrev hbmTy0_0 (i : Nat) : BufTy := match i % 128 with
  | 0 => ⟨S4096x1024, .bf16⟩
  | 1 => ⟨S4096x1024, .f32⟩
  | 2 => ⟨S4096x1024, .f32⟩
  | 3 => ⟨S4096x1024, .f32⟩
  | 4 => ⟨S1x1024, .f32⟩
  | 5 => ⟨S1x1024, .f32⟩
  | 6 => ⟨S1x1024, .f32⟩
  | 7 => ⟨S2048x1024, .bf16⟩
  | 8 => ⟨S4096x1024, .f32⟩
  | 9 => ⟨S2048x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x2x512, .f32⟩
  | 25 => ⟨S4096x2x512, .f32⟩
  | 26 => ⟨S_, .f32⟩
  | 27 => ⟨S4096x2, .f32⟩
  | 28 => ⟨S4096x2x1, .f32⟩
  | 29 => ⟨S_, .f32⟩
  | 30 => ⟨S4096x2x1, .f32⟩
  | 31 => ⟨S4096x2x1, .f32⟩
  | 32 => ⟨S_, .f32⟩
  | 33 => ⟨S4096x2x1, .f32⟩
  | 34 => ⟨S4096x2x1, .f32⟩
  | 35 => ⟨S4096x2x1, .f32⟩
  | 36 => ⟨S4096x2x1, .f32⟩
  | 37 => ⟨S_, .f32⟩
  | 38 => ⟨S4096x2x1, .f32⟩
  | 39 => ⟨S4096x2x1, .f32⟩
  | 40 => ⟨S4096x2x512, .f32⟩
  | 41 => ⟨S4096x2x512, .f32⟩
  | 42 => ⟨S4096x1024, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S_, .f32⟩
  | 49 => ⟨S4096x1, .f32⟩
  | 50 => ⟨S4096x1, .f32⟩
  | 51 => ⟨S4096x1024, .f32⟩
  | 52 => ⟨S4096x1024, .f32⟩
  | 53 => ⟨S4096x1024, .f32⟩
  | 54 => ⟨S_, .f32⟩
  | 55 => ⟨S4096, .f32⟩
  | 56 => ⟨S4096x1, .f32⟩
  | 57 => ⟨S_, .f32⟩
  | 58 => ⟨S4096x1, .f32⟩
  | 59 => ⟨S4096x1, .f32⟩
  | 60 => ⟨S_, .f32⟩
  | 61 => ⟨S4096x1, .f32⟩
  | 62 => ⟨S4096x1, .f32⟩
  | 63 => ⟨S4096x1, .f32⟩
  | 64 => ⟨S4096x1, .f32⟩
  | 65 => ⟨S_, .f32⟩
  | 66 => ⟨S4096x1, .f32⟩
  | 67 => ⟨S4096x1, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S4096x1024, .f32⟩
  | 86 => ⟨S4096x1024, .f32⟩
  | 87 => ⟨S4096x2048, .f32⟩
  | 88 => ⟨S4096x1024, .f32⟩
  | 89 => ⟨S4096x2048, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S_, .f32⟩
  | 97 => ⟨S1024, .f32⟩
  | 98 => ⟨S1x1024, .f32⟩
  | 99 => ⟨S4096x1024, .f32⟩
  | 100 => ⟨S_, .f32⟩
  | 101 => ⟨S1024, .f32⟩
  | 102 => ⟨S1x1024, .f32⟩
  | 103 => ⟨S4096x1024, .f32⟩
  | 104 => ⟨S4096x1024, .f32⟩
  | 105 => ⟨S4096x1024, .f32⟩
  | 106 => ⟨S_, .f32⟩
  | 107 => ⟨S4096, .f32⟩
  | 108 => ⟨S4096x1, .f32⟩
  | 109 => ⟨S4096x1024, .f32⟩
  | 110 => ⟨S4096x1024, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S_, .f32⟩
  | 124 => ⟨S4096, .f32⟩
  | 125 => ⟨S4096x1, .f32⟩
  | 126 => ⟨S_, .f32⟩
  | 127 => ⟨S4096x1, .f32⟩
  | _ => ⟨S4096x1024, .bf16⟩

abbrev hbmTy0_1 (i : Nat) : BufTy := match i % 128 with
  | 0 => ⟨S4096x1, .f32⟩
  | 1 => ⟨S_, .f32⟩
  | 2 => ⟨S4096, .f32⟩
  | 3 => ⟨S4096x1024, .f32⟩
  | 4 => ⟨S4096x1024, .f32⟩
  | 5 => ⟨S4096x1024, .f32⟩
  | 6 => ⟨S_, .f32⟩
  | 7 => ⟨S1024, .f32⟩
  | 8 => ⟨S1x1024, .f32⟩
  | 9 => ⟨S4096x1024, .f32⟩
  | 10 => ⟨S4096x1024, .f32⟩
  | 11 => ⟨S4096x2x512, .f32⟩
  | 12 => ⟨S4096x2x512, .f32⟩
  | 13 => ⟨S_, .f32⟩
  | 14 => ⟨S4096x2, .f32⟩
  | 15 => ⟨S4096x2x1, .f32⟩
  | 16 => ⟨S4096x2x512, .f32⟩
  | 17 => ⟨S4096x2x512, .f32⟩
  | 18 => ⟨S4096x2x1, .f32⟩
  | 19 => ⟨S_, .f32⟩
  | 20 => ⟨S4096x2x1, .f32⟩
  | 21 => ⟨S4096x2x1, .f32⟩
  | 22 => ⟨S_, .f32⟩
  | 23 => ⟨S4096x2, .f32⟩
  | 24 => ⟨S4096x2x512, .f32⟩
  | 25 => ⟨S4096x2x512, .f32⟩
  | 26 => ⟨S4096x2x512, .f32⟩
  | 27 => ⟨S4096x2x512, .f32⟩
  | 28 => ⟨S4096x2x512, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S_, .f32⟩
  | 37 => ⟨S1024, .f32⟩
  | 38 => ⟨S1x1024, .f32⟩
  | 39 => ⟨S4096x1024, .bf16⟩
  | 40 => ⟨S_, .f32⟩
  | 41 => ⟨S4x1024, .f32⟩
  | 42 => ⟨S8x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v2_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v2_1 : Ref sig .tc := ⟨.hbm, 21, rfl⟩
abbrev main_v2_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_3 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_5 : Ref sig .tc := ⟨.hbm, 54, rfl⟩
abbrev main_v28 : Ref sig .tc := ⟨.hbm, 55, rfl⟩
abbrev main_v29 : Ref sig .tc := ⟨.hbm, 56, rfl⟩
abbrev main_cst_6 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_8 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_v44_2 : Ref sig .tc := ⟨.hbm, 81, rfl⟩
abbrev main_call1_cst_1 : Ref sig .tc := ⟨.hbm, 82, rfl⟩
abbrev main_call1_v6 : Ref sig .tc := ⟨.hbm, 83, rfl⟩
abbrev main_call1_v7 : Ref sig .tc := ⟨.hbm, 84, rfl⟩
abbrev main_v44_1 : Ref sig .tc := ⟨.hbm, 85, rfl⟩
abbrev main_v44_0 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v50 : Ref sig .tc := ⟨.hbm, 95, rfl⟩
abbrev main_cst_9 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_10 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_11 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_12 : Ref sig .tc := ⟨.hbm, 112, rfl⟩
abbrev main_v64 : Ref sig .tc := ⟨.hbm, 113, rfl⟩
abbrev main_v65 : Ref sig .tc := ⟨.hbm, 114, rfl⟩
abbrev main_cst_13 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_14 : Ref sig .tc := ⟨.hbm, 123, rfl⟩
abbrev main_v73 : Ref sig .tc := ⟨.hbm, 124, rfl⟩
abbrev main_v74 : Ref sig .tc := ⟨.hbm, 125, rfl⟩
abbrev main_cst_15 : Ref sig .tc := ⟨.hbm, 126, rfl⟩
abbrev main_v75 : Ref sig .tc := ⟨.hbm, 127, rfl⟩
abbrev main_v76 : Ref sig .tc := ⟨.hbm, 128, rfl⟩
abbrev main_cst_16 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_17 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_18 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_19 : Ref sig .tc := ⟨.hbm, 147, rfl⟩
abbrev main_v92 : Ref sig .tc := ⟨.hbm, 148, rfl⟩
abbrev main_v93 : Ref sig .tc := ⟨.hbm, 149, rfl⟩
abbrev main_cst_20 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_call3_v0 : Ref sig .tc := ⟨.hbm, 160, rfl⟩
abbrev main_call3_v1 : Ref sig .tc := ⟨.hbm, 161, rfl⟩
abbrev main_call3_v2 : Ref sig .tc := ⟨.hbm, 162, rfl⟩
abbrev main_v103 : Ref sig .tc := ⟨.hbm, 163, rfl⟩
abbrev main_cst_21 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_22 : Ref sig .tc := ⟨.hbm, 168, rfl⟩
abbrev main_v107 : Ref sig .tc := ⟨.hbm, 169, rfl⟩
abbrev main_v108 : Ref sig .tc := ⟨.hbm, 170, rfl⟩

abbrev nD : Nat := 1
abbrev τ : Topo := Topo.v7x

variable {F : FTy → Type} [FloatOps F]
-- ==== MlpBwdRefIdeal.lean ====
abbrev S4096x1024 : Shape := ⟨2, ![4096, 1024]⟩
abbrev S1x1024 : Shape := ⟨2, ![1, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S7x1024 : Shape := ⟨2, ![7, 1024]⟩
abbrev S8x1024 : Shape := ⟨2, ![8, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S8x1024x512, .bf16⟩
  | .hbm, ⟨5, _⟩ => ⟨S1024x8x512, .bf16⟩
  | .hbm, ⟨6, _⟩ => ⟨S1024x4096, .bf16⟩
  | .hbm, ⟨7, _⟩ => ⟨S1024x4096, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x4096, .f32⟩
  | .hbm, ⟨28, _⟩ => ⟨S4096x1024, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x4096, .bf16⟩
  | .hbm, ⟨74, _⟩ => ⟨S4096x1024, .bf16⟩
  | .hbm, ⟨75, _⟩ => ⟨S_, .f32⟩
  | .hbm, ⟨76, _⟩ => ⟨S7x1024, .f32⟩
  | .hbm, ⟨77, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== InProjBwdRefIdeal.lean ====
abbrev S4096x1024 : Shape := ⟨2, ![4096, 1024]⟩
abbrev S4096x1536 : Shape := ⟨2, ![4096, 1536]⟩
abbrev S4096x16 : Shape := ⟨2, ![4096, 16]⟩
abbrev S4096x2048 : Shape := ⟨2, ![4096, 2048]⟩
abbrev S1x1024 : Shape := ⟨2, ![1, 1024]⟩
abbrev S4624x1024 : Shape := ⟨2, ![4624, 1024]⟩
abbrev S_ : Shape := ⟨0, ![]⟩
abbrev S4096 : Shape := ⟨1, ![4096]⟩
abbrev S4096x1 : Shape := ⟨2, ![4096, 1]⟩
abbrev S1024x4624 : Shape := ⟨2, ![1024, 4624]⟩
abbrev S4096x4624 : Shape := ⟨2, ![4096, 4624]⟩
abbrev S1024 : Shape := ⟨1, ![1024]⟩
abbrev S7x1024 : Shape := ⟨2, ![7, 1024]⟩
abbrev S8x1024 : Shape := ⟨2, ![8, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x16, .bf16⟩
  | .hbm, ⟨3, _⟩ => ⟨S4096x2048, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4624x1024, .bf16⟩
  | .hbm, ⟨8, _⟩ => ⟨S4624x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1024x4624, .f32⟩
  | .hbm, ⟨29, _⟩ => ⟨S4096x4624, .f32⟩
  | .hbm, ⟨30, _⟩ => ⟨S4096x1024, .f32⟩
  | .hbm, ⟨31, _⟩ => ⟨S4096x1536, .f32⟩
  | .hbm, ⟨32, _⟩ => ⟨S4096x16, .f32⟩
  | .hbm, ⟨33, _⟩ => ⟨S4096x2048, .f32⟩
  | .hbm, ⟨34, _⟩ => ⟨S4096x1024, .f32⟩
  | .hbm, ⟨35, _⟩ => ⟨S4096x1536, .f32⟩
  | .hbm, ⟨36, _⟩ => ⟨S4096x16, .f32⟩
  | .hbm, ⟨37, _⟩ => ⟨S4096x2048, .f32⟩
  | .hbm, ⟨38, _⟩ => ⟨S4096x4624, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S7x1024, .f32⟩
  | .hbm, ⟨66, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== DwDownRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== DwUpRefIdeal.lean ====
abbrev S4096x1024 : Shape := ⟨2, ![4096, 1024]⟩
abbrev S1x1024 : Shape := ⟨2, ![1, 1024]⟩
abbrev S4096x4096 : Shape := ⟨2, ![4096, 4096]⟩
abbrev S_ : Shape := ⟨0, ![]⟩
abbrev S8x1024x512 : Shape := ⟨3, ![8, 1024, 512]⟩
abbrev S1024x8x512 : Shape := ⟨3, ![1024, 8, 512]⟩
abbrev S1024x4096 : Shape := ⟨2, ![1024, 4096]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x4096, .bf16⟩
  | .hbm, ⟨3, _⟩ => ⟨S_, .f32⟩
  | .hbm, ⟨4, _⟩ => ⟨S8x1024x512, .f32⟩
  | .hbm, ⟨5, _⟩ => ⟨S1024x8x512, .f32⟩
  | .hbm, ⟨6, _⟩ => ⟨S1024x4096, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S1024x4096, .f32⟩
  | .hbm, ⟨26, _⟩ => ⟨S1024x8x512, .f32⟩
  | .hbm, ⟨27, _⟩ => ⟨S8x1024x512, .f32⟩
  | .hbm, ⟨28, _⟩ => ⟨S8x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== DwOutRefIdeal.lean ====
abbrev S4096x1024 : Shape := ⟨2, ![4096, 1024]⟩
abbrev S1x1024 : Shape := ⟨2, ![1, 1024]⟩
abbrev S_ : Shape := ⟨0, ![]⟩
abbrev S2048x1024 : Shape := ⟨2, ![2048, 1024]⟩
abbrev S4096x2x512 : Shape := ⟨3, ![4096, 2, 512]⟩
abbrev S4096x2 : Shape := ⟨2, ![4096, 2]⟩
abbrev S4096x2x1 : Shape := ⟨3, ![4096, 2, 1]⟩
abbrev S4096 : Shape := ⟨1, ![4096]⟩
abbrev S4096x1 : Shape := ⟨2, ![4096, 1]⟩
abbrev S4096x2048 : Shape := ⟨2, ![4096, 2048]⟩
abbrev S1024x2048 : Shape := ⟨2, ![1024, 2048]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S_, .f32⟩
  | .hbm, ⟨8, _⟩ => ⟨S2048x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2x512, .f32⟩
  | .hbm, ⟨20, _⟩ => ⟨S4096x2x512, .f32⟩
  | .hbm, ⟨21, _⟩ => ⟨S_, .f32⟩
  | .hbm, ⟨22, _⟩ => ⟨S4096x2, .f32⟩
  | .hbm, ⟨23, _⟩ => ⟨S4096x2x1, .f32⟩
  | .hbm, ⟨24, _⟩ => ⟨S_, .f32⟩
  | .hbm, ⟨25, _⟩ => ⟨S4096x2x1, .f32⟩
  | .hbm, ⟨26, _⟩ => ⟨S4096x2x1, .f32⟩
  | .hbm, ⟨27, _⟩ => ⟨S_, .f32⟩
  | .hbm, ⟨28, _⟩ => ⟨S4096x2x1, .f32⟩
  | .hbm, ⟨29, _⟩ => ⟨S4096x2x1, .f32⟩
  | .hbm, ⟨30, _⟩ => ⟨S4096x2x1, .f32⟩
  | .hbm, ⟨31, _⟩ => ⟨S4096x2x512, .f32⟩
  | .hbm, ⟨32, _⟩ => ⟨S4096x2x512, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x2048, .f32⟩
  | .hbm, ⟨71, _⟩ => ⟨S4096x1024, .f32⟩
  | .hbm, ⟨72, _⟩ => ⟨S4096x1024, .f32⟩
  | .hbm, ⟨73, _⟩ => ⟨S1024x2048, .f32⟩
  | .hbm, ⟨74, _⟩ => ⟨S2048x1024, .f32⟩
  | .hbm, ⟨75, _⟩ => ⟨S2048x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_cst_6 : Ref sig .tc := ⟨.hbm, 48, rfl⟩
abbrev main_v26 : Ref sig .tc := ⟨.hbm, 49, rfl⟩
abbrev main_v27 : Ref sig .tc := ⟨.hbm, 50, rfl⟩
abbrev main_cst_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩

abbrev nD : Nat := 1
abbrev τ : Topo := Topo.v7x

variable {F : FTy → Type} [FloatOps F]
-- ==== DwInZRefIdeal.lean ====
abbrev S4096x1024 : Shape := ⟨2, ![4096, 1024]⟩
abbrev S1x1024 : Shape := ⟨2, ![1, 1024]⟩
abbrev S_ : Shape := ⟨0, ![]⟩
abbrev S1024x1024 : Shape := ⟨2, ![1024, 1024]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x1024, .f32⟩
  | .hbm, ⟨21, _⟩ => ⟨S4096x1024, .f32⟩
  | .hbm, ⟨22, _⟩ => ⟨S4096x1024, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== DwInXbcRefIdeal.lean ====
abbrev S4096x1024 : Shape := ⟨2, ![4096, 1024]⟩
abbrev S1x1024 : Shape := ⟨2, ![1, 1024]⟩
abbrev S4096x1536 : Shape := ⟨2, ![4096, 1536]⟩
abbrev S_ : Shape := ⟨0, ![]⟩
abbrev S1536x1024 : Shape := ⟨2, ![1536, 1024]⟩
abbrev S4096 : Shape := ⟨1, ![4096]⟩
abbrev S4096x1 : Shape := ⟨2, ![4096, 1]⟩
abbrev S1024x1536 : Shape := ⟨2, ![1024, 1536]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1536, .bf16⟩
  | .hbm, ⟨3, _⟩ => ⟨S_, .f32⟩
  | .hbm, ⟨4, _⟩ => ⟨S1536x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x1536, .f32⟩
  | .hbm, ⟨21, _⟩ => ⟨S4096x1536, .f32⟩
  | .hbm, ⟨22, _⟩ => ⟨S4096x1536, .f32⟩
  | .hbm, ⟨23, _⟩ => ⟨S1536x1024, .f32⟩
  | .hbm, ⟨24, _⟩ => ⟨S1024x1536, .f32⟩
  | .hbm, ⟨25, _⟩ => ⟨S1536x1024, .f32⟩
  | .hbm, ⟨26, _⟩ => ⟨S1536x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== DwInCvgRefIdeal.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S2048x1024 : Shape := ⟨2, ![2048, 1024]⟩
abbrev S4096 : Shape := ⟨1, ![4096]⟩
abbrev S4096x1 : Shape := ⟨2, ![4096, 1]⟩
abbrev S1024x2048 : Shape := ⟨2, ![1024, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2048, .bf16⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x2048, .f32⟩
  | .hbm, ⟨21, _⟩ => ⟨S4096x2048, .f32⟩
  | .hbm, ⟨22, _⟩ => ⟨S4096x2048, .f32⟩
  | .hbm, ⟨23, _⟩ => ⟨S2048x1024, .f32⟩
  | .hbm, ⟨24, _⟩ => ⟨S1024x2048, .f32⟩
  | .hbm, ⟨25, _⟩ => ⟨S2048x1024, .f32⟩
  | .hbm, ⟨26, _⟩ => ⟨S2048x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== MlpDownRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== MlpUpRefIdeal.lean ====
abbrev S4096x1024 : Shape := ⟨2, ![4096, 1024]⟩
abbrev S1x1024 : Shape := ⟨2, ![1, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x1024x512, .bf16⟩
  | .hbm, ⟨3, _⟩ => ⟨S8x1024x512, .f32⟩
  | .hbm, ⟨4, _⟩ => ⟨S1024x8x512, .f32⟩
  | .hbm, ⟨5, _⟩ => ⟨S1024x4096, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .bf16⟩
  | .hbm, ⟨26, _⟩ => ⟨S4096x4096, .f32⟩
  | .hbm, ⟨27, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== InProjRefIdeal.lean ====
abbrev S4096x1024 : Shape := ⟨2, ![4096, 1024]⟩
abbrev S1x1024 : Shape := ⟨2, ![1, 1024]⟩
abbrev S4624x1024 : Shape := ⟨2, ![4624, 1024]⟩
abbrev S_ : Shape := ⟨0, ![]⟩
abbrev S4096 : Shape := ⟨1, ![4096]⟩
abbrev S4096x1 : Shape := ⟨2, ![4096, 1]⟩
abbrev S1024x4624 : Shape := ⟨2, ![1024, 4624]⟩
abbrev S4096x4624 : Shape := ⟨2, ![4096, 4624]⟩
abbrev S4096x1536 : Shape := ⟨2, ![4096, 1536]⟩
abbrev S4096x16 : Shape := ⟨2, ![4096, 16]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4624x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4624x1024, .f32⟩
  | .hbm, ⟨20, _⟩ => ⟨S1024x4624, .f32⟩
  | .hbm, ⟨21, _⟩ => ⟨S4096x4624, .f32⟩
  | .hbm, ⟨22, _⟩ => ⟨S4096x1024, .f32⟩
  | .hbm, ⟨23, _⟩ => ⟨S4096x1536, .f32⟩
  | .hbm, ⟨24, _⟩ => ⟨S4096x16, .f32⟩
  | .hbm, ⟨25, _⟩ => ⟨S4096x1024, .f32⟩
  | .hbm, ⟨26, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== OutProjFwdRefIdeal.lean ====
abbrev S4096x1024 : Shape := ⟨2, ![4096, 1024]⟩
abbrev S1x1024 : Shape := ⟨2, ![1, 1024]⟩
abbrev S2048x1024 : Shape := ⟨2, ![2048, 1024]⟩
abbrev S_ : Shape := ⟨0, ![]⟩
abbrev S4096x2x512 : Shape := ⟨3, ![4096, 2, 512]⟩
abbrev S4096x2 : Shape := ⟨2, ![4096, 2]⟩
abbrev S4096x2x1 : Shape := ⟨3, ![4096, 2, 1]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .bf16⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2x512, .f32⟩
  | .hbm, ⟨20, _⟩ => ⟨S4096x2x512, .f32⟩
  | .hbm, ⟨21, _⟩ => ⟨S_, .f32⟩
  | .hbm, ⟨22, _⟩ => ⟨S4096x2, .f32⟩
  | .hbm, ⟨23, _⟩ => ⟨S4096x2x1, .f32⟩
  | .hbm, ⟨24, _⟩ => ⟨S_, .f32⟩
  | .hbm, ⟨25, _⟩ => ⟨S4096x2x1, .f32⟩
  | .hbm, ⟨26, _⟩ => ⟨S4096x2x1, .f32⟩
  | .hbm, ⟨27, _⟩ => ⟨S_, .f32⟩
  | .hbm, ⟨28, _⟩ => ⟨S4096x2x1, .f32⟩
  | .hbm, ⟨29, _⟩ => ⟨S4096x2x1, .f32⟩
  | .hbm, ⟨30, _⟩ => ⟨S4096x2x1, .f32⟩
  | .hbm, ⟨31, _⟩ => ⟨S4096x2x512, .f32⟩
  | .hbm, ⟨32, _⟩ => ⟨S4096x2x512, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x2048, .f32⟩
  | .hbm, ⟨71, _⟩ => ⟨S2048x1024, .f32⟩
  | .hbm, ⟨72, _⟩ => ⟨S4096x1024, .f32⟩
  | .hbm, ⟨73, _⟩ => ⟨S4096x1024, .f32⟩
  | .hbm, ⟨74, _⟩ => ⟨S4096x2048, .bf16⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_v44 : Ref sig .tc := ⟨.hbm, 78, rfl⟩
abbrev main_cst_8 : Ref sig .tc := ⟨.hbm, 79, rfl⟩
abbrev main_v45 : Ref sig .tc := ⟨.hbm, 80, rfl⟩
abbrev main_v46 : Ref sig .tc := ⟨.hbm, 81, rfl⟩
abbrev main_cst_9 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩

abbrev nD : Nat := 1
abbrev τ : Topo := Topo.v7x

variable {F : FTy → Type} [FloatOps F]
-- ==== TailRefIdeal.lean ====
abbrev S4096x1024 : Shape := ⟨2, ![4096, 1024]⟩
abbrev S4096x256 : Shape := ⟨2, ![4096, 256]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x256 : Shape := ⟨2, ![1024, 256]⟩
abbrev S3x1024 : Shape := ⟨2, ![3, 1024]⟩
abbrev S8x1024 : Shape := ⟨2, ![8, 1024]⟩

abbrev nBuf : Space → Nat
  | .hbm => 195
  | .vmem => 0
  | .smem => 0
  | _ => 0

abbrev hbmTy0_0 (i : Nat) : BufTy := match i % 128 with
  | 0 => ⟨S4096x1024, .f32⟩
  | 1 => ⟨S4096x256, .f32⟩
  | 2 => ⟨S4096x1024, .f32⟩
  | 3 => ⟨S1x1024, .f32⟩
  | 4 => ⟨S1024x1024, .bf16⟩
  | 5 => ⟨S1x1024, .f32⟩
  | 6 => ⟨S256x1024, .bf16⟩
  | 7 => ⟨S1x1024, .f32⟩
  | 8 => ⟨S1x1024, .f32⟩
  | 9 => ⟨S1024x1024, .f32⟩
  | 10 => ⟨S256x1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1, .f32⟩
  | 78 => ⟨S4096x1, .f32⟩
  | 79 => ⟨S_, .f32⟩
  | 80 => ⟨S4096x1, .f32⟩
  | 81 => ⟨S4096x1, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S_, .f32⟩
  | 89 => ⟨S4096x1024, .f32⟩
  | 90 => ⟨S4096x1024, .f32⟩
  | 91 => ⟨S_, .f32⟩
  | 92 => ⟨S4096, .f32⟩
  | 93 => ⟨S_, .f32⟩
  | 94 => ⟨S4096, .f32⟩
  | 95 => ⟨S4096, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S4096, .f32⟩
  | 104 => ⟨S_, .f32⟩
  | 105 => ⟨S4096, .f32⟩
  | 106 => ⟨S4096, .f32⟩
  | 107 => ⟨S4096x1024, .f32⟩
  | 108 => ⟨S4096x1024, .f32⟩
  | 109 => ⟨S4096x1024, .f32⟩
  | 110 => ⟨S_, .f32⟩
  | 111 => ⟨S1024, .f32⟩
  | 112 => ⟨S1x1024, .f32⟩
  | 113 => ⟨S4096x1024, .f32⟩
  | 114 => ⟨S4096x1024, .f32⟩
  | 115 => ⟨S4096x1024, .f32⟩
  | 116 => ⟨S_, .f32⟩
  | 117 => ⟨S4096, .f32⟩
  | 118 => ⟨S4096x1, .f32⟩
  | 119 => ⟨S4096x1024, .f32⟩
  | 120 => ⟨S4096x1024, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S_, .f32⟩
  | 8 => ⟨S1024, .f32⟩
  | 9 => ⟨S1x1024, .f32⟩
  | 10 => ⟨S4096x1024, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S4096x1024, .f32⟩
  | 17 => ⟨S4096x1024, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S1024x256, .f32⟩
  | 30 => ⟨S256x1024, .f32⟩
  | 31 => ⟨S4096x1024, .f32⟩
  | 32 => ⟨S_, .f32⟩
  | 33 => ⟨S1024, .f32⟩
  | 34 => ⟨S1x1024, .f32⟩
  | 35 => ⟨S1024x1024, .f32⟩
  | 36 => ⟨S1024x1024, .f32⟩
  | 37 => ⟨S4096x1024, .f32⟩
  | 38 => ⟨S4096x1024, .f32⟩
  | 39 => ⟨S_, .f32⟩
  | 40 => ⟨S1024, .f32⟩
  | 41 => ⟨S1x1024, .f32⟩
  | 42 => ⟨S4096x1024, .f32⟩
  | 43 => ⟨S4096x1024, .f32⟩
  | 44 => ⟨S4096x1024, .f32⟩
  | 45 => ⟨S_, .f32⟩
  | 46 => ⟨S4096, .f32⟩
  | 47 => ⟨S4096x1, .f32⟩
  | 48 => ⟨S4096x1024, .f32⟩
  | 49 => ⟨S4096x1024, .f32⟩
  | 50 => ⟨S4096x1024, .f32⟩
  | 51 => ⟨S4096x1, .f32⟩
  | 52 => ⟨S_, .f32⟩
  | 53 => ⟨S4096x1, .f32⟩
  | 54 => ⟨S4096x1, .f32⟩
  | 55 => ⟨S_, .f32⟩
  | 56 => ⟨S4096, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S1x1024, .f32⟩
  | 63 => ⟨S_, .f32⟩
  | 64 => ⟨S3x1024, .f32⟩
  | 65 => ⟨S8x1024, .f32⟩
  | 66 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_cst_16 : Ref sig .tc := ⟨.hbm, 93, rfl⟩
abbrev main_v67 : Ref sig .tc := ⟨.hbm, 94, rfl⟩
abbrev main_v68 : Ref sig .tc := ⟨.hbm, 95, rfl⟩
abbrev main_cst_17 : Ref sig .tc := ⟨.hbm, 96, rfl⟩
abbrev main_v69 : Ref sig .tc := ⟨.hbm, 97, rfl⟩
abbrev main_cst_18 : Ref sig .tc := ⟨.hbm, 98, rfl⟩
abbrev main_v70 : Ref sig .tc := ⟨.hbm, 99, rfl⟩
abbrev main_cst_19 : Ref sig .tc := ⟨.hbm, 100, rfl⟩
abbrev main_cst_20 : Ref sig .tc := ⟨.hbm, 101, rfl⟩
abbrev main_v71 : Ref sig .tc := ⟨.hbm, 102, rfl⟩
abbrev main_v72 : Ref sig .tc := ⟨.hbm, 103, rfl⟩
abbrev main_cst_21 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_22 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_23 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_24 : Ref sig .tc := ⟨.hbm, 122, rfl⟩
abbrev main_v88 : Ref sig .tc := ⟨.hbm, 123, rfl⟩
abbrev main_v89 : Ref sig .tc := ⟨.hbm, 124, rfl⟩
abbrev main_cst_25 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_26 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_27 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_28 : Ref sig .tc := ⟨.hbm, 147, rfl⟩
abbrev main_v109 : Ref sig .tc := ⟨.hbm, 148, rfl⟩
abbrev main_v110 : Ref sig .tc := ⟨.hbm, 149, rfl⟩
abbrev main_cst_29 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_30 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_31 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_32 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_33 : Ref sig .tc := ⟨.hbm, 180, rfl⟩
abbrev main_v137 : Ref sig .tc := ⟨.hbm, 181, rfl⟩
abbrev main_v138 : Ref sig .tc := ⟨.hbm, 182, rfl⟩
abbrev main_cst_34 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_35 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩

abbrev nD : Nat := 1
abbrev τ : Topo := Topo.v7x

variable {F : FTy → Type} [FloatOps F]
-- ==== FiltersRefIdeal.lean ====
abbrev S4x1536 : Shape := ⟨2, ![4, 1536]⟩
abbrev S31x1024 : Shape := ⟨2, ![31, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S4x1536, .f32⟩
  | .hbm, ⟨1, _⟩ => ⟨S4x1536, .f32⟩
  | .hbm, ⟨2, _⟩ => ⟨S4x1536, .f32⟩
  | .hbm, ⟨3, _⟩ => ⟨S4x1536, .f32⟩
  | .hbm, ⟨4, _⟩ => ⟨S31x1024, .f32⟩
  | .hbm, ⟨5, _⟩ => ⟨S31x1024, .f32⟩
  | .hbm, ⟨6, _⟩ => ⟨S31x1024, .f32⟩
  | .hbm, ⟨7, _⟩ => ⟨S31x1024, .f32⟩
  | .hbm, ⟨8, _⟩ => ⟨S_, .f32⟩
  | .hbm, ⟨9, _⟩ => ⟨S4x1536, .f32⟩
  | .hbm, ⟨10, _⟩ => ⟨S4x1536, .f32⟩
  | .hbm, ⟨11, _⟩ => ⟨S_, .f32⟩
  | .hbm, ⟨12, _⟩ => ⟨S4x1536, .f32⟩
  | .hbm, ⟨13, _⟩ => ⟨S4x1536, .f32⟩
  | .hbm, ⟨14, _⟩ => ⟨S4x1536, .f32⟩
  | .hbm, ⟨15, _⟩ => ⟨S_, .f32⟩
  | .hbm, ⟨16, _⟩ => ⟨S4x1536, .f32⟩
  | .hbm, ⟨17, _⟩ => ⟨S4x1536, .f32⟩
  | .hbm, ⟨18, _⟩ => ⟨S4x1536, .f32⟩
  | .hbm, ⟨19, _⟩ => ⟨S_, .f32⟩
  | .hbm, ⟨20, _⟩ => ⟨S4x1536, .f32⟩
  | .hbm, ⟨21, _⟩ => ⟨S4x1536, .f32⟩
  | .hbm, ⟨22, _⟩ => ⟨S4x1536, .f32⟩
  | .hbm, ⟨23, _⟩ => ⟨S_, .f32⟩
  | .hbm, ⟨24, _⟩ => ⟨S4x1536, .f32⟩
  | .hbm, ⟨25, _⟩ => ⟨S4x1536, .f32⟩
  | .hbm, ⟨26, _⟩ => ⟨S_, .f32⟩
  | .hbm, ⟨27, _⟩ => ⟨S4x1536, .f32⟩
  | .hbm, ⟨28, _⟩ => ⟨S4x1536, .f32⟩
  | .hbm, ⟨29, _⟩ => ⟨S4x1536, .f32⟩
  | .hbm, ⟨30, _⟩ => ⟨S_, .f32⟩
  | .hbm, ⟨31, _⟩ => ⟨S4x1536, .f32⟩
  | .hbm, ⟨32, _⟩ => ⟨S4x1536, .f32⟩
  | .hbm, ⟨33, _⟩ => ⟨S4x1536, .f32⟩
  | .hbm, ⟨34, _⟩ => ⟨S_, .f32⟩
  | .hbm, ⟨35, _⟩ => ⟨S4x1536, .f32⟩
  | .hbm, ⟨36, _⟩ => ⟨S4x1536, .f32⟩
  | .hbm, ⟨37, _⟩ => ⟨S4x1536, .f32⟩
  | .hbm, ⟨38, _⟩ => ⟨S_, .f32⟩
  | .hbm, ⟨39, _⟩ => ⟨S4x1536, .f32⟩
  | .hbm, ⟨40, _⟩ => ⟨S4x1536, .f32⟩
  | .hbm, ⟨41, _⟩ => ⟨S_, .f32⟩
  | .hbm, ⟨42, _⟩ => ⟨S31x1024, .f32⟩
  | .hbm, ⟨43, _⟩ => ⟨S31x1024, .f32⟩
  | .hbm, ⟨44, _⟩ => ⟨S_, .f32⟩
  | .hbm, ⟨45, _⟩ => ⟨S31x1024, .f32⟩
  | .hbm, ⟨46, _⟩ => ⟨S31x1024, .f32⟩
  | .hbm, ⟨47, _⟩ => ⟨S31x1024, .f32⟩
  | .hbm, ⟨48, _⟩ => ⟨S_, .f32⟩
  | .hbm, ⟨49, _⟩ => ⟨S31x1024, .f32⟩
  | .hbm, ⟨50, _⟩ => ⟨S31x1024, .f32⟩
  | .hbm, ⟨51, _⟩ => ⟨S31x1024, .f32⟩
  | .hbm, ⟨52, _⟩ => ⟨S_, .f32⟩
  | .hbm, ⟨53, _⟩ => ⟨S31x1024, .f32⟩
  | .hbm, ⟨54, _⟩ => ⟨S31x1024, .f32⟩
  | .hbm, ⟨55, _⟩ => ⟨S31x1024, .f32⟩
  | .hbm, ⟨56, _⟩ => ⟨S_, .f32⟩
  | .hbm, ⟨57, _⟩ => ⟨S31x1024, .f32⟩
  | .hbm, ⟨58, _⟩ => ⟨S31x1024, .f32⟩
  | .hbm, ⟨59, _⟩ => ⟨S_, .f32⟩
  | .hbm, ⟨60, _⟩ => ⟨S31x1024, .f32⟩
  | .hbm, ⟨61, _⟩ => ⟨S31x1024, .f32⟩
  | .hbm, ⟨62, _⟩ => ⟨S31x1024, .f32⟩
  | .hbm, ⟨63, _⟩ => ⟨S_, .f32⟩
  | .hbm, ⟨64, _⟩ => ⟨S31x1024, .f32⟩
  | .hbm, ⟨65, _⟩ => ⟨S31x1024, .f32⟩
  | .hbm, ⟨66, _⟩ => ⟨S31x1024, .f32⟩
  | .hbm, ⟨67, _⟩ => ⟨S_, .f32⟩
  | .hbm, ⟨68, _⟩ => ⟨S31x1024, .f32⟩
  | .hbm, ⟨69, _⟩ => ⟨S31x1024, .f32⟩
  | .hbm, ⟨70, _⟩ => ⟨S31x1024, .f32⟩
  | .hbm, ⟨71, _⟩ => ⟨S_, .f32⟩
  | .hbm, ⟨72, _⟩ => ⟨S31x1024, .f32⟩
  | .hbm, ⟨73, _⟩ => ⟨S31x1024, .f32⟩
  | _, _ => ⟨S4x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Proof.Rows.lean ====
/-
  ROW TILES AGAINST WHOLE ARRAYS. The kernels of this proof cut the 4096 rows of their arrays into tiles of 512 rows and
  compute on one tile at a time; a reference computes on the whole arrays. `Along f K R` says that the tile `K`, read at
  an index `i`, is the whole array `R` read at `f i`. Each lemma below carries that relation through one operation: the
  operation a kernel applies to tiles on the left, the operation the host applies to whole arrays on the right. All of
  them are over the extended reals.

  The index maps are `row1 o` (a vector of rows), `row2 o` (a matrix of rows) and `half o g` (the `g`-th group of the
  columns of a matrix, against the whole array with its columns split into groups), each for a tile that starts at row `o`.
-/
module

public import Idealize.ShloMosaic.PureOps.Ideal.Laws
public import Idealize.ShloMosaic.Lib.IdealHost
public import Idealize.ShloMosaic.Lib.MatmulPlain
public import Idealize.ShloMosaic.Lib.Pipeline.Value

@[expose] public section

noncomputable section

namespace Cert.Rows

open Idealize.ShloMosaic Idealize.ShloMosaic.ValueIdx
open scoped BigOperators

/-- The array `K` read at `i` is the array `R` read at `f i`. -/
def Along {s t : Shape} (f : s.Idx → t.Idx) (K : s.Idx → EReal) (R : t.Idx → EReal) : Prop := ∀ i, K i = R (f i)

section Elementwise
variable {s t : Shape} {f : s.Idx → t.Idx} {φ ψ φ' ψ' : FTy}

theorem Along.mul {a b : FVec Ideal s .f32} {x y : FVec Ideal t .f32} (h : Along f a x) (k : Along f b y) :
    Along f (mulf a b) (mulf x y) := fun i => congrArg₂ (fun p q : EReal => p * q) (h i) (k i)
theorem Along.add {a b : FVec Ideal s .f32} {x y : FVec Ideal t .f32} (h : Along f a x) (k : Along f b y) :
    Along f (addf a b) (addf x y) := fun i => congrArg₂ (fun p q : EReal => p + q) (h i) (k i)
theorem Along.sub {a b : FVec Ideal s .f32} {x y : FVec Ideal t .f32} (h : Along f a x) (k : Along f b y) :
    Along f (subf a b) (subf x y) := fun i => congrArg₂ (fun p q : EReal => p - q) (h i) (k i)
theorem Along.max {a b : FVec Ideal s .f32} {x y : FVec Ideal t .f32} (h : Along f a x) (k : Along f b y) :
    Along f (maximumf a b) (maximumf x y) := fun i => congrArg₂ (fun p q : EReal => Max.max p q) (h i) (k i)
theorem Along.div {a b : FVec Ideal s .f32} {x y : FVec Ideal t .f32} (h : Along f a x) (k : Along f b y) :
    Along f (divf a b) (Host.divf x y) := fun i => congrArg₂ Ideal.div (h i) (k i)
theorem Along.rsqrt {a : FVec Ideal s .f32} {x : FVec Ideal t .f32} (h : Along f a x) :
    Along f (Idealize.ShloMosaic.rsqrt a) (Host.rsqrt x) := fun i => congrArg Ideal.rsqrt (h i)

/-- A cast is the identity on the tile's side. -/
theorem Along.truncL {a : FVec Ideal s φ} {x : t.Idx → EReal} {hb : φ'.bits < φ.bits} (h : Along f a x) :
    Along f (truncf φ' a hb) x := h
theorem Along.extL {a : FVec Ideal s φ} {x : t.Idx → EReal} {hb : φ.bits < φ'.bits} (h : Along f a x) :
    Along f (extf φ' a hb) x := h
/-- A cast is the identity on the whole array's side. -/
theorem Along.truncR {a : s.Idx → EReal} {x : FVec Ideal t ψ} {hb : ψ'.bits < ψ.bits} (h : Along f a x) :
    Along f a (truncf ψ' x hb) := h
theorem Along.extR {a : s.Idx → EReal} {x : FVec Ideal t ψ} {hb : ψ.bits < ψ'.bits} (h : Along f a x) :
    Along f a (extf ψ' x hb) := h

/-- One constant in every element, on both sides. -/
theorem along_const {w : BitVec FTy.f32.bits} {h : (⟨0, ![]⟩ : Shape).BroadcastsInDim t ![]} :
    Along f (broadcast s (Scalar.ofBits (F := Ideal) .f32 w)) (broadcastInDim t ![] h (constant (F := Ideal) ⟨0, ![]⟩ .f32 w)) :=
  fun _ => rfl

/-- The kernel's logistic against the host's `1 / (1 + exp (-x))`. -/
theorem Along.logistic {a : FVec Ideal s .f32} {x : FVec Ideal t .f32} (h : Along f a x)
    {hb : (⟨0, ![]⟩ : Shape).BroadcastsInDim t ![]} :
    Along f (Idealize.ShloMosaic.logistic a)
      (Host.divf (broadcastInDim t ![] hb (constant (F := Ideal) ⟨0, ![]⟩ .f32 0x3F800000#32))
        (addf (broadcastInDim t ![] hb (constant (F := Ideal) ⟨0, ![]⟩ .f32 0x3F800000#32)) (Host.exp (Host.negf x)))) := fun i => by
  show Ideal.logistic (a i) = Ideal.div (Ideal.ofBits .f32 0x3F800000#32) (Ideal.ofBits .f32 0x3F800000#32 + Ideal.exp (-(x (f i))))
  rw [h i, Ideal.ofBits_one_f32]
  rfl

/-- The kernel's `0 - x` against the host's negation. -/
theorem Along.neg {a : FVec Ideal s .f32} {x : FVec Ideal t .f32} (h : Along f a x) :
    Along f (subf (broadcast s (Scalar.ofBits (F := Ideal) .f32 0x00000000#32)) a) (Host.negf x) := fun i => by
  show Ideal.ofBits .f32 0x00000000#32 - a i = -(x (f i))
  rw [h i, Ideal.ofBits_zero_f32, zero_sub]

/-- Two layout operations that read `K` and `R` at one index each. -/
theorem Along.read {s' t' : Shape} {g : s'.Idx → t'.Idx} {K : s.Idx → EReal} {R : t.Idx → EReal} {K' : s'.Idx → EReal}
    {R' : t'.Idx → EReal} (h : Along f K R) (a : s'.Idx → s.Idx) (b : t'.Idx → t.Idx) (hK : ∀ i, K' i = K (a i))
    (hR : ∀ j, R' j = R (b j)) (hc : ∀ i, f (a i) = b (g i)) : Along g K' R' := fun i => by
  rw [hK, hR, h, hc]

end Elementwise

section Maps

/-- Row `i` of a tile that starts at row `o`. -/
abbrev row1 {n N : Nat} (o : Nat) (h : o + n ≤ N) (i : (⟨1, ![n]⟩ : Shape).Idx) : (⟨1, ![N]⟩ : Shape).Idx :=
  ix1 ⟨o + (i 0).val, by have : (i 0).val < n := (i 0).isLt; omega⟩
/-- Element `i` of a tile of whole rows that starts at row `o`. -/
abbrev row2 {n N C : Nat} (o : Nat) (h : o + n ≤ N) (i : (⟨2, ![n, C]⟩ : Shape).Idx) : (⟨2, ![N, C]⟩ : Shape).Idx :=
  ix2 ⟨o + (i 0).val, by have : (i 0).val < n := (i 0).isLt; omega⟩ (i 1)
/-- Element `i` of the `g`-th column group of a tile that starts at row `o`. -/
abbrev half {n N G C : Nat} (o : Nat) (h : o + n ≤ N) (g : Fin G) (i : (⟨2, ![n, C]⟩ : Shape).Idx) :
    (⟨3, ![N, G, C]⟩ : Shape).Idx :=
  ix3 ⟨o + (i 0).val, by have : (i 0).val < n := (i 0).isLt; omega⟩ g (i 1)
/-- Row `i` of a tile that starts at row `o`, in an array with one element for each row and group. -/
abbrev half1 {n N G : Nat} (o : Nat) (h : o + n ≤ N) (g : Fin G) (i : (⟨1, ![n]⟩ : Shape).Idx) : (⟨2, ![N, G]⟩ : Shape).Idx :=
  ix2 ⟨o + (i 0).val, by have : (i 0).val < n := (i 0).isLt; omega⟩ g

end Maps

section Layout
variable {n N C K G : Nat} {o : Nat} {h : o + n ≤ N}

/-- The sum of each row. -/
theorem Along.rowSum {A : FVec Ideal ⟨2, ![n, C]⟩ .f32} {X : FVec Ideal ⟨2, ![N, C]⟩ .f32} (r : Along (row2 o h) A X)
    (hr : (⟨2, ![n, C]⟩ : Shape).Reduces [1] ⟨1, ![n]⟩ := by decide) (hR' : (⟨2, ![N, C]⟩ : Shape).Reduces [1] ⟨1, ![N]⟩ := by decide)
    {hR : (⟨2, ![N, C]⟩ : Shape).ReducesTo [1] ⟨1, ![N]⟩} {hu : 0 < (⟨0, ![]⟩ : Shape).numel} :
    Along (row1 o h) (multiReduction .add [1] ⟨1, ![n]⟩ A 0x00000000#32 hr (.inl rfl) rfl)
      (Host.reduceAdd X (constant (F := Ideal) ⟨0, ![]⟩ .f32 0x00000000#32) hR hu) := fun i => by
  refine (Ideal.multiReduction_add_single _ _ _ _ _ _).trans ?_
  rw [hostReduceAdd_apply, Ideal.hostReduceAdd_single hR hR', constant_apply, Ideal.ofBits_zero_f32, zero_add]
  refine Finset.sum_congr rfl fun k _ => ?_
  rw [r]
  refine congrArg X (funext fun a => Fin.ext ?_)
  match a with
  | ⟨0, _⟩ => rfl
  | ⟨1, _⟩ => rfl

/-- A vector of rows as a column, by a reshape on both sides. -/
theorem Along.col {A : (⟨1, ![n]⟩ : Shape).Idx → EReal} {X : (⟨1, ![N]⟩ : Shape).Idx → EReal} (r : Along (row1 o h) A X)
    (hk : (⟨1, ![n]⟩ : Shape).ShapeCasts ⟨2, ![n, 1]⟩ := by decide) {hh : (⟨1, ![N]⟩ : Shape).ShapeCasts ⟨2, ![N, 1]⟩} :
    Along (row2 o h) (shapeCast ⟨2, ![n, 1]⟩ A hk) (shapeCast ⟨2, ![N, 1]⟩ X hh) := by
  refine r.read (fun i => ix1 (i 0)) (fun i => ix1 (i 0)) (fun i => ?_) (fun i => ?_) (fun i => rfl)
  · exact shapeCast_apply _ _ _ _ (by
      rw [Shape.rowMajor_val_one, Shape.rowMajor_val_two]
      have h1 : (i 1).val < 1 := (i 1).isLt
      show (i 0).val = (i 0).val * 1 + (i 1).val; omega)
  · exact shapeCast_apply _ _ _ _ (by
      rw [Shape.rowMajor_val_one, Shape.rowMajor_val_two]
      have h1 : (i 1).val < 1 := (i 1).isLt
      show (i 0).val = (i 0).val * 1 + (i 1).val; omega)

/-- A vector of rows as a column, by a broadcast on the host. -/
theorem Along.colB {A : (⟨1, ![n]⟩ : Shape).Idx → EReal} {X : (⟨1, ![N]⟩ : Shape).Idx → EReal} (r : Along (row1 o h) A X)
    (hN : N ≠ 1 := by decide) (hk : (⟨1, ![n]⟩ : Shape).ShapeCasts ⟨2, ![n, 1]⟩ := by decide) {hh : (⟨1, ![N]⟩ : Shape).BroadcastsInDim ⟨2, ![N, 1]⟩ ![0]} :
    Along (row2 o h) (shapeCast ⟨2, ![n, 1]⟩ A hk) (broadcastInDim ⟨2, ![N, 1]⟩ ![0] hh X) := by
  refine r.read (fun i => ix1 (i 0)) (fun i => ix1 (i 0)) (fun i => ?_) (fun i => ?_) (fun i => rfl)
  · exact shapeCast_apply _ _ _ _ (by
      rw [Shape.rowMajor_val_one, Shape.rowMajor_val_two]
      have h1 : (i 1).val < 1 := (i 1).isLt
      show (i 0).val = (i 0).val * 1 + (i 1).val; omega)
  · exact broadcastInDim_apply _ _ _ _ _ (fun a => match a with
      | ⟨0, _⟩ => (if_neg hN).symm)

/-- A column spread over `C` columns. -/
theorem Along.spread {A : (⟨2, ![n, 1]⟩ : Shape).Idx → EReal} {X : (⟨2, ![N, 1]⟩ : Shape).Idx → EReal} (r : Along (row2 o h) A X)
    (hn : n ≠ 1 := by decide) (hN : N ≠ 1 := by decide) (hk : (⟨2, ![n, 1]⟩ : Shape).Broadcasts ⟨2, ![n, C]⟩ := by decide)
    {hh : (⟨2, ![N, 1]⟩ : Shape).BroadcastsInDim ⟨2, ![N, C]⟩ ![0, 1]} :
    Along (row2 o h) (broadcastTo ⟨2, ![n, C]⟩ A hk) (broadcastInDim ⟨2, ![N, C]⟩ ![0, 1] hh X) := by
  refine r.read (fun i => ix2 (i 0) 0) (fun i => ix2 (i 0) 0) (fun i => ?_) (fun i => ?_) (fun i => rfl)
  · exact broadcastTo_apply _ _ _ _ (fun a => match a with
      | ⟨0, _⟩ => (if_neg hn).symm
      | ⟨1, _⟩ => rfl)
  · exact broadcastInDim_apply _ _ _ _ _ (fun a => match a with
      | ⟨0, _⟩ => (if_neg hN).symm
      | ⟨1, _⟩ => rfl)

/-- A vector of rows spread over `C` columns, by one broadcast on the host. -/
theorem Along.colSpread {A : (⟨1, ![n]⟩ : Shape).Idx → EReal} {X : (⟨1, ![N]⟩ : Shape).Idx → EReal} (r : Along (row1 o h) A X)
    (hn : n ≠ 1 := by decide) (hN : N ≠ 1 := by decide) (hs : (⟨1, ![n]⟩ : Shape).ShapeCasts ⟨2, ![n, 1]⟩ := by decide)
    (hk : (⟨2, ![n, 1]⟩ : Shape).Broadcasts ⟨2, ![n, C]⟩ := by decide) {hh : (⟨1, ![N]⟩ : Shape).BroadcastsInDim ⟨2, ![N, C]⟩ ![0]} :
    Along (row2 o h) (broadcastTo ⟨2, ![n, C]⟩ (shapeCast ⟨2, ![n, 1]⟩ A hs) hk) (broadcastInDim ⟨2, ![N, C]⟩ ![0] hh X) := by
  refine r.read (fun i => ix1 (i 0)) (fun i => ix1 (i 0)) (fun i => ?_) (fun i => ?_) (fun i => rfl)
  · refine (broadcastTo_apply _ _ _ (ix2 (i 0) 0) (fun a => match a with
      | ⟨0, _⟩ => (if_neg hn).symm
      | ⟨1, _⟩ => rfl)).trans ?_
    exact shapeCast_apply _ _ _ _ ((Shape.rowMajor_val_one _).trans (Eq.trans
      (by show (i 0).val = (i 0).val * 1 + 0; omega) (Shape.rowMajor_val_two _).symm))
  · exact broadcastInDim_apply _ _ _ _ _ (fun a => match a with
      | ⟨0, _⟩ => (if_neg hN).symm)

/-- One row of parameters spread over the rows. -/
theorem along_params {A X : (⟨2, ![1, C]⟩ : Shape).Idx → EReal} (r : A = X) (hC : C ≠ 1 := by decide)
    (hk : (⟨2, ![1, C]⟩ : Shape).Broadcasts ⟨2, ![n, C]⟩ := by decide) {hh : (⟨2, ![1, C]⟩ : Shape).BroadcastsInDim ⟨2, ![N, C]⟩ ![0, 1]} :
    Along (row2 o h) (broadcastTo ⟨2, ![n, C]⟩ A hk) (broadcastInDim ⟨2, ![N, C]⟩ ![0, 1] hh X) := by
  have e : Along (id : (⟨2, ![1, C]⟩ : Shape).Idx → _) A X := fun i => congrFun r i
  refine e.read (fun i => ix2 0 (i 1)) (fun i => ix2 0 (i 1)) (fun i => ?_) (fun i => ?_) (fun i => rfl)
  · exact broadcastTo_apply _ _ _ _ (fun a => match a with
      | ⟨0, _⟩ => rfl
      | ⟨1, _⟩ => (if_neg hC).symm)
  · exact broadcastInDim_apply _ _ _ _ _ (fun a => match a with
      | ⟨0, _⟩ => rfl
      | ⟨1, _⟩ => (if_neg hC).symm)

/-- A block of columns. -/
theorem Along.cols {A : (⟨2, ![n, K]⟩ : Shape).Idx → EReal} {X : (⟨2, ![N, K]⟩ : Shape).Idx → EReal} (r : Along (row2 o h) A X)
    (q : Nat) (hq : q + C ≤ K := by decide) (hk : (⟨2, ![n, K]⟩ : Shape).Slices ![0, q] ⟨2, ![n, C]⟩ := by decide)
    {hh : (⟨2, ![N, K]⟩ : Shape).Slices ![0, q] ⟨2, ![N, C]⟩} :
    Along (row2 o h) (extractStridedSlice ⟨2, ![n, C]⟩ ![0, q] A hk) (extractStridedSlice ⟨2, ![N, C]⟩ ![0, q] X hh) := by
  refine r.read (fun i => ix2 (i 0) ⟨q + (i 1).val, by have : (i 1).val < C := (i 1).isLt; omega⟩)
    (fun i => ix2 (i 0) ⟨q + (i 1).val, by have : (i 1).val < C := (i 1).isLt; omega⟩) (fun i => ?_) (fun i => ?_) (fun i => rfl)
  · exact extractStridedSlice_apply _ _ _ _ _ (fun a => match a with
      | ⟨0, _⟩ => (Nat.zero_add _).symm
      | ⟨1, _⟩ => rfl)
  · exact extractStridedSlice_apply _ _ _ _ _ (fun a => match a with
      | ⟨0, _⟩ => (Nat.zero_add _).symm
      | ⟨1, _⟩ => rfl)

/-- The product of a tile of rows with the transpose of a matrix, into zeros. -/
theorem Along.dotT {φ₁ φ₂ ψ₁ ψ₂ : FTy} {A : FVec Ideal ⟨2, ![n, K]⟩ φ₁} {X : FVec Ideal ⟨2, ![N, K]⟩ ψ₁} (r : Along (row2 o h) A X)
    {B : FVec Ideal ⟨2, ![C, K]⟩ φ₂} {Y : FVec Ideal ⟨2, ![C, K]⟩ ψ₂} (e : (B : _ → EReal) = Y)
    (d : DotDims ⟨2, ![n, K]⟩ ⟨2, ![C, K]⟩ ⟨2, ![n, C]⟩) (hd : d = DotDims.transposedRhs n K C := by rfl)
    {d' : DotDims ⟨2, ![N, K]⟩ ⟨2, ![C, K]⟩ ⟨2, ![N, C]⟩} (hd' : d' = DotDims.transposedRhs N K C := by rfl) :
    Along (row2 o h) (matmul d none A B (constant ⟨2, ![n, C]⟩ .f32 0x00000000#32)) (Host.dotGeneral d' none X Y) := fun i => by
  subst hd hd'
  obtain ⟨q, c, rfl⟩ : ∃ (q : Fin n) (c : Fin C), i = ix2 q c := ⟨i 0, i 1, eq_ix2 i⟩
  show FloatOps.matmul _ _ _ _ _ _ = FloatOps.dotGeneral _ _ _ _ _ _
  rw [Ideal.matmul_transposedRhs_apply, Ideal.dotGeneral_apply,
    ← Equiv.sum_comp (DotDims.transposedRhsContr N K C).symm]
  show Ideal.ofBits .f32 0x00000000#32 + _ = _
  rw [Ideal.ofBits_zero_f32, zero_add]
  refine Finset.sum_congr rfl fun k _ => congrArg₂ (fun p q : EReal => p * q) ?_ ?_
  · rw [r]
    refine congrArg X (funext fun a => Fin.ext ?_)
    match a with
    | ⟨0, _⟩ => rfl
    | ⟨1, _⟩ => exact (contrEquiv1_symm_val _ K (DotDims.transposedRhs_contr_rank N K C) (DotDims.transposedRhs_contr_size N K C) k).symm
  · refine (congrFun e _).trans (congrArg Y (funext fun a => Fin.ext ?_))
    match a with
    | ⟨0, _⟩ => rfl
    | ⟨1, _⟩ => exact (contrEquiv1_symm_val _ K (DotDims.transposedRhs_contr_rank N K C) (DotDims.transposedRhs_contr_size N K C) k).symm

/-- The product of a tile of rows with a matrix, into zeros. -/
theorem Along.dot {φ₁ φ₂ ψ₁ ψ₂ : FTy} {A : FVec Ideal ⟨2, ![n, K]⟩ φ₁} {X : FVec Ideal ⟨2, ![N, K]⟩ ψ₁} (r : Along (row2 o h) A X)
    {B : FVec Ideal ⟨2, ![K, C]⟩ φ₂} {Y : FVec Ideal ⟨2, ![K, C]⟩ ψ₂} (e : (B : _ → EReal) = Y)
    (d : DotDims ⟨2, ![n, K]⟩ ⟨2, ![K, C]⟩ ⟨2, ![n, C]⟩) (hd : d = DotDims.plain n K C := by rfl)
    {d' : DotDims ⟨2, ![N, K]⟩ ⟨2, ![K, C]⟩ ⟨2, ![N, C]⟩} (hd' : d' = DotDims.plain N K C := by rfl) :
    Along (row2 o h) (matmul d none A B (constant ⟨2, ![n, C]⟩ .f32 0x00000000#32)) (Host.dotGeneral d' none X Y) := fun i => by
  subst hd hd'
  obtain ⟨q, c, rfl⟩ : ∃ (q : Fin n) (c : Fin C), i = ix2 q c := ⟨i 0, i 1, eq_ix2 i⟩
  show FloatOps.matmul _ _ _ _ _ _ = FloatOps.dotGeneral _ _ _ _ _ _
  rw [Ideal.matmul_plain_apply, Ideal.dotGeneral_apply, ← Equiv.sum_comp (DotDims.plainContr N K C).symm]
  show Ideal.ofBits .f32 0x00000000#32 + _ = _
  rw [Ideal.ofBits_zero_f32, zero_add]
  refine Finset.sum_congr rfl fun k _ => congrArg₂ (fun p q : EReal => p * q) ?_ ?_
  · rw [r]
    refine congrArg X (funext fun a => Fin.ext ?_)
    match a with
    | ⟨0, _⟩ => rfl
    | ⟨1, _⟩ => exact (contrEquiv1_symm_val _ K (DotDims.plain_contr_rank N K C) (DotDims.plain_contr_size N K C) k).symm
  · refine (congrFun e _).trans (congrArg Y (funext fun a => Fin.ext ?_))
    match a with
    | ⟨0, _⟩ => exact (contrEquiv1_symm_val _ K (DotDims.plain_contr_rank N K C) (DotDims.plain_contr_size N K C) k).symm
    | ⟨1, _⟩ => rfl

end Layout

section Groups
variable {n N C D G : Nat} {o : Nat} {h : o + n ≤ N} {g : Fin G}

/-- The sum of each row of one group. -/
theorem Along.halfSum {A : FVec Ideal ⟨2, ![n, C]⟩ .f32} {X : FVec Ideal ⟨3, ![N, G, C]⟩ .f32} (r : Along (half o h g) A X)
    (hr : (⟨2, ![n, C]⟩ : Shape).Reduces [1] ⟨1, ![n]⟩ := by decide)
    (hR' : (⟨3, ![N, G, C]⟩ : Shape).Reduces [2] ⟨2, ![N, G]⟩ := by decide)
    {hR : (⟨3, ![N, G, C]⟩ : Shape).ReducesTo [2] ⟨2, ![N, G]⟩} {hu : 0 < (⟨0, ![]⟩ : Shape).numel} :
    Along (half1 o h g) (multiReduction .add [1] ⟨1, ![n]⟩ A 0x00000000#32 hr (.inl rfl) rfl)
      (Host.reduceAdd X (constant (F := Ideal) ⟨0, ![]⟩ .f32 0x00000000#32) hR hu) := fun i => by
  refine (Ideal.multiReduction_add_single _ _ _ _ _ _).trans ?_
  rw [hostReduceAdd_apply, Ideal.hostReduceAdd_single hR hR', constant_apply, Ideal.ofBits_zero_f32, zero_add]
  refine Finset.sum_congr rfl fun k _ => ?_
  rw [r]
  refine congrArg X (funext fun a => Fin.ext ?_)
  match a with
  | ⟨0, _⟩ => rfl
  | ⟨1, _⟩ => rfl
  | ⟨2, _⟩ => rfl

/-- A vector of rows of one group as a column, by a reshape on both sides. -/
theorem Along.halfCol {A : (⟨1, ![n]⟩ : Shape).Idx → EReal} {X : (⟨2, ![N, G]⟩ : Shape).Idx → EReal} (r : Along (half1 o h g) A X)
    (hk : (⟨1, ![n]⟩ : Shape).ShapeCasts ⟨2, ![n, 1]⟩ := by decide) {hh : (⟨2, ![N, G]⟩ : Shape).ShapeCasts ⟨3, ![N, G, 1]⟩} :
    Along (half o h g) (shapeCast ⟨2, ![n, 1]⟩ A hk) (shapeCast ⟨3, ![N, G, 1]⟩ X hh) := by
  refine r.read (fun i => ix1 (i 0)) (fun i => ix2 (i 0) (i 1)) (fun i => ?_) (fun i => ?_) (fun i => rfl)
  · exact shapeCast_apply _ _ _ _ (by
      rw [Shape.rowMajor_val_one, Shape.rowMajor_val_two]
      have h1 : (i 1).val < 1 := (i 1).isLt
      show (i 0).val = (i 0).val * 1 + (i 1).val; omega)
  · exact shapeCast_apply _ _ _ _ (by
      rw [Shape.rowMajor_val_two, Shape.rowMajor_val_three]
      have h1 : (i 2).val < 1 := (i 2).isLt
      show (i 0).val * G + (i 1).val = ((i 0).val * G + (i 1).val) * 1 + (i 2).val; omega)

/-- A vector of rows of one group as a column, by a broadcast on the host. -/
theorem Along.halfColB {A : (⟨1, ![n]⟩ : Shape).Idx → EReal} {X : (⟨2, ![N, G]⟩ : Shape).Idx → EReal} (r : Along (half1 o h g) A X)
    (hN : N ≠ 1 := by decide) (hG : G ≠ 1 := by decide) (hk : (⟨1, ![n]⟩ : Shape).ShapeCasts ⟨2, ![n, 1]⟩ := by decide)
    {hh : (⟨2, ![N, G]⟩ : Shape).BroadcastsInDim ⟨3, ![N, G, 1]⟩ ![0, 1]} :
    Along (half o h g) (shapeCast ⟨2, ![n, 1]⟩ A hk) (broadcastInDim ⟨3, ![N, G, 1]⟩ ![0, 1] hh X) := by
  refine r.read (fun i => ix1 (i 0)) (fun i => ix2 (i 0) (i 1)) (fun i => ?_) (fun i => ?_) (fun i => rfl)
  · exact shapeCast_apply _ _ _ _ (by
      rw [Shape.rowMajor_val_one, Shape.rowMajor_val_two]
      have h1 : (i 1).val < 1 := (i 1).isLt
      show (i 0).val = (i 0).val * 1 + (i 1).val; omega)
  · exact broadcastInDim_apply _ _ _ _ _ (fun a => match a with
      | ⟨0, _⟩ => (if_neg hN).symm
      | ⟨1, _⟩ => (if_neg hG).symm)

/-- A column of one group spread over the group's columns. -/
theorem Along.halfSpread {A : (⟨2, ![n, 1]⟩ : Shape).Idx → EReal} {X : (⟨3, ![N, G, 1]⟩ : Shape).Idx → EReal}
    (r : Along (half o h g) A X) (hn : n ≠ 1 := by decide) (hN : N ≠ 1 := by decide) (hG : G ≠ 1 := by decide) (hk : (⟨2, ![n, 1]⟩ : Shape).Broadcasts ⟨2, ![n, C]⟩ := by decide)
    {hh : (⟨3, ![N, G, 1]⟩ : Shape).BroadcastsInDim ⟨3, ![N, G, C]⟩ ![0, 1, 2]} :
    Along (half o h g) (broadcastTo ⟨2, ![n, C]⟩ A hk) (broadcastInDim ⟨3, ![N, G, C]⟩ ![0, 1, 2] hh X) := by
  refine r.read (fun i => ix2 (i 0) 0) (fun i => ix3 (i 0) (i 1) 0) (fun i => ?_) (fun i => ?_) (fun i => rfl)
  · exact broadcastTo_apply _ _ _ _ (fun a => match a with
      | ⟨0, _⟩ => (if_neg hn).symm
      | ⟨1, _⟩ => rfl)
  · exact broadcastInDim_apply _ _ _ _ _ (fun a => match a with
      | ⟨0, _⟩ => (if_neg hN).symm
      | ⟨1, _⟩ => (if_neg hG).symm
      | ⟨2, _⟩ => rfl)

/-- A vector of rows of one group spread over the group's columns, by one broadcast on the host. -/
theorem Along.halfColSpread {A : (⟨1, ![n]⟩ : Shape).Idx → EReal} {X : (⟨2, ![N, G]⟩ : Shape).Idx → EReal}
    (r : Along (half1 o h g) A X) (hn : n ≠ 1 := by decide) (hN : N ≠ 1 := by decide) (hG : G ≠ 1 := by decide) (hs : (⟨1, ![n]⟩ : Shape).ShapeCasts ⟨2, ![n, 1]⟩ := by decide)
    (hk : (⟨2, ![n, 1]⟩ : Shape).Broadcasts ⟨2, ![n, C]⟩ := by decide) {hh : (⟨2, ![N, G]⟩ : Shape).BroadcastsInDim ⟨3, ![N, G, C]⟩ ![0, 1]} :
    Along (half o h g) (broadcastTo ⟨2, ![n, C]⟩ (shapeCast ⟨2, ![n, 1]⟩ A hs) hk)
      (broadcastInDim ⟨3, ![N, G, C]⟩ ![0, 1] hh X) := by
  refine r.read (fun i => ix1 (i 0)) (fun i => ix2 (i 0) (i 1)) (fun i => ?_) (fun i => ?_) (fun i => rfl)
  · refine (broadcastTo_apply _ _ _ (ix2 (i 0) 0) (fun a => match a with
      | ⟨0, _⟩ => (if_neg hn).symm
      | ⟨1, _⟩ => rfl)).trans ?_
    exact shapeCast_apply _ _ _ _ ((Shape.rowMajor_val_one _).trans (Eq.trans
      (by show (i 0).val = (i 0).val * 1 + 0; omega) (Shape.rowMajor_val_two _).symm))
  · exact broadcastInDim_apply _ _ _ _ _ (fun a => match a with
      | ⟨0, _⟩ => (if_neg hN).symm
      | ⟨1, _⟩ => (if_neg hG).symm)

/-- Group `g` of the columns, a slice of the tile, against the whole array's columns split into groups. -/
theorem Along.group {A : (⟨2, ![n, D]⟩ : Shape).Idx → EReal} {X : (⟨2, ![N, D]⟩ : Shape).Idx → EReal} (r : Along (row2 o h) A X)
    (q : Nat) (g : Fin G) (hq : q = g.val * C := by decide) (hD : D = G * C := by decide) (hk : (⟨2, ![n, D]⟩ : Shape).Slices ![0, q] ⟨2, ![n, C]⟩ := by decide)
    {hh : (⟨2, ![N, D]⟩ : Shape).ShapeCasts ⟨3, ![N, G, C]⟩} :
    Along (half o h g) (extractStridedSlice ⟨2, ![n, C]⟩ ![0, q] A hk) (shapeCast ⟨3, ![N, G, C]⟩ X hh) := fun i => by
  have hb : q + (i 1).val < D := by
    have h1 : (i 1).val < C := (i 1).isLt
    have h2 : (g.val + 1) * C ≤ G * C := Nat.mul_le_mul_right _ g.isLt
    rw [Nat.add_mul] at h2
    omega
  refine (extractStridedSlice_apply _ A hk i (ix2 (i 0) ⟨q + (i 1).val, hb⟩) (fun a => match a with
      | ⟨0, _⟩ => (Nat.zero_add _).symm
      | ⟨1, _⟩ => rfl)).trans ((r _).trans (shapeCast_apply X hh _ _ ?_).symm)
  rw [Shape.rowMajor_val_two, Shape.rowMajor_val_three]
  show (o + (i 0).val) * D + (q + (i 1).val) = ((o + (i 0).val) * G + g.val) * C + (i 1).val
  generalize (i 0).val = p
  generalize (i 1).val = c
  subst hD hq
  rw [Nat.add_mul _ g.val C, Nat.mul_assoc, Nat.add_assoc]

/-- Two groups laid side by side against the whole array with its two groups joined again. -/
theorem along_join {A B : (⟨2, ![n, C]⟩ : Shape).Idx → EReal} {X : (⟨3, ![N, 2, C]⟩ : Shape).Idx → EReal}
    (r : Along (half o h 0) A X) (r' : Along (half o h 1) B X) (hD : D = 2 * C := by decide)
    (hk : Shape.Concatenates [⟨2, ![n, C]⟩, ⟨2, ![n, C]⟩] ⟨2, ![n, D]⟩ 1 := by decide) {hh : (⟨3, ![N, 2, C]⟩ : Shape).ShapeCasts ⟨2, ![N, D]⟩} :
    Along (row2 o h) (concatenate ⟨2, ![n, D]⟩ 1 [⟨⟨2, ![n, C]⟩, A⟩, ⟨⟨2, ![n, C]⟩, B⟩] hk) (shapeCast ⟨2, ![N, D]⟩ X hh) := fun i => by
  have hi : (i 1).val < D := (i 1).isLt
  by_cases hc : (i 1).val < C
  · rw [concatenate_pair_apply_left 1 A B hk i rfl (ix2 (i 0) ⟨(i 1).val, hc⟩) (fun a => match a with
      | ⟨0, _⟩ => rfl
      | ⟨1, _⟩ => rfl), r]
    refine (shapeCast_apply _ _ _ _ ?_).symm
    rw [Shape.rowMajor_val_two, Shape.rowMajor_val_three]
    show ((o + (i 0).val) * 2 + 0) * C + (i 1).val = (o + (i 0).val) * D + (i 1).val
    generalize (i 0).val = p
    generalize (i 1).val = c
    rw [hD, Nat.add_zero, Nat.mul_assoc]
  · rw [concatenate_pair_apply_right 1 A B hk i rfl rfl (ix2 (i 0) ⟨(i 1).val - C, by omega⟩) (fun a => match a with
      | ⟨0, _⟩ => fun _ => rfl
      | ⟨1, _⟩ => fun hne => absurd rfl hne) (by show (i 1).val - C + C = (i 1).val; omega), r']
    refine (shapeCast_apply _ _ _ _ ?_).symm
    rw [Shape.rowMajor_val_two, Shape.rowMajor_val_three]
    show ((o + (i 0).val) * 2 + 1) * C + ((i 1).val - C) = (o + (i 0).val) * D + (i 1).val
    revert hc
    generalize (i 0).val = p
    generalize (i 1).val = c
    intro hc
    rw [hD, Nat.add_mul _ 1 C, Nat.mul_assoc]
    omega

/-- Two groups each padded with zeros to the full width and added, against the whole array with its two groups joined. -/
theorem along_joinPadded {A B : FVec Ideal ⟨2, ![n, C]⟩ .f32} {X : FVec Ideal ⟨3, ![N, 2, C]⟩ .f32}
    (r : Along (half o h 0) A X) (r' : Along (half o h 1) B X) (hD : D = 2 * C := by decide)
    (hk : Shape.Concatenates [⟨2, ![n, C]⟩, ⟨2, ![n, C]⟩] ⟨2, ![n, D]⟩ 1 := by decide) {hh : (⟨3, ![N, 2, C]⟩ : Shape).ShapeCasts ⟨2, ![N, D]⟩} :
    Along (row2 o h)
      (addf (F := Ideal) (φ := .f32)
        (concatenate ⟨2, ![n, D]⟩ 1 [⟨⟨2, ![n, C]⟩, broadcast ⟨2, ![n, C]⟩ (Scalar.ofBits (F := Ideal) .f32 0x00000000#32)⟩, ⟨⟨2, ![n, C]⟩, B⟩] hk)
        (concatenate ⟨2, ![n, D]⟩ 1 [⟨⟨2, ![n, C]⟩, A⟩, ⟨⟨2, ![n, C]⟩, broadcast ⟨2, ![n, C]⟩ (Scalar.ofBits (F := Ideal) .f32 0x00000000#32)⟩] hk))
      (shapeCast ⟨2, ![N, D]⟩ X hh) := fun i => by
  refine Eq.trans ?_ (along_join r r' hD hk i)
  have hi : (i 1).val < D := (i 1).isLt
  rw [addf_apply]
  by_cases hc : (i 1).val < C
  · have e : ∀ P Q : FVec Ideal ⟨2, ![n, C]⟩ .f32, concatenate ⟨2, ![n, D]⟩ 1 [⟨⟨2, ![n, C]⟩, P⟩, ⟨⟨2, ![n, C]⟩, Q⟩] hk i = P (ix2 (i 0) ⟨(i 1).val, hc⟩) :=
      fun P Q => concatenate_pair_apply_left 1 P Q hk i rfl (ix2 (i 0) ⟨(i 1).val, hc⟩) (fun a => match a with
        | ⟨0, _⟩ => rfl
        | ⟨1, _⟩ => rfl)
    rw [e, e, e]
    show Ideal.ofBits .f32 0x00000000#32 + _ = _
    rw [Ideal.ofBits_zero_f32, zero_add]
  · have e : ∀ P Q : FVec Ideal ⟨2, ![n, C]⟩ .f32, concatenate ⟨2, ![n, D]⟩ 1 [⟨⟨2, ![n, C]⟩, P⟩, ⟨⟨2, ![n, C]⟩, Q⟩] hk i
          = Q (ix2 (i 0) ⟨(i 1).val - C, by omega⟩) :=
      fun P Q => concatenate_pair_apply_right 1 P Q hk i rfl rfl (ix2 (i 0) ⟨(i 1).val - C, by omega⟩) (fun a => match a with
        | ⟨0, _⟩ => fun _ => rfl
        | ⟨1, _⟩ => fun hne => absurd rfl hne) (by show (i 1).val - C + C = (i 1).val; omega)
    rw [e, e, e]
    show _ + Ideal.ofBits .f32 0x00000000#32 = _
    rw [Ideal.ofBits_zero_f32, add_zero]

end Groups

end Cert.Rows
-- ==== Proof.OutProj.lean ====
/-
  THE STAGES OF `_out_proj_bwd` ON ONE TILE. The kernel computes on tiles of 512 rows what the reference, the transposed
  linearisation of the plain forward lines, computes on all 4096 rows, by the same operations in the same order. Each
  theorem follows one stored value of the kernel operation by operation and says that it is the tile's part of the
  reference's array (`Cert.Rows.Along`). The first half of the columns of the product belongs to the gated group norm,
  the second half to the layer norm behind its gate.
-/
module

public import proofs.«01_k».proof.Proof.Gen.KernelIdeal.Skeleton
public import proofs.«01_k».proof.Proof.Gen.ReferenceIdeal.Read
public import proofs.«01_k».proof.Proof.Rows

@[expose] public section

set_option maxRecDepth 16384

noncomputable section

namespace Cert.OutProj

open Idealize.ShloMosaic Cert.Rows Cert.KernelIdeal.Gen Cert.ReferenceIdeal.Read

variable {o : Nat} {h : o + 512 ≤ 4096}
  {a0 : Vec Ideal ⟨2, ![512, 1024]⟩ .bf16} {a1 a2 a3 : Vec Ideal ⟨2, ![512, 1024]⟩ .f32} {a4 a5 a6 : Vec Ideal ⟨2, ![1, 1024]⟩ .f32}
  {a7 : Vec Ideal ⟨2, ![2048, 1024]⟩ .bf16}
  {x0 : Vec Ideal ⟨2, ![4096, 1024]⟩ .bf16} {x1 x2 x3 : Vec Ideal ⟨2, ![4096, 1024]⟩ .f32} {x4 x5 x6 : Vec Ideal ⟨2, ![1, 1024]⟩ .f32}
  {x7 : Vec Ideal ⟨2, ![2048, 1024]⟩ .bf16}

/-- The product of the incoming gradient with the transposed weight. -/
theorem product (r0 : Along (row2 o h) a0 x0) (e7 : a7 = x7) :
    Along (row2 o h) (k0_pay5 (F := Ideal) a0 a7) (val_main_v47 (F := Ideal) x0 x7) := by
  subst e7
  exact r0.extR.dotT rfl _

/-- Its first 1024 columns. -/
theorem product_left (r0 : Along (row2 o h) a0 x0) (e7 : a7 = x7) :
    Along (row2 o h) (k0_pay6 (F := Ideal) a0 a7) (val_main_v48 (F := Ideal) x0 x7) := (product r0 e7).cols 0

/-- Its last 1024 columns. -/
theorem product_right (r0 : Along (row2 o h) a0 x0) (e7 : a7 = x7) :
    Along (row2 o h) (k0_pay7 (F := Ideal) a0 a7) (val_main_v49 (F := Ideal) x0 x7) := (product r0 e7).cols 1024

/-- The rows of `v2` less their means. -/
theorem centred (r3 : Along (row2 o h) a3 x3) :
    Along (row2 o h) (k0_pay28 (F := Ideal) a3) (val_main_v26 (F := Ideal) x3) := r3.sub (r3.rowSum.colB.div along_const).spread

/-- Their variance and the small constant. -/
theorem variance (r3 : Along (row2 o h) a3 x3) :
    Along (row2 o h) (k0_pay29 (F := Ideal) a3) (val_main_v33 (F := Ideal) x3) := (((centred r3).mul (centred r3)).rowSum.colB.div along_const).add along_const

/-- The inverse root of that. -/
theorem inverse (r3 : Along (row2 o h) a3 x3) :
    Along (row2 o h) (k0_pay30 (F := Ideal) a3) (val_main_v34 (F := Ideal) x3) := (variance r3).rsqrt

/-- The derivative of the inverse root. -/
theorem slope (r3 : Along (row2 o h) a3 x3) :
    Along (row2 o h) (k0_pay31 (F := Ideal) a3) (val_main_v37 (F := Ideal) x3) := along_const.mul ((inverse r3).div (variance r3))

/-- The normalised rows. -/
theorem normed (r3 : Along (row2 o h) a3 x3) :
    Along (row2 o h) (k0_pay32 (F := Ideal) a3) (val_main_v39 (F := Ideal) x3) := (centred r3).mul (inverse r3).spread

/-- The gradient through the gate of the layer norm. -/
theorem gate_back (r0 : Along (row2 o h) a0 x0) (r3 : Along (row2 o h) a3 x3) (e5 : a5 = x5) (e6 : a6 = x6) (e7 : a7 = x7) :
    Along (row2 o h) (k0_pay33 (F := Ideal) (k0_pay7 (F := Ideal) a0 a7) a3 a5 a6) (val_main_v50 (F := Ideal) x0 x3 x5 x6 x7) := by
    have s1 : Along (row2 o h) _ (val_main_v43 (F := Ideal) x3 x5 x6) := ((normed r3).mul (along_params e5)).add (along_params e6)
    have s2 : Along (row2 o h) _ (val_main_v44_2 (F := Ideal) x3 x5 x6) := s1.logistic
    have s3 : Along (row2 o h) _ (val_main_v44_1 (F := Ideal) x3 x5 x6) := s2.mul (along_const.sub s2)
    exact ((product_right r0 e7).mul s2).add ((s1.mul (product_right r0 e7)).mul s3)

/-- That gradient times the normalised rows. -/
theorem gate_back_normed (r0 : Along (row2 o h) a0 x0) (r3 : Along (row2 o h) a3 x3) (e5 : a5 = x5) (e6 : a6 = x6) (e7 : a7 = x7) :
    Along (row2 o h) (mulf (k0_pay32 (F := Ideal) a3) (k0_pay33 (F := Ideal) (k0_pay7 (F := Ideal) a0 a7) a3 a5 a6)) (val_main_v53 (F := Ideal) x0 x3 x5 x6 x7) := (normed r3).mul (gate_back r0 r3 e5 e6 e7)

/-- The gradient of `v2`. -/
theorem dv (r0 : Along (row2 o h) a0 x0) (r3 : Along (row2 o h) a3 x3) (e5 : a5 = x5) (e6 : a6 = x6) (e7 : a7 = x7) :
    Along (row2 o h) (k0_pay37 (F := Ideal) a5 (k0_pay28 (F := Ideal) a3) (k0_pay30 (F := Ideal) a3) (k0_pay31 (F := Ideal) a3) (k0_pay33 (F := Ideal) (k0_pay7 (F := Ideal) a0 a7) a3 a5 a6)) (val_main_v79 (F := Ideal) x0 x3 x5 x6 x7) := by
    have s1 : Along (row2 o h) _ (val_main_v57 (F := Ideal) x0 x3 x5 x6 x7) := (gate_back r0 r3 e5 e6 e7).mul (along_params e5)
    have s2 : Along (row2 o h) _ (val_main_v60 (F := Ideal) x0 x3 x5 x6 x7) := ((centred r3).mul s1).rowSum.col
    have s3 : Along (row2 o h) _ (val_main_v62 (F := Ideal) x0 x3 x5 x6 x7) := s1.mul (inverse r3).spread
    have s4 : Along (row2 o h) _ (val_main_v65 (F := Ideal) x0 x3 x5 x6 x7) := (s2.mul (slope r3)).div along_const
    have s5 : Along (row2 o h) _ (val_main_v67 (F := Ideal) x0 x3 x5 x6 x7) := s4.rowSum.colSpread
    have s6 : Along (row2 o h) _ (val_main_v71 (F := Ideal) x0 x3 x5 x6 x7) := (s3.add ((centred r3).mul s5)).add (s5.mul (centred r3))
    have s7a : Along (row2 o h) _ (val_main_v72 (F := Ideal) x0 x3 x5 x6 x7) := s6.neg
    have s7b : Along (row2 o h) _ (val_main_v74 (F := Ideal) x0 x3 x5 x6 x7) := s7a.rowSum.col
    have s7 : Along (row2 o h) _ (val_main_v76 (F := Ideal) x0 x3 x5 x6 x7) := s7b.div along_const
    exact s6.add s7.rowSum.colSpread

/-- The logistic of the gate. -/
theorem gate_sig (r2 : Along (row2 o h) a2 x2) :
    Along (row2 o h) (k0_pay8 (F := Ideal) a2) (val_main_v2_2 (F := Ideal) x2) := r2.logistic

/-- Its derivative. -/
theorem gate_slope (r2 : Along (row2 o h) a2 x2) :
    Along (row2 o h) (k0_pay9 (F := Ideal) a2) (val_main_v2_1 (F := Ideal) x2) := (gate_sig r2).mul (along_const.sub (gate_sig r2))

/-- The gate times its logistic. -/
theorem swish (r2 : Along (row2 o h) a2 x2) :
    Along (row2 o h) (k0_pay10 (F := Ideal) a2) (val_main_v2_0 (F := Ideal) x2) := r2.mul (gate_sig r2)

/-- The rows of `y` behind their gate. -/
theorem gated (r1 : Along (row2 o h) a1 x1) (r2 : Along (row2 o h) a2 x2) :
    Along (row2 o h) (k0_pay11 (F := Ideal) a1 a2) (val_main_v3 (F := Ideal) x1 x2) := r1.mul (swish r2)

/-- Group 0 of their columns. -/
theorem group0 (r1 : Along (row2 o h) a1 x1) (r2 : Along (row2 o h) a2 x2) :
    Along (half o h 0) (k0_pay12 (F := Ideal) a1 a2) (val_main_v4 (F := Ideal) x1 x2) := (gated r1 r2).group 0 0

/-- The mean square of each row of group 0 and the small constant. -/
theorem square0 (r1 : Along (row2 o h) a1 x1) (r2 : Along (row2 o h) a2 x2) :
    Along (half o h 0) (k0_pay13 (F := Ideal) a1 a2) (val_main_v11 (F := Ideal) x1 x2) := (((group0 r1 r2).mul (group0 r1 r2)).halfSum.halfColB.div along_const).add along_const

/-- The inverse root of that. -/
theorem root0 (r1 : Along (row2 o h) a1 x1) (r2 : Along (row2 o h) a2 x2) :
    Along (half o h 0) (k0_pay14 (F := Ideal) a1 a2) (val_main_v12 (F := Ideal) x1 x2) := (square0 r1 r2).rsqrt

/-- Its derivative. -/
theorem root_slope0 (r1 : Along (row2 o h) a1 x1) (r2 : Along (row2 o h) a2 x2) :
    Along (half o h 0) (k0_pay15 (F := Ideal) a1 a2) (val_main_v15 (F := Ideal) x1 x2) := along_const.mul ((root0 r1 r2).div (square0 r1 r2))

/-- Group 0 normalised. -/
theorem group_normed0 (r1 : Along (row2 o h) a1 x1) (r2 : Along (row2 o h) a2 x2) :
    Along (half o h 0) (k0_pay16 (F := Ideal) a1 a2) (val_main_v17 (F := Ideal) x1 x2) := (group0 r1 r2).mul (root0 r1 r2).halfSpread

/-- Group 1 of their columns. -/
theorem group1 (r1 : Along (row2 o h) a1 x1) (r2 : Along (row2 o h) a2 x2) :
    Along (half o h 1) (k0_pay17 (F := Ideal) a1 a2) (val_main_v4 (F := Ideal) x1 x2) := (gated r1 r2).group 512 1

/-- The mean square of each row of group 1 and the small constant. -/
theorem square1 (r1 : Along (row2 o h) a1 x1) (r2 : Along (row2 o h) a2 x2) :
    Along (half o h 1) (k0_pay19 (F := Ideal) (k0_pay18 (F := Ideal) a1 a2) (Scalar.ofBits (F := Ideal) .f32 0x358637BD#32)) (val_main_v11 (F := Ideal) x1 x2) := (((group1 r1 r2).mul (group1 r1 r2)).halfSum.halfColB.div along_const).add along_const

/-- The inverse root of that. -/
theorem root1 (r1 : Along (row2 o h) a1 x1) (r2 : Along (row2 o h) a2 x2) :
    Along (half o h 1) (k0_pay20 (F := Ideal) (k0_pay18 (F := Ideal) a1 a2) (Scalar.ofBits (F := Ideal) .f32 0x358637BD#32)) (val_main_v12 (F := Ideal) x1 x2) := (square1 r1 r2).rsqrt

/-- Its derivative. -/
theorem root_slope1 (r1 : Along (row2 o h) a1 x1) (r2 : Along (row2 o h) a2 x2) :
    Along (half o h 1) (mulf (broadcast ⟨2, ![512, 1]⟩ (Scalar.ofBits (F := Ideal) .f32 0xBF000000#32)) (divf (k0_pay20 (F := Ideal) (k0_pay18 (F := Ideal) a1 a2) (Scalar.ofBits (F := Ideal) .f32 0x358637BD#32)) (k0_pay19 (F := Ideal) (k0_pay18 (F := Ideal) a1 a2) (Scalar.ofBits (F := Ideal) .f32 0x358637BD#32)))) (val_main_v15 (F := Ideal) x1 x2) := along_const.mul ((root1 r1 r2).div (square1 r1 r2))

/-- Group 1 normalised. -/
theorem group_normed1 (r1 : Along (row2 o h) a1 x1) (r2 : Along (row2 o h) a2 x2) :
    Along (half o h 1) (mulf (k0_pay17 (F := Ideal) a1 a2) (broadcastTo ⟨2, ![512, 512]⟩ (k0_pay20 (F := Ideal) (k0_pay18 (F := Ideal) a1 a2) (Scalar.ofBits (F := Ideal) .f32 0x358637BD#32)) (by decide))) (val_main_v17 (F := Ideal) x1 x2) := (group1 r1 r2).mul (root1 r1 r2).halfSpread

/-- The product of the normalised rows with the gradient behind their scale. -/
theorem gs_rows (r0 : Along (row2 o h) a0 x0) (r1 : Along (row2 o h) a1 x1) (r2 : Along (row2 o h) a2 x2) (e7 : a7 = x7) :
    Along (row2 o h) (mulf (F := Ideal) (φ := .f32) (concatenate ⟨2, ![512, 1024]⟩ 1 [⟨⟨2, ![512, 512]⟩, k0_pay16 (F := Ideal) a1 a2⟩, ⟨⟨2, ![512, 512]⟩, mulf (F := Ideal) (φ := .f32) (k0_pay17 (F := Ideal) a1 a2) (broadcastTo ⟨2, ![512, 512]⟩ (k0_pay20 (F := Ideal) (k0_pay18 (F := Ideal) a1 a2) (Scalar.ofBits (F := Ideal) .f32 0x358637BD#32)) (by decide))⟩] concatenates_S512x512_S512x512_S512x1024_d1) (k0_pay6 (F := Ideal) a0 a7)) (val_main_v80 (F := Ideal) x0 x1 x2 x7) := (along_join (group_normed0 r1 r2) (group_normed1 r1 r2)).mul (product_left r0 e7)

/-- The gradient behind the scale of the group norm. -/
theorem scaled (r0 : Along (row2 o h) a0 x0) (e4 : a4 = x4) (e7 : a7 = x7) :
    Along (row2 o h) (k0_pay22 (F := Ideal) (k0_pay6 (F := Ideal) a0 a7) a4) (val_main_v84 (F := Ideal) x0 x4 x7) := (product_left r0 e7).mul (along_params e4)

/-- The gradient of the gated rows. -/
theorem back (r0 : Along (row2 o h) a0 x0) (r1 : Along (row2 o h) a1 x1) (r2 : Along (row2 o h) a2 x2) (e4 : a4 = x4) (e7 : a7 = x7) :
    Along (row2 o h) (k0_pay25 (F := Ideal) (k0_pay23 (F := Ideal) (k0_pay6 (F := Ideal) a0 a7) a4 (k0_pay17 (F := Ideal) a1 a2) (k0_pay18 (F := Ideal) a1 a2) (Scalar.ofBits (F := Ideal) .f32 0x358637BD#32)) (k0_pay24 (F := Ideal) (k0_pay6 (F := Ideal) a0 a7) a4 (k0_pay12 (F := Ideal) a1 a2) (k0_pay14 (F := Ideal) a1 a2) (k0_pay15 (F := Ideal) a1 a2))) (val_main_v100 (F := Ideal) x0 x1 x2 x4 x7) := by
    have s00 : Along (half o h 0) _ (val_main_v85 (F := Ideal) x0 x4 x7) := (scaled r0 e4 e7).group 0 0
    have s01 : Along (half o h 0) _ (val_main_v88 (F := Ideal) x0 x1 x2 x4 x7) := ((group0 r1 r2).mul s00).halfSum.halfCol
    have s02 : Along (half o h 0) _ (val_main_v93 (F := Ideal) x0 x1 x2 x4 x7) := (s01.mul (root_slope0 r1 r2)).div along_const
    have s03 : Along (half o h 0) _ (val_main_v95 (F := Ideal) x0 x1 x2 x4 x7) := s02.halfSum.halfColSpread
    have s04 : Along (half o h 0) _ (val_main_v99 (F := Ideal) x0 x1 x2 x4 x7) := ((s00.mul (root0 r1 r2).halfSpread).add ((group0 r1 r2).mul s03)).add (s03.mul (group0 r1 r2))
    have s10 : Along (half o h 1) _ (val_main_v85 (F := Ideal) x0 x4 x7) := (scaled r0 e4 e7).group 512 1
    have s11 : Along (half o h 1) _ (val_main_v88 (F := Ideal) x0 x1 x2 x4 x7) := ((group1 r1 r2).mul s10).halfSum.halfCol
    have s12 : Along (half o h 1) _ (val_main_v93 (F := Ideal) x0 x1 x2 x4 x7) := (s11.mul (root_slope1 r1 r2)).div along_const
    have s13 : Along (half o h 1) _ (val_main_v95 (F := Ideal) x0 x1 x2 x4 x7) := s12.halfSum.halfColSpread
    have s14 : Along (half o h 1) _ (val_main_v99 (F := Ideal) x0 x1 x2 x4 x7) := ((s10.mul (root1 r1 r2).halfSpread).add ((group1 r1 r2).mul s13)).add (s13.mul (group1 r1 r2))
    exact along_joinPadded s04 s14

/-- The gradient of `y`. -/
theorem dy (r0 : Along (row2 o h) a0 x0) (r1 : Along (row2 o h) a1 x1) (r2 : Along (row2 o h) a2 x2) (e4 : a4 = x4) (e7 : a7 = x7) :
    Along (row2 o h) (k0_pay26 (F := Ideal) (k0_pay10 (F := Ideal) a2) (k0_pay23 (F := Ideal) (k0_pay6 (F := Ideal) a0 a7) a4 (k0_pay17 (F := Ideal) a1 a2) (k0_pay18 (F := Ideal) a1 a2) (Scalar.ofBits (F := Ideal) .f32 0x358637BD#32)) (k0_pay24 (F := Ideal) (k0_pay6 (F := Ideal) a0 a7) a4 (k0_pay12 (F := Ideal) a1 a2) (k0_pay14 (F := Ideal) a1 a2) (k0_pay15 (F := Ideal) a1 a2))) (val_main_v102 (F := Ideal) x0 x1 x2 x4 x7) := (back r0 r1 r2 e4 e7).mul (swish r2)

/-- The gradient of the gate `z`. -/
theorem dz (r0 : Along (row2 o h) a0 x0) (r1 : Along (row2 o h) a1 x1) (r2 : Along (row2 o h) a2 x2) (e4 : a4 = x4) (e7 : a7 = x7) :
    Along (row2 o h) (k0_pay38 (F := Ideal) (k0_pay27 (F := Ideal) a1 a2 (k0_pay8 (F := Ideal) a2) (k0_pay9 (F := Ideal) a2) (k0_pay23 (F := Ideal) (k0_pay6 (F := Ideal) a0 a7) a4 (k0_pay17 (F := Ideal) a1 a2) (k0_pay18 (F := Ideal) a1 a2) (Scalar.ofBits (F := Ideal) .f32 0x358637BD#32)) (k0_pay24 (F := Ideal) (k0_pay6 (F := Ideal) a0 a7) a4 (k0_pay12 (F := Ideal) a1 a2) (k0_pay14 (F := Ideal) a1 a2) (k0_pay15 (F := Ideal) a1 a2)))) (val_main_v106 (F := Ideal) x0 x1 x2 x4 x7) := by
    have s1 : Along (row2 o h) _ (val_main_v101 (F := Ideal) x0 x1 x2 x4 x7) := r1.mul (back r0 r1 r2 e4 e7)
    have s2 : Along (row2 o h) _ (val_main_v103 (F := Ideal) x0 x1 x2 x4 x7) := (s1.mul (gate_sig r2)).add ((r2.mul s1).mul (gate_slope r2))
    exact s2.truncL.truncR

end Cert.OutProj
-- ==== Proof.OutTiles.lean ====
/-
  THE TILED RESULTS OF `_out_proj_bwd`: the gradients of `y`, `z` and `v2`. At grid point `t` the kernel's input blocks
  are the rows from `512 * t` on of its row arrays and the whole of its parameters (`rows0` … `whole7`), so by the
  stages of `OutProj` what it stores is that tile of the reference's result; the eight tiles cover each result.
-/
module

public import proofs.«01_k».proof.Proof.Gen.KernelIdeal.Value
public import proofs.«01_k».proof.Proof.OutProj
public import Idealize.ShloMosaic.Lib.Pipeline.ValueKit

@[expose] public section

set_option maxRecDepth 16384

noncomputable section

namespace Cert.OutProj

open Idealize.ShloMosaic Idealize.ShloMosaic.TcCoe Idealize.SL.Sem Idealize.ShloMosaic.ValueIdx
open Idealize.ShloMosaic.Pipeline (Dat)
open Cert.Rows Cert.KernelIdeal Cert.KernelIdeal.Gen Cert.ReferenceIdeal.Read

variable (m : (ℓ : Loc nD τ sig) → Buf (Elt Ideal) ℓ) (c : Dev nD)

/-- The block indices of the windows. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![0, 0] :=
  (by decide +kernel : ∀ t : Fin grid0.N, _)

/-- A tile's rows are rows of the whole array. -/
theorem inside (t : Fin cfg0.N) : 512 * t.val + 512 ≤ 4096 := by
  have := t.isLt.trans_eq N_0
  omega

theorem rows0 (t : Fin cfg0.N) : Along (row2 (512 * t.val) (inside t)) (iblk m c 0 t) (m ((c : Thread nD τ).loc main_arg0)) := fun i => by
  blk_ext [iblk, V, idx t]
theorem rows1 (t : Fin cfg0.N) : Along (row2 (512 * t.val) (inside t)) (iblk m c 1 t) (m ((c : Thread nD τ).loc main_arg1)) := fun i => by
  blk_ext [iblk, V, idx t]
theorem rows2 (t : Fin cfg0.N) : Along (row2 (512 * t.val) (inside t)) (iblk m c 2 t) (m ((c : Thread nD τ).loc main_arg2)) := fun i => by
  blk_ext [iblk, V, idx t]
theorem rows3 (t : Fin cfg0.N) : Along (row2 (512 * t.val) (inside t)) (iblk m c 3 t) (m ((c : Thread nD τ).loc main_arg3)) := fun i => by
  blk_ext [iblk, V, idx t]
theorem whole4 (t : Fin cfg0.N) : iblk m c 4 t = (m ((c : Thread nD τ).loc main_arg4)) := funext fun i => by
  blk_ext [iblk, V, idx t]
theorem whole5 (t : Fin cfg0.N) : iblk m c 5 t = (m ((c : Thread nD τ).loc main_arg5)) := funext fun i => by
  blk_ext [iblk, V, idx t]
theorem whole6 (t : Fin cfg0.N) : iblk m c 6 t = (m ((c : Thread nD τ).loc main_arg6)) := funext fun i => by
  blk_ext [iblk, V, idx t]
theorem whole7 (t : Fin cfg0.N) : iblk m c 7 t = (m ((c : Thread nD τ).loc main_arg7)) := funext fun i => by
  blk_ext [iblk, V, idx t]

/-- What grid point `t` stores in window 8. -/
theorem after8 (t : Fin cfg0.N) : Along (row2 (512 * t.val) (inside t)) (outsAt0 m c t.val t.isLt).1
    (val_main_v102 (F := Ideal) (m ((c : Thread nD τ).loc main_arg0)) (m ((c : Thread nD τ).loc main_arg1)) (m ((c : Thread nD τ).loc main_arg2)) (m ((c : Thread nD τ).loc main_arg4)) (m ((c : Thread nD τ).loc main_arg7))) := by
  by_cases h : t.val % 8 = 0
  · rw [outsAt0_A m c t h]
    dsimp only
    frame_out
    exact dy (rows0 m c t) (rows1 m c t) (rows2 m c t) (whole4 m c t) (whole7 m c t)
  · rw [outsAt0_B m c t h]
    dsimp only
    frame_out
    exact dy (rows0 m c t) (rows1 m c t) (rows2 m c t) (whole4 m c t) (whole7 m c t)

theorem final8 : (dats m 0 c).arrAt 8 (cfgs 0).N = (val_main_v102 (F := Ideal) (m ((c : Thread nD τ).loc main_arg0)) (m ((c : Thread nD τ).loc main_arg1)) (m ((c : Thread nD τ).loc main_arg2)) (m ((c : Thread nD τ).loc main_arg4)) (m ((c : Thread nD τ).loc main_arg7))) := by
  refine (dats m 0 c).arrAt_eq_of_covers 8 _ (by decide +kernel) fun t hf y => ?_
  blk_simp
  rw [after0_8]
  refine (after8 m c t y).trans ?_
  blk_ext [idx t]

/-- What grid point `t` stores in window 9. -/
theorem after9 (t : Fin cfg0.N) : Along (row2 (512 * t.val) (inside t)) (outsAt0 m c t.val t.isLt).2.1
    (val_main_v106 (F := Ideal) (m ((c : Thread nD τ).loc main_arg0)) (m ((c : Thread nD τ).loc main_arg1)) (m ((c : Thread nD τ).loc main_arg2)) (m ((c : Thread nD τ).loc main_arg4)) (m ((c : Thread nD τ).loc main_arg7))) := by
  by_cases h : t.val % 8 = 0
  · rw [outsAt0_A m c t h]
    dsimp only
    frame_out
    exact dz (rows0 m c t) (rows1 m c t) (rows2 m c t) (whole4 m c t) (whole7 m c t)
  · rw [outsAt0_B m c t h]
    dsimp only
    frame_out
    exact dz (rows0 m c t) (rows1 m c t) (rows2 m c t) (whole4 m c t) (whole7 m c t)

theorem final9 : (dats m 0 c).arrAt 9 (cfgs 0).N = (val_main_v106 (F := Ideal) (m ((c : Thread nD τ).loc main_arg0)) (m ((c : Thread nD τ).loc main_arg1)) (m ((c : Thread nD τ).loc main_arg2)) (m ((c : Thread nD τ).loc main_arg4)) (m ((c : Thread nD τ).loc main_arg7))) := by
  refine (dats m 0 c).arrAt_eq_of_covers 9 _ (by decide +kernel) fun t hf y => ?_
  blk_simp
  rw [after0_9]
  refine (after9 m c t y).trans ?_
  blk_ext [idx t]

/-- What grid point `t` stores in window 10. -/
theorem after10 (t : Fin cfg0.N) : Along (row2 (512 * t.val) (inside t)) (outsAt0 m c t.val t.isLt).2.2.1
    (val_main_v79 (F := Ideal) (m ((c : Thread nD τ).loc main_arg0)) (m ((c : Thread nD τ).loc main_arg3)) (m ((c : Thread nD τ).loc main_arg5)) (m ((c : Thread nD τ).loc main_arg6)) (m ((c : Thread nD τ).loc main_arg7))) := by
  by_cases h : t.val % 8 = 0
  · rw [outsAt0_A m c t h]
    dsimp only
    frame_out
    exact dv (rows0 m c t) (rows3 m c t) (whole5 m c t) (whole6 m c t) (whole7 m c t)
  · rw [outsAt0_B m c t h]
    dsimp only
    frame_out
    exact dv (rows0 m c t) (rows3 m c t) (whole5 m c t) (whole6 m c t) (whole7 m c t)

theorem final10 : (dats m 0 c).arrAt 10 (cfgs 0).N = (val_main_v79 (F := Ideal) (m ((c : Thread nD τ).loc main_arg0)) (m ((c : Thread nD τ).loc main_arg3)) (m ((c : Thread nD τ).loc main_arg5)) (m ((c : Thread nD τ).loc main_arg6)) (m ((c : Thread nD τ).loc main_arg7))) := by
  refine (dats m 0 c).arrAt_eq_of_covers 10 _ (by decide +kernel) fun t hf y => ?_
  blk_simp
  rw [after0_10]
  refine (after10 m c t y).trans ?_
  blk_ext [idx t]

end Cert.OutProj
-- ==== Proof.AccRows.lean ====
/-
  SUMS OVER ALL ROWS, KEPT IN THE ROWS OF ONE BLOCK. A kernel that sums over the rows of its arrays keeps the running sums
  in a small block of `G` rows: at each grid point it loads one row of the block, adds the sum of its tile's columns and
  stores the row back. Here: what such row stores leave in the block, row by row; and the sum of the tiles' column sums,
  which is the column sum of the whole array.
-/
module

public import proofs.«01_k».proof.Proof.Rows
public import Idealize.ShloMosaic.Lib.Pipeline.ReadBack

@[expose] public section

noncomputable section

namespace Cert.Rows

open Idealize.ShloMosaic Idealize.ShloMosaic.ValueIdx
open scoped BigOperators

section Stores
variable {sig : RefSig} {κ : Kind} {sp : Space} {e : EltTy} {Val : EltTy → Type} {G C : Nat}

/-- The rectangle of row `r` holds exactly the indices of that row. -/
theorem mem_row {r : Nat} (inb : ∀ a, (![r, 0] : Fin 2 → Nat) a + (![1, C] : Fin 2 → Nat) a ≤ (⟨2, ![G, C]⟩ : Shape).size a)
    (k : Fin G) (c : Fin C) (h : k.val = r) :
    (Rect.unit (s := ⟨2, ![G, C]⟩) ![r, 0] ![1, C] inb).emb (ix2 (0 : Fin 1) c) = ix2 k c := funext fun a => Fin.ext (by
  match a with
  | ⟨0, _⟩ => show r + 1 * 0 = k.val; omega
  | ⟨1, _⟩ => show 0 + 1 * c.val = c.val; omega)

theorem not_mem_row {r : Nat} (inb : ∀ a, (![r, 0] : Fin 2 → Nat) a + (![1, C] : Fin 2 → Nat) a ≤ (⟨2, ![G, C]⟩ : Shape).size a)
    (k : Fin G) (c : Fin C) (h : k.val ≠ r) :
    ix2 k c ∉ (Rect.unit (s := ⟨2, ![G, C]⟩) ![r, 0] ![1, C] inb).set := fun hm => by
  obtain ⟨j, hj, e⟩ := (Rect.unit (s := ⟨2, ![G, C]⟩) ![r, 0] ![1, C] inb).toLoadRect.mem_set.mp hm 0
  have h1 : j < 1 := hj
  have h2 : k.val = r + 1 * j := e
  omega

/-- Stores over unknown contents: the last one, of row `r`, is what is read there; elsewhere the earlier ones are. -/
theorem canon_row [∀ e, Nonempty (Val e)] {r : Nat}
    (inb : ∀ a, (![r, 0] : Fin 2 → Nat) a + (![1, C] : Fin 2 → Nat) a ≤ (⟨2, ![G, C]⟩ : Shape).size a)
    (w : (Rect.unit (s := ⟨2, ![G, C]⟩) ![r, 0] ![1, C] inb).shape.Idx → Val e) (L : List (View.Piece Val ⟨2, ![G, C]⟩ e))
    (k : Fin G) (c : Fin C) :
    View.canon (⟨Rect.unit ![r, 0] ![1, C] inb, w⟩ :: L) (ix2 k c) = if k.val = r then w (ix2 (0 : Fin 1) c) else View.canon L (ix2 k c) := by
  by_cases h : k.val = r
  · rw [if_pos h, ← mem_row inb k c h]
    exact View.canon_cons_emb _ w L _
  · rw [if_neg h]
    exact View.canon_cons_of_not_mem _ L (not_mem_row inb k c h)

/-- The same over contents that are known. -/
theorem writes_row {r : Nat} (v : View sig κ sp ⟨2, ![G, C]⟩ e) (f : v.ty.Contents Val)
    (inb : ∀ a, (![r, 0] : Fin 2 → Nat) a + (![1, C] : Fin 2 → Nat) a ≤ (⟨2, ![G, C]⟩ : Shape).size a)
    (w : (Rect.unit (s := ⟨2, ![G, C]⟩) ![r, 0] ![1, C] inb).shape.Idx → Val e) (L : List (View.Piece Val ⟨2, ![G, C]⟩ e))
    (k : Fin G) (c : Fin C) :
    v.read Val (v.writes Val f (⟨Rect.unit ![r, 0] ![1, C] inb, w⟩ :: L)) (ix2 k c)
      = if k.val = r then w (ix2 (0 : Fin 1) c) else v.read Val (v.writes Val f L) (ix2 k c) := by
  by_cases h : k.val = r
  · rw [if_pos h, ← mem_row inb k c h]
    exact View.read_writes_cons_emb _ _ _ _ _ _
  · rw [if_neg h, View.writes_cons]
    refine View.read_slice_write_of_not_mem _ _ _ _ ?_
    rw [Rect.map_emb_univ]
    exact not_mem_row inb k c h

/-- A load of row `r`. -/
theorem ld_row {r : Nat} (X : (⟨2, ![G, C]⟩ : Shape).Idx → Val e)
    (inb : ∀ a, (![r, 0] : Fin 2 → Nat) a + (![1, C] : Fin 2 → Nat) a ≤ (⟨2, ![G, C]⟩ : Shape).size a) (k : Fin G) (c : Fin C)
    (h : k.val = r) : View.ld X (Rect.unit (s := ⟨2, ![G, C]⟩) ![r, 0] ![1, C] inb) (ix2 (0 : Fin 1) c) = X (ix2 k c) :=
  congrArg X (mem_row inb k c h)

end Stores

section Sums
variable {n N C T : Nat}

/-- The sum over the tiles of each tile's column sums, a row vector, is the whole array's column sum. -/
theorem colSum_tiles (hN : N = T * n) {A : Fin T → FVec Ideal ⟨2, ![n, C]⟩ .f32} {X : FVec Ideal ⟨2, ![N, C]⟩ .f32}
    (ho : ∀ t : Fin T, n * t.val + n ≤ N) (r : ∀ t : Fin T, Along (row2 (n * t.val) (ho t)) (A t) X)
    (hr : (⟨2, ![n, C]⟩ : Shape).Reduces [0] ⟨1, ![C]⟩) (hR' : (⟨2, ![N, C]⟩ : Shape).Reduces [0] ⟨1, ![C]⟩)
    {hR : (⟨2, ![N, C]⟩ : Shape).ReducesTo [0] ⟨1, ![C]⟩} {hu : 0 < (⟨0, ![]⟩ : Shape).numel} (c : Fin C) :
    ∑ t : Fin T, multiReduction (F := Ideal) .add [0] ⟨1, ![C]⟩ (A t) 0x00000000#32 hr (.inl rfl) rfl (ix1 c)
      = Host.reduceAdd X (constant (F := Ideal) ⟨0, ![]⟩ .f32 0x00000000#32) hR hu (ix1 c) := by
  rw [hostReduceAdd_apply, Ideal.hostReduceAdd_single hR hR', constant_apply, Ideal.ofBits_zero_f32, zero_add]
  have e : ∀ t : Fin T, multiReduction (F := Ideal) .add [0] ⟨1, ![C]⟩ (A t) 0x00000000#32 hr (.inl rfl) rfl (ix1 c)
      = ∑ k : Fin n, X (ix2 ⟨n * t.val + k.val, by have := ho t; omega⟩ c) := fun t => by
    refine (Ideal.multiReduction_add_single _ _ _ _ _ _).trans (Finset.sum_congr rfl fun k _ => (r t _).trans ?_)
    refine congrArg X (funext fun a => Fin.ext ?_)
    match a with
    | ⟨0, _⟩ => rfl
    | ⟨1, _⟩ => rfl
  rw [Finset.sum_congr rfl fun t _ => e t]
  subst hN
  refine (Fintype.sum_prod_type' (fun (t : Fin T) (k : Fin n) => X (ix2 ⟨n * t.val + k.val, _⟩ c))).symm.trans ?_
  refine Fintype.sum_equiv finProdFinEquiv _ _ fun p => congrArg X (funext fun a => Fin.ext ?_)
  match a with
  | ⟨0, _⟩ => exact Nat.add_comm _ _
  | ⟨1, _⟩ => rfl

/-- A vector as a row, read at an element. -/
theorem rowVec_apply {A : (⟨1, ![C]⟩ : Shape).Idx → EReal} {hk : (⟨1, ![C]⟩ : Shape).ShapeCasts ⟨2, ![1, C]⟩} (c : Fin C) :
    shapeCast ⟨2, ![1, C]⟩ A hk (ix2 0 c) = A (ix1 c) :=
  shapeCast_apply _ _ _ _ (by
    rw [Shape.rowMajor_val_one, Shape.rowMajor_val_two]
    show c.val = 0 * C + c.val; omega)

/-- The same on the host, by a broadcast. -/
theorem rowVecB_apply {A : (⟨1, ![C]⟩ : Shape).Idx → EReal} {hk : (⟨1, ![C]⟩ : Shape).BroadcastsInDim ⟨2, ![1, C]⟩ ![1]} (hC : C ≠ 1)
    (c : Fin C) : broadcastInDim ⟨2, ![1, C]⟩ ![1] hk A (ix2 0 c) = A (ix1 c) :=
  broadcastInDim_apply _ _ _ _ _ (fun a => match a with
    | ⟨0, _⟩ => (if_neg hC).symm)

/-- A reshape to the same shape changes nothing. -/
theorem sameShape_apply {s : Shape} {A : s.Idx → EReal} {hk : s.ShapeCasts s} (i : s.Idx) : shapeCast s A hk i = A i :=
  shapeCast_apply _ _ _ _ rfl

/-- So it is the array itself. -/
theorem sameShape {s : Shape} {A : s.Idx → EReal} {hk : s.ShapeCasts s} : shapeCast s A hk = A := funext fun i => sameShape_apply i

end Sums

/-- A row of arrays put one under another is a row of the piece it falls in. -/
theorem concat_row {α : Type} {R C r : Nat} (xs : List ((s : Shape) × (s.Idx → α)))
    (h : Shape.Concatenates (xs.map (·.1)) ⟨2, ![R, C]⟩ 0) (k : Fin R) (q : Fin C) (n : Nat) (hn : n < xs.length)
    (x : (⟨2, ![r, C]⟩ : Shape).Idx → α) (hx : xs[n] = ⟨⟨2, ![r, C]⟩, x⟩) (pre : Nat)
    (hpre : (((xs.take n).map (·.1)).map fun s => if h : s.rank = 2 then s.size ((0 : Fin 2).cast h.symm) else 0).sum = pre)
    (u : Fin r) (hu : pre + u.val = k.val) :
    concatenate ⟨2, ![R, C]⟩ 0 xs h (ValueIdx.ix2 k q) = x (ValueIdx.ix2 u q) := by
  refine concatenate_apply_piece (t := ⟨2, ![R, C]⟩) 0 xs h (ValueIdx.ix2 k q) n hn ⟨2, ![r, C]⟩ x hx rfl pre hpre (ValueIdx.ix2 u q) ?_ hu
  intro b hb
  match b with
  | ⟨0, _⟩ => exact absurd rfl hb
  | ⟨1, _⟩ => rfl

end Cert.Rows
-- ==== Proof.OutSums.lean ====
/-
  THE SUMMED RESULT OF `_out_proj_bwd`. Rows 0 to 3 of the kernel's last result are sums over all 4096 rows: the gradients
  of the group norm's scale, of the layer norm's scale and shift, and the column sum of the gradient of `v2`. Each grid
  point adds its tile's column sums to them; rows 4 to 7 stay zero.
-/
module

public import proofs.«01_k».proof.Proof.OutTiles
public import proofs.«01_k».proof.Proof.AccRows

@[expose] public section

set_option maxRecDepth 16384

noncomputable section

namespace Cert.OutProj

open Idealize.ShloMosaic Idealize.ShloMosaic.TcCoe Idealize.SL.Sem
open Idealize.ShloMosaic.Pipeline (Dat)
open Cert.Rows Cert.KernelIdeal Cert.KernelIdeal.Gen Cert.ReferenceIdeal.Read
open scoped BigOperators

variable (m : (ℓ : Loc nD τ sig) → Buf (Elt Ideal) ℓ) (c : Dev nD)

/-- Grid point `t`'s share of row 0: the group norm's scale. -/
def share0 (t : Fin cfg0.N) : FVec Ideal ⟨2, ![1, 1024]⟩ .f32 :=
  k0_pay21 (F := Ideal) (k0_pay6 (iblk m c 0 t) (iblk m c 7 t)) (k0_pay16 (iblk m c 1 t) (iblk m c 2 t)) (k0_pay17 (iblk m c 1 t) (iblk m c 2 t)) (k0_pay18 (iblk m c 1 t) (iblk m c 2 t)) (Scalar.ofBits (F := Ideal) .f32 0x358637BD#32)

/-- Grid point `t`'s share of row 1: the layer norm's scale. -/
def share1 (t : Fin cfg0.N) : FVec Ideal ⟨2, ![1, 1024]⟩ .f32 :=
  k0_pay36 (F := Ideal) (k0_pay35 (k0_pay7 (iblk m c 0 t) (iblk m c 7 t)) (iblk m c 3 t) (iblk m c 5 t) (iblk m c 6 t))

/-- Grid point `t`'s share of row 2: the layer norm's shift. -/
def share2 (t : Fin cfg0.N) : FVec Ideal ⟨2, ![1, 1024]⟩ .f32 :=
  k0_pay34 (F := Ideal) (k0_pay7 (iblk m c 0 t) (iblk m c 7 t)) (iblk m c 3 t) (iblk m c 5 t) (iblk m c 6 t)

/-- Grid point `t`'s share of row 3: the column sum of the gradient of `v2`. -/
def share3 (t : Fin cfg0.N) : FVec Ideal ⟨2, ![1, 1024]⟩ .f32 :=
  shapeCast ⟨2, ![1, 1024]⟩ (multiReduction (F := Ideal) .add [0] ⟨1, ![1024]⟩ (k0_pay37 (F := Ideal) (iblk m c 5 t) (k0_pay28 (iblk m c 3 t)) (k0_pay30 (iblk m c 3 t)) (k0_pay31 (iblk m c 3 t)) (k0_pay33 (k0_pay7 (iblk m c 0 t) (iblk m c 7 t)) (iblk m c 3 t) (iblk m c 5 t) (iblk m c 6 t))) 0x00000000#32 reduces_S512x1024_S1024 (.inl rfl) rfl) shapeCasts_S1024_S1x1024

/-- What grid point `t` adds at an element of the block. -/
def added (t : Fin cfg0.N) (i : (⟨2, ![8, 1024]⟩ : Shape).Idx) : EReal :=
  if (i 0).val = 3 then share3 m c t (ValueIdx.ix2 0 (i 1)) else if (i 0).val = 2 then share2 m c t (ValueIdx.ix2 0 (i 1))
  else if (i 0).val = 1 then share1 m c t (ValueIdx.ix2 0 (i 1)) else if (i 0).val = 0 then share0 m c t (ValueIdx.ix2 0 (i 1)) else 0

theorem row_first (a b : FVec Ideal ⟨2, ![1, 1024]⟩ .f32) (j : (⟨2, ![1, 1024]⟩ : Shape).Idx) : k0_pay39 (F := Ideal) a b j = b j + a j :=
  congrArg (fun x : EReal => x + a j) (sameShape_apply j)
theorem row_second (a b : FVec Ideal ⟨2, ![1, 1024]⟩ .f32) (j : (⟨2, ![1, 1024]⟩ : Shape).Idx) : k0_pay1 (F := Ideal) a b j = b j + a j :=
  congrArg (fun x : EReal => x + a j) (sameShape_apply j)
theorem row_third (a b : FVec Ideal ⟨2, ![1, 1024]⟩ .f32) (j : (⟨2, ![1, 1024]⟩ : Shape).Idx) : k0_pay2 (F := Ideal) a b j = b j + a j :=
  congrArg (fun x : EReal => x + a j) (sameShape_apply j)
theorem row_fourth (a : FVec Ideal ⟨2, ![512, 1024]⟩ .f32) (b : FVec Ideal ⟨2, ![1, 1024]⟩ .f32) (j : (⟨2, ![1, 1024]⟩ : Shape).Idx) :
    k0_pay3 (F := Ideal) a b j = b j + shapeCast ⟨2, ![1, 1024]⟩ (multiReduction (F := Ideal) .add [0] ⟨1, ![1024]⟩ a 0x00000000#32
      reduces_S512x1024_S1024 (.inl rfl) rfl) shapeCasts_S1024_S1x1024 j :=
  congrArg (fun x : EReal => x + _) (sameShape_apply j)
theorem zeros_apply (i : (⟨2, ![8, 1024]⟩ : Shape).Idx) : k0_pay4 (F := Ideal) i = 0 := Ideal.ofBits_zero_f32

/-- The first grid point starts from zeros, -/
theorem acc_first (t : Fin cfg0.N) (h : t.val % 8 = 0) (i : (⟨2, ![8, 1024]⟩ : Shape).Idx) :
    (outsAt0 m c t.val t.isLt).2.2.2 i = (fun _ => (0 : EReal)) i + added m c t i := by
  rw [outsAt0_A m c t h]
  dsimp only
  frame_out
  obtain ⟨k, q, rfl⟩ : ∃ (k : Fin 8) (q : Fin 1024), i = ValueIdx.ix2 k q := ⟨i 0, i 1, ValueIdx.eq_ix2 i⟩
  rw [canon_row, canon_row, canon_row, canon_row, View.canon_unit_zero (by decide)]
  unfold added
  show _ = (0 : EReal) + (if k.val = 3 then _ else if k.val = 2 then _ else if k.val = 1 then _ else if k.val = 0 then _ else 0)
  split_ifs with h3 h2 h1 h0
  · rw [row_fourth, View.readCov_skip _ _ _ _ _ (by decide), View.readCov_skip _ _ _ _ _ (by decide),
      View.readCov_skip _ _ _ _ _ (by decide), View.readCov_fill _ _ _ _ _ (by decide), ld_row _ _ k q h3, zeros_apply]
    rfl
  · rw [row_third, View.readCov_skip _ _ _ _ _ (by decide), View.readCov_skip _ _ _ _ _ (by decide),
      View.readCov_fill _ _ _ _ _ (by decide), ld_row _ _ k q h2, zeros_apply]
    rfl
  · rw [row_second, View.readCov_skip _ _ _ _ _ (by decide), View.readCov_fill _ _ _ _ _ (by decide), ld_row _ _ k q h1, zeros_apply]
    rfl
  · rw [row_first, View.readCov_fill _ _ _ _ _ (by decide), ld_row _ _ k q h0, zeros_apply]
    rfl
  · rw [zeros_apply, add_zero]

/-- and each later one adds to what the one before left. -/
theorem acc_next (t : Fin cfg0.N) (h : ¬t.val % 8 = 0) (i : (⟨2, ![8, 1024]⟩ : Shape).Idx) :
    (outsAt0 m c t.val t.isLt).2.2.2 i
      = (outsAt0 m c (t.val - 1) (Nat.lt_of_le_of_lt (Nat.sub_le _ _) t.isLt)).2.2.2 i + added m c t i := by
  rw [outsAt0_B m c t h]
  dsimp only
  frame_out
  generalize (outsAt0 m c (t.val - 1) (Nat.lt_of_le_of_lt (Nat.sub_le _ _) t.isLt)).2.2.2 = X
  obtain ⟨k, q, rfl⟩ : ∃ (k : Fin 8) (q : Fin 1024), i = ValueIdx.ix2 k q := ⟨i 0, i 1, ValueIdx.eq_ix2 i⟩
  rw [writes_row, writes_row, writes_row, writes_row, View.writes_nil, Memref.IsWhole.read_unread]
  unfold added
  show _ = X (ValueIdx.ix2 k q) + (if k.val = 3 then _ else if k.val = 2 then _ else if k.val = 1 then _ else if k.val = 0 then _ else 0)
  split_ifs with h3 h2 h1 h0
  · rw [row_fourth, ld_row _ _ k q h3]
    rfl
  · rw [row_third, ld_row _ _ k q h2]
    rfl
  · rw [row_second, ld_row _ _ k q h1]
    rfl
  · rw [row_first, ld_row _ _ k q h0]
    rfl
  · rw [add_zero]

theorem total0 (q : Fin 1024) : ∑ t, share0 m c t (ValueIdx.ix2 0 q) = (val_main_v82 (F := Ideal) (m ((c : Thread nD τ).loc main_arg0)) (m ((c : Thread nD τ).loc main_arg1)) (m ((c : Thread nD τ).loc main_arg2)) (m ((c : Thread nD τ).loc main_arg7))) (ValueIdx.ix2 0 q) := by
  have e : ∀ t, share0 m c t (ValueIdx.ix2 0 q) = multiReduction (F := Ideal) .add [0] ⟨1, ![1024]⟩ (mulf (F := Ideal) (φ := .f32) (concatenate ⟨2, ![512, 1024]⟩ 1 [⟨⟨2, ![512, 512]⟩, k0_pay16 (F := Ideal) (iblk m c 1 t) (iblk m c 2 t)⟩, ⟨⟨2, ![512, 512]⟩, mulf (F := Ideal) (φ := .f32) (k0_pay17 (F := Ideal) (iblk m c 1 t) (iblk m c 2 t)) (broadcastTo ⟨2, ![512, 512]⟩ (k0_pay20 (F := Ideal) (k0_pay18 (F := Ideal) (iblk m c 1 t) (iblk m c 2 t)) (Scalar.ofBits (F := Ideal) .f32 0x358637BD#32)) (by decide))⟩] concatenates_S512x512_S512x512_S512x1024_d1) (k0_pay6 (F := Ideal) (iblk m c 0 t) (iblk m c 7 t))) 0x00000000#32 reduces_S512x1024_S1024 (.inl rfl) rfl (ValueIdx.ix1 q) := fun t => rowVec_apply (A := multiReduction (F := Ideal) .add [0] ⟨1, ![1024]⟩ (mulf (F := Ideal) (φ := .f32) (concatenate ⟨2, ![512, 1024]⟩ 1 [⟨⟨2, ![512, 512]⟩, k0_pay16 (F := Ideal) (iblk m c 1 t) (iblk m c 2 t)⟩, ⟨⟨2, ![512, 512]⟩, mulf (F := Ideal) (φ := .f32) (k0_pay17 (F := Ideal) (iblk m c 1 t) (iblk m c 2 t)) (broadcastTo ⟨2, ![512, 512]⟩ (k0_pay20 (F := Ideal) (k0_pay18 (F := Ideal) (iblk m c 1 t) (iblk m c 2 t)) (Scalar.ofBits (F := Ideal) .f32 0x358637BD#32)) (by decide))⟩] concatenates_S512x512_S512x512_S512x1024_d1) (k0_pay6 (F := Ideal) (iblk m c 0 t) (iblk m c 7 t))) 0x00000000#32 reduces_S512x1024_S1024 (.inl rfl) rfl) q
  refine (Finset.sum_congr rfl fun t _ => e t).trans (Eq.trans ?_ (show (val_main_v82 (F := Ideal) (m ((c : Thread nD τ).loc main_arg0)) (m ((c : Thread nD τ).loc main_arg1)) (m ((c : Thread nD τ).loc main_arg2)) (m ((c : Thread nD τ).loc main_arg7))) (ValueIdx.ix2 0 q) = (val_main_v81 (F := Ideal) (m ((c : Thread nD τ).loc main_arg0)) (m ((c : Thread nD τ).loc main_arg1)) (m ((c : Thread nD τ).loc main_arg2)) (m ((c : Thread nD τ).loc main_arg7))) (ValueIdx.ix1 q) from rowVec_apply (A := (val_main_v81 (F := Ideal) (m ((c : Thread nD τ).loc main_arg0)) (m ((c : Thread nD τ).loc main_arg1)) (m ((c : Thread nD τ).loc main_arg2)) (m ((c : Thread nD τ).loc main_arg7)))) q).symm)
  exact colSum_tiles (T := 8) rfl inside (fun t => gs_rows (rows0 m c t) (rows1 m c t) (rows2 m c t) (whole7 m c t)) _ (by decide) q

theorem total1 (q : Fin 1024) : ∑ t, share1 m c t (ValueIdx.ix2 0 q) = (val_main_v55 (F := Ideal) (m ((c : Thread nD τ).loc main_arg0)) (m ((c : Thread nD τ).loc main_arg3)) (m ((c : Thread nD τ).loc main_arg5)) (m ((c : Thread nD τ).loc main_arg6)) (m ((c : Thread nD τ).loc main_arg7))) (ValueIdx.ix2 0 q) := by
  have e : ∀ t, share1 m c t (ValueIdx.ix2 0 q) = multiReduction (F := Ideal) .add [0] ⟨1, ![1024]⟩ (mulf (F := Ideal) (φ := .f32) (k0_pay32 (F := Ideal) (iblk m c 3 t)) (k0_pay33 (F := Ideal) (k0_pay7 (F := Ideal) (iblk m c 0 t) (iblk m c 7 t)) (iblk m c 3 t) (iblk m c 5 t) (iblk m c 6 t))) 0x00000000#32 reduces_S512x1024_S1024 (.inl rfl) rfl (ValueIdx.ix1 q) := fun t => rowVec_apply (A := multiReduction (F := Ideal) .add [0] ⟨1, ![1024]⟩ (mulf (F := Ideal) (φ := .f32) (k0_pay32 (F := Ideal) (iblk m c 3 t)) (k0_pay33 (F := Ideal) (k0_pay7 (F := Ideal) (iblk m c 0 t) (iblk m c 7 t)) (iblk m c 3 t) (iblk m c 5 t) (iblk m c 6 t))) 0x00000000#32 reduces_S512x1024_S1024 (.inl rfl) rfl) q
  refine (Finset.sum_congr rfl fun t _ => e t).trans (Eq.trans ?_ (show (val_main_v55 (F := Ideal) (m ((c : Thread nD τ).loc main_arg0)) (m ((c : Thread nD τ).loc main_arg3)) (m ((c : Thread nD τ).loc main_arg5)) (m ((c : Thread nD τ).loc main_arg6)) (m ((c : Thread nD τ).loc main_arg7))) (ValueIdx.ix2 0 q) = (val_main_v54 (F := Ideal) (m ((c : Thread nD τ).loc main_arg0)) (m ((c : Thread nD τ).loc main_arg3)) (m ((c : Thread nD τ).loc main_arg5)) (m ((c : Thread nD τ).loc main_arg6)) (m ((c : Thread nD τ).loc main_arg7))) (ValueIdx.ix1 q) from rowVec_apply (A := (val_main_v54 (F := Ideal) (m ((c : Thread nD τ).loc main_arg0)) (m ((c : Thread nD τ).loc main_arg3)) (m ((c : Thread nD τ).loc main_arg5)) (m ((c : Thread nD τ).loc main_arg6)) (m ((c : Thread nD τ).loc main_arg7)))) q).symm)
  exact colSum_tiles (T := 8) rfl inside (fun t => gate_back_normed (rows0 m c t) (rows3 m c t) (whole5 m c t) (whole6 m c t) (whole7 m c t)) _ (by decide) q

theorem total2 (q : Fin 1024) : ∑ t, share2 m c t (ValueIdx.ix2 0 q) = (val_main_v52 (F := Ideal) (m ((c : Thread nD τ).loc main_arg0)) (m ((c : Thread nD τ).loc main_arg3)) (m ((c : Thread nD τ).loc main_arg5)) (m ((c : Thread nD τ).loc main_arg6)) (m ((c : Thread nD τ).loc main_arg7))) (ValueIdx.ix2 0 q) := by
  have e : ∀ t, share2 m c t (ValueIdx.ix2 0 q) = multiReduction (F := Ideal) .add [0] ⟨1, ![1024]⟩ (k0_pay33 (F := Ideal) (k0_pay7 (F := Ideal) (iblk m c 0 t) (iblk m c 7 t)) (iblk m c 3 t) (iblk m c 5 t) (iblk m c 6 t)) 0x00000000#32 reduces_S512x1024_S1024 (.inl rfl) rfl (ValueIdx.ix1 q) := fun t => rowVec_apply (A := multiReduction (F := Ideal) .add [0] ⟨1, ![1024]⟩ (k0_pay33 (F := Ideal) (k0_pay7 (F := Ideal) (iblk m c 0 t) (iblk m c 7 t)) (iblk m c 3 t) (iblk m c 5 t) (iblk m c 6 t)) 0x00000000#32 reduces_S512x1024_S1024 (.inl rfl) rfl) q
  refine (Finset.sum_congr rfl fun t _ => e t).trans (Eq.trans ?_ (show (val_main_v52 (F := Ideal) (m ((c : Thread nD τ).loc main_arg0)) (m ((c : Thread nD τ).loc main_arg3)) (m ((c : Thread nD τ).loc main_arg5)) (m ((c : Thread nD τ).loc main_arg6)) (m ((c : Thread nD τ).loc main_arg7))) (ValueIdx.ix2 0 q) = (val_main_v51 (F := Ideal) (m ((c : Thread nD τ).loc main_arg0)) (m ((c : Thread nD τ).loc main_arg3)) (m ((c : Thread nD τ).loc main_arg5)) (m ((c : Thread nD τ).loc main_arg6)) (m ((c : Thread nD τ).loc main_arg7))) (ValueIdx.ix1 q) from rowVec_apply (A := (val_main_v51 (F := Ideal) (m ((c : Thread nD τ).loc main_arg0)) (m ((c : Thread nD τ).loc main_arg3)) (m ((c : Thread nD τ).loc main_arg5)) (m ((c : Thread nD τ).loc main_arg6)) (m ((c : Thread nD τ).loc main_arg7)))) q).symm)
  exact colSum_tiles (T := 8) rfl inside (fun t => gate_back (rows0 m c t) (rows3 m c t) (whole5 m c t) (whole6 m c t) (whole7 m c t)) _ (by decide) q

theorem total3 (q : Fin 1024) : ∑ t, share3 m c t (ValueIdx.ix2 0 q) = (val_main_v105 (F := Ideal) (m ((c : Thread nD τ).loc main_arg0)) (m ((c : Thread nD τ).loc main_arg3)) (m ((c : Thread nD τ).loc main_arg5)) (m ((c : Thread nD τ).loc main_arg6)) (m ((c : Thread nD τ).loc main_arg7))) (ValueIdx.ix2 0 q) := by
  have e : ∀ t, share3 m c t (ValueIdx.ix2 0 q) = multiReduction (F := Ideal) .add [0] ⟨1, ![1024]⟩ (k0_pay37 (F := Ideal) (iblk m c 5 t) (k0_pay28 (iblk m c 3 t)) (k0_pay30 (iblk m c 3 t)) (k0_pay31 (iblk m c 3 t)) (k0_pay33 (k0_pay7 (iblk m c 0 t) (iblk m c 7 t)) (iblk m c 3 t) (iblk m c 5 t) (iblk m c 6 t))) 0x00000000#32 reduces_S512x1024_S1024 (.inl rfl) rfl (ValueIdx.ix1 q) := fun t => rowVec_apply (A := multiReduction (F := Ideal) .add [0] ⟨1, ![1024]⟩ (k0_pay37 (F := Ideal) (iblk m c 5 t) (k0_pay28 (iblk m c 3 t)) (k0_pay30 (iblk m c 3 t)) (k0_pay31 (iblk m c 3 t)) (k0_pay33 (k0_pay7 (iblk m c 0 t) (iblk m c 7 t)) (iblk m c 3 t) (iblk m c 5 t) (iblk m c 6 t))) 0x00000000#32 reduces_S512x1024_S1024 (.inl rfl) rfl) q
  refine (Finset.sum_congr rfl fun t _ => e t).trans (Eq.trans ?_ (show (val_main_v105 (F := Ideal) (m ((c : Thread nD τ).loc main_arg0)) (m ((c : Thread nD τ).loc main_arg3)) (m ((c : Thread nD τ).loc main_arg5)) (m ((c : Thread nD τ).loc main_arg6)) (m ((c : Thread nD τ).loc main_arg7))) (ValueIdx.ix2 0 q) = (val_main_v104 (F := Ideal) (m ((c : Thread nD τ).loc main_arg0)) (m ((c : Thread nD τ).loc main_arg3)) (m ((c : Thread nD τ).loc main_arg5)) (m ((c : Thread nD τ).loc main_arg6)) (m ((c : Thread nD τ).loc main_arg7))) (ValueIdx.ix1 q) from rowVecB_apply (by decide) q).symm)
  exact colSum_tiles (T := 8) rfl inside (fun t => dv (rows0 m c t) (rows3 m c t) (whole5 m c t) (whole6 m c t) (whole7 m c t)) _ (by decide) q

theorem final11 : (dats m 0 c).arrAt 11 (cfgs 0).N = (val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))) := by
  refine (dats m 0 c).arrAt_eq_of_after_last 11 t0_7 (by decide +kernel) _ fun j => ?_
  blk_simp
  rw [after0_11, Pipeline.eq_sum_fin_of_reset_step_apply_last (fun n h => (outsAt0 m c n h).2.2.2) 8 (fun _ => 0) (added m c)
    (acc_first m c) (acc_next m c) (le_of_eq N_0) t0_7 rfl j, zero_add]
  obtain ⟨k, q, rfl⟩ : ∃ (k : Fin 8) (q : Fin 1024), j = ValueIdx.ix2 k q := ⟨j 0, j 1, ValueIdx.eq_ix2 j⟩
  unfold val_main_v108
  have sums : ∀ f : Fin cfg0.N → EReal, (∀ t, added m c t (ValueIdx.ix2 k q) = f t) → ∑ t, added m c t (ValueIdx.ix2 k q) = ∑ t, f t :=
    fun f e => Finset.sum_congr rfl fun t _ => e t
  have cases : k.val = 0 ∨ k.val = 1 ∨ k.val = 2 ∨ k.val = 3 ∨ 4 ≤ k.val := by omega
  rcases cases with h | h | h | h | h
  · refine (sums (fun t => share0 m c t (ValueIdx.ix2 0 q)) fun t => ?_).trans ((total0 m c q).trans ?_)
    · exact (if_neg (by show ¬k.val = _; omega)).trans ((if_neg (by show ¬k.val = _; omega)).trans ((if_neg (by show ¬k.val = _; omega)).trans ((if_pos h))))
    · exact Eq.symm (concat_row _ _ k q 0 (by show (0 : Nat) < 5; decide) _ rfl 0 rfl 0 (show 0 + 0 = k.val by omega))
  · refine (sums (fun t => share1 m c t (ValueIdx.ix2 0 q)) fun t => ?_).trans ((total1 m c q).trans ?_)
    · exact (if_neg (by show ¬k.val = _; omega)).trans ((if_neg (by show ¬k.val = _; omega)).trans ((if_pos h)))
    · exact Eq.symm (concat_row _ _ k q 1 (by show (1 : Nat) < 5; decide) _ rfl 1 rfl 0 (show 1 + 0 = k.val by omega))
  · refine (sums (fun t => share2 m c t (ValueIdx.ix2 0 q)) fun t => ?_).trans ((total2 m c q).trans ?_)
    · exact (if_neg (by show ¬k.val = _; omega)).trans ((if_pos h))
    · exact Eq.symm (concat_row _ _ k q 2 (by show (2 : Nat) < 5; decide) _ rfl 2 rfl 0 (show 2 + 0 = k.val by omega))
  · refine (sums (fun t => share3 m c t (ValueIdx.ix2 0 q)) fun t => ?_).trans ((total3 m c q).trans ?_)
    · exact (if_pos h)
    · exact Eq.symm (concat_row _ _ k q 3 (by show (3 : Nat) < 5; decide) _ rfl 3 rfl 0 (show 3 + 0 = k.val by omega))
  · refine (sums (fun _ => 0) fun t => ?_).trans (Finset.sum_const_zero.trans ?_)
    · exact (if_neg (by show ¬k.val = _; omega)).trans ((if_neg (by show ¬k.val = _; omega)).trans ((if_neg (by show ¬k.val = _; omega)).trans (if_neg (by show ¬k.val = _; omega))))
    · refine Eq.trans ?_ (Eq.symm (concat_row _ _ k q 4 (by show (4 : Nat) < 5; decide) (val_main_v107 (F := Ideal)) rfl 4 rfl ⟨k.val - 4, by omega⟩ (show 4 + (k.val - 4) = k.val by omega)))
      exact Ideal.ofBits_zero_f32.symm

end Cert.OutProj
-- ==== Proof.OutClaim.lean ====
/-
  THE BACKWARD PASS OF THE OUTPUT PROJECTION: the value claim, from what the blocks of the results hold at the end (OutTiles,
  OutSums).
-/
module

public import proofs.«01_k».proof.Defs
public import proofs.«01_k».proof.Proof.OutSums
public import proofs.«01_k».proof.Proof.Gen.ReferenceIdeal.Run
public import proofs.«01_k».proof.Proof.Gen.ReferenceIdeal.Read

@[expose] public section

noncomputable section

open Idealize.ShloMosaic Idealize.ShloMosaic.TcCoe Idealize.SL.Sem

namespace Cert.OutProj

set_option maxHeartbeats 1000000 in
/-- From memories that agree on the arguments, the kernel and the reference run and end with equal results. -/
theorem value : @Cert.algebraic_KernelIdeal_ReferenceIdeal Cert.KernelIdeal.Gen.facts Cert.ReferenceIdeal.Gen.facts := by
  intro m g m' g' _ hagree
  refine ⟨_, _, _, _, Cert.KernelIdeal.Value.run_blocks m g, ?_⟩
  refine (θ_run Cert.ReferenceIdeal.defs _ _).mono (fun _ h c => ⟨(h c).1.trans ?_, (h c).2.1.trans ?_, (h c).2.2.1.trans ?_, (h c).2.2.2.1.trans ?_, (h c).2.2.2.2⟩)
    (Cert.ReferenceIdeal.Value.run (F := Ideal) m' g')
  · obtain ⟨a0, a1, a2, _, a4, _, _, a7⟩ := hagree c
    rw [Cert.ReferenceIdeal.Read.val_main_v102_eq m' c, a0, a1, a2, a4, a7]
    exact (final8 m c).symm
  · obtain ⟨a0, a1, a2, _, a4, _, _, a7⟩ := hagree c
    rw [Cert.ReferenceIdeal.Read.val_main_v106_eq m' c, a0, a1, a2, a4, a7]
    exact (final9 m c).symm
  · obtain ⟨a0, _, _, a3, _, a5, a6, a7⟩ := hagree c
    rw [Cert.ReferenceIdeal.Read.val_main_v79_eq m' c, a0, a3, a5, a6, a7]
    exact (final10 m c).symm
  · obtain ⟨a0, a1, a2, a3, _, a5, a6, a7⟩ := hagree c
    rw [Cert.ReferenceIdeal.Read.val_main_v108_eq m' c, a0, a1, a2, a3, a5, a6, a7]
    exact (final11 m c).symm

end Cert.OutProj

end
-- ==== Proof.Products.lean ====
/-
  PRODUCTS WITH A TRANSPOSED LEFT FACTOR. A weight's gradient is the product of the transposed activations with the
  gradient of the layer's result: both factors have one row for each token, and the sum runs over the tokens. The kernels
  compute one tile of it at a time from a block of columns of one factor (`col2`); the host computes it whole, as the
  transpose of the product the other way round (`tn_transposed`), as the transpose of that transpose (`tn_plain`), or cut
  into blocks of columns (`tn_blocks`).
-/
module

public import proofs.«01_k».proof.Proof.AccRows

@[expose] public section

set_option maxRecDepth 16384

noncomputable section

namespace Cert.Rows

open Idealize.ShloMosaic Idealize.ShloMosaic.ValueIdx
open scoped BigOperators

section Tn
variable {K M N n G o : Nat}

/-- Element `i` of a block of columns that starts at column `o`. -/
abbrev col2 (o : Nat) (h : o + n ≤ N) (i : (⟨2, ![K, n]⟩ : Shape).Idx) : (⟨2, ![K, N]⟩ : Shape).Idx :=
  ix2 (i 0) ⟨o + (i 1).val, by have : (i 1).val < n := (i 1).isLt; omega⟩

/-- Element `i` of the `g`-th matrix of a stack. -/
abbrev layer (g : Fin G) (i : (⟨3, ![1, M, N]⟩ : Shape).Idx) : (⟨3, ![G, M, N]⟩ : Shape).Idx := ix3 g (i 1) (i 2)

/-- The contraction of the rows of both factors. -/
abbrev tn (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

variable (wf : DotDims.WF ⟨2, ![K, M]⟩ ⟨2, ![K, N]⟩ ⟨2, ![M, N]⟩ [0] [0] [1] [1] [] [])

/-- Its one summed coordinate. -/
abbrev tnContr : (tn wf).contr.Idx ≃ Fin K := contrEquiv1 (tn wf) K rfl rfl

theorem tn_lhs (r : Fin M) (c : Fin N) (k : Fin K) : (tn wf).lhsIdx (ix2 r c) ((tnContr wf).symm k) = ix2 k r :=
  funext fun a => Fin.ext (by
    match a with
    | ⟨0, _⟩ => exact contrEquiv1_symm_val (tn wf) K rfl rfl k
    | ⟨1, _⟩ => rfl)

theorem tn_rhs (r : Fin M) (c : Fin N) (k : Fin K) : (tn wf).rhsIdx (ix2 r c) ((tnContr wf).symm k) = ix2 k c :=
  funext fun a => Fin.ext (by
    match a with
    | ⟨0, _⟩ => exact contrEquiv1_symm_val (tn wf) K rfl rfl k
    | ⟨1, _⟩ => rfl)

/-- An element of the kernel's product into zeros. -/
theorem tn_matmul {φ₁ φ₂ : FTy} {A : FVec Ideal ⟨2, ![K, M]⟩ φ₁} {B : FVec Ideal ⟨2, ![K, N]⟩ φ₂} (r : Fin M) (c : Fin N) :
    matmul (tn wf) none A B (constant ⟨2, ![M, N]⟩ .f32 0x00000000#32) (ix2 r c) = ∑ k : Fin K, A (ix2 k r) * B (ix2 k c) := by
  show FloatOps.matmul _ _ _ _ _ _ = _
  rw [Ideal.matmul_apply, ← Equiv.sum_comp (tnContr wf).symm]
  show Ideal.ofBits .f32 0x00000000#32 + _ = _
  rw [Ideal.ofBits_zero_f32, zero_add]
  exact Finset.sum_congr rfl fun k _ => by rw [tn_lhs, tn_rhs]

/-- An element of the host's product. -/
theorem tn_dot {φ₁ φ₂ : FTy} {A : FVec Ideal ⟨2, ![K, M]⟩ φ₁} {B : FVec Ideal ⟨2, ![K, N]⟩ φ₂} (r : Fin M) (c : Fin N) :
    Host.dotGeneral (tn wf) none A B (ix2 r c) = ∑ k : Fin K, A (ix2 k r) * B (ix2 k c) := by
  show FloatOps.dotGeneral _ _ _ _ _ _ = _
  rw [Ideal.dotGeneral_apply, ← Equiv.sum_comp (tnContr wf).symm]
  exact Finset.sum_congr rfl fun k _ => by rw [tn_lhs, tn_rhs]

end Tn

section Tiles
variable {K M N n G o : Nat} {h : o + n ≤ M}

/-- The two axes exchanged, read at an element. -/
theorem swap_apply {α : Type} {R C : Nat} {A : (⟨2, ![R, C]⟩ : Shape).Idx → α} {hk : (⟨2, ![R, C]⟩ : Shape).Transposes [1, 0] ⟨2, ![C, R]⟩}
    (r : Fin R) (c : Fin C) : transpose ⟨2, ![C, R]⟩ [1, 0] A hk (ix2 c r) = A (ix2 r c) :=
  transpose_apply _ _ _ _ _ (fun a => match a with
    | ⟨0, _⟩ => rfl
    | ⟨1, _⟩ => rfl)

/-- A tile of rows of the transpose of the product the other way round. -/
theorem tn_transposed {φ₁ φ₂ ψ₁ ψ₂ : FTy} {A : FVec Ideal ⟨2, ![K, n]⟩ φ₁} {X : FVec Ideal ⟨2, ![K, M]⟩ ψ₁} (r : Along (col2 o h) A X)
    {B : FVec Ideal ⟨2, ![K, N]⟩ φ₂} {Y : FVec Ideal ⟨2, ![K, N]⟩ ψ₂} (e : (B : _ → EReal) = Y)
    (wf : DotDims.WF ⟨2, ![K, n]⟩ ⟨2, ![K, N]⟩ ⟨2, ![n, N]⟩ [0] [0] [1] [1] [] [])
    (wf' : DotDims.WF ⟨2, ![K, N]⟩ ⟨2, ![K, M]⟩ ⟨2, ![N, M]⟩ [0] [0] [1] [1] [] [])
    {hk : (⟨2, ![N, M]⟩ : Shape).Transposes [1, 0] ⟨2, ![M, N]⟩} :
    Along (row2 o h) (matmul (tn wf) none A B (constant ⟨2, ![n, N]⟩ .f32 0x00000000#32))
      (transpose ⟨2, ![M, N]⟩ [1, 0] (Host.dotGeneral (tn wf') none Y X) hk) := fun i => by
  obtain ⟨p, q, rfl⟩ : ∃ (p : Fin n) (q : Fin N), i = ix2 p q := ⟨i 0, i 1, eq_ix2 i⟩
  rw [tn_matmul]
  refine Eq.trans ?_ (swap_apply q (⟨o + p.val, by have := p.isLt; omega⟩ : Fin M)).symm
  rw [tn_dot]
  exact Finset.sum_congr rfl fun k _ => (mul_comm _ _).trans (congrArg₂ (· * ·) (congrFun e (ix2 k q)) (r (ix2 k p)))

/-- A tile of rows of the product transposed twice. -/
theorem tn_plain {φ₁ φ₂ ψ₁ ψ₂ : FTy} {A : FVec Ideal ⟨2, ![K, n]⟩ φ₁} {X : FVec Ideal ⟨2, ![K, M]⟩ ψ₁} (r : Along (col2 o h) A X)
    {B : FVec Ideal ⟨2, ![K, N]⟩ φ₂} {Y : FVec Ideal ⟨2, ![K, N]⟩ ψ₂} (e : (B : _ → EReal) = Y)
    (wf : DotDims.WF ⟨2, ![K, n]⟩ ⟨2, ![K, N]⟩ ⟨2, ![n, N]⟩ [0] [0] [1] [1] [] [])
    (wf' : DotDims.WF ⟨2, ![K, M]⟩ ⟨2, ![K, N]⟩ ⟨2, ![M, N]⟩ [0] [0] [1] [1] [] [])
    {hk : (⟨2, ![M, N]⟩ : Shape).Transposes [1, 0] ⟨2, ![N, M]⟩} {hk' : (⟨2, ![N, M]⟩ : Shape).Transposes [1, 0] ⟨2, ![M, N]⟩} :
    Along (row2 o h) (matmul (tn wf) none A B (constant ⟨2, ![n, N]⟩ .f32 0x00000000#32))
      (transpose ⟨2, ![M, N]⟩ [1, 0] (transpose ⟨2, ![N, M]⟩ [1, 0] (Host.dotGeneral (tn wf') none X Y) hk) hk') := fun i => by
  obtain ⟨p, q, rfl⟩ : ∃ (p : Fin n) (q : Fin N), i = ix2 p q := ⟨i 0, i 1, eq_ix2 i⟩
  rw [tn_matmul]
  refine Eq.trans ?_ (swap_apply q (⟨o + p.val, by have := p.isLt; omega⟩ : Fin M)).symm
  rw [swap_apply, tn_dot]
  exact Finset.sum_congr rfl fun k _ => congrArg₂ (· * ·) (r (ix2 k p)) (congrFun e (ix2 k q))

/-- A block of columns of the transpose of the product the other way round, as one matrix of the stack of blocks. -/
theorem tn_blocks {φ₁ φ₂ ψ₁ ψ₂ : FTy} {g : Fin G} {hg : n * g.val + n ≤ M} {A : FVec Ideal ⟨2, ![K, N]⟩ φ₁} {X : FVec Ideal ⟨2, ![K, N]⟩ ψ₁}
    (e : (A : _ → EReal) = X) {B : FVec Ideal ⟨2, ![K, n]⟩ φ₂} {Y : FVec Ideal ⟨2, ![K, M]⟩ ψ₂} (r : Along (col2 (n * g.val) hg) B Y)
    (wf : DotDims.WF ⟨2, ![K, N]⟩ ⟨2, ![K, n]⟩ ⟨2, ![N, n]⟩ [0] [0] [1] [1] [] [])
    (wf' : DotDims.WF ⟨2, ![K, M]⟩ ⟨2, ![K, N]⟩ ⟨2, ![M, N]⟩ [0] [0] [1] [1] [] []) (hM : M = G * n)
    {hs : (⟨2, ![N, n]⟩ : Shape).ShapeCasts ⟨3, ![1, N, n]⟩}
    {hk : (⟨2, ![M, N]⟩ : Shape).Transposes [1, 0] ⟨2, ![N, M]⟩} {hr : (⟨2, ![N, M]⟩ : Shape).ShapeCasts ⟨3, ![N, G, n]⟩}
    {ht : (⟨3, ![N, G, n]⟩ : Shape).Transposes [1, 0, 2] ⟨3, ![G, N, n]⟩} :
    Along (layer g) (shapeCast ⟨3, ![1, N, n]⟩ (matmul (tn wf) none A B (constant ⟨2, ![N, n]⟩ .f32 0x00000000#32)) hs)
      (transpose ⟨3, ![G, N, n]⟩ [1, 0, 2]
        (shapeCast ⟨3, ![N, G, n]⟩ (transpose ⟨2, ![N, M]⟩ [1, 0] (Host.dotGeneral (tn wf') none Y X) hk) hr) ht) := fun i => by
  obtain ⟨z, p, q, rfl⟩ : ∃ (z : Fin 1) (p : Fin N) (q : Fin n), i = ix3 z p q := ⟨i 0, i 1, i 2, eq_ix3 i⟩
  have hq := q.isLt
  refine (shapeCast_apply _ _ _ (ix2 p q) ?_).trans ?_
  · rw [Shape.rowMajor_val_two, Shape.rowMajor_val_three]
    show p.val * n + q.val = (z.val * N + p.val) * n + q.val
    have : z.val = 0 := by have := z.isLt; omega
    rw [this, Nat.zero_mul, Nat.zero_add]
  refine Eq.trans ?_ (transpose_apply _ _ _ _ (ix3 p g q) (fun a => match a with
    | ⟨0, _⟩ => rfl
    | ⟨1, _⟩ => rfl
    | ⟨2, _⟩ => rfl)).symm
  refine Eq.trans ?_ (shapeCast_apply _ _ _ (ix2 p ⟨n * g.val + q.val, by omega⟩) ?_).symm
  · rw [swap_apply, tn_dot, tn_matmul]
    exact Finset.sum_congr rfl fun k _ => (mul_comm _ _).trans (congrArg₂ (· * ·) (r (ix2 k q)) (congrFun e (ix2 k p)))
  · rw [Shape.rowMajor_val_two, Shape.rowMajor_val_three]
    show p.val * M + (n * g.val + q.val) = (p.val * G + g.val) * n + q.val
    subst hM
    ring

end Tiles

end Cert.Rows

end
-- ==== Proof.Blocks.lean ====
/-
  PRODUCTS BY BLOCKS. A tile of the product with a transposed matrix from a tile of rows of either factor (`nt_tile`),
  and such a product as the sum over blocks of columns of both factors of the blocks' products (`nt_sum`). A stack of
  matrices is the blocks of columns of one matrix (`stack_cols`).
-/
module

public import proofs.«01_k».proof.Proof.Products

@[expose] public section

set_option maxRecDepth 16384

noncomputable section

namespace Cert.Rows

open Idealize.ShloMosaic Idealize.ShloMosaic.ValueIdx
open scoped BigOperators

/-- Element `i` of a tile that starts at row `o` and column `q`. -/
abbrev tile2 {n N m M : Nat} (o : Nat) (h : o + n ≤ N) (q : Nat) (hq : q + m ≤ M) (i : (⟨2, ![n, m]⟩ : Shape).Idx) :
    (⟨2, ![N, M]⟩ : Shape).Idx :=
  ix2 ⟨o + (i 0).val, by have : (i 0).val < n := (i 0).isLt; omega⟩ ⟨q + (i 1).val, by have : (i 1).val < m := (i 1).isLt; omega⟩

section Nt
variable {N M K n m o q : Nat} {h : o + n ≤ N} {hq : q + m ≤ M}

/-- An element of the kernel's product with a transposed matrix, into zeros. -/
theorem nt_matmul {φ₁ φ₂ : FTy} {A : FVec Ideal ⟨2, ![n, K]⟩ φ₁} {B : FVec Ideal ⟨2, ![m, K]⟩ φ₂} (r : Fin n) (c : Fin m) :
    matmul (DotDims.transposedRhs n K m) none A B (constant ⟨2, ![n, m]⟩ .f32 0x00000000#32) (ix2 r c)
      = ∑ k : Fin K, A (ix2 r k) * B (ix2 c k) := by
  show FloatOps.matmul _ _ _ _ _ _ = _
  rw [Ideal.matmul_transposedRhs_apply]
  show Ideal.ofBits .f32 0x00000000#32 + _ = _
  rw [Ideal.ofBits_zero_f32, zero_add]

/-- An element of the host's. -/
theorem nt_dot {φ₁ φ₂ : FTy} {A : FVec Ideal ⟨2, ![n, K]⟩ φ₁} {B : FVec Ideal ⟨2, ![m, K]⟩ φ₂} (r : Fin n) (c : Fin m) :
    Host.dotGeneral (DotDims.transposedRhs n K m) none A B (ix2 r c) = ∑ k : Fin K, A (ix2 r k) * B (ix2 c k) := by
  show FloatOps.dotGeneral _ _ _ _ _ _ = _
  rw [Ideal.dotGeneral_apply, ← Equiv.sum_comp (DotDims.transposedRhsContr n K m).symm]
  refine Finset.sum_congr rfl fun k _ => congrArg₂ (fun p q : EReal => p * q) (congrArg A (funext fun a => Fin.ext ?_))
    (congrArg B (funext fun a => Fin.ext ?_))
  · match a with
    | ⟨0, _⟩ => rfl
    | ⟨1, _⟩ => exact contrEquiv1_symm_val _ K (DotDims.transposedRhs_contr_rank n K m) (DotDims.transposedRhs_contr_size n K m) k
  · match a with
    | ⟨0, _⟩ => rfl
    | ⟨1, _⟩ => exact contrEquiv1_symm_val _ K (DotDims.transposedRhs_contr_rank n K m) (DotDims.transposedRhs_contr_size n K m) k

/-- A tile of the product, from rows of the left factor and rows of the right one. -/
theorem nt_tile {φ₁ φ₂ ψ₁ ψ₂ : FTy} {A : FVec Ideal ⟨2, ![n, K]⟩ φ₁} {X : FVec Ideal ⟨2, ![N, K]⟩ ψ₁} (r : Along (row2 o h) A X)
    {B : FVec Ideal ⟨2, ![m, K]⟩ φ₂} {Y : FVec Ideal ⟨2, ![M, K]⟩ ψ₂} (s : Along (row2 q hq) B Y)
    (d : DotDims ⟨2, ![n, K]⟩ ⟨2, ![m, K]⟩ ⟨2, ![n, m]⟩) (hd : d = DotDims.transposedRhs n K m := by rfl)
    {d' : DotDims ⟨2, ![N, K]⟩ ⟨2, ![M, K]⟩ ⟨2, ![N, M]⟩} (hd' : d' = DotDims.transposedRhs N K M := by rfl) :
    Along (tile2 o h q hq) (matmul d none A B (constant ⟨2, ![n, m]⟩ .f32 0x00000000#32)) (Host.dotGeneral d' none X Y) := fun i => by
  subst hd hd'
  obtain ⟨a, b, rfl⟩ : ∃ (a : Fin n) (b : Fin m), i = ix2 a b := ⟨i 0, i 1, eq_ix2 i⟩
  rw [nt_matmul, nt_dot]
  exact Finset.sum_congr rfl fun k _ => congrArg₂ (· * ·) (r (ix2 a k)) (s (ix2 b k))

end Nt

section Blocked
variable {N C n o w G : Nat} {h : o + n ≤ N}

/-- A tile of rows of the product whose summed axis is cut into blocks: the sum of the blocks' products. -/
theorem nt_sum {M : Nat} (hM : M = G * w) {φ₁ φ₂ ψ₁ ψ₂ : FTy} (hb : ∀ g : Fin G, w * g.val + w ≤ M)
    {A : Fin G → FVec Ideal ⟨2, ![n, w]⟩ φ₁} {X : FVec Ideal ⟨2, ![N, M]⟩ ψ₁}
    (r : ∀ g, Along (tile2 o h (w * g.val) (hb g)) (A g) X)
    {B : Fin G → FVec Ideal ⟨2, ![C, w]⟩ φ₂} {Y : FVec Ideal ⟨2, ![C, M]⟩ ψ₂} (s : ∀ g, Along (col2 (w * g.val) (hb g)) (B g) Y)
    (d : DotDims ⟨2, ![n, w]⟩ ⟨2, ![C, w]⟩ ⟨2, ![n, C]⟩) (hd : d = DotDims.transposedRhs n w C := by rfl)
    {d' : DotDims ⟨2, ![N, M]⟩ ⟨2, ![C, M]⟩ ⟨2, ![N, C]⟩} (hd' : d' = DotDims.transposedRhs N M C := by rfl)
    (i : (⟨2, ![n, C]⟩ : Shape).Idx) :
    (∑ g : Fin G, matmul d none (A g) (B g) (constant (F := Ideal) ⟨2, ![n, C]⟩ .f32 0x00000000#32) i)
      = Host.dotGeneral d' none X Y (row2 o h i) := by
  subst hd hd' hM
  obtain ⟨a, b, rfl⟩ : ∃ (a : Fin n) (b : Fin C), i = ix2 a b := ⟨i 0, i 1, eq_ix2 i⟩
  have e : ∀ g : Fin G, matmul (DotDims.transposedRhs n w C) none (A g) (B g) (constant (F := Ideal) ⟨2, ![n, C]⟩ .f32 0x00000000#32) (ix2 a b)
      = ∑ k : Fin w, X (ix2 ⟨o + a.val, by have := a.isLt; omega⟩ ⟨w * g.val + k.val, by have := hb g; have := k.isLt; omega⟩)
          * Y (ix2 b ⟨w * g.val + k.val, by have := hb g; have := k.isLt; omega⟩) := fun g => by
    rw [nt_matmul]
    exact Finset.sum_congr rfl fun k _ => congrArg₂ (· * ·) (r g (ix2 a k)) (s g (ix2 b k))
  rw [Finset.sum_congr rfl fun g _ => e g]
  refine Eq.trans ?_ (nt_dot (A := X) (B := Y) (⟨o + a.val, by have := a.isLt; omega⟩ : Fin N) b).symm
  refine (Fintype.sum_prod_type' (fun (g : Fin G) (k : Fin w) => X (ix2 ⟨o + a.val, _⟩ ⟨w * g.val + k.val, _⟩) * Y (ix2 b ⟨w * g.val + k.val, _⟩))).symm.trans ?_
  refine Fintype.sum_equiv finProdFinEquiv _ _ fun p => ?_
  have hp : (⟨w * p.1.val + p.2.val, by have := hb p.1; have := p.2.isLt; omega⟩ : Fin (G * w)) = finProdFinEquiv p := Fin.ext (Nat.add_comm _ _)
  show X (ix2 _ ⟨w * p.1.val + p.2.val, _⟩) * Y (ix2 b ⟨w * p.1.val + p.2.val, _⟩) = _
  rw [hp]

/-- Matrix `g` of a stack is block `g` of the columns of the matrix the stack was cut from. -/
theorem stack_cols {g : Fin G} {M : Nat} (hM : M = G * w) (hb : w * g.val + w ≤ M)
    {A : (⟨3, ![1, C, w]⟩ : Shape).Idx → EReal} {W : (⟨3, ![G, C, w]⟩ : Shape).Idx → EReal} (r : Along (layer g) A W)
    {hs : (⟨3, ![1, C, w]⟩ : Shape).ShapeCasts ⟨2, ![C, w]⟩} {ht : (⟨3, ![G, C, w]⟩ : Shape).Transposes [1, 0, 2] ⟨3, ![C, G, w]⟩}
    {hr : (⟨3, ![C, G, w]⟩ : Shape).ShapeCasts ⟨2, ![C, M]⟩} :
    Along (col2 (w * g.val) hb) (shapeCast ⟨2, ![C, w]⟩ A hs) (shapeCast ⟨2, ![C, M]⟩ (transpose ⟨3, ![C, G, w]⟩ [1, 0, 2] W ht) hr) := fun i => by
  obtain ⟨p, q, rfl⟩ : ∃ (p : Fin C) (q : Fin w), i = ix2 p q := ⟨i 0, i 1, eq_ix2 i⟩
  refine (shapeCast_apply _ _ _ (ix3 0 p q) ?_).trans ?_
  · rw [Shape.rowMajor_val_two, Shape.rowMajor_val_three]
    show (0 * C + p.val) * w + q.val = p.val * w + q.val
    rw [Nat.zero_mul, Nat.zero_add]
  refine Eq.trans ?_ (shapeCast_apply _ _ _ (ix3 p g q) ?_).symm
  · refine (r _).trans ?_
    exact (transpose_apply _ _ _ _ (ix3 g p q) (fun a => match a with
      | ⟨0, _⟩ => rfl
      | ⟨1, _⟩ => rfl
      | ⟨2, _⟩ => rfl)).symm
  · rw [Shape.rowMajor_val_two, Shape.rowMajor_val_three]
    show (p.val * G + g.val) * w + q.val = p.val * M + (w * g.val + q.val)
    subst hM
    ring

end Blocked

section Loads
variable {sig : RefSig} {κ : Kind} {sp : Space} {e : EltTy} {Val : EltTy → Type} {N M n m : Nat}

/-- A load of a block of rows. -/
theorem ld_rows {q : Nat} (X : (⟨2, ![N, M]⟩ : Shape).Idx → Val e)
    (inb : ∀ a, (![q, 0] : Fin 2 → Nat) a + (![n, M] : Fin 2 → Nat) a ≤ (⟨2, ![N, M]⟩ : Shape).size a) :
    View.ld X (Rect.unit (s := ⟨2, ![N, M]⟩) ![q, 0] ![n, M] inb) = fun i : (⟨2, ![n, M]⟩ : Shape).Idx => X (row2 q (inb 0) i) :=
  funext fun i => congrArg X (funext fun a => Fin.ext (by
    match a with
    | ⟨0, _⟩ => exact congrArg (q + ·) (Nat.one_mul (i 0).val)
    | ⟨1, _⟩ => exact (Nat.zero_add _).trans (Nat.one_mul (i 1).val)))

/-- A load of a block of columns. -/
theorem ld_cols {q : Nat} (X : (⟨2, ![N, M]⟩ : Shape).Idx → Val e)
    (inb : ∀ a, (![0, q] : Fin 2 → Nat) a + (![N, m] : Fin 2 → Nat) a ≤ (⟨2, ![N, M]⟩ : Shape).size a) :
    View.ld X (Rect.unit (s := ⟨2, ![N, M]⟩) ![0, q] ![N, m] inb) = fun i : (⟨2, ![N, m]⟩ : Shape).Idx => X (col2 q (inb 1) i) :=
  funext fun i => congrArg X (funext fun a => Fin.ext (by
    match a with
    | ⟨0, _⟩ => exact (Nat.zero_add _).trans (Nat.one_mul (i 0).val)
    | ⟨1, _⟩ => exact congrArg (q + ·) (Nat.one_mul (i 1).val)))

/-- A load of one matrix of a stack. -/
theorem ld_layer {G g : Nat} (X : (⟨3, ![G, N, M]⟩ : Shape).Idx → Val e)
    (inb : ∀ a, (![g, 0, 0] : Fin 3 → Nat) a + (![1, N, M] : Fin 3 → Nat) a ≤ (⟨3, ![G, N, M]⟩ : Shape).size a) :
    View.ld X (Rect.unit (s := ⟨3, ![G, N, M]⟩) ![g, 0, 0] ![1, N, M] inb)
      = fun i : (⟨3, ![1, N, M]⟩ : Shape).Idx => X (layer ⟨g, inb 0⟩ i) :=
  funext fun i => congrArg X (funext fun a => Fin.ext (by
    match a with
    | ⟨0, _⟩ =>
      have h : (i 0).val < 1 := (i 0).isLt
      show g + 1 * (i 0).val = g
      omega
    | ⟨1, _⟩ => exact (Nat.zero_add _).trans (Nat.one_mul (i 1).val)
    | ⟨2, _⟩ => exact (Nat.zero_add _).trans (Nat.one_mul (i 2).val)))

/-- A load of what one store of the whole array left. -/
theorem readCov_whole [∀ e, Nonempty (Val e)] {s : Shape} (v : View sig κ sp s e) (Z : s.Idx → Val e) (r : Rect s) :
    v.readCov [⟨Rect.whole s, Z⟩] r.toLoadRect = View.ld Z r := View.readCov_fill v _ Z [] r fun _ => rfl

/-- A block of columns of a tile of rows is a tile. -/
theorem tile_emb {o q : Nat} (h : o + n ≤ N)
    (inb : ∀ a, (![0, q] : Fin 2 → Nat) a + (![n, m] : Fin 2 → Nat) a ≤ (⟨2, ![n, M]⟩ : Shape).size a) (i : (⟨2, ![n, m]⟩ : Shape).Idx) :
    (row2 o h ((Rect.unit (s := ⟨2, ![n, M]⟩) ![0, q] ![n, m] inb).emb i) : (⟨2, ![N, M]⟩ : Shape).Idx) = tile2 o h q (inb 1) i :=
  funext fun a => Fin.ext (by
    match a with
    | ⟨0, _⟩ => exact congrArg (o + ·) ((Nat.zero_add _).trans (Nat.one_mul (i 0).val))
    | ⟨1, _⟩ => exact congrArg (q + ·) (Nat.one_mul (i 1).val))

end Loads

/-- The derivative of the square of the positive part: twice the positive part where the argument is positive, nothing elsewhere. -/
theorem relu_square_back (d p : EReal) :
    d * ((Ideal.ofBits .f32 0x40000000#32) * max p 0) = if 0 < p then max p 0 * d + d * max p 0 else 0 := by
  have two : Ideal.ofBits .f32 0x40000000#32 = 1 + 1 := by
    have : Ideal.ofBits .f32 0x40000000#32 = ((2 : ℝ) : EReal) := by
      simp [Ideal.ofBits, Ideal.ieee, -EReal.coe_mul]; norm_num
    rw [this, ← EReal.coe_one, ← EReal.coe_add]; norm_num
  split
  · next hp =>
    have h0 : (0 : EReal) ≤ max p 0 := le_max_right _ _
    rw [two, EReal.right_distrib_of_nonneg zero_le_one zero_le_one, one_mul, EReal.left_distrib_of_nonneg h0 h0, mul_comm d]
  · next hp => rw [max_eq_right (not_lt.1 hp), mul_zero, mul_zero]

end Cert.Rows

end
-- ==== Proof.MlpGrad.lean ====
/-
  THE STAGES OF `_mlp_bwd` ON ONE TILE. The kernel computes on tiles of 512 rows what the reference, the transposed
  linearisation of the plain forward lines, computes on all 4096 rows. It walks the 4096 hidden columns in eight chunks of
  512: `chunk` is one of them, `product_back` the sum of their products with the eight matrices of `w_up`. The rest is the
  gradient of the mean-square norm, operation by operation.
-/
module

public import proofs.«01_k».proof.Proof.Gen.MlpBwdIdeal.Skeleton
public import proofs.«01_k».proof.Proof.Gen.MlpBwdRefIdeal.Read
public import proofs.«01_k».proof.Proof.Blocks
public import Idealize.ShloMosaic.Lib.Pointwise.Select

@[expose] public section

set_option maxRecDepth 16384

noncomputable section

namespace Cert.MlpGrad

open Idealize.ShloMosaic Idealize.ShloMosaic.ValueIdx Cert.Rows Cert.MlpBwdIdeal.Gen Cert.MlpBwdRefIdeal.Read
open Cert.MlpBwdIdeal (dot_S512x1024_S512x1024_S512x512_1_1_0_0_n_n dot_S512x512_S1024x512_S512x1024_1_1_0_0_n_n)

variable {o : Nat} {h : o + 512 ≤ 4096}
  {a0 a3 : Vec Ideal ⟨2, ![512, 1024]⟩ .f32} {d : Vec Ideal ⟨2, ![512, 1024]⟩ .bf16} {a4 : Vec Ideal ⟨2, ![1, 1024]⟩ .f32}
  {x0 x1 : Vec Ideal ⟨2, ![4096, 1024]⟩ .f32} {x2 : Vec Ideal ⟨2, ![1, 1024]⟩ .f32}
  {x3 : Vec Ideal ⟨2, ![4096, 1024]⟩ .bf16} {x4 : Vec Ideal ⟨3, ![8, 1024, 512]⟩ .bf16}

theorem zero21 (j : (⟨2, ![4096, 4096]⟩ : Shape).Idx) : val_main_v21 (F := Ideal) j = 0 :=
  (val_main_v21_apply (F := Ideal) j).trans Ideal.ofBits_zero_f32
theorem zero32 (j : (⟨2, ![4096, 4096]⟩ : Shape).Idx) : val_main_v32 (F := Ideal) j = 0 :=
  (val_main_v32_apply (F := Ideal) j).trans Ideal.ofBits_zero_f32
theorem relu20 (j : (⟨2, ![4096, 4096]⟩ : Shape).Idx) : val_main_v20 (F := Ideal) x1 x2 x4 j = max (val_main_v18 (F := Ideal) x1 x2 x4 j) 0 :=
  congrArg (max _) ((val_main_call0_v0_apply (F := Ideal) j).trans Ideal.ofBits_zero_f32)

/-- One chunk of the gradient of the hidden pre-activations. -/
theorem chunk {q : Nat} {hq : q + 512 ≤ 4096} {w : Vec Ideal ⟨2, ![512, 1024]⟩ .bf16} {p : Vec Ideal ⟨2, ![512, 512]⟩ .bf16}
    (r : Along (row2 o h) d x0) (rw' : Along (row2 q hq) w x3) (rp : Along (tile2 o h q hq) p (val_main_v18 (F := Ideal) x1 x2 x4)) :
    Along (tile2 o h q hq) (k0_pay11 (F := Ideal) d w p) (val_main_v33 (F := Ideal) x0 x1 x2 x3 x4) := fun i => by
  have hv : val_main_v27 (F := Ideal) x0 = x0 := sameShape
  have e :=
    nt_tile (φ₁ := .bf16) (φ₂ := .bf16) (ψ₁ := .f32) (ψ₂ := .f32) (hq := hq) (X := val_main_v27 (F := Ideal) x0) (Y := val_main_v19 (F := Ideal) x3)
      (by rw [hv]; exact r) rw' dot_S512x1024_S512x1024_S512x512_1_1_0_0_n_n (by rfl)
      (d' := Cert.MlpBwdRefIdeal.dot_S4096x1024_S4096x1024_S4096x4096_1_1_0_0_n_n) (by rfl) i
  change _ = val_main_v28 (F := Ideal) x0 x3 (tile2 o h q hq i) at e
  show matmul dot_S512x1024_S512x1024_S512x512_1_1_0_0_n_n none d w (constant ⟨2, ![512, 512]⟩ .f32 0x00000000#32) i
      * (Ideal.ofBits .f32 0x40000000#32 * max (shapeCast ⟨2, ![512, 512]⟩ p _ i) (Ideal.ofBits .f32 0x00000000#32))
    = Scalar.select (Ideal.cmp .ogt (val_main_v18 (F := Ideal) x1 x2 x4 (tile2 o h q hq i)) (val_main_v21 (F := Ideal) (tile2 o h q hq i)))
        (val_main_v20 (F := Ideal) x1 x2 x4 (tile2 o h q hq i) * val_main_v28 (F := Ideal) x0 x3 (tile2 o h q hq i)
          + val_main_v28 (F := Ideal) x0 x3 (tile2 o h q hq i) * val_main_v20 (F := Ideal) x1 x2 x4 (tile2 o h q hq i))
        (val_main_v32 (F := Ideal) (tile2 o h q hq i))
  rw [e, sameShape_apply, rp i, Ideal.ofBits_zero_f32, relu20, zero21, zero32, relu_square_back]
  unfold Scalar.select
  exact (if_congr (Ideal.cmp_ogt_eq_one _ _) rfl rfl).symm

section Chunks
variable {w : Vec Ideal ⟨2, ![512, 1024]⟩ .bf16} {p : Vec Ideal ⟨2, ![512, 512]⟩ .bf16}

/-- The other chunks are computed by the same operations. -/
theorem chunk0 : k0_pay6 (F := Ideal) d w p = k0_pay11 (k0_pay5 d) w p := rfl
theorem chunk1 : k0_pay10 (F := Ideal) (k0_pay8 d w) (k0_pay9 p) (FloatOps.ofBits FTy.f32 0#32) = k0_pay11 (k0_pay5 d) w p := rfl
theorem chunk3 : k0_pay15 (F := Ideal) (k0_pay13 d w) (k0_pay14 p) (FloatOps.ofBits FTy.f32 0#32) = k0_pay11 d w p := rfl
theorem chunk4 : k0_pay16 (F := Ideal) d w p = k0_pay11 d w p := rfl
theorem chunk5 : k0_pay20 (F := Ideal) (k0_pay18 d w) (k0_pay19 p) (FloatOps.ofBits FTy.f32 0#32) = k0_pay11 d w p := rfl
theorem chunk6 : k0_pay21 (F := Ideal) d w p = k0_pay11 d w p := rfl
theorem chunk7 : k0_pay25 (F := Ideal) (k0_pay23 d w) (k0_pay24 p) (FloatOps.ofBits FTy.f32 0#32) = k0_pay11 d w p := rfl

end Chunks

/-- The sum over the first seven chunks. -/
abbrev seven (d : Vec Ideal ⟨2, ![512, 1024]⟩ .bf16) (w : Fin 8 → Vec Ideal ⟨2, ![512, 1024]⟩ .bf16) (p : Fin 8 → Vec Ideal ⟨2, ![512, 512]⟩ .bf16)
    (u : Fin 8 → Vec Ideal ⟨3, ![1, 1024, 512]⟩ .bf16) : FVec Ideal ⟨2, ![512, 1024]⟩ .f32 :=
  k0_pay22 (k0_pay5 d)
    (k0_pay17 (k0_pay5 d)
      (k0_pay12 (k0_pay5 d) (k0_pay7 d (w 0) (p 0) (u 0)) (k0_pay8 d (w 1)) (k0_pay9 (p 1)) (FloatOps.ofBits FTy.f32 0#32) (u 1) (w 2) (p 2) (u 2))
      (k0_pay13 (k0_pay5 d) (w 3)) (k0_pay14 (p 3)) (FloatOps.ofBits FTy.f32 0#32) (u 3) (w 4) (p 4) (u 4))
    (k0_pay18 (k0_pay5 d) (w 5)) (k0_pay19 (p 5)) (FloatOps.ofBits FTy.f32 0#32) (u 5) (w 6) (p 6) (u 6)

/-- The sum of the chunks' products with their matrices of `w_up`. -/
theorem product_back {w : Fin 8 → Vec Ideal ⟨2, ![512, 1024]⟩ .bf16} {p : Fin 8 → Vec Ideal ⟨2, ![512, 512]⟩ .bf16}
    {u : Fin 8 → Vec Ideal ⟨3, ![1, 1024, 512]⟩ .bf16} (hb : ∀ g : Fin 8, 512 * g.val + 512 ≤ 4096)
    (r : Along (row2 o h) d x0) (rw' : ∀ g : Fin 8, Along (row2 (512 * g.val) (hb g)) (w g) x3)
    (rp : ∀ g : Fin 8, Along (tile2 o h (512 * g.val) (hb g)) (p g) (val_main_v18 (F := Ideal) x1 x2 x4))
    (ru : ∀ g : Fin 8, Along (layer g) (u g) x4) :
    Along (row2 o h)
      (k0_pay26 (F := Ideal)
        (seven d w p u)
        (k0_pay23 (k0_pay5 d) (w 7)) (k0_pay24 (p 7)) (FloatOps.ofBits FTy.f32 0#32) (u 7))
      (val_main_v34 (F := Ideal) x0 x1 x2 x3 x4) := fun i => by
  have hs : (⟨3, ![1, 1024, 512]⟩ : Shape).ShapeCasts ⟨2, ![1024, 512]⟩ := by decide
  have hd : k0_pay5 (F := Ideal) d = d := sameShape
  refine Eq.trans ?_ (nt_sum (φ₁ := .bf16) (φ₂ := .bf16) (ψ₁ := .f32) (ψ₂ := .f32) (G := 8) (w := 512) rfl hb
    (A := fun g => k0_pay11 (F := Ideal) (k0_pay5 d) (w g) (p g)) (X := val_main_v33 (F := Ideal) x0 x1 x2 x3 x4)
    (fun g => chunk (by rw [hd]; exact r) (rw' g) (rp g))
    (B := fun g => shapeCast ⟨2, ![1024, 512]⟩ (u g) hs) (Y := val_main_v2 (F := Ideal) x4)
    (fun g => stack_cols rfl (hb g) (ru g)) dot_S512x512_S1024x512_S512x1024_1_1_0_0_n_n (by rfl) (by rfl) i)
  rw [Fin.sum_univ_eight]
  show (((((((Ideal.ofBits .f32 0x00000000#32 + _) + _) + _) + _) + _) + _) + _) + _ = _
  rw [Ideal.ofBits_zero_f32, zero_add]
  rfl

variable {v120 : FVec Ideal ⟨2, ![512, 1024]⟩ .f32} {v122 v125 : FVec Ideal ⟨2, ![512, 512]⟩ .f32} {z : Ideal .f32} {v133 : Vec Ideal ⟨3, ![1, 1024, 512]⟩ .bf16}

/-- The rows' mean squares and the small constant. -/
theorem mean (r3 : Along (row2 o h) a3 x1) : Along (row2 o h) (k0_pay27 (F := Ideal) a3) (val_main_v9 (F := Ideal) x1) :=
  ((r3.mul r3).rowSum.colB.div along_const).add along_const

/-- The inverse root of that. -/
theorem inverse (r3 : Along (row2 o h) a3 x1) : Along (row2 o h) (k0_pay28 (F := Ideal) a3) (val_main_v10 (F := Ideal) x1) := (mean r3).rsqrt

/-- The derivative of the inverse root. -/
theorem slope (r3 : Along (row2 o h) a3 x1) :
    Along (row2 o h) (mulf (broadcast ⟨2, ![512, 1]⟩ (Scalar.ofBits .f32 0xBF000000#32)) (divf (k0_pay28 (F := Ideal) a3) (k0_pay27 a3))) (val_main_v13 (F := Ideal) x1) :=
  along_const.mul ((inverse r3).div (mean r3))

/-- The normalised rows. -/
theorem normed {hb : (⟨2, ![512, 1]⟩ : Shape).Broadcasts ⟨2, ![512, 1024]⟩} (r3 : Along (row2 o h) a3 x1) :
    Along (row2 o h) (mulf a3 (broadcastTo ⟨2, ![512, 1024]⟩ (k0_pay28 (F := Ideal) a3) hb)) (val_main_v15 (F := Ideal) x1) :=
  r3.mul (inverse r3).spread

section Back
variable (rd : Along (row2 o h) (k0_pay26 (F := Ideal) v120 v122 v125 z v133) (val_main_v34 (F := Ideal) x0 x1 x2 x3 x4))
  (r3 : Along (row2 o h) a3 x1)
include rd r3

/-- The terms of the gradient of the norm's weight. -/
theorem weight_terms {hb : (⟨2, ![512, 1]⟩ : Shape).Broadcasts ⟨2, ![512, 1024]⟩} :
    Along (row2 o h) (mulf (mulf a3 (broadcastTo ⟨2, ![512, 1024]⟩ (k0_pay28 (F := Ideal) a3) hb)) (k0_pay26 (F := Ideal) v120 v122 v125 z v133))
      (val_main_v35 (F := Ideal) x0 x1 x2 x3 x4) := (normed r3).mul rd

omit r3 in
/-- The gradient of the normalised rows. -/
theorem back_normed (e4 : a4 = x2) :
    Along (row2 o h) (k0_pay30 (F := Ideal) v120 v122 v125 z v133 a4) (val_main_v39 (F := Ideal) x0 x1 x2 x3 x4) := rd.mul (along_params e4)

/-- Its part through the rows themselves. -/
theorem back_direct (e4 : a4 = x2) :
    Along (row2 o h) (k0_pay31 (F := Ideal) v120 v122 v125 z v133 a3 a4) (val_main_v44 (F := Ideal) x0 x1 x2 x3 x4) :=
  (back_normed rd e4).mul (inverse r3).spread

/-- Its part through their mean squares. -/
theorem back_mean (e4 : a4 = x2) :
    Along (row1 o h) (k0_pay32 (F := Ideal) v120 v122 v125 z v133 a3 a4) (val_main_v48 (F := Ideal) x0 x1 x2 x3 x4) := by
  have s1 : Along (row2 o h) _ (val_main_v42 (F := Ideal) x0 x1 x2 x3 x4) := (r3.mul (back_normed rd e4)).rowSum.col
  have s2 : Along (row2 o h) _ (val_main_v47 (F := Ideal) x0 x1 x2 x3 x4) := (s1.mul (slope r3)).div along_const
  exact s2.rowSum

/-- The gradient of the residual stream. -/
theorem stream (r0 : Along (row2 o h) a0 x0) (e4 : a4 = x2) :
    Along (row2 o h) (k0_pay1 (F := Ideal) a3 (k0_pay31 v120 v122 v125 z v133 a3 a4) (k0_pay32 v120 v122 v125 z v133 a3 a4) a0) (val_main_v54 (F := Ideal) x0 x1 x2 x3 x4) := by
  have s1 : Along (row2 o h) _ (val_main_v49 (F := Ideal) x0 x1 x2 x3 x4) := (back_mean rd r3 e4).colSpread
  exact r0.add (((back_direct rd r3 e4).add (r3.mul s1)).add (s1.mul r3))

/-- The same in the narrower format, exact arithmetic's cast. -/
theorem stream_narrow (r0 : Along (row2 o h) a0 x0) (e4 : a4 = x2) :
    Along (row2 o h) (k0_pay2 (F := Ideal) a3 (k0_pay31 v120 v122 v125 z v133 a3 a4) (k0_pay32 v120 v122 v125 z v133 a3 a4) a0) (val_main_v56 (F := Ideal) x0 x1 x2 x3 x4) :=
  (stream rd r3 r0 e4).truncL.truncR

end Back

end Cert.MlpGrad

end
-- ==== Proof.Pieces.lean ====
/-
  STORES BESIDE EACH OTHER: a block of rows that is written by tiles of columns, when every tile agrees with the same block of
  rows of a larger array.
-/
module

public import proofs.«01_k».proof.Defs
public import proofs.«01_k».proof.Proof.Blocks
public import Idealize.ShloMosaic.Lib.Pipeline.ValueKit
public import Idealize.ShloMosaic.Lib.Ring

@[expose] public section

set_option maxRecDepth 16384

noncomputable section

namespace Cert.Rows

open Idealize.ShloMosaic Idealize.ShloMosaic.TcCoe Idealize.SL.Sem Idealize.ShloMosaic.ValueIdx
open Idealize.ShloMosaic.Pipeline (Dat)

/-- Eight tiles side by side are the tile of rows. -/
theorem eight {o : Nat} {h : o + 512 ≤ 4096} {P0 P1 P2 P3 P4 P5 P6 P7 : Vec Ideal ⟨2, ![512, 512]⟩ .bf16} {R : (⟨2, ![4096, 4096]⟩ : Shape).Idx → EReal}
    {b0 : ∀ a, (![0, 0] : Fin 2 → Nat) a + (![512, 512] : Fin 2 → Nat) a ≤ (⟨2, ![512, 4096]⟩ : Shape).size a}
    {b1 : ∀ a, (![0, 512] : Fin 2 → Nat) a + (![512, 512] : Fin 2 → Nat) a ≤ (⟨2, ![512, 4096]⟩ : Shape).size a}
    {b2 : ∀ a, (![0, 1024] : Fin 2 → Nat) a + (![512, 512] : Fin 2 → Nat) a ≤ (⟨2, ![512, 4096]⟩ : Shape).size a}
    {b3 : ∀ a, (![0, 1536] : Fin 2 → Nat) a + (![512, 512] : Fin 2 → Nat) a ≤ (⟨2, ![512, 4096]⟩ : Shape).size a}
    {b4 : ∀ a, (![0, 2048] : Fin 2 → Nat) a + (![512, 512] : Fin 2 → Nat) a ≤ (⟨2, ![512, 4096]⟩ : Shape).size a}
    {b5 : ∀ a, (![0, 2560] : Fin 2 → Nat) a + (![512, 512] : Fin 2 → Nat) a ≤ (⟨2, ![512, 4096]⟩ : Shape).size a}
    {b6 : ∀ a, (![0, 3072] : Fin 2 → Nat) a + (![512, 512] : Fin 2 → Nat) a ≤ (⟨2, ![512, 4096]⟩ : Shape).size a}
    {b7 : ∀ a, (![0, 3584] : Fin 2 → Nat) a + (![512, 512] : Fin 2 → Nat) a ≤ (⟨2, ![512, 4096]⟩ : Shape).size a}
    (r0 : Along (tile2 o h 0 (b0 1)) P0 R)
    (r1 : Along (tile2 o h 512 (b1 1)) P1 R)
    (r2 : Along (tile2 o h 1024 (b2 1)) P2 R)
    (r3 : Along (tile2 o h 1536 (b3 1)) P3 R)
    (r4 : Along (tile2 o h 2048 (b4 1)) P4 R)
    (r5 : Along (tile2 o h 2560 (b5 1)) P5 R)
    (r6 : Along (tile2 o h 3072 (b6 1)) P6 R)
    (r7 : Along (tile2 o h 3584 (b7 1)) P7 R) :
    Along (row2 o h) (View.canon (Val := Elt Ideal) (s := ⟨2, ![512, 4096]⟩) (e := .bf16) [⟨Rect.unit ![0, 3584] ![512, 512] b7, P7⟩, ⟨Rect.unit ![0, 3072] ![512, 512] b6, P6⟩, ⟨Rect.unit ![0, 2560] ![512, 512] b5, P5⟩, ⟨Rect.unit ![0, 2048] ![512, 512] b4, P4⟩, ⟨Rect.unit ![0, 1536] ![512, 512] b3, P3⟩, ⟨Rect.unit ![0, 1024] ![512, 512] b2, P2⟩, ⟨Rect.unit ![0, 512] ![512, 512] b1, P1⟩, ⟨Rect.unit ![0, 0] ![512, 512] b0, P0⟩]) R := fun y => by
  refine View.canon_append_of_piecesOf (Val := Elt Ideal) (s := ⟨2, ![512, 4096]⟩) (e := .bf16) (fun y => R (row2 o h y)) [] [⟨Rect.unit ![0, 3584] ![512, 512] b7, P7⟩, ⟨Rect.unit ![0, 3072] ![512, 512] b6, P6⟩, ⟨Rect.unit ![0, 2560] ![512, 512] b5, P5⟩, ⟨Rect.unit ![0, 2048] ![512, 512] b4, P4⟩, ⟨Rect.unit ![0, 1536] ![512, 512] b3, P3⟩, ⟨Rect.unit ![0, 1024] ![512, 512] b2, P2⟩, ⟨Rect.unit ![0, 512] ![512, 512] b1, P1⟩, ⟨Rect.unit ![0, 0] ![512, 512] b0, P0⟩] ?_ y ?_
  · exact ⟨fun x => (r7 x).trans (congrArg R (tile_emb h b7 x).symm), fun x => (r6 x).trans (congrArg R (tile_emb h b6 x).symm), fun x => (r5 x).trans (congrArg R (tile_emb h b5 x).symm), fun x => (r4 x).trans (congrArg R (tile_emb h b4 x).symm), fun x => (r3 x).trans (congrArg R (tile_emb h b3 x).symm), fun x => (r2 x).trans (congrArg R (tile_emb h b2 x).symm), fun x => (r1 x).trans (congrArg R (tile_emb h b1 x).symm), fun x => (r0 x).trans (congrArg R (tile_emb h b0 x).symm), trivial⟩
  · exact View.cover_of_tiledL (s := ⟨2, ![512, 4096]⟩) (Val := Elt Ideal) (e := .bf16) _ ![512, 512] (by sl_kernel_rfl) y

/-- Two tiles side by side are the tile of rows. -/
theorem two {o : Nat} {h : o + 512 ≤ 4096} {P0 P1 : Vec Ideal ⟨2, ![512, 1024]⟩ .bf16} {R : (⟨2, ![4096, 2048]⟩ : Shape).Idx → EReal}
    {b0 : ∀ a, (![0, 0] : Fin 2 → Nat) a + (![512, 1024] : Fin 2 → Nat) a ≤ (⟨2, ![512, 2048]⟩ : Shape).size a}
    {b1 : ∀ a, (![0, 1024] : Fin 2 → Nat) a + (![512, 1024] : Fin 2 → Nat) a ≤ (⟨2, ![512, 2048]⟩ : Shape).size a}
    (r0 : Along (tile2 o h 0 (b0 1)) P0 R) (r1 : Along (tile2 o h 1024 (b1 1)) P1 R) :
    Along (row2 o h) (View.canon (Val := Elt Ideal) (s := ⟨2, ![512, 2048]⟩) (e := .bf16) [⟨Rect.unit ![0, 1024] ![512, 1024] b1, P1⟩, ⟨Rect.unit ![0, 0] ![512, 1024] b0, P0⟩]) R := fun y => by
  refine View.canon_append_of_piecesOf (Val := Elt Ideal) (s := ⟨2, ![512, 2048]⟩) (e := .bf16) (fun y => R (row2 o h y)) [] [⟨Rect.unit ![0, 1024] ![512, 1024] b1, P1⟩, ⟨Rect.unit ![0, 0] ![512, 1024] b0, P0⟩] ?_ y ?_
  · exact ⟨fun x => (r1 x).trans (congrArg R (tile_emb h b1 x).symm), fun x => (r0 x).trans (congrArg R (tile_emb h b0 x).symm), trivial⟩
  · exact View.cover_of_tiledL (s := ⟨2, ![512, 2048]⟩) (Val := Elt Ideal) (e := .bf16) _ ![512, 1024] (by sl_kernel_rfl) y

end Cert.Rows

end
-- ==== Proof.MlpTiles.lean ====
/-
  THE TILED RESULTS OF `_mlp_bwd`: the gradient of the hidden pre-activations, and that of the residual stream in both
  formats. At grid point `t` the kernel's input blocks are the rows from `512 * t` on of its row arrays; two of these the
  host's lines before the call prepare (`entry16`, `entry17`). The first point copies both weights into the kernel's own
  memory, where they stay (`kept0`, `kept1`). So by the stages of `MlpGrad` what a point stores is its tile of the
  reference's result, and the eight tiles cover each result.
-/
module

public import proofs.«01_k».proof.Proof.Gen.MlpBwdIdeal.Value
public import proofs.«01_k».proof.Proof.MlpGrad
public import proofs.«01_k».proof.Proof.Pieces
public import Idealize.ShloMosaic.Lib.Pipeline.ValueKit

@[expose] public section

set_option maxRecDepth 16384

noncomputable section

namespace Cert.MlpGrad

open Idealize.ShloMosaic Idealize.ShloMosaic.TcCoe Idealize.SL.Sem Idealize.ShloMosaic.ValueIdx
open Idealize.ShloMosaic.Pipeline (Dat)
open Cert.Rows Cert.MlpBwdIdeal Cert.MlpBwdIdeal.Gen Cert.MlpBwdRefIdeal.Read

variable (m : (ℓ : Loc nD τ sig) → Buf (Elt Ideal) ℓ) (c : Dev nD)

/-- The block indices of the windows. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![t.val, 0] ∧ win0_8.index t = ![0, 0] :=
  (by decide +kernel : ∀ t : Fin grid0.N, _)

/-- A tile's rows are rows of the whole array. -/
theorem inside (t : Fin cfg0.N) : 512 * t.val + 512 ≤ 4096 := by
  have := t.isLt.trans_eq N_0
  omega

/-- The host's lines before the call leave the rounded pre-activations in one array … -/
theorem entry16 : V m c main_v16 = ((truncf .bf16 (val_main_v18 (F := Ideal) (m ((c : Thread nD τ).loc main_arg1)) (m ((c : Thread nD τ).loc main_arg2)) (m ((c : Thread nD τ).loc main_arg4))) bitsLt_bf16_f32) : FVec Ideal S4096x4096 .bf16) := by
  show StableHlo.after _ _ _ = _
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- … and the rounded incoming gradient in another. -/
theorem entry17 : V m c main_v17 = ((truncf .bf16 (m ((c : Thread nD τ).loc main_arg0)) bitsLt_bf16_f32) : FVec Ideal S4096x1024 .bf16) := by
  show StableHlo.after _ _ _ = _
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

theorem rows0 (t : Fin cfg0.N) : Along (row2 (512 * t.val) (inside t)) (iblk m c 0 t) (m ((c : Thread nD τ).loc main_arg0)) := fun i => by
  rw [← V_main_arg0 m c]
  blk_ext [iblk, idx t]
theorem rows1 (t : Fin cfg0.N) : Along (row2 (512 * t.val) (inside t)) (iblk m c 1 t) (m ((c : Thread nD τ).loc main_arg0)) := fun i => by
  refine Eq.trans ?_ (congrFun (entry17 m c) _)
  blk_ext [iblk, idx t]
theorem rows2 (t : Fin cfg0.N) : Along (row2 (512 * t.val) (inside t)) (iblk m c 2 t)
    (val_main_v18 (F := Ideal) (m ((c : Thread nD τ).loc main_arg1)) (m ((c : Thread nD τ).loc main_arg2)) (m ((c : Thread nD τ).loc main_arg4))) := fun i => by
  refine Eq.trans ?_ (congrFun (entry16 m c) _)
  blk_ext [iblk, idx t]
theorem rows3 (t : Fin cfg0.N) : Along (row2 (512 * t.val) (inside t)) (iblk m c 3 t) (m ((c : Thread nD τ).loc main_arg1)) := fun i => by
  rw [← V_main_arg1 m c]
  blk_ext [iblk, idx t]
theorem whole4 (t : Fin cfg0.N) : iblk m c 4 t = (m ((c : Thread nD τ).loc main_arg2)) := funext fun i => by
  rw [← V_main_arg2 m c]
  blk_ext [iblk, idx t]

theorem first0 (t : Fin cfg0.N) (h : t.val % 8 = 0) : (outsAt0 m c t.val t.isLt).2.2.2.2.1 = (m ((c : Thread nD τ).loc main_arg3)) := by
  rw [outsAt0_A m c t h h]
  dsimp only
  frame_out
  exact (View.canon_cons_unit_zero rfl _ _ []).trans (V_main_arg3 m c)
theorem next0 (t : Fin cfg0.N) (h : ¬t.val % 8 = 0) : (outsAt0 m c t.val t.isLt).2.2.2.2.1 = (outsAt0 m c (t.val - 1) (by have := t.isLt; omega)).2.2.2.2.1 := by
  rw [outsAt0_B m c t h h]
  rfl

/-- The kernel's memory keeps weight 0 at every point. -/
theorem kept0 : ∀ (n : Nat) (hn : n < cfg0.N), (outsAt0 m c n hn).2.2.2.2.1 = (m ((c : Thread nD τ).loc main_arg3)) := fun n => by
  induction n with
  | zero => exact fun hn => first0 m c ⟨0, hn⟩ rfl
  | succ n ih => exact fun hn => (next0 m c ⟨n + 1, hn⟩ (by have := hn.trans_eq N_0; show ¬(n + 1) % 8 = 0; omega)).trans (ih _)

theorem first1 (t : Fin cfg0.N) (h : t.val % 8 = 0) : (outsAt0 m c t.val t.isLt).2.2.2.2.2 = (m ((c : Thread nD τ).loc main_arg4)) := by
  rw [outsAt0_A m c t h h]
  dsimp only
  frame_out
  exact (View.canon_cons_unit_zero rfl _ _ []).trans (V_main_arg4 m c)
theorem next1 (t : Fin cfg0.N) (h : ¬t.val % 8 = 0) : (outsAt0 m c t.val t.isLt).2.2.2.2.2 = (outsAt0 m c (t.val - 1) (by have := t.isLt; omega)).2.2.2.2.2 := by
  rw [outsAt0_B m c t h h]
  rfl

/-- The kernel's memory keeps weight 1 at every point. -/
theorem kept1 : ∀ (n : Nat) (hn : n < cfg0.N), (outsAt0 m c n hn).2.2.2.2.2 = (m ((c : Thread nD τ).loc main_arg4)) := fun n => by
  induction n with
  | zero => exact fun hn => first1 m c ⟨0, hn⟩ rfl
  | succ n ih => exact fun hn => (next1 m c ⟨n + 1, hn⟩ (by have := hn.trans_eq N_0; show ¬(n + 1) % 8 = 0; omega)).trans (ih _)

/-- The second input block reshaped to its own shape. -/
theorem same (t : Fin cfg0.N) : Along (row2 (512 * t.val) (inside t)) (k0_pay5 (F := Ideal) (iblk m c 1 t)) (m ((c : Thread nD τ).loc main_arg0)) := by
  have hd : k0_pay5 (F := Ideal) (iblk m c 1 t) = iblk m c 1 t := sameShape
  rw [hd]; exact rows1 m c t

/-- A block of columns of the third. -/
theorem cols2 (t : Fin cfg0.N) (q : Nat) (hq : q + 512 ≤ 4096) : Along (tile2 (512 * t.val) (inside t) q hq)
    (fun i : (⟨2, ![512, 512]⟩ : Shape).Idx => iblk m c 2 t (col2 q hq i)) (val_main_v18 (F := Ideal) (m ((c : Thread nD τ).loc main_arg1)) (m ((c : Thread nD τ).loc main_arg2)) (m ((c : Thread nD τ).loc main_arg4))) :=
  fun i => rows2 m c t _

/-- The rows of `w_down` of a chunk. -/
abbrev wd (g : Fin 8) (i : (⟨2, ![512, 1024]⟩ : Shape).Idx) := (m ((c : Thread nD τ).loc main_arg3)) (row2 (512 * g.val) (by have := g.isLt; omega) i)
/-- Its columns of the pre-activations. -/
abbrev pre (t : Fin cfg0.N) (g : Fin 8) (i : (⟨2, ![512, 512]⟩ : Shape).Idx) := iblk m c 2 t (col2 (512 * g.val) (by have := g.isLt; omega) i)
/-- Its matrix of `w_up`. -/
abbrev wu (g : Fin 8) (i : (⟨3, ![1, 1024, 512]⟩ : Shape).Idx) := (m ((c : Thread nD τ).loc main_arg4)) (layer g i)

/-- The product through `w_up` at grid point `t`. -/
theorem product (t : Fin cfg0.N) : Along (row2 (512 * t.val) (inside t))
    (k0_pay26 (F := Ideal) (seven (iblk m c 1 t) (wd m c) (pre m c t) (wu m c)) (k0_pay23 (k0_pay5 (iblk m c 1 t)) (wd m c 7)) (k0_pay24 (pre m c t 7))
      (FloatOps.ofBits FTy.f32 0#32) (wu m c 7))
    (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :=
  product_back (fun g => by have := g.isLt; omega) (rows1 m c t) (fun g i => rfl) (fun g => cols2 m c t _ _) (fun g i => rfl)

/-- What grid point `t` stores in window 6. -/
theorem after6 (t : Fin cfg0.N) : Along (row2 (512 * t.val) (inside t)) (outsAt0 m c t.val t.isLt).2.1
    (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  by_cases h : t.val % 8 = 0
  · rw [outsAt0_A m c t h h]
    dsimp only
    frame_out
    simp only [readCov_whole, ld_rows, ld_cols, ld_layer]
    exact stream (product m c t) (rows3 m c t) (rows0 m c t) (whole4 m c t)
  · rw [outsAt0_B m c t h h]
    dsimp only
    frame_out
    simp only [read_unread_whole, kept0, kept1, ld_rows, ld_cols, ld_layer]
    exact stream (product m c t) (rows3 m c t) (rows0 m c t) (whole4 m c t)

theorem final6 : (dats m 0 c).arrAt 6 (cfgs 0).N = (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 6 _ (by decide +kernel) fun t hf y => ?_
  blk_simp
  rw [after0_6]
  refine (after6 m c t y).trans ?_
  blk_ext [idx t]

/-- What grid point `t` stores in window 7. -/
theorem after7 (t : Fin cfg0.N) : Along (row2 (512 * t.val) (inside t)) (outsAt0 m c t.val t.isLt).2.2.1
    (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  by_cases h : t.val % 8 = 0
  · rw [outsAt0_A m c t h h]
    dsimp only
    frame_out
    simp only [readCov_whole, ld_rows, ld_cols, ld_layer]
    exact stream_narrow (product m c t) (rows3 m c t) (rows0 m c t) (whole4 m c t)
  · rw [outsAt0_B m c t h h]
    dsimp only
    frame_out
    simp only [read_unread_whole, kept0, kept1, ld_rows, ld_cols, ld_layer]
    exact stream_narrow (product m c t) (rows3 m c t) (rows0 m c t) (whole4 m c t)

theorem final7 : (dats m 0 c).arrAt 7 (cfgs 0).N = (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 7 _ (by decide +kernel) fun t hf y => ?_
  blk_simp
  rw [after0_7]
  refine (after7 m c t y).trans ?_
  blk_ext [idx t]

/-- What grid point `t` stores in window 5. -/
theorem after5 (t : Fin cfg0.N) : Along (row2 (512 * t.val) (inside t)) (outsAt0 m c t.val t.isLt).1
    (val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  by_cases h : t.val % 8 = 0
  · rw [outsAt0_A m c t h h]
    dsimp only
    frame_out
    simp only [readCov_whole, ld_rows, ld_cols, ld_layer]
    simp only [chunk0, chunk1, chunk3, chunk4, chunk5, chunk6, chunk7]
    exact eight (chunk (same m c t) (fun _ => rfl) (cols2 m c t _ _)) (chunk (same m c t) (fun _ => rfl) (cols2 m c t _ _)) (chunk (same m c t) (fun _ => rfl) (cols2 m c t _ _)) (chunk (same m c t) (fun _ => rfl) (cols2 m c t _ _)) (chunk (same m c t) (fun _ => rfl) (cols2 m c t _ _)) (chunk (same m c t) (fun _ => rfl) (cols2 m c t _ _)) (chunk (same m c t) (fun _ => rfl) (cols2 m c t _ _)) (chunk (same m c t) (fun _ => rfl) (cols2 m c t _ _))
  · rw [outsAt0_B m c t h h]
    dsimp only
    frame_out
    simp only [read_unread_whole, kept0, kept1, ld_rows, ld_cols, ld_layer]
    simp only [chunk0, chunk1, chunk3, chunk4, chunk5, chunk6, chunk7]
    exact eight (chunk (same m c t) (fun _ => rfl) (cols2 m c t _ _)) (chunk (same m c t) (fun _ => rfl) (cols2 m c t _ _)) (chunk (same m c t) (fun _ => rfl) (cols2 m c t _ _)) (chunk (same m c t) (fun _ => rfl) (cols2 m c t _ _)) (chunk (same m c t) (fun _ => rfl) (cols2 m c t _ _)) (chunk (same m c t) (fun _ => rfl) (cols2 m c t _ _)) (chunk (same m c t) (fun _ => rfl) (cols2 m c t _ _)) (chunk (same m c t) (fun _ => rfl) (cols2 m c t _ _))

theorem final5 : (dats m 0 c).arrAt 5 (cfgs 0).N = (val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 5 _ (by decide +kernel) fun t hf y => ?_
  blk_simp
  rw [after0_5]
  refine (after5 m c t y).trans ?_
  blk_ext [idx t]

end Cert.MlpGrad

end
-- ==== Proof.MlpSums.lean ====
/-
  THE ADDED-UP RESULT OF `_mlp_bwd`: the gradient of the norm's scale. The kernel keeps an 8 by 1024 block in which row 0 is
  the sum over the eight grid points of each point's column sum, and the other rows stay zero; the reference adds up all
  4096 rows at once and puts seven rows of zeros below.
-/
module

public import proofs.«01_k».proof.Proof.Gen.MlpBwdIdeal.Value
public import proofs.«01_k».proof.Proof.MlpTiles
public import proofs.«01_k».proof.Proof.AccRows
public import Idealize.ShloMosaic.Lib.Pipeline.ValueKit

@[expose] public section

set_option maxRecDepth 16384

noncomputable section

namespace Cert.MlpGrad

open Idealize.ShloMosaic Idealize.ShloMosaic.TcCoe Idealize.SL.Sem Idealize.ShloMosaic.ValueIdx
open Idealize.ShloMosaic.Pipeline (Dat)
open Cert.Rows Cert.MlpBwdIdeal Cert.MlpBwdIdeal.Gen Cert.MlpBwdRefIdeal.Read

variable (m : (ℓ : Loc nD τ sig) → Buf (Elt Ideal) ℓ) (c : Dev nD)

/-- Grid point `t`'s share of row 0. -/
def share (t : Fin cfg0.N) : FVec Ideal ⟨2, ![1, 1024]⟩ .f32 :=
  k0_pay29 (F := Ideal) (seven (iblk m c 1 t) (wd m c) (pre m c t) (wu m c)) (k0_pay23 (k0_pay5 (iblk m c 1 t)) (wd m c 7)) (k0_pay24 (pre m c t 7))
    (FloatOps.ofBits FTy.f32 0#32) (wu m c 7) (iblk m c 3 t)

/-- What grid point `t` adds at an element of the block. -/
def added (t : Fin cfg0.N) (i : (⟨2, ![8, 1024]⟩ : Shape).Idx) : EReal :=
  if (i 0).val = 0 then share m c t (ValueIdx.ix2 0 (i 1)) else 0

theorem row_add (a b : FVec Ideal ⟨2, ![1, 1024]⟩ .f32) (j : (⟨2, ![1, 1024]⟩ : Shape).Idx) : k0_pay3 (F := Ideal) a b j = b j + a j :=
  congrArg (fun x : EReal => x + a j) (sameShape_apply j)
theorem zeros_apply (i : (⟨2, ![8, 1024]⟩ : Shape).Idx) : k0_pay4 (F := Ideal) i = 0 := Ideal.ofBits_zero_f32

/-- The first grid point starts from zeros, -/
theorem acc_first (t : Fin cfg0.N) (h : t.val % 8 = 0) (i : (⟨2, ![8, 1024]⟩ : Shape).Idx) :
    (outsAt0 m c t.val t.isLt).2.2.2.1 i = (fun _ => (0 : EReal)) i + added m c t i := by
  rw [outsAt0_A m c t h h]
  dsimp only
  frame_out
  simp only [readCov_whole, ld_rows, ld_cols, ld_layer]
  obtain ⟨k, q, rfl⟩ : ∃ (k : Fin 8) (q : Fin 1024), i = ValueIdx.ix2 k q := ⟨i 0, i 1, ValueIdx.eq_ix2 i⟩
  rw [canon_row, View.canon_unit_zero (by decide)]
  unfold added
  show _ = (0 : EReal) + (if k.val = 0 then _ else 0)
  split_ifs with h0
  · rw [row_add, View.readCov_fill _ _ _ _ _ (by decide), ld_row _ _ k q h0, zeros_apply]
    exact congrArg (fun x : EReal => 0 + x) (show _ = share m c t _ from rfl)
  · rw [zeros_apply, add_zero]

/-- and each later one adds to what the one before left. -/
theorem acc_next (t : Fin cfg0.N) (h : ¬t.val % 8 = 0) (i : (⟨2, ![8, 1024]⟩ : Shape).Idx) :
    (outsAt0 m c t.val t.isLt).2.2.2.1 i
      = (outsAt0 m c (t.val - 1) (Nat.lt_of_le_of_lt (Nat.sub_le _ _) t.isLt)).2.2.2.1 i + added m c t i := by
  rw [outsAt0_B m c t h h]
  dsimp only
  frame_out
  simp only [read_unread_whole, kept0, kept1, ld_rows, ld_cols, ld_layer]
  generalize (outsAt0 m c (t.val - 1) (Nat.lt_of_le_of_lt (Nat.sub_le _ _) t.isLt)).2.2.2.1 = X
  obtain ⟨k, q, rfl⟩ : ∃ (k : Fin 8) (q : Fin 1024), i = ValueIdx.ix2 k q := ⟨i 0, i 1, ValueIdx.eq_ix2 i⟩
  rw [writes_row, View.writes_nil, Memref.IsWhole.read_unread]
  unfold added
  show _ = X (ValueIdx.ix2 k q) + (if k.val = 0 then _ else 0)
  split_ifs with h0
  · rw [row_add]
    exact congrArg₂ (fun x y : EReal => x + y) (congrArg X (congrArg (fun k => ValueIdx.ix2 k q) (Fin.ext (by show 0 + 0 = k.val; omega)))) (show _ = share m c t _ from rfl)
  · rw [add_zero]

theorem total (q : Fin 1024) : ∑ t, share m c t (ValueIdx.ix2 0 q) = (val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (ValueIdx.ix2 0 q) := by
  have e : ∀ t, share m c t (ValueIdx.ix2 0 q) = multiReduction (F := Ideal) .add [0] ⟨1, ![1024]⟩ (mulf (F := Ideal) (φ := .f32)
      (mulf (F := Ideal) (φ := .f32) (iblk m c 3 t) (broadcastTo ⟨2, ![512, 1024]⟩ (k0_pay28 (F := Ideal) (iblk m c 3 t)) broadcasts_S512x1_S512x1024))
      (k0_pay26 (F := Ideal) (seven (iblk m c 1 t) (wd m c) (pre m c t) (wu m c)) (k0_pay23 (k0_pay5 (iblk m c 1 t)) (wd m c 7)) (k0_pay24 (pre m c t 7))
        (FloatOps.ofBits FTy.f32 0#32) (wu m c 7))) 0x00000000#32 reduces_S512x1024_S1024 (.inl rfl) rfl (ValueIdx.ix1 q) := fun t => rowVec_apply (A := multiReduction (F := Ideal) .add [0] ⟨1, ![1024]⟩ (mulf (F := Ideal) (φ := .f32)
      (mulf (F := Ideal) (φ := .f32) (iblk m c 3 t) (broadcastTo ⟨2, ![512, 1024]⟩ (k0_pay28 (F := Ideal) (iblk m c 3 t)) broadcasts_S512x1_S512x1024))
      (k0_pay26 (F := Ideal) (seven (iblk m c 1 t) (wd m c) (pre m c t) (wu m c)) (k0_pay23 (k0_pay5 (iblk m c 1 t)) (wd m c 7)) (k0_pay24 (pre m c t 7))
        (FloatOps.ofBits FTy.f32 0#32) (wu m c 7))) 0x00000000#32 reduces_S512x1024_S1024 (.inl rfl) rfl) (hk := shapeCasts_S1024_S1x1024) q
  refine (Finset.sum_congr rfl fun t _ => e t).trans (Eq.trans ?_ (rowVec_apply (A := val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (hk := shapeCasts_S1024_S1x1024) q).symm)
  exact colSum_tiles (T := 8) rfl inside (fun t => weight_terms (product m c t) (rows3 m c t)) _ (by decide) q

theorem final8 : (dats m 0 c).arrAt 8 (cfgs 0).N = (val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_after_last 8 t0_7 (by decide +kernel) _ fun j => ?_
  blk_simp
  rw [after0_8, Pipeline.eq_sum_fin_of_reset_step_apply_last (fun n h => (outsAt0 m c n h).2.2.2.1) 8 (fun _ => 0) (added m c)
    (acc_first m c) (acc_next m c) (le_of_eq N_0) t0_7 rfl j, zero_add]
  obtain ⟨k, q, rfl⟩ : ∃ (k : Fin 8) (q : Fin 1024), j = ValueIdx.ix2 k q := ⟨j 0, j 1, ValueIdx.eq_ix2 j⟩
  unfold val_main_v58
  have sums : ∀ f : Fin cfg0.N → EReal, (∀ t, added m c t (ValueIdx.ix2 k q) = f t) → ∑ t, added m c t (ValueIdx.ix2 k q) = ∑ t, f t :=
    fun f e => Finset.sum_congr rfl fun t _ => e t
  by_cases h : k.val = 0
  · refine (sums (fun t => share m c t (ValueIdx.ix2 0 q)) fun t => if_pos h).trans ((total m c q).trans ?_)
    exact Eq.symm (concat_row _ _ k q 0 (by show (0 : Nat) < 2; decide) _ rfl 0 rfl 0 (show 0 + 0 = k.val by omega))
  · refine (sums (fun _ => 0) fun t => if_neg h).trans (Finset.sum_const_zero.trans ?_)
    refine Eq.trans ?_ (Eq.symm (concat_row _ _ k q 1 (by show (1 : Nat) < 2; decide) (val_main_v57 (F := Ideal)) rfl 1 rfl ⟨k.val - 1, by omega⟩ (show 1 + (k.val - 1) = k.val by omega)))
    exact Ideal.ofBits_zero_f32.symm

end Cert.MlpGrad
-- ==== Proof.MlpClaim.lean ====
/-
  `_mlp_bwd`: the value claim, from what the blocks of the results hold at the end (MlpTiles, MlpSums).
-/
module

public import proofs.«01_k».proof.Defs
public import proofs.«01_k».proof.Proof.MlpSums
public import proofs.«01_k».proof.Proof.Gen.MlpBwdRefIdeal.Run
public import proofs.«01_k».proof.Proof.Gen.MlpBwdRefIdeal.Read

@[expose] public section

noncomputable section

open Idealize.ShloMosaic Idealize.ShloMosaic.TcCoe Idealize.SL.Sem

namespace Cert.MlpGrad

set_option maxHeartbeats 1000000 in
/-- From memories that agree on the arguments, the kernel and the reference run and end with equal results. -/
theorem value : @Cert.algebraic_MlpBwdIdeal_MlpBwdRefIdeal Cert.MlpBwdIdeal.Gen.facts Cert.MlpBwdRefIdeal.Gen.facts := by
  intro m g m' g' _ hagree
  refine ⟨_, _, _, _, Cert.MlpBwdIdeal.Value.run_blocks m g, ?_⟩
  refine (θ_run Cert.MlpBwdRefIdeal.defs _ _).mono (fun _ h c => ⟨(h c).1.trans ?_, (h c).2.1.trans ?_, (h c).2.2.1.trans ?_, (h c).2.2.2.1.trans ?_, (h c).2.2.2.2⟩)
    (Cert.MlpBwdRefIdeal.Value.run (F := Ideal) m' g')
  · obtain ⟨a0, a1, a2, a3, a4⟩ := hagree c
    refine (Cert.MlpBwdRefIdeal.Read.val_main_v55_eq _ _ _ _ _).trans ?_
    rw [a0, a1, a2, a3, a4]
    exact (final5 m c).symm
  · obtain ⟨a0, a1, a2, a3, a4⟩ := hagree c
    rw [Cert.MlpBwdRefIdeal.Read.val_main_v54_eq m' c, a0, a1, a2, a3, a4]
    exact (final6 m c).symm
  · obtain ⟨a0, a1, a2, a3, a4⟩ := hagree c
    rw [Cert.MlpBwdRefIdeal.Read.val_main_v56_eq m' c, a0, a1, a2, a3, a4]
    exact (final7 m c).symm
  · obtain ⟨a0, a1, a2, a3, a4⟩ := hagree c
    rw [Cert.MlpBwdRefIdeal.Read.val_main_v58_eq m' c, a0, a1, a2, a3, a4]
    exact (final8 m c).symm

end Cert.MlpGrad

end
-- ==== Proof.InGrad.lean ====
/-
  THE STAGES OF `_in_proj_bwd` ON ONE TILE. The gradient of the normed rows is a product with the input projection's weights,
  which the kernel takes in four segments, one for each incoming gradient, and the reference at once with the four side by
  side (`product`). The rest is the gradient of the mean-square norm, operation by operation.
-/
module

public import proofs.«01_k».proof.Proof.Gen.InProjBwdIdeal.Skeleton
public import proofs.«01_k».proof.Proof.Gen.InProjBwdRefIdeal.Read
public import proofs.«01_k».proof.Proof.Blocks

@[expose] public section

set_option maxRecDepth 16384

noncomputable section

namespace Cert.InGrad

open Idealize.ShloMosaic Idealize.ShloMosaic.ValueIdx Cert.Rows Cert.InProjBwdIdeal.Gen Cert.InProjBwdRefIdeal.Read
open scoped BigOperators

/-- A column of arrays put side by side is a column of the piece it falls in. -/
theorem concat_col {α : Type} {R C r : Nat} (xs : List ((s : Shape) × (s.Idx → α)))
    (h : Shape.Concatenates (xs.map (·.1)) ⟨2, ![R, C]⟩ 1) (k : Fin R) (q : Fin C) (n : Nat) (hn : n < xs.length)
    (x : (⟨2, ![R, r]⟩ : Shape).Idx → α) (hx : xs[n] = ⟨⟨2, ![R, r]⟩, x⟩) (pre : Nat)
    (hpre : (((xs.take n).map (·.1)).map fun s => if h : s.rank = 2 then s.size ((1 : Fin 2).cast h.symm) else 0).sum = pre)
    (u : Fin r) (hu : pre + u.val = q.val) :
    concatenate ⟨2, ![R, C]⟩ 1 xs h (ix2 k q) = x (ix2 k u) := by
  refine concatenate_apply_piece (t := ⟨2, ![R, C]⟩) 1 xs h (ix2 k q) n hn ⟨2, ![R, r]⟩ x hx rfl pre hpre (ix2 k u) ?_ hu
  intro b hb
  match b with
  | ⟨0, _⟩ => rfl
  | ⟨1, _⟩ => exact absurd rfl hb

/-- A sum over the columns is the sum of the sums over the four segments. -/
theorem segments (f : Fin 4624 → EReal) : ∑ k, f k
    = ∑ k : Fin 1024, f ⟨k.val, by omega⟩ + ∑ k : Fin 1536, f ⟨1024 + k.val, by omega⟩ + ∑ k : Fin 16, f ⟨2560 + k.val, by omega⟩
      + ∑ k : Fin 2048, f ⟨2576 + k.val, by omega⟩ :=
  (Fin.sum_univ_add (a := 2576) (b := 2048) f).trans (congrArg (· + _) ((Fin.sum_univ_add (a := 2560) (b := 16) _).trans
    (congrArg (· + _) (Fin.sum_univ_add (a := 1024) (b := 1536) _))))

/-- An element of the kernel's product into zeros. -/
theorem nn_matmul {n K C : Nat} {φ₁ φ₂ : FTy} {A : FVec Ideal ⟨2, ![n, K]⟩ φ₁} {B : FVec Ideal ⟨2, ![K, C]⟩ φ₂}
    (d : DotDims ⟨2, ![n, K]⟩ ⟨2, ![K, C]⟩ ⟨2, ![n, C]⟩) (hd : d = DotDims.plain n K C) (r : Fin n) (c : Fin C) :
    matmul d none A B (constant ⟨2, ![n, C]⟩ .f32 0x00000000#32) (ix2 r c) = ∑ k : Fin K, A (ix2 r k) * B (ix2 k c) := by
  subst hd
  show FloatOps.matmul _ _ _ _ _ _ = _
  rw [Ideal.matmul_plain_apply]
  show Ideal.ofBits .f32 0x00000000#32 + _ = _
  rw [Ideal.ofBits_zero_f32, zero_add]

variable {o : Nat} {h : o + 512 ≤ 4096}
  {a0 : Vec Ideal ⟨2, ![512, 1024]⟩ .bf16} {a1 : Vec Ideal ⟨2, ![512, 1536]⟩ .bf16} {a2 : Vec Ideal ⟨2, ![512, 16]⟩ .bf16} {a3 : Vec Ideal ⟨2, ![512, 2048]⟩ .bf16}
  {a4 a5 : Vec Ideal ⟨2, ![512, 1024]⟩ .f32} {a6 : Vec Ideal ⟨2, ![1, 1024]⟩ .f32}
  {x0 : Vec Ideal ⟨2, ![4096, 1024]⟩ .bf16} {x1 : Vec Ideal ⟨2, ![4096, 1536]⟩ .bf16} {x2 : Vec Ideal ⟨2, ![4096, 16]⟩ .bf16} {x3 : Vec Ideal ⟨2, ![4096, 2048]⟩ .bf16}
  {x4 x5 : Vec Ideal ⟨2, ![4096, 1024]⟩ .f32} {x6 : Vec Ideal ⟨2, ![1, 1024]⟩ .f32} {x7 : Vec Ideal ⟨2, ![4624, 1024]⟩ .bf16}

/-- A segment of the weights: rows from `q` on. -/
abbrev seg (n q : Nat) (hq : q + n ≤ 4624) (W : Vec Ideal ⟨2, ![4624, 1024]⟩ .bf16) : Vec Ideal ⟨2, ![n, 1024]⟩ .bf16 := fun i => W (row2 q hq i)

/-- The product of the incoming gradients on a tile with the weights. -/
abbrev prod (a0 : Vec Ideal ⟨2, ![512, 1024]⟩ .bf16) (a1 : Vec Ideal ⟨2, ![512, 1536]⟩ .bf16) (a2 : Vec Ideal ⟨2, ![512, 16]⟩ .bf16)
    (a3 : Vec Ideal ⟨2, ![512, 2048]⟩ .bf16) (W : Vec Ideal ⟨2, ![4624, 1024]⟩ .bf16) : FVec Ideal ⟨2, ![512, 1024]⟩ .f32 :=
  k0_pay6 (F := Ideal) a0 (seg 1024 0 (by decide) W) a1 (seg 1536 1024 (by decide) W) a2 (seg 16 2560 (by decide) W) a3 (seg 2048 2576 (by decide) W)

/-- The reference's product, an element of it as a sum over the columns. -/
theorem whole_product (r : Fin 4096) (c : Fin 1024) : val_main_v27 (F := Ideal) x0 x1 x2 x3 x7 (ix2 r c)
    = ∑ k : Fin 4624, val_main_v26 (F := Ideal) x0 x1 x2 x3 (ix2 r k) * x7 (ix2 k c) :=
  (nt_dot (A := val_main_v26 (F := Ideal) x0 x1 x2 x3) (B := val_main_v16 (F := Ideal) x7) (φ₁ := .f32) (φ₂ := .f32) r c).trans
    (Finset.sum_congr rfl fun k _ => congrArg (val_main_v26 (F := Ideal) x0 x1 x2 x3 (ix2 r k) * ·) (swap_apply k c))

theorem col0 (r : Fin 4096) (k : Fin 1024) (hk : k.val < 4624) : val_main_v26 (F := Ideal) x0 x1 x2 x3 (ix2 r ⟨k.val, hk⟩) = x0 (ix2 r k) :=
  concat_col _ _ r ⟨k.val, hk⟩ 0 (by show (0 : Nat) < 4; decide) (val_main_v22 (F := Ideal) x0) rfl 0 rfl k (Nat.zero_add _)
theorem col1 (r : Fin 4096) (k : Fin 1536) (hk : 1024 + k.val < 4624) : val_main_v26 (F := Ideal) x0 x1 x2 x3 (ix2 r ⟨1024 + k.val, hk⟩) = x1 (ix2 r k) :=
  concat_col _ _ r ⟨1024 + k.val, hk⟩ 1 (by show (1 : Nat) < 4; decide) (val_main_v23 (F := Ideal) x1) rfl 1024 rfl k rfl
theorem col2' (r : Fin 4096) (k : Fin 16) (hk : 2560 + k.val < 4624) : val_main_v26 (F := Ideal) x0 x1 x2 x3 (ix2 r ⟨2560 + k.val, hk⟩) = x2 (ix2 r k) :=
  concat_col _ _ r ⟨2560 + k.val, hk⟩ 2 (by show (2 : Nat) < 4; decide) (val_main_v24 (F := Ideal) x2) rfl 2560 rfl k rfl
theorem col3 (r : Fin 4096) (k : Fin 2048) (hk : 2576 + k.val < 4624) : val_main_v26 (F := Ideal) x0 x1 x2 x3 (ix2 r ⟨2576 + k.val, hk⟩) = x3 (ix2 r k) :=
  concat_col _ _ r ⟨2576 + k.val, hk⟩ 3 (by show (3 : Nat) < 4; decide) (val_main_v25 (F := Ideal) x3) rfl 2576 rfl k rfl

/-- The kernel's product on a tile is the tile of the reference's. -/
theorem product (r0 : Along (row2 o h) a0 x0) (r1 : Along (row2 o h) a1 x1) (r2 : Along (row2 o h) a2 x2) (r3 : Along (row2 o h) a3 x3) :
    Along (row2 o h) (prod a0 a1 a2 a3 x7) (val_main_v27 (F := Ideal) x0 x1 x2 x3 x7) := fun i => by
  obtain ⟨a, b, rfl⟩ : ∃ (a : Fin 512) (b : Fin 1024), i = ix2 a b := ⟨i 0, i 1, eq_ix2 i⟩
  refine Eq.trans ?_ (whole_product ⟨o + a.val, by omega⟩ b).symm
  rw [segments]
  have e0 := nn_matmul (φ₁ := .bf16) (φ₂ := .bf16) (A := a0) (B := seg 1024 0 (by decide) x7) Cert.InProjBwdIdeal.dot_S512x1024_S1024x1024_S512x1024_1_0_0_1_n_n (by rfl) a b
  have e1 := nn_matmul (φ₁ := .bf16) (φ₂ := .bf16) (A := a1) (B := seg 1536 1024 (by decide) x7) Cert.InProjBwdIdeal.dot_S512x1536_S1536x1024_S512x1024_1_0_0_1_n_n (by rfl) a b
  have e2 := nn_matmul (φ₁ := .bf16) (φ₂ := .bf16) (A := a2) (B := seg 16 2560 (by decide) x7) Cert.InProjBwdIdeal.dot_S512x16_S16x1024_S512x1024_1_0_0_1_n_n (by rfl) a b
  have e3 := nn_matmul (φ₁ := .bf16) (φ₂ := .bf16) (A := a3) (B := seg 2048 2576 (by decide) x7) Cert.InProjBwdIdeal.dot_S512x2048_S2048x1024_S512x1024_1_0_0_1_n_n (by rfl) a b
  refine (congrArg₂ (fun x y : EReal => x + y) (congrArg₂ (fun x y : EReal => x + y) (congrArg₂ (fun x y : EReal => x + y)
    (congrArg₂ (fun x y : EReal => x + y) Ideal.ofBits_zero_f32 e0) e1) e2) e3).trans ?_
  rw [zero_add]
  refine congrArg₂ (fun x y : EReal => x + y) (congrArg₂ (fun x y : EReal => x + y) (congrArg₂ (fun x y : EReal => x + y) ?_ ?_) ?_) ?_
  · refine Finset.sum_congr rfl fun k _ => congrArg₂ (fun x y : EReal => x * y) ((r0 (ix2 a k)).trans (col0 _ k _).symm) ?_
    exact congrArg x7 (congrArg (fun k => ix2 k b) (Fin.ext (Nat.zero_add _)))
  · exact Finset.sum_congr rfl fun k _ => congrArg₂ (fun x y : EReal => x * y) ((r1 (ix2 a k)).trans (col1 _ k _).symm) rfl
  · exact Finset.sum_congr rfl fun k _ => congrArg₂ (fun x y : EReal => x * y) ((r2 (ix2 a k)).trans (col2' _ k _).symm) rfl
  · exact Finset.sum_congr rfl fun k _ => congrArg₂ (fun x y : EReal => x * y) ((r3 (ix2 a k)).trans (col3 _ k _).symm) rfl

variable {D : FVec Ideal ⟨2, ![512, 1024]⟩ .f32}

/-- The rows' mean squares and the small constant. -/
theorem mean (r4 : Along (row2 o h) a4 x4) : Along (row2 o h) (k0_pay1 (F := Ideal) (k0_pay7 a4) k0_pay8) (val_main_v7 (F := Ideal) x4) :=
  ((r4.mul r4).rowSum.colB.div along_const).add along_const

/-- The inverse root of that. -/
theorem inverse (r4 : Along (row2 o h) a4 x4) : Along (row2 o h) (k0_pay2 (F := Ideal) (k0_pay7 a4) k0_pay8) (val_main_v8 (F := Ideal) x4) := (mean r4).rsqrt

/-- The derivative of the inverse root. -/
theorem slope (r4 : Along (row2 o h) a4 x4) :
    Along (row2 o h) (mulf (broadcast ⟨2, ![512, 1]⟩ (Scalar.ofBits .f32 0xBF000000#32)) (divf (k0_pay2 (F := Ideal) (k0_pay7 a4) k0_pay8) (k0_pay1 (k0_pay7 a4) k0_pay8)))
      (val_main_v11 (F := Ideal) x4) :=
  along_const.mul ((inverse r4).div (mean r4))

/-- The normalised rows. -/
theorem normed {hb : (⟨2, ![512, 1]⟩ : Shape).Broadcasts ⟨2, ![512, 1024]⟩} (r4 : Along (row2 o h) a4 x4) :
    Along (row2 o h) (mulf a4 (broadcastTo ⟨2, ![512, 1024]⟩ (k0_pay2 (F := Ideal) (k0_pay7 a4) k0_pay8) hb)) (val_main_v13 (F := Ideal) x4) :=
  r4.mul (inverse r4).spread

section Back
variable (rd : Along (row2 o h) D (val_main_v27 (F := Ideal) x0 x1 x2 x3 x7)) (r4 : Along (row2 o h) a4 x4)
include rd r4

/-- The terms of the gradient of the norm's weight. -/
theorem weight_terms {hb : (⟨2, ![512, 1]⟩ : Shape).Broadcasts ⟨2, ![512, 1024]⟩} :
    Along (row2 o h) (mulf (mulf a4 (broadcastTo ⟨2, ![512, 1024]⟩ (k0_pay2 (F := Ideal) (k0_pay7 a4) k0_pay8) hb)) D)
      (val_main_v28 (F := Ideal) x0 x1 x2 x3 x4 x7) := (normed r4).mul rd

/-- The gradient of the residual stream. -/
theorem stream (r5 : Along (row2 o h) a5 x5) (e6 : a6 = x6) :
    Along (row2 o h) (k0_pay3 (F := Ideal) D a4 a6 (k0_pay7 a4) k0_pay8 a5) (val_main_v47 (F := Ideal) x0 x1 x2 x3 x4 x5 x6 x7) := by
  have s0 : Along (row2 o h) _ (val_main_v32 (F := Ideal) x0 x1 x2 x3 x6 x7) := rd.mul (along_params e6)
  have s1 : Along (row2 o h) _ (val_main_v35 (F := Ideal) x0 x1 x2 x3 x4 x6 x7) := (r4.mul s0).rowSum.col
  have s2 : Along (row2 o h) _ (val_main_v40 (F := Ideal) x0 x1 x2 x3 x4 x6 x7) := (s1.mul (slope r4)).div along_const
  have s3 : Along (row1 o h) _ (val_main_v41 (F := Ideal) x0 x1 x2 x3 x4 x6 x7) := s2.rowSum
  have s4 : Along (row2 o h) _ (val_main_v42 (F := Ideal) x0 x1 x2 x3 x4 x6 x7) := s3.colSpread
  exact r5.add (((s0.mul (inverse r4).spread).add (r4.mul s4)).add (s4.mul r4))

end Back

end Cert.InGrad

end
-- ==== Proof.InTiles.lean ====
/-
  THE RESULTS OF `_in_proj_bwd`. At grid point `t` the kernel's input blocks are the rows from `512 * t` on of its row
  arrays. By the stages of `InGrad` the gradient of the residual stream it stores is its tile of the reference's, and the
  eight tiles cover that result. Row 0 of an 8 by 1024 block is the sum over the grid points of each point's column sum, the
  gradient of the norm's scale; the reference adds up all 4096 rows at once and puts seven rows of zeros below.
-/
module

public import proofs.«01_k».proof.Proof.Gen.InProjBwdIdeal.Value
public import proofs.«01_k».proof.Proof.InGrad
public import proofs.«01_k».proof.Proof.AccRows
public import Idealize.ShloMosaic.Lib.Pipeline.ValueKit

@[expose] public section

set_option maxRecDepth 16384

noncomputable section

namespace Cert.InGrad

open Idealize.ShloMosaic Idealize.ShloMosaic.TcCoe Idealize.SL.Sem Idealize.ShloMosaic.ValueIdx
open Idealize.ShloMosaic.Pipeline (Dat)
open Cert.Rows Cert.InProjBwdIdeal Cert.InProjBwdIdeal.Gen Cert.InProjBwdRefIdeal.Read
open scoped BigOperators

variable (m : (ℓ : Loc nD τ sig) → Buf (Elt Ideal) ℓ) (c : Dev nD)

/-- The block indices of the windows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![t.val, 0] ∧ win0_9.index t = ![0, 0] :=
  (by decide +kernel : ∀ t : Fin grid0.N, _)

/-- A tile's rows are rows of the whole array. -/
theorem inside (t : Fin cfg0.N) : 512 * t.val + 512 ≤ 4096 := by
  have := t.isLt.trans_eq N_0
  omega

theorem rows0 (t : Fin cfg0.N) : Along (row2 (512 * t.val) (inside t)) (iblk m c 0 t) (m ((c : Thread nD τ).loc main_arg0)) := fun i => by
  blk_ext [iblk, V, idx t]
theorem rows1 (t : Fin cfg0.N) : Along (row2 (512 * t.val) (inside t)) (iblk m c 1 t) (m ((c : Thread nD τ).loc main_arg1)) := fun i => by
  blk_ext [iblk, V, idx t]
theorem rows2 (t : Fin cfg0.N) : Along (row2 (512 * t.val) (inside t)) (iblk m c 2 t) (m ((c : Thread nD τ).loc main_arg2)) := fun i => by
  blk_ext [iblk, V, idx t]
theorem rows3 (t : Fin cfg0.N) : Along (row2 (512 * t.val) (inside t)) (iblk m c 3 t) (m ((c : Thread nD τ).loc main_arg3)) := fun i => by
  blk_ext [iblk, V, idx t]
theorem rows4 (t : Fin cfg0.N) : Along (row2 (512 * t.val) (inside t)) (iblk m c 4 t) (m ((c : Thread nD τ).loc main_arg4)) := fun i => by
  blk_ext [iblk, V, idx t]
theorem rows5 (t : Fin cfg0.N) : Along (row2 (512 * t.val) (inside t)) (iblk m c 5 t) (m ((c : Thread nD τ).loc main_arg5)) := fun i => by
  blk_ext [iblk, V, idx t]
theorem whole6 (t : Fin cfg0.N) : iblk m c 6 t = (m ((c : Thread nD τ).loc main_arg6)) := funext fun i => by
  blk_ext [iblk, V, idx t]
theorem whole7 (t : Fin cfg0.N) : iblk m c 7 t = (m ((c : Thread nD τ).loc main_arg7)) := funext fun i => by
  blk_ext [iblk, V, idx t]

/-- The product at grid point `t`. -/
abbrev prodAt (t : Fin cfg0.N) : FVec Ideal ⟨2, ![512, 1024]⟩ .f32 := prod (iblk m c 0 t) (iblk m c 1 t) (iblk m c 2 t) (iblk m c 3 t) (m ((c : Thread nD τ).loc main_arg7))
theorem productAt (t : Fin cfg0.N) : Along (row2 (512 * t.val) (inside t)) (prodAt m c t) (val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg7))) :=
  product (rows0 m c t) (rows1 m c t) (rows2 m c t) (rows3 m c t)

/-- What grid point `t` stores in window 8. -/
theorem after8 (t : Fin cfg0.N) : Along (row2 (512 * t.val) (inside t)) (outsAt0 m c t.val t.isLt).1 (val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  by_cases h : t.val % 8 = 0
  · rw [outsAt0_A m c t h]
    dsimp only
    frame_out
    rw [whole7]
    simp only [ld_rows]
    exact stream (productAt m c t) (rows4 m c t) (rows5 m c t) (whole6 m c t)
  · rw [outsAt0_B m c t h]
    dsimp only
    frame_out
    rw [whole7]
    simp only [ld_rows]
    exact stream (productAt m c t) (rows4 m c t) (rows5 m c t) (whole6 m c t)

theorem final8 : (dats m 0 c).arrAt 8 (cfgs 0).N = (val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (dats m 0 c).arrAt_eq_of_covers 8 _ (by decide +kernel) fun t hf y => ?_
  blk_simp
  rw [after0_8]
  refine (after8 m c t y).trans ?_
  blk_ext [idx t]

/-- The terms grid point `t` sums for row 0. -/
abbrev terms (t : Fin cfg0.N) : FVec Ideal ⟨2, ![512, 1024]⟩ .f32 :=
  mulf (F := Ideal) (φ := .f32) (mulf (F := Ideal) (φ := .f32) (iblk m c 4 t) (broadcastTo ⟨2, ![512, 1024]⟩ (k0_pay2 (F := Ideal) (k0_pay7 (iblk m c 4 t)) k0_pay8) broadcasts_S512x1_S512x1024)) (prodAt m c t)

/-- Grid point `t`'s share of row 0. -/
def share (t : Fin cfg0.N) : FVec Ideal ⟨2, ![1, 1024]⟩ .f32 :=
  shapeCast ⟨2, ![1, 1024]⟩ (multiReduction (F := Ideal) .add [0] ⟨1, ![1024]⟩ (terms m c t) 0x00000000#32 reduces_S512x1024_S1024 (.inl rfl) rfl) shapeCasts_S1024_S1x1024

/-- What grid point `t` adds at an element of the block. -/
def added (t : Fin cfg0.N) (i : (⟨2, ![8, 1024]⟩ : Shape).Idx) : EReal :=
  if (i 0).val = 0 then share m c t (ValueIdx.ix2 0 (i 1)) else 0

theorem row_add (t : Fin cfg0.N) (b : FVec Ideal ⟨2, ![1, 1024]⟩ .f32) (j : (⟨2, ![1, 1024]⟩ : Shape).Idx) :
    k0_pay4 (F := Ideal) (prodAt m c t) (iblk m c 4 t) (k0_pay7 (iblk m c 4 t)) k0_pay8 b j = b j + share m c t j :=
  congrArg (fun x : EReal => x + share m c t j) (sameShape_apply j)
theorem zeros_apply (i : (⟨2, ![8, 1024]⟩ : Shape).Idx) : k0_pay5 (F := Ideal) i = 0 := Ideal.ofBits_zero_f32

/-- The first grid point starts from zeros, -/
theorem acc_first (t : Fin cfg0.N) (h : t.val % 8 = 0) (i : (⟨2, ![8, 1024]⟩ : Shape).Idx) :
    (outsAt0 m c t.val t.isLt).2 i = (fun _ => (0 : EReal)) i + added m c t i := by
  rw [outsAt0_A m c t h]
  dsimp only
  frame_out
  rw [whole7]
  simp only [ld_rows]
  obtain ⟨k, q, rfl⟩ : ∃ (k : Fin 8) (q : Fin 1024), i = ValueIdx.ix2 k q := ⟨i 0, i 1, ValueIdx.eq_ix2 i⟩
  rw [canon_row, View.canon_unit_zero (by decide)]
  unfold added
  show _ = (0 : EReal) + (if k.val = 0 then _ else 0)
  split_ifs with h0
  · refine (row_add m c t _ _).trans ?_
    rw [View.readCov_fill _ _ _ _ _ (by decide), ld_row _ _ k q h0, zeros_apply]
  · rw [zeros_apply, add_zero]

/-- and each later one adds to what the one before left. -/
theorem acc_next (t : Fin cfg0.N) (h : ¬t.val % 8 = 0) (i : (⟨2, ![8, 1024]⟩ : Shape).Idx) :
    (outsAt0 m c t.val t.isLt).2 i
      = (outsAt0 m c (t.val - 1) (Nat.lt_of_le_of_lt (Nat.sub_le _ _) t.isLt)).2 i + added m c t i := by
  rw [outsAt0_B m c t h]
  dsimp only
  frame_out
  rw [whole7]
  simp only [ld_rows]
  generalize (outsAt0 m c (t.val - 1) (Nat.lt_of_le_of_lt (Nat.sub_le _ _) t.isLt)).2 = X
  obtain ⟨k, q, rfl⟩ : ∃ (k : Fin 8) (q : Fin 1024), i = ValueIdx.ix2 k q := ⟨i 0, i 1, ValueIdx.eq_ix2 i⟩
  rw [writes_row, View.writes_nil, Memref.IsWhole.read_unread]
  unfold added
  show _ = X (ValueIdx.ix2 k q) + (if k.val = 0 then _ else 0)
  split_ifs with h0
  · refine (row_add m c t _ _).trans ?_
    exact congrArg (fun x : EReal => x + share m c t (ValueIdx.ix2 0 q)) (congrArg X (congrArg (fun k => ValueIdx.ix2 k q) (Fin.ext (by show 0 + 0 = k.val; omega))))
  · rw [add_zero]

theorem total (q : Fin 1024) : ∑ t, share m c t (ValueIdx.ix2 0 q) = (val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) (ValueIdx.ix2 0 q) := by
  have e : ∀ t, share m c t (ValueIdx.ix2 0 q) = multiReduction (F := Ideal) .add [0] ⟨1, ![1024]⟩ (terms m c t) 0x00000000#32 reduces_S512x1024_S1024 (.inl rfl) rfl (ValueIdx.ix1 q) :=
    fun t => rowVec_apply (A := multiReduction (F := Ideal) .add [0] ⟨1, ![1024]⟩ (terms m c t) 0x00000000#32 reduces_S512x1024_S1024 (.inl rfl) rfl) (hk := shapeCasts_S1024_S1x1024) q
  refine (Finset.sum_congr rfl fun t _ => e t).trans (Eq.trans ?_ (rowVec_apply (A := val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) (hk := shapeCasts_S1024_S1x1024) q).symm)
  exact colSum_tiles (T := 8) rfl inside (fun t => weight_terms (productAt m c t) (rows4 m c t)) _ (by decide) q

theorem final9 : (dats m 0 c).arrAt 9 (cfgs 0).N = (val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))) := by
  refine (dats m 0 c).arrAt_eq_of_after_last 9 t0_7 (by decide +kernel) _ fun j => ?_
  blk_simp
  rw [after0_9, Pipeline.eq_sum_fin_of_reset_step_apply_last (fun n h => (outsAt0 m c n h).2) 8 (fun _ => 0) (added m c)
    (acc_first m c) (acc_next m c) (le_of_eq N_0) t0_7 rfl j, zero_add]
  obtain ⟨k, q, rfl⟩ : ∃ (k : Fin 8) (q : Fin 1024), j = ValueIdx.ix2 k q := ⟨j 0, j 1, ValueIdx.eq_ix2 j⟩
  unfold val_main_v49
  have sums : ∀ f : Fin cfg0.N → EReal, (∀ t, added m c t (ValueIdx.ix2 k q) = f t) → ∑ t, added m c t (ValueIdx.ix2 k q) = ∑ t, f t :=
    fun f e => Finset.sum_congr rfl fun t _ => e t
  by_cases h : k.val = 0
  · refine (sums (fun t => share m c t (ValueIdx.ix2 0 q)) fun t => if_pos h).trans ((total m c q).trans ?_)
    exact Eq.symm (concat_row _ _ k q 0 (by show (0 : Nat) < 2; decide) _ rfl 0 rfl 0 (show 0 + 0 = k.val by omega))
  · refine (sums (fun _ => 0) fun t => if_neg h).trans (Finset.sum_const_zero.trans ?_)
    refine Eq.trans ?_ (Eq.symm (concat_row _ _ k q 1 (by show (1 : Nat) < 2; decide) (val_main_v48 (F := Ideal)) rfl 1 rfl ⟨k.val - 1, by omega⟩ (show 1 + (k.val - 1) = k.val by omega)))
    exact Ideal.ofBits_zero_f32.symm

end Cert.InGrad

end
-- ==== Proof.InClaim.lean ====
/-
  `_in_proj_bwd`: the value claim, from what the blocks of the results hold at the end (InTiles).
-/
module

public import proofs.«01_k».proof.Defs
public import proofs.«01_k».proof.Proof.InTiles
public import proofs.«01_k».proof.Proof.Gen.InProjBwdRefIdeal.Run
public import proofs.«01_k».proof.Proof.Gen.InProjBwdRefIdeal.Read

@[expose] public section

noncomputable section

open Idealize.ShloMosaic Idealize.ShloMosaic.TcCoe Idealize.SL.Sem

namespace Cert.InGrad

set_option maxHeartbeats 1000000 in
/-- From memories that agree on the arguments, the kernel and the reference run and end with equal results. -/
theorem value : @Cert.algebraic_InProjBwdIdeal_InProjBwdRefIdeal Cert.InProjBwdIdeal.Gen.facts Cert.InProjBwdRefIdeal.Gen.facts := by
  intro m g m' g' _ hagree
  refine ⟨_, _, Cert.InProjBwdIdeal.Value.run_blocks m g, ?_⟩
  refine (θ_run Cert.InProjBwdRefIdeal.defs _ _).mono (fun _ h c => ⟨(h c).1.trans ?_, (h c).2.1.trans ?_, (h c).2.2⟩)
    (Cert.InProjBwdRefIdeal.Value.run (F := Ideal) m' g')
  · obtain ⟨a0, a1, a2, a3, a4, a5, a6, a7⟩ := hagree c
    rw [Cert.InProjBwdRefIdeal.Read.val_main_v47_eq m' c, a0, a1, a2, a3, a4, a5, a6, a7]
    exact (final8 m c).symm
  · obtain ⟨a0, a1, a2, a3, a4, _, _, a7⟩ := hagree c
    refine (Cert.InProjBwdRefIdeal.Read.val_main_v49_eq _ _ _ _ _ _).trans ?_
    rw [a0, a1, a2, a3, a4, a7]
    exact (final9 m c).symm

end Cert.InGrad

end
-- ==== Proof.DwDownValue.lean ====
/-
  THE GRADIENT OF THE WEIGHT `w_down`: the product of the transposed activations `relu(pre)^2` with the gradient of the
  layer's result, a tile of 512 rows at each grid point.
-/
module

public import proofs.«01_k».proof.Defs
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.Products
public import Idealize.ShloMosaic.Lib.Pipeline.ValueKit

@[expose] public section

set_option maxRecDepth 16384

noncomputable section

namespace Cert.DwDownValue

open Idealize.ShloMosaic Idealize.ShloMosaic.TcCoe Idealize.SL.Sem Idealize.ShloMosaic.ValueIdx
open Idealize.ShloMosaic.Pipeline (Dat)
open Cert.Rows Cert.DwDownIdeal Cert.DwDownIdeal.Gen Cert.DwDownRefIdeal.Read

variable (m : (ℓ : Loc nD τ sig) → Buf (Elt Ideal) ℓ) (c : Dev nD)

/-- The host's lines before the call leave the one factor in its first array … -/
theorem entry0 : V m c main_v2 = ((truncf .bf16 (val_main_v2 (F := Ideal) (m ((c : Thread nD τ).loc main_arg1))) bitsLt_bf16_f32) : FVec Ideal S4096x4096 .bf16) := by
  show StableHlo.after _ _ _ = _
  simp only [hostOps0, hostOps0_1, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- … and the other factor in its second. -/
theorem entry1 : V m c main_v3 = ((truncf .bf16 (m ((c : Thread nD τ).loc main_arg2)) bitsLt_bf16_f32) : FVec Ideal S4096x1024 .bf16) := by
  show StableHlo.after _ _ _ = _
  simp only [hostOps0, hostOps0_1, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- One step's product, from a block of columns of the first factor. -/
theorem tile {o : Nat} {h : o + 512 ≤ 4096} {x0 : Vec Ideal S4096x512 .bf16} {x1 : Vec Ideal S4096x1024 .bf16}
    (r : Along (col2 o h) x0 (val_main_v2 (F := Ideal) (m ((c : Thread nD τ).loc main_arg1)))) (e : (x1 : _ → EReal) = (m ((c : Thread nD τ).loc main_arg2))) :
    Along (row2 o h) (k0_pay1 (F := Ideal) x0 x1) (val_main_v7 (F := Ideal) (m ((c : Thread nD τ).loc main_arg1)) (m ((c : Thread nD τ).loc main_arg2))) := by
  unfold k0_pay1 val_main_v7
  dsimp only
  rw [sameShape, sameShape]
  exact tn_transposed (φ₁ := .bf16) (φ₂ := .bf16) (ψ₁ := .f32) (ψ₂ := .f32) r e _ _

/-- The block indices of the windows. -/
theorem idx : ∀ t : Fin cfg0.N, win0_0.index t = ![0, t.val] ∧ win0_1.index t = ![0, 0] ∧ win0_2.index t = ![t.val, 0] :=
  (by decide +kernel : ∀ t : Fin grid0.N, _)

/-- A tile's rows are rows of the whole result. -/
theorem inside (t : Fin cfg0.N) : 512 * t.val + 512 ≤ 4096 := by
  have := t.isLt.trans_eq N_0
  omega

theorem cols0 (t : Fin cfg0.N) : Along (col2 (512 * t.val) (inside t)) (iblk m c 0 t) (V m c main_v2) := fun i => by
  blk_ext [iblk, idx t]
theorem whole1 (t : Fin cfg0.N) : iblk m c 1 t = V m c main_v3 := funext fun i => by
  blk_ext [iblk, idx t]

/-- What grid point `t` stores: its tile of rows of the weight's gradient. -/
theorem after2 (t : Fin cfg0.N) : Along (row2 (512 * t.val) (inside t)) (out0_2 (iblk m c 0 t) (iblk m c 1 t)) (val_main_v7 (F := Ideal) (m ((c : Thread nD τ).loc main_arg1)) (m ((c : Thread nD τ).loc main_arg2))) := by
  unfold out0_2
  frame_out
  exact tile m c (fun i => (cols0 m c t i).trans (congrFun (entry0 m c) _)) ((whole1 m c t).trans (entry1 m c))

/-- The tiles cover the result. -/
theorem final2 : (dats m 0 c).arrAt 2 (cfgs 0).N = (val_main_v7 (F := Ideal) (m ((c : Thread nD τ).loc main_arg1)) (m ((c : Thread nD τ).loc main_arg2))) := by
  refine (dats m 0 c).arrAt_eq_of_covers 2 _ (by decide +kernel) fun t hf y => ?_
  blk_simp
  rw [after0_2]
  refine (after2 m c t y).trans ?_
  blk_ext [idx t]

set_option maxHeartbeats 1000000 in
/-- From memories that agree on the arguments, the kernel and the reference run and end with equal results. -/
theorem value : @Cert.algebraic_DwDownIdeal_DwDownRefIdeal Cert.DwDownIdeal.Gen.facts Cert.DwDownRefIdeal.Gen.facts := by
  intro m g m' g' _ hagree
  refine ⟨_, Cert.DwDownIdeal.Value.run_blocks m g, ?_⟩
  refine (θ_run Cert.DwDownRefIdeal.defs _ _).mono (fun _ h c => ⟨(h c).1.trans ?_, (h c).2⟩)
    (Cert.DwDownRefIdeal.Value.run (F := Ideal) m' g')
  obtain ⟨_, a1, a2⟩ := hagree c
  refine (Cert.DwDownRefIdeal.Read.val_main_v7_eq _ _).trans ?_
  rw [a1, a2]
  exact (final2 m c).symm

end Cert.DwDownValue

end
-- ==== Proof.DwUpValue.lean ====
/-
  THE GRADIENT OF THE WEIGHT `w_up`: the product of the transposed normed activations with the gradient of the layer's
  result, a block of 512 columns at each grid point, stored as one matrix of a stack.
-/
module

public import proofs.«01_k».proof.Defs
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Products
public import Idealize.ShloMosaic.Lib.Pipeline.ValueKit

@[expose] public section

set_option maxRecDepth 16384

noncomputable section

namespace Cert.DwUpValue

open Idealize.ShloMosaic Idealize.ShloMosaic.TcCoe Idealize.SL.Sem Idealize.ShloMosaic.ValueIdx
open Idealize.ShloMosaic.Pipeline (Dat)
open Cert.Rows Cert.DwUpIdeal Cert.DwUpIdeal.Gen Cert.DwUpRefIdeal.Read

variable (m : (ℓ : Loc nD τ sig) → Buf (Elt Ideal) ℓ) (c : Dev nD)

/-- The host's lines before the call leave the one factor in its first array … -/
theorem entry0 : V m c main_v12 = ((truncf .bf16 (val_main_v14 (F := Ideal) (m ((c : Thread nD τ).loc main_arg0)) (m ((c : Thread nD τ).loc main_arg1))) bitsLt_bf16_f32) : FVec Ideal S4096x1024 .bf16) := by
  show StableHlo.after _ _ _ = _
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- … and the other factor, an argument, in its second. -/
theorem entry1 : V m c main_arg2 = m ((c : Thread nD τ).loc main_arg2) := V_main_arg2 m c

/-- The block indices of the windows. -/
theorem idx : ∀ t : Fin cfg0.N, win0_0.index t = ![0, 0] ∧ win0_1.index t = ![0, t.val] ∧ win0_2.index t = ![t.val, 0, 0] :=
  (by decide +kernel : ∀ t : Fin grid0.N, _)

/-- The grid point as the number of a block. -/
abbrev num (t : Fin cfg0.N) : Fin 8 := ⟨t.val, t.isLt.trans_eq N_0⟩

/-- A block's columns are columns of the whole array. -/
theorem inside (t : Fin cfg0.N) : 512 * (num t).val + 512 ≤ 4096 := by
  have := t.isLt.trans_eq N_0
  show 512 * t.val + 512 ≤ 4096
  omega

theorem whole0 (t : Fin cfg0.N) : iblk m c 0 t = V m c main_v12 := funext fun i => by
  blk_ext [iblk, idx t]
theorem cols1 (t : Fin cfg0.N) : Along (col2 (512 * (num t).val) (inside t)) (iblk m c 1 t) (V m c main_arg2) := fun i => by
  blk_ext [iblk, idx t]

/-- One step's product, from a block of columns of the gradient. -/
theorem tile {g : Fin 8} {h : 512 * g.val + 512 ≤ 4096} {x0 : Vec Ideal S4096x1024 .bf16} {x1 : Vec Ideal S4096x512 .bf16}
    (e : (x0 : _ → EReal) = (val_main_v14 (F := Ideal) (m ((c : Thread nD τ).loc main_arg0)) (m ((c : Thread nD τ).loc main_arg1)))) (r : Along (col2 (512 * g.val) h) x1 ((m ((c : Thread nD τ).loc main_arg2)))) :
    Along (layer g) (k0_pay1 (F := Ideal) x0 x1) (val_main_v21 (F := Ideal) (m ((c : Thread nD τ).loc main_arg0)) (m ((c : Thread nD τ).loc main_arg1)) (m ((c : Thread nD τ).loc main_arg2))) := by
  unfold k0_pay1 val_main_v21
  dsimp only
  rw [sameShape]
  exact tn_blocks (φ₁ := .bf16) (φ₂ := .bf16) (ψ₁ := .f32) (ψ₂ := .f32) e r _ _ rfl

/-- What grid point `t` stores: its block of columns of the weight's gradient. -/
theorem after2 (t : Fin cfg0.N) : Along (layer (num t)) (out0_2 (iblk m c 0 t) (iblk m c 1 t)) (val_main_v21 (F := Ideal) (m ((c : Thread nD τ).loc main_arg0)) (m ((c : Thread nD τ).loc main_arg1)) (m ((c : Thread nD τ).loc main_arg2))) := by
  unfold out0_2
  frame_out
  exact tile m c ((whole0 m c t).trans (entry0 m c)) (fun i => (cols1 m c t i).trans (congrFun (entry1 m c) _))

/-- The tiles cover the result. -/
theorem final2 : (dats m 0 c).arrAt 2 (cfgs 0).N = (val_main_v21 (F := Ideal) (m ((c : Thread nD τ).loc main_arg0)) (m ((c : Thread nD τ).loc main_arg1)) (m ((c : Thread nD τ).loc main_arg2))) := by
  refine (dats m 0 c).arrAt_eq_of_covers 2 _ (by decide +kernel) fun t hf y => ?_
  blk_simp
  rw [after0_2]
  refine (after2 m c t y).trans ?_
  blk_ext [idx t]

set_option maxHeartbeats 1000000 in
/-- From memories that agree on the arguments, the kernel and the reference run and end with equal results. -/
theorem value : @Cert.algebraic_DwUpIdeal_DwUpRefIdeal Cert.DwUpIdeal.Gen.facts Cert.DwUpRefIdeal.Gen.facts := by
  intro m g m' g' _ hagree
  refine ⟨_, Cert.DwUpIdeal.Value.run_blocks m g, ?_⟩
  refine (θ_run Cert.DwUpRefIdeal.defs _ _).mono (fun _ h c => ⟨(h c).1.trans ?_, (h c).2⟩)
    (Cert.DwUpRefIdeal.Value.run (F := Ideal) m' g')
  obtain ⟨a0, a1, a2⟩ := hagree c
  refine (Cert.DwUpRefIdeal.Read.val_main_v21_eq _ _ _).trans ?_
  rw [a0, a1, a2]
  exact (final2 m c).symm

end Cert.DwUpValue

end
-- ==== Proof.DwOutValue.lean ====
/-
  THE GRADIENT OF THE WEIGHT `w_out`: the product of the transposed joined heads with the gradient of the layer's result,
  a tile of 512 rows at each grid point.
-/
module

public import proofs.«01_k».proof.Defs
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Products
public import Idealize.ShloMosaic.Lib.Pipeline.ValueKit

@[expose] public section

set_option maxRecDepth 16384

noncomputable section

namespace Cert.DwOutValue

open Idealize.ShloMosaic Idealize.ShloMosaic.TcCoe Idealize.SL.Sem Idealize.ShloMosaic.ValueIdx
open Idealize.ShloMosaic.Pipeline (Dat)
open Cert.Rows Cert.DwOutIdeal Cert.DwOutIdeal.Gen Cert.DwOutRefIdeal.Read

variable (m : (ℓ : Loc nD τ sig) → Buf (Elt Ideal) ℓ) (c : Dev nD)

/-- The host's lines before the call leave the one factor in its first array … -/
theorem entry0 : V m c main_v38 = ((truncf .bf16 (val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) bitsLt_bf16_f32) : FVec Ideal S4096x2048 .bf16) := by
  show StableHlo.after _ _ _ = _
  simp only [hostOps0, hostOps0_1, hostOps0_2, hostOps0_3, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- … and the other factor, an argument, in its second. -/
theorem entry1 : V m c main_arg6 = m ((c : Thread nD τ).loc main_arg6) := V_main_arg6 m c

/-- One step's product, from a block of columns of the first factor. -/
theorem tile {o : Nat} {h : o + 512 ≤ 2048} {x0 : Vec Ideal S4096x512 .bf16} {x1 : Vec Ideal S4096x1024 .bf16}
    (r : Along (col2 o h) x0 (val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) (e : (x1 : _ → EReal) = ((m ((c : Thread nD τ).loc main_arg6)))) :
    Along (row2 o h) (k0_pay1 (F := Ideal) x0 x1) (val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  unfold k0_pay1 val_main_v43
  dsimp only
  rw [sameShape]
  exact tn_transposed (φ₁ := .bf16) (φ₂ := .bf16) (ψ₁ := .f32) (ψ₂ := .f32) r e _ _

/-- The block indices of the windows. -/
theorem idx : ∀ t : Fin cfg0.N, win0_0.index t = ![0, t.val] ∧ win0_1.index t = ![0, 0] ∧ win0_2.index t = ![t.val, 0] :=
  (by decide +kernel : ∀ t : Fin grid0.N, _)

/-- A tile's rows are rows of the whole result. -/
theorem inside (t : Fin cfg0.N) : 512 * t.val + 512 ≤ 2048 := by
  have := t.isLt.trans_eq N_0
  omega

theorem cols0 (t : Fin cfg0.N) : Along (col2 (512 * t.val) (inside t)) (iblk m c 0 t) (V m c main_v38) := fun i => by
  blk_ext [iblk, idx t]
theorem whole1 (t : Fin cfg0.N) : iblk m c 1 t = V m c main_arg6 := funext fun i => by
  blk_ext [iblk, idx t]

/-- What grid point `t` stores: its tile of rows of the weight's gradient. -/
theorem after2 (t : Fin cfg0.N) : Along (row2 (512 * t.val) (inside t)) (out0_2 (iblk m c 0 t) (iblk m c 1 t)) (val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  unfold out0_2
  frame_out
  exact tile m c (fun i => (cols0 m c t i).trans (congrFun (entry0 m c) _)) ((whole1 m c t).trans (entry1 m c))

/-- The tiles cover the result. -/
theorem final2 : (dats m 0 c).arrAt 2 (cfgs 0).N = (val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (dats m 0 c).arrAt_eq_of_covers 2 _ (by decide +kernel) fun t hf y => ?_
  blk_simp
  rw [after0_2]
  refine (after2 m c t y).trans ?_
  blk_ext [idx t]

set_option maxHeartbeats 1000000 in
/-- From memories that agree on the arguments, the kernel and the reference run and end with equal results. -/
theorem value : @Cert.algebraic_DwOutIdeal_DwOutRefIdeal Cert.DwOutIdeal.Gen.facts Cert.DwOutRefIdeal.Gen.facts := by
  intro m g m' g' _ hagree
  refine ⟨_, Cert.DwOutIdeal.Value.run_blocks m g, ?_⟩
  refine (θ_run Cert.DwOutRefIdeal.defs _ _).mono (fun _ h c => ⟨(h c).1.trans ?_, (h c).2⟩)
    (Cert.DwOutRefIdeal.Value.run (F := Ideal) m' g')
  obtain ⟨a0, a1, a2, a3, a4, a5, a6⟩ := hagree c
  rw [Cert.DwOutRefIdeal.Read.val_main_v43_eq m' c, a0, a1, a2, a3, a4, a5, a6]
  exact (final2 m c).symm

end Cert.DwOutValue

end
-- ==== Proof.DwInZValue.lean ====
/-
  THE GRADIENT OF THE ROWS OF `w_in` THAT MAKE `z`: the product of the
  transposed gradient of that segment with the normed activations, a tile of 512 rows at each grid point.
-/
module

public import proofs.«01_k».proof.Defs
public import proofs.«01_k».proof.Proof.Gen.DwInZIdeal.Value
public import proofs.«01_k».proof.Proof.Gen.DwInZRefIdeal.Run
public import proofs.«01_k».proof.Proof.Gen.DwInZRefIdeal.Read
public import proofs.«01_k».proof.Proof.Products
public import Idealize.ShloMosaic.Lib.Pipeline.ValueKit

@[expose] public section

set_option maxRecDepth 16384

noncomputable section

namespace Cert.DwInZValue

open Idealize.ShloMosaic Idealize.ShloMosaic.TcCoe Idealize.SL.Sem Idealize.ShloMosaic.ValueIdx
open Idealize.ShloMosaic.Pipeline (Dat)
open Cert.Rows Cert.DwInZIdeal Cert.DwInZIdeal.Gen Cert.DwInZRefIdeal.Read

variable (m : (ℓ : Loc nD τ sig) → Buf (Elt Ideal) ℓ) (c : Dev nD)

/-- The first array of the call is an argument … -/
theorem entry0 : V m c main_arg2 = m ((c : Thread nD τ).loc main_arg2) := V_main_arg2 m c

/-- … and the other factor in its second. -/
theorem entry1 : V m c main_v12 = ((truncf .bf16 (val_main_v12 (F := Ideal) (m ((c : Thread nD τ).loc main_arg0)) (m ((c : Thread nD τ).loc main_arg1))) bitsLt_bf16_f32) : FVec Ideal S4096x1024 .bf16) := by
  show StableHlo.after _ _ _ = _
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- One step's product, from a block of columns of the first factor. -/
theorem tile {o : Nat} {h : o + 512 ≤ 1024} {x0 : Vec Ideal S4096x512 .bf16} {x1 : Vec Ideal S4096x1024 .bf16}
    (r : Along (col2 o h) x0 ((m ((c : Thread nD τ).loc main_arg2)))) (e : (x1 : _ → EReal) = (val_main_v12 (F := Ideal) (m ((c : Thread nD τ).loc main_arg0)) (m ((c : Thread nD τ).loc main_arg1)))) :
    Along (row2 o h) (k0_pay1 (F := Ideal) x0 x1) (val_main_v19 (F := Ideal) (m ((c : Thread nD τ).loc main_arg0)) (m ((c : Thread nD τ).loc main_arg1)) (m ((c : Thread nD τ).loc main_arg2))) := by
  unfold k0_pay1 val_main_v19
  dsimp only
  rw [sameShape]
  exact tn_plain (φ₁ := .bf16) (φ₂ := .bf16) (ψ₁ := .f32) (ψ₂ := .f32) r e _ _

/-- The block indices of the windows. -/
theorem idx : ∀ t : Fin cfg0.N, win0_0.index t = ![0, t.val] ∧ win0_1.index t = ![0, 0] ∧ win0_2.index t = ![t.val, 0] :=
  (by decide +kernel : ∀ t : Fin grid0.N, _)

/-- A tile's rows are rows of the whole result. -/
theorem inside (t : Fin cfg0.N) : 512 * t.val + 512 ≤ 1024 := by
  have := t.isLt.trans_eq N_0
  omega

theorem cols0 (t : Fin cfg0.N) : Along (col2 (512 * t.val) (inside t)) (iblk m c 0 t) (V m c main_arg2) := fun i => by
  blk_ext [iblk, idx t]
theorem whole1 (t : Fin cfg0.N) : iblk m c 1 t = V m c main_v12 := funext fun i => by
  blk_ext [iblk, idx t]

/-- What grid point `t` stores: its tile of rows of the weight's gradient. -/
theorem after2 (t : Fin cfg0.N) : Along (row2 (512 * t.val) (inside t)) (out0_2 (iblk m c 0 t) (iblk m c 1 t)) (val_main_v19 (F := Ideal) (m ((c : Thread nD τ).loc main_arg0)) (m ((c : Thread nD τ).loc main_arg1)) (m ((c : Thread nD τ).loc main_arg2))) := by
  unfold out0_2
  frame_out
  exact tile m c (fun i => (cols0 m c t i).trans (congrFun (entry0 m c) _)) ((whole1 m c t).trans (entry1 m c))

/-- The tiles cover the result. -/
theorem final2 : (dats m 0 c).arrAt 2 (cfgs 0).N = (val_main_v19 (F := Ideal) (m ((c : Thread nD τ).loc main_arg0)) (m ((c : Thread nD τ).loc main_arg1)) (m ((c : Thread nD τ).loc main_arg2))) := by
  refine (dats m 0 c).arrAt_eq_of_covers 2 _ (by decide +kernel) fun t hf y => ?_
  blk_simp
  rw [after0_2]
  refine (after2 m c t y).trans ?_
  blk_ext [idx t]

set_option maxHeartbeats 1000000 in
/-- From memories that agree on the arguments, the kernel and the reference run and end with equal results. -/
theorem value : @Cert.algebraic_DwInZIdeal_DwInZRefIdeal Cert.DwInZIdeal.Gen.facts Cert.DwInZRefIdeal.Gen.facts := by
  intro m g m' g' _ hagree
  refine ⟨_, Cert.DwInZIdeal.Value.run_blocks m g, ?_⟩
  refine (θ_run Cert.DwInZRefIdeal.defs _ _).mono (fun _ h c => ⟨(h c).1.trans ?_, (h c).2⟩)
    (Cert.DwInZRefIdeal.Value.run (F := Ideal) m' g')
  obtain ⟨a0, a1, a2⟩ := hagree c
  refine (Cert.DwInZRefIdeal.Read.val_main_v19_eq _ _ _).trans ?_
  rw [a0, a1, a2]
  exact (final2 m c).symm

end Cert.DwInZValue

end
-- ==== Proof.DwInXbcValue.lean ====
/-
  THE GRADIENT OF THE ROWS OF `w_in` THAT MAKE the convolution's channels: the product of the
  transposed gradient of that segment with the normed activations, a tile of 512 rows at each grid point.
-/
module

public import proofs.«01_k».proof.Defs
public import proofs.«01_k».proof.Proof.Gen.DwInXbcIdeal.Value
public import proofs.«01_k».proof.Proof.Gen.DwInXbcRefIdeal.Run
public import proofs.«01_k».proof.Proof.Gen.DwInXbcRefIdeal.Read
public import proofs.«01_k».proof.Proof.Products
public import Idealize.ShloMosaic.Lib.Pipeline.ValueKit

@[expose] public section

set_option maxRecDepth 16384

noncomputable section

namespace Cert.DwInXbcValue

open Idealize.ShloMosaic Idealize.ShloMosaic.TcCoe Idealize.SL.Sem Idealize.ShloMosaic.ValueIdx
open Idealize.ShloMosaic.Pipeline (Dat)
open Cert.Rows Cert.DwInXbcIdeal Cert.DwInXbcIdeal.Gen Cert.DwInXbcRefIdeal.Read

variable (m : (ℓ : Loc nD τ sig) → Buf (Elt Ideal) ℓ) (c : Dev nD)

/-- The first array of the call is an argument … -/
theorem entry0 : V m c main_arg2 = m ((c : Thread nD τ).loc main_arg2) := V_main_arg2 m c

/-- … and the other factor in its second. -/
theorem entry1 : V m c main_v12 = ((truncf .bf16 (val_main_v12 (F := Ideal) (m ((c : Thread nD τ).loc main_arg0)) (m ((c : Thread nD τ).loc main_arg1))) bitsLt_bf16_f32) : FVec Ideal S4096x1024 .bf16) := by
  show StableHlo.after _ _ _ = _
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- One step's product, from a block of columns of the first factor. -/
theorem tile {o : Nat} {h : o + 512 ≤ 1536} {x0 : Vec Ideal S4096x512 .bf16} {x1 : Vec Ideal S4096x1024 .bf16}
    (r : Along (col2 o h) x0 ((m ((c : Thread nD τ).loc main_arg2)))) (e : (x1 : _ → EReal) = (val_main_v12 (F := Ideal) (m ((c : Thread nD τ).loc main_arg0)) (m ((c : Thread nD τ).loc main_arg1)))) :
    Along (row2 o h) (k0_pay1 (F := Ideal) x0 x1) (val_main_v19 (F := Ideal) (m ((c : Thread nD τ).loc main_arg0)) (m ((c : Thread nD τ).loc main_arg1)) (m ((c : Thread nD τ).loc main_arg2))) := by
  unfold k0_pay1 val_main_v19
  dsimp only
  rw [sameShape]
  exact tn_plain (φ₁ := .bf16) (φ₂ := .bf16) (ψ₁ := .f32) (ψ₂ := .f32) r e _ _

/-- The block indices of the windows. -/
theorem idx : ∀ t : Fin cfg0.N, win0_0.index t = ![0, t.val] ∧ win0_1.index t = ![0, 0] ∧ win0_2.index t = ![t.val, 0] :=
  (by decide +kernel : ∀ t : Fin grid0.N, _)

/-- A tile's rows are rows of the whole result. -/
theorem inside (t : Fin cfg0.N) : 512 * t.val + 512 ≤ 1536 := by
  have := t.isLt.trans_eq N_0
  omega

theorem cols0 (t : Fin cfg0.N) : Along (col2 (512 * t.val) (inside t)) (iblk m c 0 t) (V m c main_arg2) := fun i => by
  blk_ext [iblk, idx t]
theorem whole1 (t : Fin cfg0.N) : iblk m c 1 t = V m c main_v12 := funext fun i => by
  blk_ext [iblk, idx t]

/-- What grid point `t` stores: its tile of rows of the weight's gradient. -/
theorem after2 (t : Fin cfg0.N) : Along (row2 (512 * t.val) (inside t)) (out0_2 (iblk m c 0 t) (iblk m c 1 t)) (val_main_v19 (F := Ideal) (m ((c : Thread nD τ).loc main_arg0)) (m ((c : Thread nD τ).loc main_arg1)) (m ((c : Thread nD τ).loc main_arg2))) := by
  unfold out0_2
  frame_out
  exact tile m c (fun i => (cols0 m c t i).trans (congrFun (entry0 m c) _)) ((whole1 m c t).trans (entry1 m c))

/-- The tiles cover the result. -/
theorem final2 : (dats m 0 c).arrAt 2 (cfgs 0).N = (val_main_v19 (F := Ideal) (m ((c : Thread nD τ).loc main_arg0)) (m ((c : Thread nD τ).loc main_arg1)) (m ((c : Thread nD τ).loc main_arg2))) := by
  refine (dats m 0 c).arrAt_eq_of_covers 2 _ (by decide +kernel) fun t hf y => ?_
  blk_simp
  rw [after0_2]
  refine (after2 m c t y).trans ?_
  blk_ext [idx t]

set_option maxHeartbeats 1000000 in
/-- From memories that agree on the arguments, the kernel and the reference run and end with equal results. -/
theorem value : @Cert.algebraic_DwInXbcIdeal_DwInXbcRefIdeal Cert.DwInXbcIdeal.Gen.facts Cert.DwInXbcRefIdeal.Gen.facts := by
  intro m g m' g' _ hagree
  refine ⟨_, Cert.DwInXbcIdeal.Value.run_blocks m g, ?_⟩
  refine (θ_run Cert.DwInXbcRefIdeal.defs _ _).mono (fun _ h c => ⟨(h c).1.trans ?_, (h c).2⟩)
    (Cert.DwInXbcRefIdeal.Value.run (F := Ideal) m' g')
  obtain ⟨a0, a1, a2⟩ := hagree c
  refine (Cert.DwInXbcRefIdeal.Read.val_main_v19_eq _ _ _).trans ?_
  rw [a0, a1, a2]
  exact (final2 m c).symm

end Cert.DwInXbcValue

end
-- ==== Proof.DwInCvgValue.lean ====
/-
  THE GRADIENT OF THE ROWS OF `w_in` THAT MAKE the values and gates of the other heads: the product of the
  transposed gradient of that segment with the normed activations, a tile of 512 rows at each grid point.
-/
module

public import proofs.«01_k».proof.Defs
public import proofs.«01_k».proof.Proof.Gen.DwInCvgIdeal.Value
public import proofs.«01_k».proof.Proof.Gen.DwInCvgRefIdeal.Run
public import proofs.«01_k».proof.Proof.Gen.DwInCvgRefIdeal.Read
public import proofs.«01_k».proof.Proof.Products
public import Idealize.ShloMosaic.Lib.Pipeline.ValueKit

@[expose] public section

set_option maxRecDepth 16384

noncomputable section

namespace Cert.DwInCvgValue

open Idealize.ShloMosaic Idealize.ShloMosaic.TcCoe Idealize.SL.Sem Idealize.ShloMosaic.ValueIdx
open Idealize.ShloMosaic.Pipeline (Dat)
open Cert.Rows Cert.DwInCvgIdeal Cert.DwInCvgIdeal.Gen Cert.DwInCvgRefIdeal.Read

variable (m : (ℓ : Loc nD τ sig) → Buf (Elt Ideal) ℓ) (c : Dev nD)

/-- The first array of the call is an argument … -/
theorem entry0 : V m c main_arg2 = m ((c : Thread nD τ).loc main_arg2) := V_main_arg2 m c

/-- … and the other factor in its second. -/
theorem entry1 : V m c main_v12 = ((truncf .bf16 (val_main_v12 (F := Ideal) (m ((c : Thread nD τ).loc main_arg0)) (m ((c : Thread nD τ).loc main_arg1))) bitsLt_bf16_f32) : FVec Ideal S4096x1024 .bf16) := by
  show StableHlo.after _ _ _ = _
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- One step's product, from a block of columns of the first factor. -/
theorem tile {o : Nat} {h : o + 512 ≤ 2048} {x0 : Vec Ideal S4096x512 .bf16} {x1 : Vec Ideal S4096x1024 .bf16}
    (r : Along (col2 o h) x0 ((m ((c : Thread nD τ).loc main_arg2)))) (e : (x1 : _ → EReal) = (val_main_v12 (F := Ideal) (m ((c : Thread nD τ).loc main_arg0)) (m ((c : Thread nD τ).loc main_arg1)))) :
    Along (row2 o h) (k0_pay1 (F := Ideal) x0 x1) (val_main_v19 (F := Ideal) (m ((c : Thread nD τ).loc main_arg0)) (m ((c : Thread nD τ).loc main_arg1)) (m ((c : Thread nD τ).loc main_arg2))) := by
  unfold k0_pay1 val_main_v19
  dsimp only
  rw [sameShape]
  exact tn_plain (φ₁ := .bf16) (φ₂ := .bf16) (ψ₁ := .f32) (ψ₂ := .f32) r e _ _

/-- The block indices of the windows. -/
theorem idx : ∀ t : Fin cfg0.N, win0_0.index t = ![0, t.val] ∧ win0_1.index t = ![0, 0] ∧ win0_2.index t = ![t.val, 0] :=
  (by decide +kernel : ∀ t : Fin grid0.N, _)

/-- A tile's rows are rows of the whole result. -/
theorem inside (t : Fin cfg0.N) : 512 * t.val + 512 ≤ 2048 := by
  have := t.isLt.trans_eq N_0
  omega

theorem cols0 (t : Fin cfg0.N) : Along (col2 (512 * t.val) (inside t)) (iblk m c 0 t) (V m c main_arg2) := fun i => by
  blk_ext [iblk, idx t]
theorem whole1 (t : Fin cfg0.N) : iblk m c 1 t = V m c main_v12 := funext fun i => by
  blk_ext [iblk, idx t]

/-- What grid point `t` stores: its tile of rows of the weight's gradient. -/
theorem after2 (t : Fin cfg0.N) : Along (row2 (512 * t.val) (inside t)) (out0_2 (iblk m c 0 t) (iblk m c 1 t)) (val_main_v19 (F := Ideal) (m ((c : Thread nD τ).loc main_arg0)) (m ((c : Thread nD τ).loc main_arg1)) (m ((c : Thread nD τ).loc main_arg2))) := by
  unfold out0_2
  frame_out
  exact tile m c (fun i => (cols0 m c t i).trans (congrFun (entry0 m c) _)) ((whole1 m c t).trans (entry1 m c))

/-- The tiles cover the result. -/
theorem final2 : (dats m 0 c).arrAt 2 (cfgs 0).N = (val_main_v19 (F := Ideal) (m ((c : Thread nD τ).loc main_arg0)) (m ((c : Thread nD τ).loc main_arg1)) (m ((c : Thread nD τ).loc main_arg2))) := by
  refine (dats m 0 c).arrAt_eq_of_covers 2 _ (by decide +kernel) fun t hf y => ?_
  blk_simp
  rw [after0_2]
  refine (after2 m c t y).trans ?_
  blk_ext [idx t]

set_option maxHeartbeats 1000000 in
/-- From memories that agree on the arguments, the kernel and the reference run and end with equal results. -/
theorem value : @Cert.algebraic_DwInCvgIdeal_DwInCvgRefIdeal Cert.DwInCvgIdeal.Gen.facts Cert.DwInCvgRefIdeal.Gen.facts := by
  intro m g m' g' _ hagree
  refine ⟨_, Cert.DwInCvgIdeal.Value.run_blocks m g, ?_⟩
  refine (θ_run Cert.DwInCvgRefIdeal.defs _ _).mono (fun _ h c => ⟨(h c).1.trans ?_, (h c).2⟩)
    (Cert.DwInCvgRefIdeal.Value.run (F := Ideal) m' g')
  obtain ⟨a0, a1, a2⟩ := hagree c
  refine (Cert.DwInCvgRefIdeal.Read.val_main_v19_eq _ _ _).trans ?_
  rw [a0, a1, a2]
  exact (final2 m c).symm

end Cert.DwInCvgValue

end
-- ==== Proof.Forward.lean ====
/-
  PRODUCTS OF THE FORWARD PASS on a tile of rows: a block of columns of a product, a segment of the columns of a product with
  a transposed matrix, and a product whose summed axis is cut in two.
-/
module

public import proofs.«01_k».proof.Proof.Rows
public import proofs.«01_k».proof.Proof.Products
public import proofs.«01_k».proof.Proof.Blocks

@[expose] public section

set_option maxRecDepth 16384

noncomputable section

namespace Cert.Rows

open Idealize.ShloMosaic Idealize.ShloMosaic.ValueIdx
open scoped BigOperators

/-- An element of the kernel's product into zeros. -/
theorem plain_matmul {n K C : Nat} {φ₁ φ₂ : FTy} {A : FVec Ideal ⟨2, ![n, K]⟩ φ₁} {B : FVec Ideal ⟨2, ![K, C]⟩ φ₂}
    (r : Fin n) (c : Fin C) :
    matmul (DotDims.plain n K C) none A B (constant ⟨2, ![n, C]⟩ .f32 0x00000000#32) (ix2 r c) = ∑ k : Fin K, A (ix2 r k) * B (ix2 k c) := by
  show FloatOps.matmul _ _ _ _ _ _ = _
  rw [Ideal.matmul_plain_apply]
  show Ideal.ofBits .f32 0x00000000#32 + _ = _
  rw [Ideal.ofBits_zero_f32, zero_add]

/-- An element of the reference's product. -/
theorem plain_dot {n K C : Nat} {φ₁ φ₂ : FTy} {A : FVec Ideal ⟨2, ![n, K]⟩ φ₁} {B : FVec Ideal ⟨2, ![K, C]⟩ φ₂}
    (r : Fin n) (c : Fin C) :
    Host.dotGeneral (DotDims.plain n K C) none A B (ix2 r c) = ∑ k : Fin K, A (ix2 r k) * B (ix2 k c) := by
  show FloatOps.dotGeneral _ _ _ _ _ _ = _
  rw [Ideal.dotGeneral_apply, ← Equiv.sum_comp (DotDims.plainContr n K C).symm]
  refine Finset.sum_congr rfl fun k _ => congrArg₂ (fun p q : EReal => p * q) (congrArg A (funext fun a => Fin.ext ?_))
    (congrArg B (funext fun a => Fin.ext ?_))
  · match a with
    | ⟨0, _⟩ => rfl
    | ⟨1, _⟩ => exact contrEquiv1_symm_val _ K (DotDims.plain_contr_rank n K C) (DotDims.plain_contr_size n K C) k
  · match a with
    | ⟨0, _⟩ => exact contrEquiv1_symm_val _ K (DotDims.plain_contr_rank n K C) (DotDims.plain_contr_size n K C) k
    | ⟨1, _⟩ => rfl

section Tile
variable {N n K M m o q : Nat} {h : o + n ≤ N} {hq : q + m ≤ M}

/-- A tile of the product, from rows of the left factor and columns of the right one. -/
theorem nn_tile {φ₁ φ₂ ψ₁ ψ₂ : FTy} {A : FVec Ideal ⟨2, ![n, K]⟩ φ₁} {X : FVec Ideal ⟨2, ![N, K]⟩ ψ₁} (r : Along (row2 o h) A X)
    {B : FVec Ideal ⟨2, ![K, m]⟩ φ₂} {Y : FVec Ideal ⟨2, ![K, M]⟩ ψ₂} (s : Along (col2 q hq) B Y)
    (d : DotDims ⟨2, ![n, K]⟩ ⟨2, ![K, m]⟩ ⟨2, ![n, m]⟩) (hd : d = DotDims.plain n K m := by rfl)
    {d' : DotDims ⟨2, ![N, K]⟩ ⟨2, ![K, M]⟩ ⟨2, ![N, M]⟩} (hd' : d' = DotDims.plain N K M := by rfl) :
    Along (tile2 o h q hq) (matmul d none A B (constant ⟨2, ![n, m]⟩ .f32 0x00000000#32)) (Host.dotGeneral d' none X Y) := fun i => by
  subst hd hd'
  obtain ⟨a, b, rfl⟩ : ∃ (a : Fin n) (b : Fin m), i = ix2 a b := ⟨i 0, i 1, eq_ix2 i⟩
  rw [plain_matmul, plain_dot]
  exact Finset.sum_congr rfl fun k _ => congrArg₂ (· * ·) (r (ix2 a k)) (s (ix2 k b))

/-- The product with the transpose of a segment of rows, against that segment of columns of the product with the transpose. -/
theorem nt_segment {φ₁ φ₂ ψ₁ ψ₂ : FTy} {A : FVec Ideal ⟨2, ![n, K]⟩ φ₁} {X : FVec Ideal ⟨2, ![N, K]⟩ ψ₁} (r : Along (row2 o h) A X)
    {B : FVec Ideal ⟨2, ![m, K]⟩ φ₂} {Y : FVec Ideal ⟨2, ![M, K]⟩ ψ₂} (s : Along (row2 q hq) B Y)
    (d : DotDims ⟨2, ![n, K]⟩ ⟨2, ![m, K]⟩ ⟨2, ![n, m]⟩) (hd : d = DotDims.transposedRhs n K m := by rfl)
    {d' : DotDims ⟨2, ![N, K]⟩ ⟨2, ![K, M]⟩ ⟨2, ![N, M]⟩} (hd' : d' = DotDims.plain N K M := by rfl)
    {ht : (⟨2, ![M, K]⟩ : Shape).Transposes [1, 0] ⟨2, ![K, M]⟩} {hs : (⟨2, ![N, M]⟩ : Shape).Slices ![0, q] ⟨2, ![N, m]⟩} :
    Along (row2 o h) (matmul d none A B (constant ⟨2, ![n, m]⟩ .f32 0x00000000#32))
      (extractStridedSlice ⟨2, ![N, m]⟩ ![0, q] (Host.dotGeneral d' none X (transpose ⟨2, ![K, M]⟩ [1, 0] Y ht)) hs) := fun i => by
  subst hd hd'
  obtain ⟨a, b, rfl⟩ : ∃ (a : Fin n) (b : Fin m), i = ix2 a b := ⟨i 0, i 1, eq_ix2 i⟩
  refine Eq.trans ?_ (extractStridedSlice_apply _ _ _ _ (ix2 ⟨o + a.val, by omega⟩ ⟨q + b.val, by omega⟩) (fun a => match a with
      | ⟨0, _⟩ => (Nat.zero_add _).symm
      | ⟨1, _⟩ => rfl)).symm
  rw [nt_matmul, plain_dot]
  exact Finset.sum_congr rfl fun k _ => congrArg₂ (· * ·) (r (ix2 a k)) ((s (ix2 b k)).trans (swap_apply (A := Y) (hk := ht) ⟨q + b.val, by omega⟩ k).symm)

end Tile

section Loads
variable {G N M n : Nat}

/-- Some rows, read from an array … -/
theorem along_ld_rows (q : Nat) (X : (⟨2, ![N, M]⟩ : Shape).Idx → Elt Ideal .bf16)
    (inb : ∀ a, (![q, 0] : Fin 2 → Nat) a + (![n, M] : Fin 2 → Nat) a ≤ (⟨2, ![N, M]⟩ : Shape).size a) :
    Along (row2 q (inb 0)) (View.ld (Val := Elt Ideal) (e' := .bf16) X (Rect.unit (s := ⟨2, ![N, M]⟩) ![q, 0] ![n, M] inb)) X := fun i => congrFun (ld_rows (Val := Elt Ideal) X inb) i

/-- and one matrix of a stack. -/
theorem along_ld_layer (g : Nat) (X : (⟨3, ![G, N, M]⟩ : Shape).Idx → Elt Ideal .bf16)
    (inb : ∀ a, (![g, 0, 0] : Fin 3 → Nat) a + (![1, N, M] : Fin 3 → Nat) a ≤ (⟨3, ![G, N, M]⟩ : Shape).size a) :
    Along (layer ⟨g, inb 0⟩) (View.ld (Val := Elt Ideal) (e' := .bf16) X (Rect.unit (s := ⟨3, ![G, N, M]⟩) ![g, 0, 0] ![1, N, M] inb)) X := fun i => congrFun (ld_layer (Val := Elt Ideal) X inb) i

end Loads

section Halves
variable {N K : Nat}

/-- Two matrices side by side: the left one, -/
theorem pair_left {α : Type} {A B : (⟨2, ![N, K]⟩ : Shape).Idx → α} {h2 : Shape.Concatenates [⟨2, ![N, K]⟩, ⟨2, ![N, K]⟩] ⟨2, ![N, K + K]⟩ 1}
    (r : Fin N) (k : Fin K) : concatenate ⟨2, ![N, K + K]⟩ 1 [⟨⟨2, ![N, K]⟩, A⟩, ⟨⟨2, ![N, K]⟩, B⟩] h2 (ix2 r ⟨k.val, by omega⟩) = A (ix2 r k) :=
  concatenate_pair_apply_left 1 A B h2 _ rfl (ix2 r k) (fun a => match a with
    | ⟨0, _⟩ => rfl
    | ⟨1, _⟩ => rfl)

/-- and the right one. -/
theorem pair_right {α : Type} {A B : (⟨2, ![N, K]⟩ : Shape).Idx → α} {h2 : Shape.Concatenates [⟨2, ![N, K]⟩, ⟨2, ![N, K]⟩] ⟨2, ![N, K + K]⟩ 1}
    (r : Fin N) (k : Fin K) : concatenate ⟨2, ![N, K + K]⟩ 1 [⟨⟨2, ![N, K]⟩, A⟩, ⟨⟨2, ![N, K]⟩, B⟩] h2 (ix2 r ⟨K + k.val, by omega⟩) = B (ix2 r k) :=
  concatenate_pair_apply_right 1 A B h2 _ rfl rfl (ix2 r k) (fun a => match a with
    | ⟨0, _⟩ => fun _ => rfl
    | ⟨1, _⟩ => fun hne => absurd rfl hne) (Nat.add_comm _ _)

/-- A tile of the left array is a tile of columns of the two side by side … -/
theorem beside_left {n o : Nat} {h : o + n ≤ N} {a : (⟨2, ![n, K]⟩ : Shape).Idx → EReal} {A B : (⟨2, ![N, K]⟩ : Shape).Idx → EReal}
    {h2 : Shape.Concatenates [⟨2, ![N, K]⟩, ⟨2, ![N, K]⟩] ⟨2, ![N, K + K]⟩ 1} {hq : 0 + K ≤ K + K} (r : Along (row2 o h) a A) :
    Along (tile2 o h 0 hq) a (concatenate ⟨2, ![N, K + K]⟩ 1 [⟨⟨2, ![N, K]⟩, A⟩, ⟨⟨2, ![N, K]⟩, B⟩] h2) := fun i => by
  obtain ⟨p, k, rfl⟩ : ∃ (p : Fin n) (k : Fin K), i = ix2 p k := ⟨i 0, i 1, eq_ix2 i⟩
  refine (r (ix2 p k)).trans ((pair_left (A := A) (B := B) (h2 := h2) ⟨o + p.val, by omega⟩ k).symm.trans (congrArg _ (congrArg (ix2 _) (Fin.ext ?_))))
  exact (Nat.zero_add _).symm

/-- and so is one of the right array. -/
theorem beside_right {n o : Nat} {h : o + n ≤ N} {a : (⟨2, ![n, K]⟩ : Shape).Idx → EReal} {A B : (⟨2, ![N, K]⟩ : Shape).Idx → EReal}
    {h2 : Shape.Concatenates [⟨2, ![N, K]⟩, ⟨2, ![N, K]⟩] ⟨2, ![N, K + K]⟩ 1} {hq : K + K ≤ K + K} (r : Along (row2 o h) a B) :
    Along (tile2 o h K hq) a (concatenate ⟨2, ![N, K + K]⟩ 1 [⟨⟨2, ![N, K]⟩, A⟩, ⟨⟨2, ![N, K]⟩, B⟩] h2) := fun i => by
  obtain ⟨p, k, rfl⟩ : ∃ (p : Fin n) (k : Fin K), i = ix2 p k := ⟨i 0, i 1, eq_ix2 i⟩
  exact (r (ix2 p k)).trans (pair_right (A := A) (B := B) (h2 := h2) ⟨o + p.val, by omega⟩ k).symm

variable {n C o : Nat} {h : o + n ≤ N}

/-- The products of two tiles with the upper and the lower half of a matrix, against the product of the two whole arrays side by side. -/
theorem halves {φ₁ φ₂ ψ₁ ψ₂ : FTy} {A B : FVec Ideal ⟨2, ![n, K]⟩ φ₁} {X Y : FVec Ideal ⟨2, ![N, K]⟩ ψ₁} (r : Along (row2 o h) A X) (r' : Along (row2 o h) B Y)
    {U V : FVec Ideal ⟨2, ![K, C]⟩ φ₂} {W : FVec Ideal ⟨2, ![K + K, C]⟩ ψ₂}
    (s : Along (row2 0 (by omega)) U W) (s' : Along (row2 K (le_refl _)) V W)
    (d : DotDims ⟨2, ![n, K]⟩ ⟨2, ![K, C]⟩ ⟨2, ![n, C]⟩) (hd : d = DotDims.plain n K C := by rfl)
    {d' : DotDims ⟨2, ![N, K + K]⟩ ⟨2, ![K + K, C]⟩ ⟨2, ![N, C]⟩} (hd' : d' = DotDims.plain N (K + K) C := by rfl)
    {h2 : Shape.Concatenates [⟨2, ![N, K]⟩, ⟨2, ![N, K]⟩] ⟨2, ![N, K + K]⟩ 1} (i : (⟨2, ![n, C]⟩ : Shape).Idx) :
    matmul d none A U (constant ⟨2, ![n, C]⟩ .f32 0x00000000#32) i + matmul d none B V (constant ⟨2, ![n, C]⟩ .f32 0x00000000#32) i
      = Host.dotGeneral (φ₁ := ψ₁) (φ₂ := ψ₂) d' none (concatenate ⟨2, ![N, K + K]⟩ 1 [⟨⟨2, ![N, K]⟩, X⟩, ⟨⟨2, ![N, K]⟩, Y⟩] h2) W (row2 o h i) := by
  subst hd hd'
  obtain ⟨a, b, rfl⟩ : ∃ (a : Fin n) (b : Fin C), i = ix2 a b := ⟨i 0, i 1, eq_ix2 i⟩
  refine Eq.trans ?_ (plain_dot (A := concatenate ⟨2, ![N, K + K]⟩ 1 [⟨⟨2, ![N, K]⟩, X⟩, ⟨⟨2, ![N, K]⟩, Y⟩] h2) (B := W) ⟨o + a.val, by omega⟩ b).symm
  rw [plain_matmul, plain_matmul, Fin.sum_univ_add]
  refine congrArg₂ (· + ·) (Finset.sum_congr rfl fun k _ => congrArg₂ (· * ·) ?_ ?_) (Finset.sum_congr rfl fun k _ => congrArg₂ (· * ·) ?_ ?_)
  · exact (r (ix2 a k)).trans (pair_left (A := X) (B := Y) (h2 := h2) ⟨o + a.val, by omega⟩ k).symm
  · exact (s (ix2 k b)).trans (congrArg W (congrArg (fun k => ix2 k b) (Fin.ext (Nat.zero_add _))))
  · exact (r' (ix2 a k)).trans (pair_right (A := X) (B := Y) (h2 := h2) ⟨o + a.val, by omega⟩ k).symm
  · exact s' (ix2 k b)

end Halves

end Cert.Rows

end
-- ==== Proof.MlpDownValue.lean ====
/-
  THE SECOND PRODUCT OF THE MLP: a tile of 512 rows of the residual stream and the product of the tile of activations with
  `w_down`. The activations `relu(pre)^2` are the host's line before the call, in both programs.
-/
module

public import proofs.«01_k».proof.Defs
public import proofs.«01_k».proof.Proof.Gen.MlpDownIdeal.Value
public import proofs.«01_k».proof.Proof.Gen.MlpDownRefIdeal.Run
public import proofs.«01_k».proof.Proof.Gen.MlpDownRefIdeal.Read
public import proofs.«01_k».proof.Proof.Forward
public import proofs.«01_k».proof.Proof.Pieces
public import Idealize.ShloMosaic.Lib.Pipeline.ValueKit

@[expose] public section

set_option maxRecDepth 16384

noncomputable section

namespace Cert.MlpDownValue

open Idealize.ShloMosaic Idealize.ShloMosaic.TcCoe Idealize.SL.Sem Idealize.ShloMosaic.ValueIdx
open Idealize.ShloMosaic.Pipeline (Dat)
open Cert.Rows Cert.MlpDownIdeal Cert.MlpDownIdeal.Gen Cert.MlpDownRefIdeal.Read

variable (m : (ℓ : Loc nD τ sig) → Buf (Elt Ideal) ℓ) (c : Dev nD)

/-- The host's lines before the call leave this in one of its arrays. -/
theorem entry2 : V m c main_v2 = ((truncf .bf16 (val_main_v2 (F := Ideal) (m ((c : Thread nD τ).loc main_arg1))) bitsLt_bf16_f32) : FVec Ideal S4096x4096 .bf16) := by
  show StableHlo.after _ _ _ = _
  simp only [hostOps0, hostOps0_1, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- The block indices of the windows. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- A tile's rows are rows of the whole array. -/
theorem inside (t : Fin cfg0.N) : 512 * t.val + 512 ≤ 4096 := by
  have := t.isLt.trans_eq N_0
  omega

theorem rows0 (t : Fin cfg0.N) : Along (row2 (512 * t.val) (inside t)) (iblk m c 0 t) (m ((c : Thread nD τ).loc main_arg0)) := fun i => by
  rw [← V_main_arg0 m c]
  blk_ext [iblk, idx t]
theorem rows1 (t : Fin cfg0.N) : Along (row2 (512 * t.val) (inside t)) (iblk m c 1 t) (val_main_v2 (F := Ideal) (m ((c : Thread nD τ).loc main_arg1))) := fun i => by
  refine Eq.trans ?_ (congrFun (entry2 m c) _)
  blk_ext [iblk, idx t]
theorem whole2 (t : Fin cfg0.N) : iblk m c 2 t = (m ((c : Thread nD τ).loc main_arg2)) := funext fun i => by
  rw [← V_main_arg2 m c]
  blk_ext [iblk, idx t]

/-- One tile of the result. -/
theorem tile {o : Nat} {h : o + 512 ≤ 4096} {a0 : Vec Ideal S512x1024 .f32} {a1 : Vec Ideal S512x4096 .bf16} {a2 x2 : Vec Ideal S4096x1024 .bf16}
    {x0 : Vec Ideal S4096x1024 .f32} {x1 : Vec Ideal S4096x4096 .f32}
    (r0 : Along (row2 o h) a0 x0) (r1 : Along (row2 o h) a1 (val_main_v2 (F := Ideal) x1)) (e2 : a2 = x2) :
    Along (row2 o h) (k0_pay1 (F := Ideal) a0 a1 a2) (val_main_v4 (F := Ideal) x0 x1 x2) := by
  unfold k0_pay1 val_main_v4
  dsimp only
  rw [sameShape]
  exact r0.add (Along.dot (φ₁ := .bf16) (φ₂ := .bf16) (ψ₁ := .f32) (ψ₂ := .f32) r1 e2 _)

/-- What grid point `t` stores in window 3. -/
theorem after3 (t : Fin cfg0.N) : Along (row2 (512 * t.val) (inside t)) (out0_3 (iblk m c 0 t) (iblk m c 1 t) (iblk m c 2 t)) (val_main_v4 (F := Ideal) (m ((c : Thread nD τ).loc main_arg0)) (m ((c : Thread nD τ).loc main_arg1)) (m ((c : Thread nD τ).loc main_arg2))) := by
  unfold out0_3
  frame_out
  exact tile (rows0 m c t) (rows1 m c t) (whole2 m c t)

theorem final3 : (dats m 0 c).arrAt 3 (cfgs 0).N = (val_main_v4 (F := Ideal) (m ((c : Thread nD τ).loc main_arg0)) (m ((c : Thread nD τ).loc main_arg1)) (m ((c : Thread nD τ).loc main_arg2))) := by
  refine (dats m 0 c).arrAt_eq_of_covers 3 _ (by decide +kernel) fun t hf y => ?_
  blk_simp
  rw [after0_3]
  refine (after3 m c t y).trans ?_
  blk_ext [idx t]

set_option maxHeartbeats 1000000 in
/-- From memories that agree on the arguments, the kernel and the reference run and end with equal results. -/
theorem value : @Cert.algebraic_MlpDownIdeal_MlpDownRefIdeal Cert.MlpDownIdeal.Gen.facts Cert.MlpDownRefIdeal.Gen.facts := by
  intro m g m' g' _ hagree
  refine ⟨_, Cert.MlpDownIdeal.Value.run_blocks m g, ?_⟩
  refine (θ_run Cert.MlpDownRefIdeal.defs _ _).mono (fun _ h c => ⟨(h c).1.trans ?_, (h c).2⟩)
    (Cert.MlpDownRefIdeal.Value.run (F := Ideal) m' g')
  · obtain ⟨a0, a1, a2⟩ := hagree c
    refine (Cert.MlpDownRefIdeal.Read.val_main_v4_eq _ _ _).trans ?_
    rw [a0, a1, a2]
    exact (final3 m c).symm

end Cert.MlpDownValue

end
-- ==== Proof.MlpUpValue.lean ====
/-
  THE FIRST PRODUCT OF THE MLP: for a tile of 512 rows the pre-activations and their squared relu, by eight blocks of 512
  columns, one for each matrix of the stacked weight. The normalised rows are the host's lines before the call, in both
  programs; the reference multiplies by the whole weight, the eight matrices side by side.
-/
module

public import proofs.«01_k».proof.Defs
public import proofs.«01_k».proof.Proof.Gen.MlpUpIdeal.Value
public import proofs.«01_k».proof.Proof.Gen.MlpUpRefIdeal.Run
public import proofs.«01_k».proof.Proof.Gen.MlpUpRefIdeal.Read
public import proofs.«01_k».proof.Proof.Forward
public import proofs.«01_k».proof.Proof.Pieces
public import Idealize.ShloMosaic.Lib.Pipeline.ValueKit

@[expose] public section

set_option maxRecDepth 16384

noncomputable section

namespace Cert.MlpUpValue

open Idealize.ShloMosaic Idealize.ShloMosaic.TcCoe Idealize.SL.Sem Idealize.ShloMosaic.ValueIdx
open Idealize.ShloMosaic.Pipeline (Dat)
open Cert.Rows Cert.MlpUpIdeal Cert.MlpUpIdeal.Gen Cert.MlpUpRefIdeal.Read

variable (m : (ℓ : Loc nD τ sig) → Buf (Elt Ideal) ℓ) (c : Dev nD)

/-- The host's lines before the call leave this in one of its arrays. -/
theorem entry12 : V m c main_v12 = ((truncf .bf16 (val_main_v14 (F := Ideal) (m ((c : Thread nD τ).loc main_arg0)) (m ((c : Thread nD τ).loc main_arg1))) bitsLt_bf16_f32) : FVec Ideal S4096x1024 .bf16) := by
  show StableHlo.after _ _ _ = _
  simp only [hostOps0, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp <;> rfl

/-- The block indices of the windows. -/
theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

/-- A tile's rows are rows of the whole array. -/
theorem inside (t : Fin cfg0.N) : 512 * t.val + 512 ≤ 4096 := by
  have := t.isLt.trans_eq N_0
  omega

theorem rows0 (t : Fin cfg0.N) : Along (row2 (512 * t.val) (inside t)) (iblk m c 0 t) (val_main_v14 (F := Ideal) (m ((c : Thread nD τ).loc main_arg0)) (m ((c : Thread nD τ).loc main_arg1))) := fun i => by
  refine Eq.trans ?_ (congrFun (entry12 m c) _)
  blk_ext [iblk, idx t]
theorem whole1 (t : Fin cfg0.N) : iblk m c 1 t = (m ((c : Thread nD τ).loc main_arg2)) := funext fun i => by
  rw [← V_main_arg2 m c]
  blk_ext [iblk, idx t]

section Tile
variable {o : Nat} {h : o + 512 ≤ 4096} {a : Vec Ideal S512x1024 .bf16} {w : Vec Ideal S1x1024x512 .bf16} {x0 : Vec Ideal S4096x1024 .f32} {x1 : Vec Ideal S1x1024 .f32}
  {x2 : Vec Ideal S8x1024x512 .bf16}

/-- The product with one matrix of the stack: a block of columns. -/
theorem product {g : Fin 8} (hb : 512 * g.val + 512 ≤ 4096) (r : Along (row2 o h) a (val_main_v14 (F := Ideal) x0 x1)) (rw' : Along (layer g) w x2) :
    Along (tile2 o h (512 * g.val) hb) (k0_pay2 (F := Ideal) a w) (val_main_v15 (F := Ideal) x0 x1 x2) :=
  nn_tile (φ₁ := .bf16) (φ₂ := .bf16) (ψ₁ := .f32) (ψ₂ := .f32) r (stack_cols (W := val_main_v0 (F := Ideal) x2) rfl hb rw') _

/-- The stored pre-activations … -/
theorem pre {g : Fin 8} (hb : 512 * g.val + 512 ≤ 4096) (r : Along (row2 o h) a (val_main_v14 (F := Ideal) x0 x1)) (rw' : Along (layer g) w x2) :
    Along (tile2 o h (512 * g.val) hb) (k0_pay3 (F := Ideal) a w) (val_main_v17 (F := Ideal) x0 x1 x2) := fun i =>
  product hb r rw' i

/-- … and their squared relu. -/
theorem act {g : Fin 8} (hb : 512 * g.val + 512 ≤ 4096) (r : Along (row2 o h) a (val_main_v14 (F := Ideal) x0 x1)) (rw' : Along (layer g) w x2) :
    Along (tile2 o h (512 * g.val) hb) (k0_pay4 (F := Ideal) a w) (val_main_v19 (F := Ideal) x0 x1 x2) := by
  have s : Along (tile2 o h (512 * g.val) hb) _ (val_main_v16 (F := Ideal) x0 x1 x2) := (product hb r rw').max along_const
  exact (s.mul s).truncL.truncR

/-- A shape cast to the same shape. -/
theorem same (r : Along (row2 o h) a (val_main_v14 (F := Ideal) x0 x1)) : Along (row2 o h) (k0_pay8 (F := Ideal) a) (val_main_v14 (F := Ideal) x0 x1) := by
  have hd : k0_pay8 (F := Ideal) a = a := sameShape
  rw [hd]; exact r

end Tile

section Same
variable {a : FVec Ideal S512x1024 .bf16} {v : Vec Ideal S512x1024 .bf16} {w : Vec Ideal S1x1024x512 .bf16}
theorem pre0 : k0_pay10 (F := Ideal) v w = k0_pay3 (k0_pay8 v) w := rfl
theorem pre1 : k0_pay13 (F := Ideal) v w = k0_pay3 (k0_pay8 v) w := rfl
theorem pre2 : k0_pay16 (F := Ideal) v w = k0_pay3 (k0_pay8 v) w := rfl
theorem pre3 : k0_pay19 (F := Ideal) a w = k0_pay3 a w := rfl
theorem pre4 : k0_pay22 (F := Ideal) a w = k0_pay3 a w := rfl
theorem pre5 : k0_pay25 (F := Ideal) a w = k0_pay3 a w := rfl
theorem pre7 : k0_pay6 (F := Ideal) a w = k0_pay3 a w := rfl
theorem act0 : k0_pay11 (F := Ideal) v w = k0_pay4 (k0_pay8 v) w := rfl
theorem act1 : k0_pay14 (F := Ideal) v w = k0_pay4 (k0_pay8 v) w := rfl
theorem act2 : k0_pay17 (F := Ideal) (k0_pay15 v w) (FloatOps.ofBits FTy.f32 0#32) = k0_pay4 (k0_pay8 v) w := rfl
theorem act3 : k0_pay20 (F := Ideal) a w = k0_pay4 a w := rfl
theorem act4 : k0_pay23 (F := Ideal) a w = k0_pay4 a w := rfl
theorem act5 : k0_pay1 (F := Ideal) (k0_pay24 a w) = k0_pay4 a w := rfl
theorem act7 : k0_pay7 (F := Ideal) a w = k0_pay4 a w := rfl
end Same

/-- What grid point `t` stores in window 2. -/
theorem after2 (t : Fin cfg0.N) : Along (row2 (512 * t.val) (inside t)) (out0_2 (iblk m c 0 t) (iblk m c 1 t)) (val_main_v17 (F := Ideal) (m ((c : Thread nD τ).loc main_arg0)) (m ((c : Thread nD τ).loc main_arg1)) (m ((c : Thread nD τ).loc main_arg2))) := by
  unfold_out out0_2
  frame_out
  rw [whole1]
  simp only [pre0, pre1, pre2, pre3, pre4, pre5, pre7]
  exact eight (pre (g := 0) (by decide) (same (rows0 m c t)) (along_ld_layer 0 _ _)) (pre (g := 1) (by decide) (same (rows0 m c t)) (along_ld_layer 1 _ _)) (pre (g := 2) (by decide) (same (rows0 m c t)) (along_ld_layer 2 _ _)) (pre (g := 3) (by decide) (same (rows0 m c t)) (along_ld_layer 3 _ _)) (pre (g := 4) (by decide) (same (rows0 m c t)) (along_ld_layer 4 _ _)) (pre (g := 5) (by decide) (same (rows0 m c t)) (along_ld_layer 5 _ _)) (pre (g := 6) (by decide) (same (rows0 m c t)) (along_ld_layer 6 _ _)) (pre (g := 7) (by decide) (same (rows0 m c t)) (along_ld_layer 7 _ _))

theorem final2 : (dats m 0 c).arrAt 2 (cfgs 0).N = (val_main_v17 (F := Ideal) (m ((c : Thread nD τ).loc main_arg0)) (m ((c : Thread nD τ).loc main_arg1)) (m ((c : Thread nD τ).loc main_arg2))) := by
  refine (dats m 0 c).arrAt_eq_of_covers 2 _ (by decide +kernel) fun t hf y => ?_
  blk_simp
  rw [after0_2]
  refine (after2 m c t y).trans ?_
  blk_ext [idx t]

/-- What grid point `t` stores in window 3. -/
theorem after3 (t : Fin cfg0.N) : Along (row2 (512 * t.val) (inside t)) (out0_3 (iblk m c 0 t) (iblk m c 1 t)) (val_main_v19 (F := Ideal) (m ((c : Thread nD τ).loc main_arg0)) (m ((c : Thread nD τ).loc main_arg1)) (m ((c : Thread nD τ).loc main_arg2))) := by
  unfold_out out0_3
  frame_out
  rw [whole1]
  simp only [act0, act1, act2, act3, act4, act5, act7]
  exact eight (act (g := 0) (by decide) (same (rows0 m c t)) (along_ld_layer 0 _ _)) (act (g := 1) (by decide) (same (rows0 m c t)) (along_ld_layer 1 _ _)) (act (g := 2) (by decide) (same (rows0 m c t)) (along_ld_layer 2 _ _)) (act (g := 3) (by decide) (same (rows0 m c t)) (along_ld_layer 3 _ _)) (act (g := 4) (by decide) (same (rows0 m c t)) (along_ld_layer 4 _ _)) (act (g := 5) (by decide) (same (rows0 m c t)) (along_ld_layer 5 _ _)) (act (g := 6) (by decide) (same (rows0 m c t)) (along_ld_layer 6 _ _)) (act (g := 7) (by decide) (same (rows0 m c t)) (along_ld_layer 7 _ _))

theorem final3 : (dats m 0 c).arrAt 3 (cfgs 0).N = (val_main_v19 (F := Ideal) (m ((c : Thread nD τ).loc main_arg0)) (m ((c : Thread nD τ).loc main_arg1)) (m ((c : Thread nD τ).loc main_arg2))) := by
  refine (dats m 0 c).arrAt_eq_of_covers 3 _ (by decide +kernel) fun t hf y => ?_
  blk_simp
  rw [after0_3]
  refine (after3 m c t y).trans ?_
  blk_ext [idx t]

set_option maxHeartbeats 1000000 in
/-- From memories that agree on the arguments, the kernel and the reference run and end with equal results. -/
theorem value : @Cert.algebraic_MlpUpIdeal_MlpUpRefIdeal Cert.MlpUpIdeal.Gen.facts Cert.MlpUpRefIdeal.Gen.facts := by
  intro m g m' g' _ hagree
  refine ⟨_, _, Cert.MlpUpIdeal.Value.run_blocks m g, ?_⟩
  refine (θ_run Cert.MlpUpRefIdeal.defs _ _).mono (fun _ h c => ⟨(h c).1.trans ?_, (h c).2.1.trans ?_, (h c).2.2⟩)
    (Cert.MlpUpRefIdeal.Value.run (F := Ideal) m' g')
  · obtain ⟨a0, a1, a2⟩ := hagree c
    refine (Cert.MlpUpRefIdeal.Read.val_main_v17_eq _ _ _).trans ?_
    rw [a0, a1, a2]
    exact (final2 m c).symm
  · obtain ⟨a0, a1, a2⟩ := hagree c
    refine (Cert.MlpUpRefIdeal.Read.val_main_v19_eq _ _ _).trans ?_
    rw [a0, a1, a2]
    exact (final3 m c).symm

end Cert.MlpUpValue

end
-- ==== Proof.InProjValue.lean ====
/-
  THE INPUT PROJECTION: for a tile of 512 rows the normalised rows and their products with the five segments of the
  transposed weight. The reference multiplies by the whole weight and splits the columns.
-/
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import proofs.«01_k».proof.Proof.Forward
public import proofs.«01_k».proof.Proof.Pieces
public import Idealize.ShloMosaic.Lib.Pipeline.ValueKit

@[expose] public section

set_option maxRecDepth 16384

noncomputable section

namespace Cert.InProjValue

open Idealize.ShloMosaic Idealize.ShloMosaic.TcCoe Idealize.SL.Sem Idealize.ShloMosaic.ValueIdx
open Idealize.ShloMosaic.Pipeline (Dat)
open Cert.Rows Cert.InProjIdeal Cert.InProjIdeal.Gen Cert.InProjRefIdeal.Read

variable (m : (ℓ : Loc nD τ sig) → Buf (Elt Ideal) ℓ) (c : Dev nD)

/-- The block indices of the windows. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- A tile's rows are rows of the whole array. -/
theorem inside (t : Fin cfg0.N) : 512 * t.val + 512 ≤ 4096 := by
  have := t.isLt.trans_eq N_0
  omega

theorem rows0 (t : Fin cfg0.N) : Along (row2 (512 * t.val) (inside t)) (iblk m c 0 t) (m ((c : Thread nD τ).loc main_arg0)) := fun i => by
  blk_ext [iblk, V, idx t]
theorem whole1 (t : Fin cfg0.N) : iblk m c 1 t = (m ((c : Thread nD τ).loc main_arg1)) := funext fun i => by
  blk_ext [iblk, V, idx t]
theorem whole2 (t : Fin cfg0.N) : iblk m c 2 t = (m ((c : Thread nD τ).loc main_arg2)) := funext fun i => by
  blk_ext [iblk, V, idx t]

/-- The normalised rows. -/
theorem normed {o : Nat} {h : o + 512 ≤ 4096} {a0 : Vec Ideal S512x1024 .f32} {a1 x1 : Vec Ideal S1x1024 .f32} {x0 : Vec Ideal S4096x1024 .f32}
    (r0 : Along (row2 o h) a0 x0) (e1 : a1 = x1) : Along (row2 o h) (k0_pay2 (F := Ideal) a0 a1) (val_main_v11 (F := Ideal) x0 x1) :=
  ((r0.mul (((r0.mul r0).rowSum.colB.div along_const).add along_const).rsqrt.spread).mul (along_params e1)).truncL

/-- What grid point `t` stores in window 3. -/
theorem after3 (t : Fin cfg0.N) : Along (row2 (512 * t.val) (inside t)) (out0_3 (iblk m c 0 t) (iblk m c 1 t) (iblk m c 2 t)) (val_main_v12 (F := Ideal) (m ((c : Thread nD τ).loc main_arg0)) (m ((c : Thread nD τ).loc main_arg1))) := by
  unfold out0_3
  frame_out
  exact (normed (rows0 m c t) (whole1 m c t)).truncR

theorem final3 : (dats m 0 c).arrAt 3 (cfgs 0).N = (val_main_v12 (F := Ideal) (m ((c : Thread nD τ).loc main_arg0)) (m ((c : Thread nD τ).loc main_arg1))) := by
  refine (dats m 0 c).arrAt_eq_of_covers 3 _ (by decide +kernel) fun t hf y => ?_
  blk_simp
  rw [after0_3]
  refine (after3 m c t y).trans ?_
  blk_ext [idx t]

/-- What grid point `t` stores in window 4. -/
theorem after4 (t : Fin cfg0.N) : Along (row2 (512 * t.val) (inside t)) (out0_4 (iblk m c 0 t) (iblk m c 1 t) (iblk m c 2 t)) (val_main_v16 (F := Ideal) (m ((c : Thread nD τ).loc main_arg0)) (m ((c : Thread nD τ).loc main_arg1)) (m ((c : Thread nD τ).loc main_arg2))) := by
  unfold out0_4
  frame_out
  rw [whole2]
  exact nt_segment (φ₁ := .bf16) (φ₂ := .bf16) (ψ₁ := .f32) (ψ₂ := .f32) (q := 0) (m := 1024) (hq := by decide) (normed (rows0 m c t) (whole1 m c t)) (along_ld_rows 0 _ _) _

theorem final4 : (dats m 0 c).arrAt 4 (cfgs 0).N = (val_main_v16 (F := Ideal) (m ((c : Thread nD τ).loc main_arg0)) (m ((c : Thread nD τ).loc main_arg1)) (m ((c : Thread nD τ).loc main_arg2))) := by
  refine (dats m 0 c).arrAt_eq_of_covers 4 _ (by decide +kernel) fun t hf y => ?_
  blk_simp
  rw [after0_4]
  refine (after4 m c t y).trans ?_
  blk_ext [idx t]

/-- What grid point `t` stores in window 5. -/
theorem after5 (t : Fin cfg0.N) : Along (row2 (512 * t.val) (inside t)) (out0_5 (iblk m c 0 t) (iblk m c 1 t) (iblk m c 2 t)) (val_main_v17 (F := Ideal) (m ((c : Thread nD τ).loc main_arg0)) (m ((c : Thread nD τ).loc main_arg1)) (m ((c : Thread nD τ).loc main_arg2))) := by
  unfold out0_5
  frame_out
  rw [whole2]
  exact nt_segment (φ₁ := .bf16) (φ₂ := .bf16) (ψ₁ := .f32) (ψ₂ := .f32) (q := 1024) (m := 1536) (hq := by decide) (normed (rows0 m c t) (whole1 m c t)) (along_ld_rows 1024 _ _) _

theorem final5 : (dats m 0 c).arrAt 5 (cfgs 0).N = (val_main_v17 (F := Ideal) (m ((c : Thread nD τ).loc main_arg0)) (m ((c : Thread nD τ).loc main_arg1)) (m ((c : Thread nD τ).loc main_arg2))) := by
  refine (dats m 0 c).arrAt_eq_of_covers 5 _ (by decide +kernel) fun t hf y => ?_
  blk_simp
  rw [after0_5]
  refine (after5 m c t y).trans ?_
  blk_ext [idx t]

/-- What grid point `t` stores in window 6. -/
theorem after6 (t : Fin cfg0.N) : Along (row2 (512 * t.val) (inside t)) (out0_6 (iblk m c 0 t) (iblk m c 1 t) (iblk m c 2 t)) (val_main_v18 (F := Ideal) (m ((c : Thread nD τ).loc main_arg0)) (m ((c : Thread nD τ).loc main_arg1)) (m ((c : Thread nD τ).loc main_arg2))) := by
  unfold out0_6
  frame_out
  rw [whole2]
  exact nt_segment (φ₁ := .bf16) (φ₂ := .bf16) (ψ₁ := .f32) (ψ₂ := .f32) (q := 2560) (m := 16) (hq := by decide) (normed (rows0 m c t) (whole1 m c t)) (along_ld_rows 2560 _ _) _

theorem final6 : (dats m 0 c).arrAt 6 (cfgs 0).N = (val_main_v18 (F := Ideal) (m ((c : Thread nD τ).loc main_arg0)) (m ((c : Thread nD τ).loc main_arg1)) (m ((c : Thread nD τ).loc main_arg2))) := by
  refine (dats m 0 c).arrAt_eq_of_covers 6 _ (by decide +kernel) fun t hf y => ?_
  blk_simp
  rw [after0_6]
  refine (after6 m c t y).trans ?_
  blk_ext [idx t]

/-- What grid point `t` stores in window 7. -/
theorem after7 (t : Fin cfg0.N) : Along (row2 (512 * t.val) (inside t)) (out0_7 (iblk m c 0 t) (iblk m c 1 t) (iblk m c 2 t)) (val_main_v19 (F := Ideal) (m ((c : Thread nD τ).loc main_arg0)) (m ((c : Thread nD τ).loc main_arg1)) (m ((c : Thread nD τ).loc main_arg2))) := by
  unfold out0_7
  frame_out
  rw [whole2]
  exact nt_segment (φ₁ := .bf16) (φ₂ := .bf16) (ψ₁ := .f32) (ψ₂ := .f32) (q := 2576) (m := 1024) (hq := by decide) (normed (rows0 m c t) (whole1 m c t)) (along_ld_rows 2576 _ _) _

theorem final7 : (dats m 0 c).arrAt 7 (cfgs 0).N = (val_main_v19 (F := Ideal) (m ((c : Thread nD τ).loc main_arg0)) (m ((c : Thread nD τ).loc main_arg1)) (m ((c : Thread nD τ).loc main_arg2))) := by
  refine (dats m 0 c).arrAt_eq_of_covers 7 _ (by decide +kernel) fun t hf y => ?_
  blk_simp
  rw [after0_7]
  refine (after7 m c t y).trans ?_
  blk_ext [idx t]

/-- What grid point `t` stores in window 8. -/
theorem after8 (t : Fin cfg0.N) : Along (row2 (512 * t.val) (inside t)) (out0_8 (iblk m c 0 t) (iblk m c 1 t) (iblk m c 2 t)) (val_main_v20 (F := Ideal) (m ((c : Thread nD τ).loc main_arg0)) (m ((c : Thread nD τ).loc main_arg1)) (m ((c : Thread nD τ).loc main_arg2))) := by
  unfold out0_8
  frame_out
  rw [whole2]
  exact nt_segment (φ₁ := .bf16) (φ₂ := .bf16) (ψ₁ := .f32) (ψ₂ := .f32) (q := 3600) (m := 1024) (hq := by decide) (normed (rows0 m c t) (whole1 m c t)) (along_ld_rows 3600 _ _) _

theorem final8 : (dats m 0 c).arrAt 8 (cfgs 0).N = (val_main_v20 (F := Ideal) (m ((c : Thread nD τ).loc main_arg0)) (m ((c : Thread nD τ).loc main_arg1)) (m ((c : Thread nD τ).loc main_arg2))) := by
  refine (dats m 0 c).arrAt_eq_of_covers 8 _ (by decide +kernel) fun t hf y => ?_
  blk_simp
  rw [after0_8]
  refine (after8 m c t y).trans ?_
  blk_ext [idx t]

set_option maxHeartbeats 1000000 in
/-- From memories that agree on the arguments, the kernel and the reference run and end with equal results. -/
theorem value : @Cert.algebraic_InProjIdeal_InProjRefIdeal Cert.InProjIdeal.Gen.facts Cert.InProjRefIdeal.Gen.facts := by
  intro m g m' g' _ hagree
  refine ⟨_, _, _, _, _, _, Cert.InProjIdeal.Value.run_blocks m g, ?_⟩
  refine (θ_run Cert.InProjRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.InProjRefIdeal.Value.run (F := Ideal) m' g')
  · obtain ⟨a0, a1, _⟩ := hagree c
    refine (Cert.InProjRefIdeal.Read.val_main_v12_eq _ _).trans ?_
    rw [a0, a1]
    exact (final3 m c).symm
  · obtain ⟨a0, a1, a2⟩ := hagree c
    refine (Cert.InProjRefIdeal.Read.val_main_v16_eq _ _ _).trans ?_
    rw [a0, a1, a2]
    exact (final4 m c).symm
  · obtain ⟨a0, a1, a2⟩ := hagree c
    refine (Cert.InProjRefIdeal.Read.val_main_v17_eq _ _ _).trans ?_
    rw [a0, a1, a2]
    exact (final5 m c).symm
  · obtain ⟨a0, a1, a2⟩ := hagree c
    refine (Cert.InProjRefIdeal.Read.val_main_v18_eq _ _ _).trans ?_
    rw [a0, a1, a2]
    exact (final6 m c).symm
  · obtain ⟨a0, a1, a2⟩ := hagree c
    refine (Cert.InProjRefIdeal.Read.val_main_v19_eq _ _ _).trans ?_
    rw [a0, a1, a2]
    exact (final7 m c).symm
  · obtain ⟨a0, a1, a2⟩ := hagree c
    refine (Cert.InProjRefIdeal.Read.val_main_v20_eq _ _ _).trans ?_
    rw [a0, a1, a2]
    exact (final8 m c).symm

end Cert.InProjValue

end
-- ==== Proof.OutProjFwdValue.lean ====
/-
  THE OUTPUT PROJECTION: for a tile of 512 rows the two mixed halves (the gated group norm and the layer norm behind its own
  logistic), the residual stream plus their products with the two halves of `w_out`, and its normalised rows. The reference
  puts the halves side by side and multiplies by the whole weight: a sum over 2048 columns is the sum of two over 1024.
-/
module

public import proofs.«01_k».proof.Defs
public import proofs.«01_k».proof.Proof.Gen.OutProjFwdIdeal.Value
public import proofs.«01_k».proof.Proof.Gen.OutProjFwdRefIdeal.Run
public import proofs.«01_k».proof.Proof.Gen.OutProjFwdRefIdeal.Read
public import proofs.«01_k».proof.Proof.Forward
public import proofs.«01_k».proof.Proof.Pieces
public import Idealize.ShloMosaic.Lib.Pipeline.ValueKit

@[expose] public section

set_option maxRecDepth 16384

noncomputable section

namespace Cert.OutProjFwdValue

open Idealize.ShloMosaic Idealize.ShloMosaic.TcCoe Idealize.SL.Sem Idealize.ShloMosaic.ValueIdx
open Idealize.ShloMosaic.Pipeline (Dat)
open Cert.Rows Cert.OutProjFwdIdeal Cert.OutProjFwdIdeal.Gen Cert.OutProjFwdRefIdeal.Read

section Stages
variable {o : Nat} {h : o + 512 ≤ 4096}
  {a0 a1 a2 a3 : Vec Ideal S512x1024 .f32} {a4 a5 a6 a8 x4 x5 x6 x8 : Vec Ideal S1x1024 .f32} {x0 x1 x2 x3 : Vec Ideal S4096x1024 .f32}
  {w w' : Vec Ideal S1024x1024 .bf16} {x7 : Vec Ideal S2048x1024 .bf16}

/-- The rows of `y` behind their gate. -/
theorem gated (r0 : Along (row2 o h) a0 x0) (r1 : Along (row2 o h) a1 x1) :
    Along (row2 o h) (mulf (F := Ideal) a0 (mulf (F := Ideal) (φ := .f32) a1 (logistic (F := Ideal) a1))) (val_main_v1 (F := Ideal) x0 x1) :=
  r0.mul (r1.mul r1.logistic)

/-- A group of 512 columns, normalised. -/
theorem group0 {a : FVec Ideal S512x1024 .f32} (r : Along (row2 o h) a (val_main_v1 (F := Ideal) x0 x1)) : Along (half o h 0) (extractStridedSlice S512x512 ![0, 0] a slices_S512x1024_o0_0_S512x512) (val_main_v2 (F := Ideal) x0 x1) := r.group 0 0
theorem group1 {a : FVec Ideal S512x1024 .f32} (r : Along (row2 o h) a (val_main_v1 (F := Ideal) x0 x1)) : Along (half o h 1) (extractStridedSlice S512x512 ![0, 512] a slices_S512x1024_o0_512_S512x512) (val_main_v2 (F := Ideal) x0 x1) := r.group 512 1

/-- The first half of the mixed rows: the two groups side by side, behind the scale. -/
theorem left (r0 : Along (row2 o h) a0 x0) (r1 : Along (row2 o h) a1 x1) (e4 : a4 = x4) :
    Along (row2 o h) (k0_pay2 (F := Ideal) a0 a1 a4) (val_main_v15 (F := Ideal) x0 x1 x4) := by
  have g0 := group0 (gated r0 r1)
  have g1 := group1 (gated r0 r1)
  have s0 : Along (half o h 0) _ (val_main_v12 (F := Ideal) x0 x1) := g0.mul (((g0.mul g0).halfSum.halfColB.div along_const).add along_const).rsqrt.halfSpread
  have s1 : Along (half o h 1) _ (val_main_v12 (F := Ideal) x0 x1) := g1.mul (((g1.mul g1).halfSum.halfColB.div along_const).add along_const).rsqrt.halfSpread
  exact ((along_join s0 s1).mul (along_params e4)).truncL

/-- The second half: the layer norm behind its own logistic. -/
theorem right (r2 : Along (row2 o h) a2 x2) (e5 : a5 = x5) (e6 : a6 = x6) :
    Along (row2 o h) (k0_pay4 (F := Ideal) a2 a5 a6 (k0_pay3 (F := Ideal) a2)) (val_main_v36 (F := Ideal) x2 x5 x6) := by
  have c : Along (row2 o h) _ (val_main_v21 (F := Ideal) x2) := r2.sub (r2.rowSum.colB.div along_const).spread
  have n : Along (row2 o h) _ (val_main_v31 (F := Ideal) x2) := c.mul (((c.mul c).rowSum.colB.div along_const).add along_const).rsqrt.spread
  have l : Along (row2 o h) _ (val_main_v35 (F := Ideal) x2 x5 x6) := (n.mul (along_params e5)).add (along_params e6)
  exact (l.mul l.logistic).truncL

/-- The residual stream. -/
theorem stream (r0 : Along (row2 o h) a0 x0) (r1 : Along (row2 o h) a1 x1) (r2 : Along (row2 o h) a2 x2) (r3 : Along (row2 o h) a3 x3)
    (e4 : a4 = x4) (e5 : a5 = x5) (e6 : a6 = x6) (s : Along (row2 0 (by decide)) w x7) (s' : Along (row2 1024 (by decide)) w' x7) :
    Along (row2 o h) (k0_pay5 (F := Ideal) (k0_pay2 (F := Ideal) a0 a1 a4) a2 a5 a6 (k0_pay3 (F := Ideal) a2) a3 w w') (val_main_v40 (F := Ideal) x0 x1 x2 x3 x4 x5 x6 x7) := fun i => by
  have e : _ = val_main_v39 (F := Ideal) x0 x1 x2 x4 x5 x6 x7 (row2 o h i) := halves (φ₁ := .bf16) (φ₂ := .bf16) (ψ₁ := .f32) (ψ₂ := .f32) (K := 1024) (W := val_main_v38 (F := Ideal) x7) (left r0 r1 e4) (right r2 e5 e6) s s'
    dot_S512x1024_S1024x1024_S512x1024_1_0_0_1_n_n rfl (d' := DotDims.plain 4096 2048 1024) rfl i
  exact (add_assoc (G := EReal) _ _ _).trans (congrArg₂ (· + ·) (r3 i) e)

/-- Its normalised rows. -/
theorem normed {a : FVec Ideal S512x1024 .f32} (r : Along (row2 o h) a (val_main_v40 (F := Ideal) x0 x1 x2 x3 x4 x5 x6 x7)) (e8 : a8 = x8) :
    Along (row2 o h) (k0_pay1 (F := Ideal) a a8 (divf (F := Ideal) (φ := .f32) (shapeCast S512x1 (multiReduction (F := Ideal) (φ := .f32) .add [1] S512 (mulf (F := Ideal) a a) 0x00000000#32 reduces_S512x1024_S512 (.inl rfl) rfl) shapeCasts_S512_S512x1) (broadcast S512x1 (Scalar.ofBits (F := Ideal) .f32 0x44800000#32))) (Scalar.ofBits (F := Ideal) .f32 0x358637BD#32))
      (val_main_v54 (F := Ideal) x0 x1 x2 x3 x4 x5 x6 x7 x8) :=
  ((r.mul (((r.mul r).rowSum.colB.div along_const).add along_const).rsqrt.spread).mul (along_params e8)).truncL.truncR

end Stages

variable (m : (ℓ : Loc nD τ sig) → Buf (Elt Ideal) ℓ) (c : Dev nD)

/-- The block indices of the windows. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![t.val, 0] :=
  (by decide +kernel : ∀ t : Fin grid0.N, _)

/-- A tile's rows are rows of the whole array. -/
theorem inside (t : Fin cfg0.N) : 512 * t.val + 512 ≤ 4096 := by
  have := t.isLt.trans_eq N_0
  omega

theorem rows0 (t : Fin cfg0.N) : Along (row2 (512 * t.val) (inside t)) (iblk m c 0 t) (m ((c : Thread nD τ).loc main_arg0)) := fun i => by
  blk_ext [iblk, V, idx t]
theorem rows1 (t : Fin cfg0.N) : Along (row2 (512 * t.val) (inside t)) (iblk m c 1 t) (m ((c : Thread nD τ).loc main_arg1)) := fun i => by
  blk_ext [iblk, V, idx t]
theorem rows2 (t : Fin cfg0.N) : Along (row2 (512 * t.val) (inside t)) (iblk m c 2 t) (m ((c : Thread nD τ).loc main_arg2)) := fun i => by
  blk_ext [iblk, V, idx t]
theorem rows3 (t : Fin cfg0.N) : Along (row2 (512 * t.val) (inside t)) (iblk m c 3 t) (m ((c : Thread nD τ).loc main_arg3)) := fun i => by
  blk_ext [iblk, V, idx t]
theorem whole4 (t : Fin cfg0.N) : iblk m c 4 t = (m ((c : Thread nD τ).loc main_arg4)) := funext fun i => by
  blk_ext [iblk, V, idx t]
theorem whole5 (t : Fin cfg0.N) : iblk m c 5 t = (m ((c : Thread nD τ).loc main_arg5)) := funext fun i => by
  blk_ext [iblk, V, idx t]
theorem whole6 (t : Fin cfg0.N) : iblk m c 6 t = (m ((c : Thread nD τ).loc main_arg6)) := funext fun i => by
  blk_ext [iblk, V, idx t]
theorem whole7 (t : Fin cfg0.N) : iblk m c 7 t = (m ((c : Thread nD τ).loc main_arg7)) := funext fun i => by
  blk_ext [iblk, V, idx t]
theorem whole8 (t : Fin cfg0.N) : iblk m c 8 t = (m ((c : Thread nD τ).loc main_arg8)) := funext fun i => by
  blk_ext [iblk, V, idx t]

/-- What grid point `t` stores in window 9. -/
theorem after9 (t : Fin cfg0.N) : Along (row2 (512 * t.val) (inside t)) (out0_9 (iblk m c 0 t) (iblk m c 1 t) (iblk m c 2 t) (iblk m c 3 t) (iblk m c 4 t) (iblk m c 5 t) (iblk m c 6 t) (iblk m c 7 t) (iblk m c 8 t)) (val_main_v41 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) := by
  unfold_out out0_9
  frame_out
  have b0 : Along (tile2 (n := 512) (m := 1024) (512 * t.val) (inside t) 0 (by decide)) _ (val_main_v37 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) := beside_left (left (rows0 m c t) (rows1 m c t) (whole4 m c t))
  have b1 : Along (tile2 (n := 512) (m := 1024) (512 * t.val) (inside t) 1024 (by decide)) _ (val_main_v37 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) := beside_right (right (rows2 m c t) (whole5 m c t) (whole6 m c t))
  exact two b0.truncR b1.truncR

theorem final9 : (dats m 0 c).arrAt 9 (cfgs 0).N = (val_main_v41 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) := by
  refine (dats m 0 c).arrAt_eq_of_covers 9 _ (by decide +kernel) fun t hf y => ?_
  blk_simp
  rw [after0_9]
  refine (after9 m c t y).trans ?_
  blk_ext [idx t]

/-- What grid point `t` stores in window 10. -/
theorem after10 (t : Fin cfg0.N) : Along (row2 (512 * t.val) (inside t)) (out0_10 (iblk m c 0 t) (iblk m c 1 t) (iblk m c 2 t) (iblk m c 3 t) (iblk m c 4 t) (iblk m c 5 t) (iblk m c 6 t) (iblk m c 7 t) (iblk m c 8 t)) (val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  unfold_out out0_10
  frame_out
  rw [whole7]
  exact (stream (rows0 m c t) (rows1 m c t) (rows2 m c t) (rows3 m c t) (whole4 m c t) (whole5 m c t) (whole6 m c t) (along_ld_rows 0 _ _) (along_ld_rows 1024 _ _))

theorem final10 : (dats m 0 c).arrAt 10 (cfgs 0).N = (val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (dats m 0 c).arrAt_eq_of_covers 10 _ (by decide +kernel) fun t hf y => ?_
  blk_simp
  rw [after0_10]
  refine (after10 m c t y).trans ?_
  blk_ext [idx t]

/-- What grid point `t` stores in window 11. -/
theorem after11 (t : Fin cfg0.N) : Along (row2 (512 * t.val) (inside t)) (out0_11 (iblk m c 0 t) (iblk m c 1 t) (iblk m c 2 t) (iblk m c 3 t) (iblk m c 4 t) (iblk m c 5 t) (iblk m c 6 t) (iblk m c 7 t) (iblk m c 8 t)) (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  unfold_out out0_11
  frame_out
  rw [whole7]
  exact normed (stream (rows0 m c t) (rows1 m c t) (rows2 m c t) (rows3 m c t) (whole4 m c t) (whole5 m c t) (whole6 m c t) (along_ld_rows 0 _ _) (along_ld_rows 1024 _ _)) (whole8 m c t)

theorem final11 : (dats m 0 c).arrAt 11 (cfgs 0).N = (val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_covers 11 _ (by decide +kernel) fun t hf y => ?_
  blk_simp
  rw [after0_11]
  refine (after11 m c t y).trans ?_
  blk_ext [idx t]

set_option maxHeartbeats 1000000 in
/-- From memories that agree on the arguments, the kernel and the reference run and end with equal results. -/
theorem value : @Cert.algebraic_OutProjFwdIdeal_OutProjFwdRefIdeal Cert.OutProjFwdIdeal.Gen.facts Cert.OutProjFwdRefIdeal.Gen.facts := by
  intro m g m' g' _ hagree
  refine ⟨_, _, _, Cert.OutProjFwdIdeal.Value.run_blocks m g, ?_⟩
  refine (θ_run Cert.OutProjFwdRefIdeal.defs _ _).mono (fun _ h c => ⟨(h c).1.trans ?_, (h c).2.1.trans ?_, (h c).2.2.1.trans ?_, (h c).2.2.2⟩)
    (Cert.OutProjFwdRefIdeal.Value.run (F := Ideal) m' g')
  · obtain ⟨a0, a1, a2, _, a4, a5, a6, _, _⟩ := hagree c
    rw [Cert.OutProjFwdRefIdeal.Read.val_main_v41_eq m' c, a0, a1, a2, a4, a5, a6]
    exact (final9 m c).symm
  · obtain ⟨a0, a1, a2, a3, a4, a5, a6, a7, _⟩ := hagree c
    rw [Cert.OutProjFwdRefIdeal.Read.val_main_v40_eq m' c, a0, a1, a2, a3, a4, a5, a6, a7]
    exact (final10 m c).symm
  · obtain ⟨a0, a1, a2, a3, a4, a5, a6, a7, a8⟩ := hagree c
    rw [Cert.OutProjFwdRefIdeal.Read.val_main_v54_eq m' c, a0, a1, a2, a3, a4, a5, a6, a7, a8]
    exact (final11 m c).symm

end Cert.OutProjFwdValue

end
-- ==== Proof.Totals.lean ====
/-
  TOTALS OVER ALL TILES. A sum over the rows of the whole array is the sum over the tiles of the sums over their rows; so a
  product that contracts the rows is the sum of the tiles' products, and a total loss is the sum of the tiles' losses.
  Also two facts of exact arithmetic: a factor that is a finite, positive number goes through a sum, and the derivative of a
  square written as a sum of two products is twice the one product.
-/
module

public import proofs.«01_k».proof.Proof.Products
public import proofs.«01_k».proof.Proof.AccRows

@[expose] public section

noncomputable section

namespace Cert.Rows

open Idealize.ShloMosaic Idealize.ShloMosaic.ValueIdx
open scoped BigOperators

/-- A sum over the rows, tile by tile. -/
theorem rows_tiles {T n N : Nat} (hN : N = T * n) (ho : ∀ t : Fin T, n * t.val + n ≤ N) (f : Fin N → EReal) :
    ∑ t : Fin T, ∑ k : Fin n, f ⟨n * t.val + k.val, by have := ho t; omega⟩ = ∑ k : Fin N, f k := by
  subst hN
  refine (Fintype.sum_prod_type' (fun (t : Fin T) (k : Fin n) => f ⟨n * t.val + k.val, _⟩)).symm.trans ?_
  exact Fintype.sum_equiv finProdFinEquiv _ _ fun p => congrArg f (Fin.ext (Nat.add_comm _ _))

/-- The tiles' products, contracted over their rows, add up to the transpose of the product of the whole arrays the other
    way round. -/
theorem tn_tiles {T n N M C : Nat} (hN : N = T * n) (ho : ∀ t : Fin T, n * t.val + n ≤ N) {φ₁ φ₂ ψ₁ ψ₂ : FTy}
    {A : Fin T → FVec Ideal ⟨2, ![n, M]⟩ φ₁} {X : FVec Ideal ⟨2, ![N, M]⟩ ψ₁} (r : ∀ t, Along (row2 (n * t.val) (ho t)) (A t) X)
    {B : Fin T → FVec Ideal ⟨2, ![n, C]⟩ φ₂} {Y : FVec Ideal ⟨2, ![N, C]⟩ ψ₂} (r' : ∀ t, Along (row2 (n * t.val) (ho t)) (B t) Y)
    (wf : DotDims.WF ⟨2, ![n, M]⟩ ⟨2, ![n, C]⟩ ⟨2, ![M, C]⟩ [0] [0] [1] [1] [] [])
    (wf' : DotDims.WF ⟨2, ![N, C]⟩ ⟨2, ![N, M]⟩ ⟨2, ![C, M]⟩ [0] [0] [1] [1] [] [])
    {hk : (⟨2, ![C, M]⟩ : Shape).Transposes [1, 0] ⟨2, ![M, C]⟩} (i : (⟨2, ![M, C]⟩ : Shape).Idx) :
    ∑ t : Fin T, matmul (tn wf) none (A t) (B t) (constant ⟨2, ![M, C]⟩ .f32 0x00000000#32) i
      = transpose ⟨2, ![M, C]⟩ [1, 0] (Host.dotGeneral (tn wf') none Y X) hk i := by
  obtain ⟨p, q, rfl⟩ : ∃ (p : Fin M) (q : Fin C), i = ix2 p q := ⟨i 0, i 1, eq_ix2 i⟩
  rw [swap_apply, tn_dot, ← rows_tiles hN ho]
  refine Finset.sum_congr rfl fun t _ => ?_
  rw [tn_matmul]
  exact Finset.sum_congr rfl fun k _ => (congrArg₂ (fun a b : EReal => a * b) (r t _) (r' t _)).trans (mul_comm _ _)

/-- The constant two. -/
theorem two_bits : Ideal.ofBits .f32 0x40000000#32 = 1 + 1 := by
  have : Ideal.ofBits .f32 0x40000000#32 = ((2 : ℝ) : EReal) := by
    simp [Ideal.ofBits, Ideal.ieee, -EReal.coe_mul]; norm_num
  rw [this, ← EReal.coe_one, ← EReal.coe_add]; norm_num

/-- The constant one half. -/
theorem half_bits : Ideal.ofBits .f32 0x3F000000#32 = ((2⁻¹ : ℝ) : EReal) := by
  simp [Ideal.ofBits, Ideal.ieee, -EReal.coe_mul]; norm_num

/-- The derivative of a square. -/
theorem square_back (e g : EReal) : e * g + g * e = g * (Ideal.ofBits .f32 0x40000000#32 * e) := by
  rw [two_bits, mul_comm e g, ← mul_assoc, mul_comm g (1 + 1), mul_assoc, EReal.right_distrib_of_nonneg zero_le_one zero_le_one, one_mul]

/-- One half goes through a sum. -/
theorem half_sum {ι : Type} (s : Finset ι) (f : ι → EReal) :
    ∑ i ∈ s, Ideal.ofBits .f32 0x3F000000#32 * f i = Ideal.ofBits .f32 0x3F000000#32 * ∑ i ∈ s, f i := by
  classical
  rw [half_bits]
  induction s using Finset.induction_on with
  | empty => simp
  | insert a s ha ih =>
    rw [Finset.sum_insert ha, Finset.sum_insert ha, ih]
    exact (EReal.left_distrib_of_nonneg_of_ne_top (EReal.coe_nonneg.2 (by norm_num)) (EReal.coe_ne_top _) _ _).symm

/-- A sum over the indices of a vector. -/
theorem sum_vector {N : Nat} (f : (⟨1, ![N]⟩ : Shape).Idx → EReal) : ∑ j, f j = ∑ k : Fin N, f (ix1 k) :=
  Fintype.sum_equiv (⟨fun j => j 0, ix1, fun j => (eq_ix1 j).symm, fun _ => rfl⟩ : (⟨1, ![N]⟩ : Shape).Idx ≃ Fin N) _ _
    fun j => congrArg f (eq_ix1 j)

/-- Half a total over all rows, from the tiles' totals of the halves. -/
theorem half_total {T n N : Nat} (hN : N = T * n) (ho : ∀ t : Fin T, n * t.val + n ≤ N) {f : Fin T → EReal}
    {V : (⟨1, ![N]⟩ : Shape).Idx → EReal}
    (e : ∀ t, f t = ∑ k : Fin n, Ideal.ofBits .f32 0x3F000000#32 * V (ix1 ⟨n * t.val + k.val, by have := ho t; omega⟩)) :
    ∑ t, f t = Ideal.ofBits .f32 0x3F000000#32 * (Ideal.ofBits .f32 0x00000000#32 + ∑ j, V j) := by
  rw [Ideal.ofBits_zero_f32, zero_add, sum_vector, Finset.sum_congr rfl fun t _ => e t, ← half_sum]
  exact rows_tiles hN ho (fun k => Ideal.ofBits .f32 0x3F000000#32 * V (ix1 k))

end Cert.Rows

end
-- ==== Proof.TailGrad.lean ====
/-
  THE STAGES OF `_tail` ON ONE TILE: the per-token gate on the embedding, the final norm, the squared error and the way back
  through all of them. The kernel computes on tiles of 512 rows what the reference, the transposed linearisation of the
  plain forward lines, computes on all 4096 rows, by the same operations; it writes the derivative of the square as a sum
  of two products and adds the pieces of the stream's gradient in another order.
-/
module

public import proofs.«01_k».proof.Proof.Gen.TailIdeal.Skeleton
public import proofs.«01_k».proof.Proof.Gen.TailRefIdeal.Read
public import proofs.«01_k».proof.Proof.Totals

@[expose] public section

set_option maxRecDepth 16384

noncomputable section

namespace Cert.TailGrad

open Idealize.ShloMosaic Idealize.ShloMosaic.ValueIdx Cert.Rows Cert.TailIdeal.Gen Cert.TailRefIdeal.Read

section Names
variable (a0 a2 : Vec Ideal ⟨2, ![512, 1024]⟩ .f32) (a1 : Vec Ideal ⟨2, ![512, 256]⟩ .f32) (a3 a5 a7 a8 : Vec Ideal ⟨2, ![1, 1024]⟩ .f32)
  (a4 : Vec Ideal ⟨2, ![1024, 1024]⟩ .bf16) (a6 : Vec Ideal ⟨2, ![256, 1024]⟩ .bf16)

/-- What the kernel computes on a tile: the gate before its logistic, … -/
abbrev gatePre : FVec Ideal ⟨2, ![512, 1024]⟩ .f32 := k0_pay10 (F := Ideal) a0 a3 a4 a5
/-- … the embedding before its norm, … -/
abbrev embPre : FVec Ideal ⟨2, ![512, 1024]⟩ .f32 := k0_pay11 (F := Ideal) a1 a6
/-- … the stream with the gated embedding added, … -/
abbrev last : FVec Ideal ⟨2, ![512, 1024]⟩ .f32 := k0_pay19 (F := Ideal) a0 (gatePre a0 a3 a5 a4) (embPre a1 a6) a7
/-- … the inverse root of its rows' mean squares, … -/
abbrev lastInv : FVec Ideal ⟨2, ![512, 1]⟩ .f32 := k0_pay21 (F := Ideal) a0 (gatePre a0 a3 a5 a4) (embPre a1 a6) a7
/-- … the derivative of that, … -/
abbrev lastSlope : FVec Ideal ⟨2, ![512, 1]⟩ .f32 := k0_pay22 (F := Ideal) a0 (gatePre a0 a3 a5 a4) (embPre a1 a6) a7
/-- … the error, … -/
abbrev error : FVec Ideal ⟨2, ![512, 1024]⟩ .f32 := k0_pay24 (F := Ideal) a0 a2 (gatePre a0 a3 a5 a4) (embPre a1 a6) a7 a8
/-- … the gradient of the stream before the last norm, … -/
abbrev dLast : FVec Ideal ⟨2, ![512, 1024]⟩ .f32 :=
  k0_pay29 (F := Ideal) a8 (last a0 a1 a3 a5 a7 a4 a6) (lastInv a0 a1 a3 a5 a7 a4 a6) (lastSlope a0 a1 a3 a5 a7 a4 a6) (error a0 a2 a1 a3 a5 a7 a8 a4 a6) (k0_pay26 (F := Ideal)) (Scalar.ofBits (F := Ideal) .f32 0x3F000000#32)
/-- … of the embedding, … -/
abbrev dEmb : FVec Ideal ⟨2, ![512, 1024]⟩ .f32 :=
  k0_pay30 (F := Ideal) a8 (k0_pay12 (gatePre a0 a3 a5 a4)) (last a0 a1 a3 a5 a7 a4 a6) (lastInv a0 a1 a3 a5 a7 a4 a6) (lastSlope a0 a1 a3 a5 a7 a4 a6) (error a0 a2 a1 a3 a5 a7 a8 a4 a6) (k0_pay26 (F := Ideal)) (Scalar.ofBits (F := Ideal) .f32 0x3F000000#32)
/-- … of the gate, … -/
abbrev dGate : FVec Ideal ⟨2, ![512, 1024]⟩ .f32 :=
  k0_pay31 (F := Ideal) a8 (k0_pay18 (embPre a1 a6) a7) (last a0 a1 a3 a5 a7 a4 a6) (lastInv a0 a1 a3 a5 a7 a4 a6) (lastSlope a0 a1 a3 a5 a7 a4 a6) (error a0 a2 a1 a3 a5 a7 a8 a4 a6) (k0_pay26 (F := Ideal)) (Scalar.ofBits (F := Ideal) .f32 0x3F000000#32)
/-- … of the normalised embedding, … -/
abbrev dEmbNormed : FVec Ideal ⟨2, ![512, 1024]⟩ .f32 :=
  k0_pay33 (F := Ideal) a7 a8 (k0_pay12 (gatePre a0 a3 a5 a4)) (last a0 a1 a3 a5 a7 a4 a6) (lastInv a0 a1 a3 a5 a7 a4 a6) (lastSlope a0 a1 a3 a5 a7 a4 a6) (error a0 a2 a1 a3 a5 a7 a8 a4 a6) (k0_pay26 (F := Ideal)) (Scalar.ofBits (F := Ideal) .f32 0x3F000000#32)
/-- … of its rows' mean squares, … -/
abbrev dEmbMean : FVec Ideal ⟨2, ![512, 1024]⟩ .f32 :=
  k0_pay34 (F := Ideal) (embPre a1 a6) a7 a8 (k0_pay12 (gatePre a0 a3 a5 a4)) (k0_pay16 (embPre a1 a6)) (last a0 a1 a3 a5 a7 a4 a6) (lastInv a0 a1 a3 a5 a7 a4 a6) (lastSlope a0 a1 a3 a5 a7 a4 a6) (error a0 a2 a1 a3 a5 a7 a8 a4 a6) (k0_pay26 (F := Ideal)) (Scalar.ofBits (F := Ideal) .f32 0x3F000000#32)
/-- … and the first two terms of the gradient of the embedding before its norm. -/
abbrev dEmbTwo : FVec Ideal ⟨2, ![512, 1024]⟩ .f32 :=
  k0_pay35 (F := Ideal) (embPre a1 a6) a7 a8 (k0_pay12 (gatePre a0 a3 a5 a4)) (k0_pay15 (embPre a1 a6)) (k0_pay16 (embPre a1 a6)) (last a0 a1 a3 a5 a7 a4 a6) (lastInv a0 a1 a3 a5 a7 a4 a6) (lastSlope a0 a1 a3 a5 a7 a4 a6) (error a0 a2 a1 a3 a5 a7 a8 a4 a6) (k0_pay26 (F := Ideal)) (Scalar.ofBits (F := Ideal) .f32 0x3F000000#32)
/-- The gradient of the stream. -/
abbrev dStream : FVec Ideal ⟨2, ![512, 1024]⟩ .f32 :=
  k0_pay40 (F := Ideal) a0 a3 (k0_pay5 a0) (k0_pay6 a0) (k0_pay13 (gatePre a0 a3 a5 a4)) (dLast a0 a2 a1 a3 a5 a7 a8 a4 a6) (dGate a0 a2 a1 a3 a5 a7 a8 a4 a6) a4

end Names

variable {o : Nat} {h : o + 512 ≤ 4096}
  {a0 a2 : Vec Ideal ⟨2, ![512, 1024]⟩ .f32} {a1 : Vec Ideal ⟨2, ![512, 256]⟩ .f32} {a3 a5 a7 a8 : Vec Ideal ⟨2, ![1, 1024]⟩ .f32}
  {a4 : Vec Ideal ⟨2, ![1024, 1024]⟩ .bf16} {a6 : Vec Ideal ⟨2, ![256, 1024]⟩ .bf16}
  {x0 x2 : Vec Ideal ⟨2, ![4096, 1024]⟩ .f32} {x1 : Vec Ideal ⟨2, ![4096, 256]⟩ .f32} {x3 x5 x7 x8 : Vec Ideal ⟨2, ![1, 1024]⟩ .f32}
  {x4 : Vec Ideal ⟨2, ![1024, 1024]⟩ .bf16} {x6 : Vec Ideal ⟨2, ![256, 1024]⟩ .bf16}

section Forward
variable (r0 : Along (row2 o h) a0 x0) (r1 : Along (row2 o h) a1 x1) (r2 : Along (row2 o h) a2 x2)
  (e3 : a3 = x3) (e4 : a4 = x4) (e5 : a5 = x5) (e6 : a6 = x6) (e7 : a7 = x7) (e8 : a8 = x8)

include r0 in
theorem mean : Along (row2 o h) (k0_pay4 (F := Ideal) a0) (val_main_v8 (F := Ideal) x0) :=
  ((r0.mul r0).rowSum.colB.div along_const).add along_const
include r0 in
theorem inverse : Along (row2 o h) (k0_pay5 (F := Ideal) a0) (val_main_v9 (F := Ideal) x0) := (mean r0).rsqrt
include r0 in
theorem slope : Along (row2 o h) (k0_pay6 (F := Ideal) a0) (val_main_v12 (F := Ideal) x0) := along_const.mul ((inverse r0).div (mean r0))
include r0 in
theorem normed : Along (row2 o h) (k0_pay7 (F := Ideal) a0) (val_main_v14 (F := Ideal) x0) := r0.mul (inverse r0).spread
include r0 e3 in
theorem scaled : Along (row2 o h) (k0_pay8 (F := Ideal) a0 a3) (val_main_v16 (F := Ideal) x0 x3) := ((normed r0).mul (along_params e3)).truncL
include r0 e3 e4 e5 in
theorem gate_pre : Along (row2 o h) (gatePre a0 a3 a5 a4) (val_main_v19 (F := Ideal) x0 x3 x4 x5) := by
  have p : Along (row2 o h) _ (val_main_v17 (F := Ideal) x0 x3 x4) :=
    Along.dot (φ₁ := .bf16) (φ₂ := .bf16) (ψ₁ := .f32) (ψ₂ := .f32) (scaled r0 e3) (B := a4) (Y := val_main_v0 (F := Ideal) x4) e4 _
  exact p.add (along_params e5)
include r0 e3 e4 e5 in
theorem gate : Along (row2 o h) (k0_pay12 (F := Ideal) (gatePre a0 a3 a5 a4)) (val_main_v25 (F := Ideal) x0 x3 x4 x5) := (gate_pre r0 e3 e4 e5).logistic
include r0 e3 e4 e5 in
theorem gate_slope : Along (row2 o h) (k0_pay13 (F := Ideal) (gatePre a0 a3 a5 a4)) (val_main_v28 (F := Ideal) x0 x3 x4 x5) :=
  (gate r0 e3 e4 e5).mul (along_const.sub (gate r0 e3 e4 e5))
include r1 e6 in
theorem emb_pre : Along (row2 o h) (embPre a1 a6) (val_main_v29 (F := Ideal) x1 x6) :=
  Along.dot (φ₁ := .bf16) (φ₂ := .bf16) (ψ₁ := .f32) (ψ₂ := .f32) (X := x1) (r1.truncL (hb := by decide)) (B := a6) (Y := val_main_v1 (F := Ideal) x6) e6 _
include r1 e6 in
theorem emb_mean : Along (row2 o h) (k0_pay14 (F := Ideal) (embPre a1 a6)) (val_main_v36 (F := Ideal) x1 x6) :=
  (((emb_pre r1 e6).mul (emb_pre r1 e6)).rowSum.colB.div along_const).add along_const
include r1 e6 in
theorem emb_inverse : Along (row2 o h) (k0_pay15 (F := Ideal) (embPre a1 a6)) (val_main_v37 (F := Ideal) x1 x6) := (emb_mean r1 e6).rsqrt
include r1 e6 in
theorem emb_slope : Along (row2 o h) (k0_pay16 (F := Ideal) (embPre a1 a6)) (val_main_v40 (F := Ideal) x1 x6) :=
  along_const.mul ((emb_inverse r1 e6).div (emb_mean r1 e6))
include r1 e6 in
theorem emb_normed : Along (row2 o h) (k0_pay17 (F := Ideal) (embPre a1 a6)) (val_main_v42 (F := Ideal) x1 x6) :=
  (emb_pre r1 e6).mul (emb_inverse r1 e6).spread
include r1 e6 e7 in
theorem emb : Along (row2 o h) (k0_pay18 (F := Ideal) (embPre a1 a6) a7) (val_main_v44 (F := Ideal) x1 x6 x7) :=
  (emb_normed r1 e6).mul (along_params e7)
include r0 r1 e3 e4 e5 e6 e7 in
theorem last_rows : Along (row2 o h) (last a0 a1 a3 a5 a7 a4 a6) (val_main_v46 (F := Ideal) x0 x1 x3 x4 x5 x6 x7) :=
  r0.add ((gate r0 e3 e4 e5).mul (emb r1 e6 e7))
include r0 r1 e3 e4 e5 e6 e7 in
theorem last_mean : Along (row2 o h) (k0_pay20 (F := Ideal) a0 (gatePre a0 a3 a5 a4) (embPre a1 a6) a7) (val_main_v53 (F := Ideal) x0 x1 x3 x4 x5 x6 x7) :=
  (((last_rows r0 r1 e3 e4 e5 e6 e7).mul (last_rows r0 r1 e3 e4 e5 e6 e7)).rowSum.colB.div along_const).add along_const
include r0 r1 e3 e4 e5 e6 e7 in
theorem last_inverse : Along (row2 o h) (lastInv a0 a1 a3 a5 a7 a4 a6) (val_main_v54 (F := Ideal) x0 x1 x3 x4 x5 x6 x7) :=
  (last_mean r0 r1 e3 e4 e5 e6 e7).rsqrt
include r0 r1 e3 e4 e5 e6 e7 in
theorem last_slope : Along (row2 o h) (lastSlope a0 a1 a3 a5 a7 a4 a6) (val_main_v57 (F := Ideal) x0 x1 x3 x4 x5 x6 x7) :=
  along_const.mul ((last_inverse r0 r1 e3 e4 e5 e6 e7).div (last_mean r0 r1 e3 e4 e5 e6 e7))
include r0 r1 e3 e4 e5 e6 e7 in
theorem last_normed : Along (row2 o h) (k0_pay23 (F := Ideal) a0 (gatePre a0 a3 a5 a4) (embPre a1 a6) a7) (val_main_v59 (F := Ideal) x0 x1 x3 x4 x5 x6 x7) :=
  (last_rows r0 r1 e3 e4 e5 e6 e7).mul (last_inverse r0 r1 e3 e4 e5 e6 e7).spread

section Back
include r0 r1 r2 e3 e4 e5 e6 e7 e8

theorem error_rows : Along (row2 o h) (error a0 a2 a1 a3 a5 a7 a8 a4 a6) (val_main_v62 (F := Ideal) x0 x1 x2 x3 x4 x5 x6 x7 x8) :=
  ((last_normed r0 r1 e3 e4 e5 e6 e7).mul (along_params e8)).sub r2

/-- A token's loss is half the mean of its squared errors. -/
theorem loss_rows (k : Fin 512) :
    k0_pay25 (F := Ideal) a0 a2 (gatePre a0 a3 a5 a4) (embPre a1 a6) a7 a8 (ix2 k 0)
      = Ideal.ofBits .f32 0x3F000000#32 * val_main_v68 (F := Ideal) x0 x1 x2 x3 x4 x5 x6 x7 x8 (ix1 ⟨o + k.val, by have := k.isLt; omega⟩) := by
  have s : Along (row1 o h) _ (val_main_v66 (F := Ideal) x0 x1 x2 x3 x4 x5 x6 x7 x8) :=
    ((error_rows r0 r1 r2 e3 e4 e5 e6 e7 e8).mul (error_rows r0 r1 r2 e3 e4 e5 e6 e7 e8)).rowSum
  have s' : Along (row2 o h) _ (shapeCast ⟨2, ![4096, 1]⟩ (val_main_v66 (F := Ideal) x0 x1 x2 x3 x4 x5 x6 x7 x8) Cert.TailRefIdeal.Gen.shapeCasts_S4096_S4096x1) := s.col
  have e := (s' (ix2 k 0)).trans (shapeCast_apply _ _ _ (ix1 ⟨o + k.val, by have := k.isLt; omega⟩) (by
    rw [Shape.rowMajor_val_one, Shape.rowMajor_val_two]
    show o + k.val = (o + k.val) * 1 + 0; omega))
  rw [val_main_v68_apply, val_main_v67_apply]
  exact congrArg (fun x : EReal => Ideal.ofBits .f32 0x3F000000#32 * Ideal.div x (Ideal.ofBits .f32 0x44800000#32)) e

/-- The gradient of the last norm's rows. -/
theorem back_error : Along (row2 o h)
    (k0_pay27 (F := Ideal) (error a0 a2 a1 a3 a5 a7 a8 a4 a6) (k0_pay26 (F := Ideal)) (Scalar.ofBits (F := Ideal) .f32 0x3F000000#32))
    (val_main_v76 (F := Ideal) x0 x1 x2 x3 x4 x5 x6 x7 x8) := fun i => by
  have s : Along (row1 o h) (multiReduction (F := Ideal) .add [1] ⟨1, ![512]⟩ (divf (mulf (broadcast ⟨2, ![512, 1]⟩ (Scalar.ofBits (F := Ideal) .f32 0x3F000000#32)) (k0_pay26 (F := Ideal))) (broadcast ⟨2, ![512, 1]⟩ (Scalar.ofBits (F := Ideal) .f32 0x44800000#32))) 0x00000000#32 Cert.TailIdeal.Gen.reduces_S512x1_S512 (.inl rfl) rfl) (val_main_v74 (F := Ideal)) := fun j => by
    refine (Ideal.multiReduction_add_single _ _ _ _ _ _).trans ?_
    refine (Fin.sum_univ_one _).trans ?_
    rw [val_main_v74_apply, val_main_v72_apply, val_main_v73_apply]
    rfl
  have s' : Along (row2 o h) _ (val_main_v75 (F := Ideal)) := s.colSpread
  have e := error_rows r0 r1 r2 e3 e4 e5 e6 e7 e8 i
  refine (congrArg₂ (fun p g : EReal => p * g + g * p) e (s' i)).trans ((square_back _ _).trans ?_)
  rw [val_main_v76_apply, val_main_v65_apply, val_main_v64_apply]
  rfl

theorem back_final : Along (row2 o h)
    (mulf (k0_pay23 (F := Ideal) a0 (gatePre a0 a3 a5 a4) (embPre a1 a6) a7) (k0_pay27 (F := Ideal) (error a0 a2 a1 a3 a5 a7 a8 a4 a6) (k0_pay26 (F := Ideal)) (Scalar.ofBits (F := Ideal) .f32 0x3F000000#32)))
    (val_main_v77 (F := Ideal) x0 x1 x2 x3 x4 x5 x6 x7 x8) :=
  (last_normed r0 r1 e3 e4 e5 e6 e7).mul (back_error r0 r1 r2 e3 e4 e5 e6 e7 e8)

/-- The gradient of the stream before the last norm. -/
theorem back_last : Along (row2 o h) (dLast a0 a2 a1 a3 a5 a7 a8 a4 a6) (val_main_v95 (F := Ideal) x0 x1 x2 x3 x4 x5 x6 x7 x8) := by
  have g : Along (row2 o h) _ (val_main_v81 (F := Ideal) x0 x1 x2 x3 x4 x5 x6 x7 x8) := (back_error r0 r1 r2 e3 e4 e5 e6 e7 e8).mul (along_params e8)
  have h3 := last_rows r0 r1 e3 e4 e5 e6 e7
  have s1 : Along (row2 o h) _ (val_main_v84 (F := Ideal) x0 x1 x2 x3 x4 x5 x6 x7 x8) := (h3.mul g).rowSum.col
  have s2 : Along (row2 o h) _ (val_main_v89 (F := Ideal) x0 x1 x2 x3 x4 x5 x6 x7 x8) := (s1.mul (last_slope r0 r1 e3 e4 e5 e6 e7)).div along_const
  have s3 : Along (row2 o h) _ (val_main_v91 (F := Ideal) x0 x1 x2 x3 x4 x5 x6 x7 x8) := s2.rowSum.colSpread
  exact ((g.mul (last_inverse r0 r1 e3 e4 e5 e6 e7).spread).add (h3.mul s3)).add (s3.mul h3)

theorem back_emb : Along (row2 o h) (dEmb a0 a2 a1 a3 a5 a7 a8 a4 a6) (val_main_v96 (F := Ideal) x0 x1 x2 x3 x4 x5 x6 x7 x8) :=
  (gate r0 e3 e4 e5).mul (back_last r0 r1 r2 e3 e4 e5 e6 e7 e8)
theorem back_gate : Along (row2 o h) (dGate a0 a2 a1 a3 a5 a7 a8 a4 a6) (val_main_v97 (F := Ideal) x0 x1 x2 x3 x4 x5 x6 x7 x8) :=
  (back_last r0 r1 r2 e3 e4 e5 e6 e7 e8).mul (emb r1 e6 e7)
theorem back_emb_scale : Along (row2 o h) (mulf (k0_pay17 (F := Ideal) (embPre a1 a6)) (dEmb a0 a2 a1 a3 a5 a7 a8 a4 a6)) (val_main_v98 (F := Ideal) x0 x1 x2 x3 x4 x5 x6 x7 x8) :=
  (emb_normed r1 e6).mul (back_emb r0 r1 r2 e3 e4 e5 e6 e7 e8)
theorem back_emb_normed : Along (row2 o h) (dEmbNormed a0 a2 a1 a3 a5 a7 a8 a4 a6) (val_main_v102 (F := Ideal) x0 x1 x2 x3 x4 x5 x6 x7 x8) :=
  (back_emb r0 r1 r2 e3 e4 e5 e6 e7 e8).mul (along_params e7)
theorem back_emb_mean : Along (row2 o h) (dEmbMean a0 a2 a1 a3 a5 a7 a8 a4 a6) (val_main_v112 (F := Ideal) x0 x1 x2 x3 x4 x5 x6 x7 x8) := by
  have s1 : Along (row2 o h) _ (val_main_v105 (F := Ideal) x0 x1 x2 x3 x4 x5 x6 x7 x8) := ((emb_pre r1 e6).mul (back_emb_normed r0 r1 r2 e3 e4 e5 e6 e7 e8)).rowSum.col
  have s2 : Along (row2 o h) _ (val_main_v110 (F := Ideal) x0 x1 x2 x3 x4 x5 x6 x7 x8) := (s1.mul (emb_slope r1 e6)).div along_const
  exact s2.rowSum.colSpread
theorem back_emb_two : Along (row2 o h) (dEmbTwo a0 a2 a1 a3 a5 a7 a8 a4 a6) (val_main_v114 (F := Ideal) x0 x1 x2 x3 x4 x5 x6 x7 x8) :=
  ((back_emb_normed r0 r1 r2 e3 e4 e5 e6 e7 e8).mul (emb_inverse r1 e6).spread).add ((emb_pre r1 e6).mul (back_emb_mean r0 r1 r2 e3 e4 e5 e6 e7 e8))
/-- The gradient of the embedding before its norm. -/
theorem back_emb_pre : Along (row2 o h) (k0_pay44 (F := Ideal) (embPre a1 a6) (dEmbMean a0 a2 a1 a3 a5 a7 a8 a4 a6) (dEmbTwo a0 a2 a1 a3 a5 a7 a8 a4 a6)) (val_main_v116 (F := Ideal) x0 x1 x2 x3 x4 x5 x6 x7 x8) :=
  ((back_emb_two r0 r1 r2 e3 e4 e5 e6 e7 e8).add ((back_emb_mean r0 r1 r2 e3 e4 e5 e6 e7 e8).mul (emb_pre r1 e6))).truncL
/-- The gradient of the gate before its logistic. -/
theorem back_gate_pre : Along (row2 o h) (k0_pay36 (F := Ideal) (k0_pay13 (gatePre a0 a3 a5 a4)) (dGate a0 a2 a1 a3 a5 a7 a8 a4 a6)) (val_main_v119 (F := Ideal) x0 x1 x2 x3 x4 x5 x6 x7 x8) :=
  (back_gate r0 r1 r2 e3 e4 e5 e6 e7 e8).mul (gate_slope r0 e3 e4 e5)
theorem back_gate_narrow : Along (row2 o h) (k0_pay37 (F := Ideal) (k0_pay13 (gatePre a0 a3 a5 a4)) (dGate a0 a2 a1 a3 a5 a7 a8 a4 a6)) (val_main_v119 (F := Ideal) x0 x1 x2 x3 x4 x5 x6 x7 x8) :=
  (back_gate_pre r0 r1 r2 e3 e4 e5 e6 e7 e8).truncL
theorem back_product : Along (row2 o h) (k0_pay38 (F := Ideal) (k0_pay13 (gatePre a0 a3 a5 a4)) (dGate a0 a2 a1 a3 a5 a7 a8 a4 a6) a4) (val_main_v124 (F := Ideal) x0 x1 x2 x3 x4 x5 x6 x7 x8) :=
  Along.dotT (φ₁ := .bf16) (φ₂ := .bf16) (ψ₁ := .f32) (ψ₂ := .f32) (back_gate_narrow r0 r1 r2 e3 e4 e5 e6 e7 e8) (B := a4) (Y := val_main_v0 (F := Ideal) x4) e4 _
theorem back_scale : Along (row2 o h) (mulf (k0_pay7 (F := Ideal) a0) (k0_pay38 (F := Ideal) (k0_pay13 (gatePre a0 a3 a5 a4)) (dGate a0 a2 a1 a3 a5 a7 a8 a4 a6) a4)) (val_main_v125 (F := Ideal) x0 x1 x2 x3 x4 x5 x6 x7 x8) :=
  (normed r0).mul (back_product r0 r1 r2 e3 e4 e5 e6 e7 e8)

/-- The gradient of the stream. -/
theorem stream : Along (row2 o h) (dStream a0 a2 a1 a3 a5 a7 a8 a4 a6) (val_main_v144 (F := Ideal) x0 x1 x2 x3 x4 x5 x6 x7 x8) := fun i => by
  have g : Along (row2 o h) _ (val_main_v129 (F := Ideal) x0 x1 x2 x3 x4 x5 x6 x7 x8) := (back_product r0 r1 r2 e3 e4 e5 e6 e7 e8).mul (along_params e3)
  have s1 : Along (row2 o h) _ (val_main_v132 (F := Ideal) x0 x1 x2 x3 x4 x5 x6 x7 x8) := (r0.mul g).rowSum.col
  have s2 : Along (row2 o h) _ (val_main_v138 (F := Ideal) x0 x1 x2 x3 x4 x5 x6 x7 x8) := (s1.mul (slope r0)).div along_const
  have s3 : Along (row2 o h) _ (val_main_v140 (F := Ideal) x0 x1 x2 x3 x4 x5 x6 x7 x8) := s2.rowSum.colSpread
  have p1 : Along (row2 o h) _ (val_main_v134 (F := Ideal) x0 x1 x2 x3 x4 x5 x6 x7 x8) := g.mul (inverse r0).spread
  have p2 : Along (row2 o h) _ (val_main_v141 (F := Ideal) x0 x1 x2 x3 x4 x5 x6 x7 x8) := r0.mul s3
  have p3 : Along (row2 o h) _ (val_main_v143 (F := Ideal) x0 x1 x2 x3 x4 x5 x6 x7 x8) := s3.mul r0
  have e := (back_last r0 r1 r2 e3 e4 e5 e6 e7 e8).add ((p1.add p2).add p3) i
  refine e.trans ?_
  show (_ : EReal) + ((_ + _) + _) = ((_ + _) + _) + _
  rw [← add_assoc, ← add_assoc]
theorem stream_narrow : Along (row2 o h)
    (k0_pay41 (F := Ideal) a0 a3 (k0_pay5 a0) (k0_pay6 a0) (k0_pay13 (gatePre a0 a3 a5 a4)) (dLast a0 a2 a1 a3 a5 a7 a8 a4 a6) (dGate a0 a2 a1 a3 a5 a7 a8 a4 a6) a4)
    (val_main_v148 (F := Ideal) x0 x1 x2 x3 x4 x5 x6 x7 x8) := (stream r0 r1 r2 e3 e4 e5 e6 e7 e8).truncL.truncR

end Back
end Forward

end Cert.TailGrad

end
-- ==== Proof.TailTiles.lean ====
/-
  THE TILED RESULTS OF `_tail`: the gradient of the residual stream, in both formats. At grid point `t` the kernel's input
  blocks are the rows from `512 * t` on of its row arrays and the whole of its parameters.
-/
module

public import proofs.«01_k».proof.Proof.Gen.TailIdeal.Value
public import proofs.«01_k».proof.Proof.TailGrad
public import Idealize.ShloMosaic.Lib.Pipeline.ValueKit

@[expose] public section

set_option maxRecDepth 16384

noncomputable section

namespace Cert.TailGrad

open Idealize.ShloMosaic Idealize.ShloMosaic.TcCoe Idealize.SL.Sem Idealize.ShloMosaic.ValueIdx
open Idealize.ShloMosaic.Pipeline (Dat)
open Cert.Rows Cert.TailIdeal Cert.TailIdeal.Gen Cert.TailRefIdeal.Read
open scoped BigOperators

variable (m : (ℓ : Loc nD τ sig) → Buf (Elt Ideal) ℓ) (c : Dev nD)

/-- The block indices of the windows. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] ∧ win0_10.index t = ![t.val, 0] ∧ win0_11.index t = ![0, 0] ∧ win0_12.index t = ![0, 0] ∧ win0_13.index t = ![0, 0] :=
  (by decide +kernel : ∀ t : Fin grid0.N, _)

/-- A tile's rows are rows of the whole array. -/
theorem inside (t : Fin cfg0.N) : 512 * t.val + 512 ≤ 4096 := by
  have := t.isLt.trans_eq N_0
  omega

theorem rows0 (t : Fin cfg0.N) : Along (row2 (512 * t.val) (inside t)) (iblk m c 0 t) (m ((c : Thread nD τ).loc main_arg0)) := fun i => by
  blk_ext [iblk, V, idx t]
theorem rows1 (t : Fin cfg0.N) : Along (row2 (512 * t.val) (inside t)) (iblk m c 1 t) (m ((c : Thread nD τ).loc main_arg1)) := fun i => by
  blk_ext [iblk, V, idx t]
theorem rows2 (t : Fin cfg0.N) : Along (row2 (512 * t.val) (inside t)) (iblk m c 2 t) (m ((c : Thread nD τ).loc main_arg2)) := fun i => by
  blk_ext [iblk, V, idx t]
theorem whole3 (t : Fin cfg0.N) : iblk m c 3 t = (m ((c : Thread nD τ).loc main_arg3)) := funext fun i => by
  blk_ext [iblk, V, idx t]
theorem whole4 (t : Fin cfg0.N) : iblk m c 4 t = (m ((c : Thread nD τ).loc main_arg4)) := funext fun i => by
  blk_ext [iblk, V, idx t]
theorem whole5 (t : Fin cfg0.N) : iblk m c 5 t = (m ((c : Thread nD τ).loc main_arg5)) := funext fun i => by
  blk_ext [iblk, V, idx t]
theorem whole6 (t : Fin cfg0.N) : iblk m c 6 t = (m ((c : Thread nD τ).loc main_arg6)) := funext fun i => by
  blk_ext [iblk, V, idx t]
theorem whole7 (t : Fin cfg0.N) : iblk m c 7 t = (m ((c : Thread nD τ).loc main_arg7)) := funext fun i => by
  blk_ext [iblk, V, idx t]
theorem whole8 (t : Fin cfg0.N) : iblk m c 8 t = (m ((c : Thread nD τ).loc main_arg8)) := funext fun i => by
  blk_ext [iblk, V, idx t]

/-- What grid point `t` stores in window 9. -/
theorem after9 (t : Fin cfg0.N) : Along (row2 (512 * t.val) (inside t)) (outsAt0 m c t.val t.isLt).1 (val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  by_cases h : t.val % 8 = 0
  · rw [outsAt0_A m c t h]
    dsimp only
    frame_out
    exact stream (rows0 m c t) (rows1 m c t) (rows2 m c t) (whole3 m c t) (whole4 m c t) (whole5 m c t) (whole6 m c t) (whole7 m c t) (whole8 m c t)
  · rw [outsAt0_B m c t h]
    dsimp only
    frame_out
    exact stream (rows0 m c t) (rows1 m c t) (rows2 m c t) (whole3 m c t) (whole4 m c t) (whole5 m c t) (whole6 m c t) (whole7 m c t) (whole8 m c t)

theorem final9 : (dats m 0 c).arrAt 9 (cfgs 0).N = (val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_covers 9 _ (by decide +kernel) fun t hf y => ?_
  blk_simp
  rw [after0_9]
  refine (after9 m c t y).trans ?_
  blk_ext [idx t]

/-- What grid point `t` stores in window 10. -/
theorem after10 (t : Fin cfg0.N) : Along (row2 (512 * t.val) (inside t)) (outsAt0 m c t.val t.isLt).2.1 (val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  by_cases h : t.val % 8 = 0
  · rw [outsAt0_A m c t h]
    dsimp only
    frame_out
    exact stream_narrow (rows0 m c t) (rows1 m c t) (rows2 m c t) (whole3 m c t) (whole4 m c t) (whole5 m c t) (whole6 m c t) (whole7 m c t) (whole8 m c t)
  · rw [outsAt0_B m c t h]
    dsimp only
    frame_out
    exact stream_narrow (rows0 m c t) (rows1 m c t) (rows2 m c t) (whole3 m c t) (whole4 m c t) (whole5 m c t) (whole6 m c t) (whole7 m c t) (whole8 m c t)

theorem final10 : (dats m 0 c).arrAt 10 (cfgs 0).N = (val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_covers 10 _ (by decide +kernel) fun t hf y => ?_
  blk_simp
  rw [after0_10]
  refine (after10 m c t y).trans ?_
  blk_ext [idx t]

end Cert.TailGrad

end
-- ==== Proof.TailProducts.lean ====
/-
  THE ADDED-UP PRODUCTS OF `_tail`: the gradients of the gate's weight and of the embedding's. Each grid point adds its
  tile's product to the block, the first one to zeros.
-/
module

public import proofs.«01_k».proof.Proof.TailTiles

@[expose] public section

set_option maxRecDepth 16384

noncomputable section

namespace Cert.TailGrad

open Idealize.ShloMosaic Idealize.ShloMosaic.TcCoe Idealize.SL.Sem Idealize.ShloMosaic.ValueIdx
open Idealize.ShloMosaic.Pipeline (Dat)
open Cert.Rows Cert.TailIdeal Cert.TailIdeal.Gen Cert.TailRefIdeal.Read
open scoped BigOperators

variable (m : (ℓ : Loc nD τ sig) → Buf (Elt Ideal) ℓ) (c : Dev nD)

/-- What grid point `t` adds to window 11. -/
def part11 (t : Fin cfg0.N) : FVec Ideal ⟨2, ![1024, 1024]⟩ .f32 :=
  matmul dot_S512x1024_S512x1024_S1024x1024_0_0_1_1_n_n none (k0_pay8 (F := Ideal) (iblk m c 0 t) (iblk m c 3 t)) (k0_pay37 (F := Ideal) (k0_pay13 (gatePre (iblk m c 0 t) (iblk m c 3 t) (iblk m c 5 t) (iblk m c 4 t))) (dGate (iblk m c 0 t) (iblk m c 2 t) (iblk m c 1 t) (iblk m c 3 t) (iblk m c 5 t) (iblk m c 7 t) (iblk m c 8 t) (iblk m c 4 t) (iblk m c 6 t))) (constant ⟨2, ![1024, 1024]⟩ .f32 0x00000000#32)

theorem zeros11 (i : (⟨2, ![1024, 1024]⟩ : Shape).Idx) : k0_pay1 (F := Ideal) i = 0 := Ideal.ofBits_zero_f32

theorem first11 (t : Fin cfg0.N) (h : t.val % 8 = 0) (i : (⟨2, ![1024, 1024]⟩ : Shape).Idx) :
    (outsAt0 m c t.val t.isLt).2.2.1 i = (fun _ => (0 : EReal)) i + part11 m c t i := by
  rw [outsAt0_A m c t h]
  dsimp only
  frame_out
  exact congrArg (fun x : EReal => x + part11 m c t i) ((show shapeCast S1024x1024 (k0_pay1 (F := Ideal)) shapeCasts_S1024x1024_S1024x1024 i = _ from sameShape_apply i).trans (zeros11 _))

theorem next11 (t : Fin cfg0.N) (h : ¬t.val % 8 = 0) (i : (⟨2, ![1024, 1024]⟩ : Shape).Idx) :
    (outsAt0 m c t.val t.isLt).2.2.1 i
      = (outsAt0 m c (t.val - 1) (Nat.lt_of_le_of_lt (Nat.sub_le _ _) t.isLt)).2.2.1 i + part11 m c t i := by
  rw [outsAt0_B m c t h]
  dsimp only
  frame_out
  generalize (outsAt0 m c (t.val - 1) (Nat.lt_of_le_of_lt (Nat.sub_le _ _) t.isLt)).2.2.1 = X
  exact congrArg (fun x : EReal => x + part11 m c t i) (sameShape_apply i)

theorem final11 : (dats m 0 c).arrAt 11 (cfgs 0).N = (val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_after_last 11 t0_7 (by decide +kernel) _ fun j => ?_
  blk_simp
  rw [after0_11, Pipeline.eq_sum_fin_of_reset_step_apply_last (fun n h => (outsAt0 m c n h).2.2.1) 8 (fun _ => 0) (part11 m c)
    (first11 m c) (next11 m c) (le_of_eq N_0) t0_7 rfl j, zero_add]
  exact tn_tiles (T := 8) (φ₁ := .bf16) (φ₂ := .bf16) (ψ₁ := .f32) (ψ₂ := .f32) rfl inside (A := fun t => (k0_pay8 (F := Ideal) (iblk m c 0 t) (iblk m c 3 t))) (fun t => scaled (rows0 m c t) (whole3 m c t))
    (B := fun t => (k0_pay37 (F := Ideal) (k0_pay13 (gatePre (iblk m c 0 t) (iblk m c 3 t) (iblk m c 5 t) (iblk m c 4 t))) (dGate (iblk m c 0 t) (iblk m c 2 t) (iblk m c 1 t) (iblk m c 3 t) (iblk m c 5 t) (iblk m c 7 t) (iblk m c 8 t) (iblk m c 4 t) (iblk m c 6 t)))) (fun t => back_gate_narrow (rows0 m c t) (rows1 m c t) (rows2 m c t) (whole3 m c t) (whole4 m c t) (whole5 m c t) (whole6 m c t) (whole7 m c t) (whole8 m c t)) _ _ j

theorem keep12 (b : FVec Ideal ⟨2, ![256, 1024]⟩ .f32) (i : (⟨2, ![256, 1024]⟩ : Shape).Idx) : k0_pay43 (F := Ideal) b i = b i := sameShape_apply i

/-- What grid point `t` adds to window 12. -/
def part12 (t : Fin cfg0.N) : FVec Ideal ⟨2, ![256, 1024]⟩ .f32 :=
  matmul dot_S512x256_S512x1024_S256x1024_0_0_1_1_n_n none (k0_pay9 (F := Ideal) (iblk m c 1 t)) (k0_pay44 (F := Ideal) (embPre (iblk m c 1 t) (iblk m c 6 t)) (dEmbMean (iblk m c 0 t) (iblk m c 2 t) (iblk m c 1 t) (iblk m c 3 t) (iblk m c 5 t) (iblk m c 7 t) (iblk m c 8 t) (iblk m c 4 t) (iblk m c 6 t)) (dEmbTwo (iblk m c 0 t) (iblk m c 2 t) (iblk m c 1 t) (iblk m c 3 t) (iblk m c 5 t) (iblk m c 7 t) (iblk m c 8 t) (iblk m c 4 t) (iblk m c 6 t))) (constant ⟨2, ![256, 1024]⟩ .f32 0x00000000#32)

theorem zeros12 (i : (⟨2, ![256, 1024]⟩ : Shape).Idx) : k0_pay2 (F := Ideal) i = 0 := Ideal.ofBits_zero_f32

theorem first12 (t : Fin cfg0.N) (h : t.val % 8 = 0) (i : (⟨2, ![256, 1024]⟩ : Shape).Idx) :
    (outsAt0 m c t.val t.isLt).2.2.2.1 i = (fun _ => (0 : EReal)) i + part12 m c t i := by
  rw [outsAt0_A m c t h]
  dsimp only
  frame_out
  exact congrArg (fun x : EReal => x + part12 m c t i) ((keep12 _ i).trans (zeros12 _))

theorem next12 (t : Fin cfg0.N) (h : ¬t.val % 8 = 0) (i : (⟨2, ![256, 1024]⟩ : Shape).Idx) :
    (outsAt0 m c t.val t.isLt).2.2.2.1 i
      = (outsAt0 m c (t.val - 1) (Nat.lt_of_le_of_lt (Nat.sub_le _ _) t.isLt)).2.2.2.1 i + part12 m c t i := by
  rw [outsAt0_B m c t h]
  dsimp only
  frame_out
  generalize (outsAt0 m c (t.val - 1) (Nat.lt_of_le_of_lt (Nat.sub_le _ _) t.isLt)).2.2.2.1 = X
  exact congrArg (fun x : EReal => x + part12 m c t i) (sameShape_apply i)

theorem final12 : (dats m 0 c).arrAt 12 (cfgs 0).N = (val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_after_last 12 t0_7 (by decide +kernel) _ fun j => ?_
  blk_simp
  rw [after0_12, Pipeline.eq_sum_fin_of_reset_step_apply_last (fun n h => (outsAt0 m c n h).2.2.2.1) 8 (fun _ => 0) (part12 m c)
    (first12 m c) (next12 m c) (le_of_eq N_0) t0_7 rfl j, zero_add]
  exact tn_tiles (T := 8) (φ₁ := .bf16) (φ₂ := .bf16) (ψ₁ := .f32) (ψ₂ := .f32) rfl inside (A := fun t => (k0_pay9 (F := Ideal) (iblk m c 1 t))) (fun t => (rows1 m c t).truncL)
    (B := fun t => (k0_pay44 (F := Ideal) (embPre (iblk m c 1 t) (iblk m c 6 t)) (dEmbMean (iblk m c 0 t) (iblk m c 2 t) (iblk m c 1 t) (iblk m c 3 t) (iblk m c 5 t) (iblk m c 7 t) (iblk m c 8 t) (iblk m c 4 t) (iblk m c 6 t)) (dEmbTwo (iblk m c 0 t) (iblk m c 2 t) (iblk m c 1 t) (iblk m c 3 t) (iblk m c 5 t) (iblk m c 7 t) (iblk m c 8 t) (iblk m c 4 t) (iblk m c 6 t)))) (fun t => back_emb_pre (rows0 m c t) (rows1 m c t) (rows2 m c t) (whole3 m c t) (whole4 m c t) (whole5 m c t) (whole6 m c t) (whole7 m c t) (whole8 m c t)) _ _ j

end Cert.TailGrad

end
-- ==== Proof.TailSums.lean ====
/-
  THE SUMMED RESULT OF `_tail`. Rows 0 to 4 of the kernel's last result are sums over all 4096 rows: the loss, the gradients
  of the final norm's scale, of the embedding norm's scale, of the gate's shift and of the gate norm's scale. Each grid point
  adds its tile's sums to them; rows 5 to 7 stay zero.
-/
module

public import proofs.«01_k».proof.Proof.TailTiles

@[expose] public section

set_option maxRecDepth 16384

noncomputable section

namespace Cert.TailGrad

open Idealize.ShloMosaic Idealize.ShloMosaic.TcCoe Idealize.SL.Sem
open Idealize.ShloMosaic.Pipeline (Dat)
open Cert.Rows Cert.TailIdeal Cert.TailIdeal.Gen Cert.TailRefIdeal.Read
open scoped BigOperators

variable (m : (ℓ : Loc nD τ sig) → Buf (Elt Ideal) ℓ) (c : Dev nD)

/-- Grid point `t`'s share of row 0: the losses of its tokens. -/
def share0 (t : Fin cfg0.N) : EReal := ∑ k : Fin 512, (k0_pay25 (F := Ideal) (iblk m c 0 t) (iblk m c 2 t) (gatePre (iblk m c 0 t) (iblk m c 3 t) (iblk m c 5 t) (iblk m c 4 t)) (embPre (iblk m c 1 t) (iblk m c 6 t)) (iblk m c 7 t) (iblk m c 8 t)) (ValueIdx.ix2 k 0)

/-- Grid point `t`'s share of row 1: the final norm's scale. -/
def share1 (t : Fin cfg0.N) : FVec Ideal ⟨2, ![1, 1024]⟩ .f32 :=
  shapeCast ⟨2, ![1, 1024]⟩ (multiReduction (F := Ideal) .add [0] ⟨1, ![1024]⟩ (mulf (F := Ideal) (φ := .f32) (k0_pay23 (F := Ideal) (iblk m c 0 t) (gatePre (iblk m c 0 t) (iblk m c 3 t) (iblk m c 5 t) (iblk m c 4 t)) (embPre (iblk m c 1 t) (iblk m c 6 t)) (iblk m c 7 t)) (k0_pay27 (F := Ideal) (error (iblk m c 0 t) (iblk m c 2 t) (iblk m c 1 t) (iblk m c 3 t) (iblk m c 5 t) (iblk m c 7 t) (iblk m c 8 t) (iblk m c 4 t) (iblk m c 6 t)) (k0_pay26 (F := Ideal)) (Scalar.ofBits (F := Ideal) .f32 0x3F000000#32))) 0x00000000#32 reduces_S512x1024_S1024 (.inl rfl) rfl) shapeCasts_S1024_S1x1024

/-- Grid point `t`'s share of row 2: the embedding norm's scale. -/
def share2 (t : Fin cfg0.N) : FVec Ideal ⟨2, ![1, 1024]⟩ .f32 :=
  shapeCast ⟨2, ![1, 1024]⟩ (multiReduction (F := Ideal) .add [0] ⟨1, ![1024]⟩ (mulf (F := Ideal) (φ := .f32) (k0_pay17 (F := Ideal) (embPre (iblk m c 1 t) (iblk m c 6 t))) (dEmb (iblk m c 0 t) (iblk m c 2 t) (iblk m c 1 t) (iblk m c 3 t) (iblk m c 5 t) (iblk m c 7 t) (iblk m c 8 t) (iblk m c 4 t) (iblk m c 6 t))) 0x00000000#32 reduces_S512x1024_S1024 (.inl rfl) rfl) shapeCasts_S1024_S1x1024

/-- Grid point `t`'s share of row 3: the gate's shift. -/
def share3 (t : Fin cfg0.N) : FVec Ideal ⟨2, ![1, 1024]⟩ .f32 :=
  shapeCast ⟨2, ![1, 1024]⟩ (multiReduction (F := Ideal) .add [0] ⟨1, ![1024]⟩ (k0_pay36 (F := Ideal) (k0_pay13 (gatePre (iblk m c 0 t) (iblk m c 3 t) (iblk m c 5 t) (iblk m c 4 t))) (dGate (iblk m c 0 t) (iblk m c 2 t) (iblk m c 1 t) (iblk m c 3 t) (iblk m c 5 t) (iblk m c 7 t) (iblk m c 8 t) (iblk m c 4 t) (iblk m c 6 t))) 0x00000000#32 reduces_S512x1024_S1024 (.inl rfl) rfl) shapeCasts_S1024_S1x1024

/-- Grid point `t`'s share of row 4: the gate norm's scale. -/
def share4 (t : Fin cfg0.N) : FVec Ideal ⟨2, ![1, 1024]⟩ .f32 :=
  shapeCast ⟨2, ![1, 1024]⟩ (multiReduction (F := Ideal) .add [0] ⟨1, ![1024]⟩ (mulf (F := Ideal) (φ := .f32) (k0_pay7 (F := Ideal) (iblk m c 0 t)) (k0_pay38 (F := Ideal) (k0_pay13 (gatePre (iblk m c 0 t) (iblk m c 3 t) (iblk m c 5 t) (iblk m c 4 t))) (dGate (iblk m c 0 t) (iblk m c 2 t) (iblk m c 1 t) (iblk m c 3 t) (iblk m c 5 t) (iblk m c 7 t) (iblk m c 8 t) (iblk m c 4 t) (iblk m c 6 t)) (iblk m c 4 t))) 0x00000000#32 reduces_S512x1024_S1024 (.inl rfl) rfl) shapeCasts_S1024_S1x1024

/-- What grid point `t` adds at an element of the block. -/
def added (t : Fin cfg0.N) (i : (⟨2, ![8, 1024]⟩ : Shape).Idx) : EReal :=
  if (i 0).val = 4 then share4 m c t (ValueIdx.ix2 0 (i 1)) else if (i 0).val = 3 then share3 m c t (ValueIdx.ix2 0 (i 1))
  else if (i 0).val = 2 then share2 m c t (ValueIdx.ix2 0 (i 1)) else if (i 0).val = 1 then share1 m c t (ValueIdx.ix2 0 (i 1))
  else if (i 0).val = 0 then share0 m c t else 0

/-- The sum of a column, spread over a row. -/
theorem row_loss (a : FVec Ideal ⟨2, ![512, 1]⟩ .f32) (b : FVec Ideal ⟨2, ![1, 1024]⟩ .f32) (j : (⟨2, ![1, 1024]⟩ : Shape).Idx) :
    k0_pay46 (F := Ideal) a b j = b j + ∑ k : Fin 512, a (ValueIdx.ix2 k 0) := by
  refine congrArg₂ (fun x y : EReal => x + y) (sameShape_apply j) ?_
  refine (broadcastTo_apply _ _ _ (ValueIdx.ix2 0 0) (fun a => match a with
    | ⟨0, _⟩ => rfl
    | ⟨1, _⟩ => rfl)).trans ?_
  refine (sameShape_apply _).trans ((rowVec_apply 0).trans ((Ideal.multiReduction_add_single _ _ _ _ _ _).trans ?_))
  refine Finset.sum_congr rfl fun k _ => congrArg a (funext fun a => Fin.ext ?_)
  match a with
  | ⟨0, _⟩ => rfl
  | ⟨1, _⟩ => rfl
theorem row_one (a b : FVec Ideal ⟨2, ![1, 1024]⟩ .f32) (j : (⟨2, ![1, 1024]⟩ : Shape).Idx) : k0_pay47 (F := Ideal) a b j = b j + a j :=
  congrArg (fun x : EReal => x + a j) (sameShape_apply j)
theorem row_two (a b : FVec Ideal ⟨2, ![1, 1024]⟩ .f32) (j : (⟨2, ![1, 1024]⟩ : Shape).Idx) : k0_pay48 (F := Ideal) a b j = b j + a j :=
  congrArg (fun x : EReal => x + a j) (sameShape_apply j)
theorem row_three (a : FVec Ideal ⟨2, ![512, 1024]⟩ .f32) (b : FVec Ideal ⟨2, ![1, 1024]⟩ .f32) (j : (⟨2, ![1, 1024]⟩ : Shape).Idx) :
    k0_pay49 (F := Ideal) a b j = b j + shapeCast ⟨2, ![1, 1024]⟩ (multiReduction (F := Ideal) .add [0] ⟨1, ![1024]⟩ a 0x00000000#32
      reduces_S512x1024_S1024 (.inl rfl) rfl) shapeCasts_S1024_S1x1024 j :=
  congrArg (fun x : EReal => x + _) (sameShape_apply j)
theorem row_four (a b : FVec Ideal ⟨2, ![1, 1024]⟩ .f32) (j : (⟨2, ![1, 1024]⟩ : Shape).Idx) : k0_pay50 (F := Ideal) a b j = b j + a j :=
  congrArg (fun x : EReal => x + a j) (sameShape_apply j)
theorem zeros13 (i : (⟨2, ![8, 1024]⟩ : Shape).Idx) : k0_pay3 (F := Ideal) i = 0 := Ideal.ofBits_zero_f32

/-- The first grid point starts from zeros, -/
theorem first13 (t : Fin cfg0.N) (h : t.val % 8 = 0) (i : (⟨2, ![8, 1024]⟩ : Shape).Idx) :
    (outsAt0 m c t.val t.isLt).2.2.2.2 i = (fun _ => (0 : EReal)) i + added m c t i := by
  rw [outsAt0_A m c t h]
  dsimp only
  frame_out
  obtain ⟨k, q, rfl⟩ : ∃ (k : Fin 8) (q : Fin 1024), i = ValueIdx.ix2 k q := ⟨i 0, i 1, ValueIdx.eq_ix2 i⟩
  rw [canon_row, canon_row, canon_row, canon_row, canon_row, View.canon_unit_zero (by decide)]
  unfold added
  show _ = (0 : EReal) + (if k.val = 4 then _ else if k.val = 3 then _ else if k.val = 2 then _ else if k.val = 1 then _ else if k.val = 0 then _ else 0)
  split_ifs with h4 h3 h2 h1 h0
  · rw [row_four, View.readCov_skip _ _ _ _ _ (by decide), View.readCov_skip _ _ _ _ _ (by decide), View.readCov_skip _ _ _ _ _ (by decide), View.readCov_skip _ _ _ _ _ (by decide), View.readCov_fill _ _ _ _ _ (by decide), ld_row _ _ k q h4, zeros13]
    rfl
  · rw [row_three, View.readCov_skip _ _ _ _ _ (by decide), View.readCov_skip _ _ _ _ _ (by decide), View.readCov_skip _ _ _ _ _ (by decide), View.readCov_fill _ _ _ _ _ (by decide), ld_row _ _ k q h3, zeros13]
    rfl
  · rw [row_two, View.readCov_skip _ _ _ _ _ (by decide), View.readCov_skip _ _ _ _ _ (by decide), View.readCov_fill _ _ _ _ _ (by decide), ld_row _ _ k q h2, zeros13]
    rfl
  · rw [row_one, View.readCov_skip _ _ _ _ _ (by decide), View.readCov_fill _ _ _ _ _ (by decide), ld_row _ _ k q h1, zeros13]
    rfl
  · rw [row_loss, View.readCov_fill _ _ _ _ _ (by decide), ld_row _ _ k q h0, zeros13]
    rfl
  · rw [zeros13, add_zero]

/-- and each later one adds to what the one before left. -/
theorem next13 (t : Fin cfg0.N) (h : ¬t.val % 8 = 0) (i : (⟨2, ![8, 1024]⟩ : Shape).Idx) :
    (outsAt0 m c t.val t.isLt).2.2.2.2 i
      = (outsAt0 m c (t.val - 1) (Nat.lt_of_le_of_lt (Nat.sub_le _ _) t.isLt)).2.2.2.2 i + added m c t i := by
  rw [outsAt0_B m c t h]
  dsimp only
  frame_out
  generalize (outsAt0 m c (t.val - 1) (Nat.lt_of_le_of_lt (Nat.sub_le _ _) t.isLt)).2.2.2.2 = X
  obtain ⟨k, q, rfl⟩ : ∃ (k : Fin 8) (q : Fin 1024), i = ValueIdx.ix2 k q := ⟨i 0, i 1, ValueIdx.eq_ix2 i⟩
  rw [writes_row, writes_row, writes_row, writes_row, writes_row, View.writes_nil, Memref.IsWhole.read_unread]
  unfold added
  show _ = X (ValueIdx.ix2 k q) + (if k.val = 4 then _ else if k.val = 3 then _ else if k.val = 2 then _ else if k.val = 1 then _ else if k.val = 0 then _ else 0)
  split_ifs with h4 h3 h2 h1 h0
  · rw [row_four, ld_row _ _ k q h4]
    rfl
  · rw [row_three, ld_row _ _ k q h3]
    rfl
  · rw [row_two, ld_row _ _ k q h2]
    rfl
  · rw [row_one, ld_row _ _ k q h1]
    rfl
  · rw [row_loss, ld_row _ _ k q h0]
    rfl
  · rw [add_zero]

/-- The loss is half the sum of the tokens' mean squared errors. -/
theorem total0 (q : Fin 1024) : ∑ t, share0 m c t = (val_main_v145 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ValueIdx.ix2 0 q) := by
  rw [val_main_v145_apply, val_main_v70_apply, val_main_v69_apply]
  exact half_total (T := 8) (n := 512) (N := 4096) rfl inside (f := share0 m c) (V := (val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))))
    fun t => Finset.sum_congr rfl fun k _ => loss_rows (rows0 m c t) (rows1 m c t) (rows2 m c t) (whole3 m c t) (whole4 m c t) (whole5 m c t) (whole6 m c t) (whole7 m c t) (whole8 m c t) k

theorem total1 (q : Fin 1024) : ∑ t, share1 m c t (ValueIdx.ix2 0 q) = (val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ValueIdx.ix2 0 q) := by
  have e : ∀ t, share1 m c t (ValueIdx.ix2 0 q) = (multiReduction (F := Ideal) .add [0] ⟨1, ![1024]⟩ (mulf (F := Ideal) (φ := .f32) (k0_pay23 (F := Ideal) (iblk m c 0 t) (gatePre (iblk m c 0 t) (iblk m c 3 t) (iblk m c 5 t) (iblk m c 4 t)) (embPre (iblk m c 1 t) (iblk m c 6 t)) (iblk m c 7 t)) (k0_pay27 (F := Ideal) (error (iblk m c 0 t) (iblk m c 2 t) (iblk m c 1 t) (iblk m c 3 t) (iblk m c 5 t) (iblk m c 7 t) (iblk m c 8 t) (iblk m c 4 t) (iblk m c 6 t)) (k0_pay26 (F := Ideal)) (Scalar.ofBits (F := Ideal) .f32 0x3F000000#32))) 0x00000000#32 reduces_S512x1024_S1024 (.inl rfl) rfl) (ValueIdx.ix1 q) :=
    fun t => rowVec_apply (A := (multiReduction (F := Ideal) .add [0] ⟨1, ![1024]⟩ (mulf (F := Ideal) (φ := .f32) (k0_pay23 (F := Ideal) (iblk m c 0 t) (gatePre (iblk m c 0 t) (iblk m c 3 t) (iblk m c 5 t) (iblk m c 4 t)) (embPre (iblk m c 1 t) (iblk m c 6 t)) (iblk m c 7 t)) (k0_pay27 (F := Ideal) (error (iblk m c 0 t) (iblk m c 2 t) (iblk m c 1 t) (iblk m c 3 t) (iblk m c 5 t) (iblk m c 7 t) (iblk m c 8 t) (iblk m c 4 t) (iblk m c 6 t)) (k0_pay26 (F := Ideal)) (Scalar.ofBits (F := Ideal) .f32 0x3F000000#32))) 0x00000000#32 reduces_S512x1024_S1024 (.inl rfl) rfl)) (hk := shapeCasts_S1024_S1x1024) q
  refine (Finset.sum_congr rfl fun t _ => e t).trans (Eq.trans ?_ (show (val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ValueIdx.ix2 0 q) = (val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ValueIdx.ix1 q) from rowVec_apply q).symm)
  exact colSum_tiles (T := 8) rfl inside (fun t => back_final (rows0 m c t) (rows1 m c t) (rows2 m c t) (whole3 m c t) (whole4 m c t) (whole5 m c t) (whole6 m c t) (whole7 m c t) (whole8 m c t)) _ (by decide) q

theorem total2 (q : Fin 1024) : ∑ t, share2 m c t (ValueIdx.ix2 0 q) = (val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ValueIdx.ix2 0 q) := by
  have e : ∀ t, share2 m c t (ValueIdx.ix2 0 q) = (multiReduction (F := Ideal) .add [0] ⟨1, ![1024]⟩ (mulf (F := Ideal) (φ := .f32) (k0_pay17 (F := Ideal) (embPre (iblk m c 1 t) (iblk m c 6 t))) (dEmb (iblk m c 0 t) (iblk m c 2 t) (iblk m c 1 t) (iblk m c 3 t) (iblk m c 5 t) (iblk m c 7 t) (iblk m c 8 t) (iblk m c 4 t) (iblk m c 6 t))) 0x00000000#32 reduces_S512x1024_S1024 (.inl rfl) rfl) (ValueIdx.ix1 q) :=
    fun t => rowVec_apply (A := (multiReduction (F := Ideal) .add [0] ⟨1, ![1024]⟩ (mulf (F := Ideal) (φ := .f32) (k0_pay17 (F := Ideal) (embPre (iblk m c 1 t) (iblk m c 6 t))) (dEmb (iblk m c 0 t) (iblk m c 2 t) (iblk m c 1 t) (iblk m c 3 t) (iblk m c 5 t) (iblk m c 7 t) (iblk m c 8 t) (iblk m c 4 t) (iblk m c 6 t))) 0x00000000#32 reduces_S512x1024_S1024 (.inl rfl) rfl)) (hk := shapeCasts_S1024_S1x1024) q
  refine (Finset.sum_congr rfl fun t _ => e t).trans (Eq.trans ?_ (show (val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ValueIdx.ix2 0 q) = (val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ValueIdx.ix1 q) from rowVec_apply q).symm)
  exact colSum_tiles (T := 8) rfl inside (fun t => back_emb_scale (rows0 m c t) (rows1 m c t) (rows2 m c t) (whole3 m c t) (whole4 m c t) (whole5 m c t) (whole6 m c t) (whole7 m c t) (whole8 m c t)) _ (by decide) q

theorem total3 (q : Fin 1024) : ∑ t, share3 m c t (ValueIdx.ix2 0 q) = (val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ValueIdx.ix2 0 q) := by
  have e : ∀ t, share3 m c t (ValueIdx.ix2 0 q) = (multiReduction (F := Ideal) .add [0] ⟨1, ![1024]⟩ (k0_pay36 (F := Ideal) (k0_pay13 (gatePre (iblk m c 0 t) (iblk m c 3 t) (iblk m c 5 t) (iblk m c 4 t))) (dGate (iblk m c 0 t) (iblk m c 2 t) (iblk m c 1 t) (iblk m c 3 t) (iblk m c 5 t) (iblk m c 7 t) (iblk m c 8 t) (iblk m c 4 t) (iblk m c 6 t))) 0x00000000#32 reduces_S512x1024_S1024 (.inl rfl) rfl) (ValueIdx.ix1 q) :=
    fun t => rowVec_apply (A := (multiReduction (F := Ideal) .add [0] ⟨1, ![1024]⟩ (k0_pay36 (F := Ideal) (k0_pay13 (gatePre (iblk m c 0 t) (iblk m c 3 t) (iblk m c 5 t) (iblk m c 4 t))) (dGate (iblk m c 0 t) (iblk m c 2 t) (iblk m c 1 t) (iblk m c 3 t) (iblk m c 5 t) (iblk m c 7 t) (iblk m c 8 t) (iblk m c 4 t) (iblk m c 6 t))) 0x00000000#32 reduces_S512x1024_S1024 (.inl rfl) rfl)) (hk := shapeCasts_S1024_S1x1024) q
  refine (Finset.sum_congr rfl fun t _ => e t).trans (Eq.trans ?_ (show (val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ValueIdx.ix2 0 q) = (val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ValueIdx.ix1 q) from rowVec_apply q).symm)
  exact colSum_tiles (T := 8) rfl inside (fun t => back_gate_pre (rows0 m c t) (rows1 m c t) (rows2 m c t) (whole3 m c t) (whole4 m c t) (whole5 m c t) (whole6 m c t) (whole7 m c t) (whole8 m c t)) _ (by decide) q

theorem total4 (q : Fin 1024) : ∑ t, share4 m c t (ValueIdx.ix2 0 q) = (val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ValueIdx.ix2 0 q) := by
  have e : ∀ t, share4 m c t (ValueIdx.ix2 0 q) = (multiReduction (F := Ideal) .add [0] ⟨1, ![1024]⟩ (mulf (F := Ideal) (φ := .f32) (k0_pay7 (F := Ideal) (iblk m c 0 t)) (k0_pay38 (F := Ideal) (k0_pay13 (gatePre (iblk m c 0 t) (iblk m c 3 t) (iblk m c 5 t) (iblk m c 4 t))) (dGate (iblk m c 0 t) (iblk m c 2 t) (iblk m c 1 t) (iblk m c 3 t) (iblk m c 5 t) (iblk m c 7 t) (iblk m c 8 t) (iblk m c 4 t) (iblk m c 6 t)) (iblk m c 4 t))) 0x00000000#32 reduces_S512x1024_S1024 (.inl rfl) rfl) (ValueIdx.ix1 q) :=
    fun t => rowVec_apply (A := (multiReduction (F := Ideal) .add [0] ⟨1, ![1024]⟩ (mulf (F := Ideal) (φ := .f32) (k0_pay7 (F := Ideal) (iblk m c 0 t)) (k0_pay38 (F := Ideal) (k0_pay13 (gatePre (iblk m c 0 t) (iblk m c 3 t) (iblk m c 5 t) (iblk m c 4 t))) (dGate (iblk m c 0 t) (iblk m c 2 t) (iblk m c 1 t) (iblk m c 3 t) (iblk m c 5 t) (iblk m c 7 t) (iblk m c 8 t) (iblk m c 4 t) (iblk m c 6 t)) (iblk m c 4 t))) 0x00000000#32 reduces_S512x1024_S1024 (.inl rfl) rfl)) (hk := shapeCasts_S1024_S1x1024) q
  refine (Finset.sum_congr rfl fun t _ => e t).trans (Eq.trans ?_ (show (val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ValueIdx.ix2 0 q) = (val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (ValueIdx.ix1 q) from rowVec_apply q).symm)
  exact colSum_tiles (T := 8) rfl inside (fun t => back_scale (rows0 m c t) (rows1 m c t) (rows2 m c t) (whole3 m c t) (whole4 m c t) (whole5 m c t) (whole6 m c t) (whole7 m c t) (whole8 m c t)) _ (by decide) q

theorem final13 : (dats m 0 c).arrAt 13 (cfgs 0).N = (val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_after_last 13 t0_7 (by decide +kernel) _ fun j => ?_
  blk_simp
  rw [after0_13, Pipeline.eq_sum_fin_of_reset_step_apply_last (fun n h => (outsAt0 m c n h).2.2.2.2) 8 (fun _ => 0) (added m c)
    (first13 m c) (next13 m c) (le_of_eq N_0) t0_7 rfl j, zero_add]
  obtain ⟨k, q, rfl⟩ : ∃ (k : Fin 8) (q : Fin 1024), j = ValueIdx.ix2 k q := ⟨j 0, j 1, ValueIdx.eq_ix2 j⟩
  unfold val_main_v147
  have sums : ∀ f : Fin cfg0.N → EReal, (∀ t, added m c t (ValueIdx.ix2 k q) = f t) → ∑ t, added m c t (ValueIdx.ix2 k q) = ∑ t, f t :=
    fun f e => Finset.sum_congr rfl fun t _ => e t
  have cases : k.val = 0 ∨ k.val = 1 ∨ k.val = 2 ∨ k.val = 3 ∨ k.val = 4 ∨ 5 ≤ k.val := by omega
  rcases cases with h | h | h | h | h | h
  · refine (sums (fun t => share0 m c t) fun t => ?_).trans ((total0 m c q).trans ?_)
    · exact (if_neg (by show ¬k.val = _; omega)).trans ((if_neg (by show ¬k.val = _; omega)).trans ((if_neg (by show ¬k.val = _; omega)).trans ((if_neg (by show ¬k.val = _; omega)).trans (if_pos h))))
    · exact Eq.symm (concat_row _ _ k q 0 (by show (0 : Nat) < 6; decide) _ rfl 0 rfl 0 (show 0 + 0 = k.val by omega))
  · refine (sums (fun t => share1 m c t (ValueIdx.ix2 0 q)) fun t => ?_).trans ((total1 m c q).trans ?_)
    · exact (if_neg (by show ¬k.val = _; omega)).trans ((if_neg (by show ¬k.val = _; omega)).trans ((if_neg (by show ¬k.val = _; omega)).trans (if_pos h)))
    · exact Eq.symm (concat_row _ _ k q 1 (by show (1 : Nat) < 6; decide) _ rfl 1 rfl 0 (show 1 + 0 = k.val by omega))
  · refine (sums (fun t => share2 m c t (ValueIdx.ix2 0 q)) fun t => ?_).trans ((total2 m c q).trans ?_)
    · exact (if_neg (by show ¬k.val = _; omega)).trans ((if_neg (by show ¬k.val = _; omega)).trans (if_pos h))
    · exact Eq.symm (concat_row _ _ k q 2 (by show (2 : Nat) < 6; decide) _ rfl 2 rfl 0 (show 2 + 0 = k.val by omega))
  · refine (sums (fun t => share3 m c t (ValueIdx.ix2 0 q)) fun t => ?_).trans ((total3 m c q).trans ?_)
    · exact (if_neg (by show ¬k.val = _; omega)).trans (if_pos h)
    · exact Eq.symm (concat_row _ _ k q 3 (by show (3 : Nat) < 6; decide) _ rfl 3 rfl 0 (show 3 + 0 = k.val by omega))
  · refine (sums (fun t => share4 m c t (ValueIdx.ix2 0 q)) fun t => ?_).trans ((total4 m c q).trans ?_)
    · exact if_pos h
    · exact Eq.symm (concat_row _ _ k q 4 (by show (4 : Nat) < 6; decide) _ rfl 4 rfl 0 (show 4 + 0 = k.val by omega))
  · refine (sums (fun _ => 0) fun t => ?_).trans (Finset.sum_const_zero.trans ?_)
    · exact (if_neg (by show ¬k.val = _; omega)).trans ((if_neg (by show ¬k.val = _; omega)).trans ((if_neg (by show ¬k.val = _; omega)).trans ((if_neg (by show ¬k.val = _; omega)).trans (if_neg (by show ¬k.val = _; omega)))))
    · refine Eq.trans ?_ (Eq.symm (concat_row _ _ k q 5 (by show (5 : Nat) < 6; decide) (val_main_v146 (F := Ideal)) rfl 5 rfl ⟨k.val - 5, by omega⟩ (show 5 + (k.val - 5) = k.val by omega)))
      exact Ideal.ofBits_zero_f32.symm

end Cert.TailGrad

end
-- ==== Proof.TailValue.lean ====
/-
  THE END OF THE STEP: the value claim, from what the blocks of the results hold at the end (TailTiles, TailProducts, TailSums).
-/
module

public import proofs.«01_k».proof.Defs
public import proofs.«01_k».proof.Proof.TailProducts
public import proofs.«01_k».proof.Proof.TailSums
public import proofs.«01_k».proof.Proof.Gen.TailRefIdeal.Run
public import proofs.«01_k».proof.Proof.Gen.TailRefIdeal.Read

@[expose] public section

noncomputable section

open Idealize.ShloMosaic Idealize.ShloMosaic.TcCoe Idealize.SL.Sem

namespace Cert.TailValue

open Cert.TailGrad

/-- Equal arguments, equal values. -/
theorem same {A0 A1 A2 A3 A4 A5 A6 A7 A8 R : Type} (G : A0 → A1 → A2 → A3 → A4 → A5 → A6 → A7 → A8 → R)
    {x0 y0 : A0} {x1 y1 : A1} {x2 y2 : A2} {x3 y3 : A3} {x4 y4 : A4} {x5 y5 : A5} {x6 y6 : A6} {x7 y7 : A7} {x8 y8 : A8}
    (h0 : x0 = y0) (h1 : x1 = y1) (h2 : x2 = y2) (h3 : x3 = y3) (h4 : x4 = y4) (h5 : x5 = y5) (h6 : x6 = y6) (h7 : x7 = y7) (h8 : x8 = y8) :
    G x0 x1 x2 x3 x4 x5 x6 x7 x8 = G y0 y1 y2 y3 y4 y5 y6 y7 y8 := by
  subst h0 h1 h2 h3 h4 h5 h6 h7 h8
  rfl

set_option maxHeartbeats 1000000 in
/-- From memories that agree on the arguments, the kernel and the reference run and end with equal results. -/
theorem value : @Cert.algebraic_TailIdeal_TailRefIdeal Cert.TailIdeal.Gen.facts Cert.TailRefIdeal.Gen.facts := by
  intro m g m' g' _ hagree
  refine ⟨_, _, _, _, _, Cert.TailIdeal.Value.run_blocks m g, ?_⟩
  refine (θ_run Cert.TailRefIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.TailRefIdeal.Value.run (F := Ideal) m' g')
  · obtain ⟨a0, a1, a2, a3, a4, a5, a6, a7, a8⟩ := hagree c
    refine (Cert.TailRefIdeal.Read.val_main_v144_eq (StableHlo.launchContents m' c)).trans ?_
    exact (same (Cert.TailRefIdeal.Read.val_main_v144 (F := Ideal)) a0 a1 a2 a3 a4 a5 a6 a7 a8).trans (final9 m c).symm
  · obtain ⟨a0, a1, a2, a3, a4, a5, a6, a7, a8⟩ := hagree c
    refine (Cert.TailRefIdeal.Read.val_main_v148_eq (StableHlo.launchContents m' c)).trans ?_
    exact (same (Cert.TailRefIdeal.Read.val_main_v148 (F := Ideal)) a0 a1 a2 a3 a4 a5 a6 a7 a8).trans (final10 m c).symm
  · obtain ⟨a0, a1, a2, a3, a4, a5, a6, a7, a8⟩ := hagree c
    refine (Cert.TailRefIdeal.Read.val_main_v123_eq (StableHlo.launchContents m' c)).trans ?_
    exact (same (Cert.TailRefIdeal.Read.val_main_v123 (F := Ideal)) a0 a1 a2 a3 a4 a5 a6 a7 a8).trans (final11 m c).symm
  · obtain ⟨a0, a1, a2, a3, a4, a5, a6, a7, a8⟩ := hagree c
    refine (Cert.TailRefIdeal.Read.val_main_v118_eq (StableHlo.launchContents m' c)).trans ?_
    exact (same (Cert.TailRefIdeal.Read.val_main_v118 (F := Ideal)) a0 a1 a2 a3 a4 a5 a6 a7 a8).trans (final12 m c).symm
  · obtain ⟨a0, a1, a2, a3, a4, a5, a6, a7, a8⟩ := hagree c
    refine (Cert.TailRefIdeal.Read.val_main_v147_eq (StableHlo.launchContents m' c)).trans ?_
    exact (same (Cert.TailRefIdeal.Read.val_main_v147 (F := Ideal)) a0 a1 a2 a3 a4 a5 a6 a7 a8).trans (final13 m c).symm

end Cert.TailValue

end
-- ==== Proof.FiltersValue.lean ====
/-
  THE UPDATE OF THE TWO FILTERS: one step of the optimiser on the two convolutions' weights, element by element the
  reference's. One grid point holds everything.
-/
module

public import proofs.«01_k».proof.Defs
public import proofs.«01_k».proof.Proof.Gen.FiltersIdeal.Value
public import proofs.«01_k».proof.Proof.Gen.FiltersRefIdeal.Run
public import proofs.«01_k».proof.Proof.Gen.FiltersRefIdeal.Read
public import proofs.«01_k».proof.Proof.Rows
public import Idealize.ShloMosaic.Lib.Pipeline.ValueKit

@[expose] public section

set_option maxRecDepth 16384

noncomputable section

namespace Cert.FiltersValue

open Idealize.ShloMosaic Idealize.ShloMosaic.TcCoe Idealize.SL.Sem Idealize.ShloMosaic.ValueIdx
open Idealize.ShloMosaic.Pipeline (Dat)
open Cert.Rows Cert.FiltersIdeal Cert.FiltersIdeal.Gen Cert.FiltersRefIdeal.Read

variable (m : (ℓ : Loc nD τ sig) → Buf (Elt Ideal) ℓ) (c : Dev nD)

/-- The block indices of the windows. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] :=
  (by decide +kernel : ∀ t : Fin grid0.N, _)

theorem whole0 (t : Fin cfg0.N) : iblk m c 0 t = (m ((c : Thread nD τ).loc main_arg0)) := funext fun i => by
  blk_ext [iblk, V, idx t]
theorem whole1 (t : Fin cfg0.N) : iblk m c 1 t = (m ((c : Thread nD τ).loc main_arg1)) := funext fun i => by
  blk_ext [iblk, V, idx t]
theorem whole2 (t : Fin cfg0.N) : iblk m c 2 t = (m ((c : Thread nD τ).loc main_arg2)) := funext fun i => by
  blk_ext [iblk, V, idx t]
theorem whole3 (t : Fin cfg0.N) : iblk m c 3 t = (m ((c : Thread nD τ).loc main_arg3)) := funext fun i => by
  blk_ext [iblk, V, idx t]
theorem whole4 (t : Fin cfg0.N) : iblk m c 4 t = (m ((c : Thread nD τ).loc main_arg4)) := funext fun i => by
  blk_ext [iblk, V, idx t]
theorem whole5 (t : Fin cfg0.N) : iblk m c 5 t = (m ((c : Thread nD τ).loc main_arg5)) := funext fun i => by
  blk_ext [iblk, V, idx t]
theorem whole6 (t : Fin cfg0.N) : iblk m c 6 t = (m ((c : Thread nD τ).loc main_arg6)) := funext fun i => by
  blk_ext [iblk, V, idx t]
theorem whole7 (t : Fin cfg0.N) : iblk m c 7 t = (m ((c : Thread nD τ).loc main_arg7)) := funext fun i => by
  blk_ext [iblk, V, idx t]

section S4
variable (g w mo ve : Vec Ideal ⟨2, ![4, 1536]⟩ .f32)

/-- The running mean, … -/
theorem mean4 : k0_pay4 (F := Ideal) g mo = val_main_v4 (F := Ideal) g mo := funext fun _ => rfl
/-- … the running mean square … -/
theorem square4 : k0_pay5 (F := Ideal) g ve = val_main_v10 (F := Ideal) g ve := funext fun _ => rfl
/-- … and the step. -/
theorem step4 : k0_pay6 (F := Ideal) w g mo ve = val_main_v23 (F := Ideal) g w mo ve := funext fun _ => rfl

end S4

section S31
variable (g w mo ve : Vec Ideal ⟨2, ![31, 1024]⟩ .f32)

/-- The running mean, … -/
theorem mean31 : k0_pay1 (F := Ideal) g mo = val_main_v28 (F := Ideal) g mo := funext fun _ => rfl
/-- … the running mean square … -/
theorem square31 : k0_pay2 (F := Ideal) g ve = val_main_v34 (F := Ideal) g ve := funext fun _ => rfl
/-- … and the step. -/
theorem step31 : k0_pay3 (F := Ideal) w g mo ve = val_main_v47 (F := Ideal) g w mo ve := funext fun _ => rfl

end S31

/-- What the grid point stores in window 8. -/
theorem after8 (t : Fin cfg0.N) : out0_8 (iblk m c 0 t) (iblk m c 1 t) (iblk m c 2 t) (iblk m c 3 t) (iblk m c 4 t) (iblk m c 5 t) (iblk m c 6 t) (iblk m c 7 t) = (val_main_v23 (F := Ideal) (m ((c : Thread nD τ).loc main_arg0)) (m ((c : Thread nD τ).loc main_arg1)) (m ((c : Thread nD τ).loc main_arg2)) (m ((c : Thread nD τ).loc main_arg3))) := by
  unfold out0_8
  frame_out
  rw [whole0 m c t, whole1 m c t, whole2 m c t, whole3 m c t]
  exact step4 _ _ _ _

theorem final8 : (dats m 0 c).arrAt 8 (cfgs 0).N = (val_main_v23 (F := Ideal) (m ((c : Thread nD τ).loc main_arg0)) (m ((c : Thread nD τ).loc main_arg1)) (m ((c : Thread nD τ).loc main_arg2)) (m ((c : Thread nD τ).loc main_arg3))) := by
  refine (dats m 0 c).arrAt_eq_of_covers 8 _ (by decide +kernel) fun t hf y => ?_
  blk_simp
  rw [after0_8]
  refine (congrFun (after8 m c t) y).trans ?_
  blk_ext [idx t]

/-- What the grid point stores in window 9. -/
theorem after9 (t : Fin cfg0.N) : out0_9 (iblk m c 0 t) (iblk m c 1 t) (iblk m c 2 t) (iblk m c 3 t) (iblk m c 4 t) (iblk m c 5 t) (iblk m c 6 t) (iblk m c 7 t) = (val_main_v4 (F := Ideal) (m ((c : Thread nD τ).loc main_arg0)) (m ((c : Thread nD τ).loc main_arg2))) := by
  unfold out0_9
  frame_out
  rw [whole0 m c t, whole2 m c t]
  exact mean4 _ _

theorem final9 : (dats m 0 c).arrAt 9 (cfgs 0).N = (val_main_v4 (F := Ideal) (m ((c : Thread nD τ).loc main_arg0)) (m ((c : Thread nD τ).loc main_arg2))) := by
  refine (dats m 0 c).arrAt_eq_of_covers 9 _ (by decide +kernel) fun t hf y => ?_
  blk_simp
  rw [after0_9]
  refine (congrFun (after9 m c t) y).trans ?_
  blk_ext [idx t]

/-- What the grid point stores in window 10. -/
theorem after10 (t : Fin cfg0.N) : out0_10 (iblk m c 0 t) (iblk m c 1 t) (iblk m c 2 t) (iblk m c 3 t) (iblk m c 4 t) (iblk m c 5 t) (iblk m c 6 t) (iblk m c 7 t) = (val_main_v10 (F := Ideal) (m ((c : Thread nD τ).loc main_arg0)) (m ((c : Thread nD τ).loc main_arg3))) := by
  unfold out0_10
  frame_out
  rw [whole0 m c t, whole3 m c t]
  exact square4 _ _

theorem final10 : (dats m 0 c).arrAt 10 (cfgs 0).N = (val_main_v10 (F := Ideal) (m ((c : Thread nD τ).loc main_arg0)) (m ((c : Thread nD τ).loc main_arg3))) := by
  refine (dats m 0 c).arrAt_eq_of_covers 10 _ (by decide +kernel) fun t hf y => ?_
  blk_simp
  rw [after0_10]
  refine (congrFun (after10 m c t) y).trans ?_
  blk_ext [idx t]

/-- What the grid point stores in window 11. -/
theorem after11 (t : Fin cfg0.N) : out0_11 (iblk m c 0 t) (iblk m c 1 t) (iblk m c 2 t) (iblk m c 3 t) (iblk m c 4 t) (iblk m c 5 t) (iblk m c 6 t) (iblk m c 7 t) = (val_main_v47 (F := Ideal) (m ((c : Thread nD τ).loc main_arg4)) (m ((c : Thread nD τ).loc main_arg5)) (m ((c : Thread nD τ).loc main_arg6)) (m ((c : Thread nD τ).loc main_arg7))) := by
  unfold out0_11
  frame_out
  rw [whole4 m c t, whole5 m c t, whole6 m c t, whole7 m c t]
  exact step31 _ _ _ _

theorem final11 : (dats m 0 c).arrAt 11 (cfgs 0).N = (val_main_v47 (F := Ideal) (m ((c : Thread nD τ).loc main_arg4)) (m ((c : Thread nD τ).loc main_arg5)) (m ((c : Thread nD τ).loc main_arg6)) (m ((c : Thread nD τ).loc main_arg7))) := by
  refine (dats m 0 c).arrAt_eq_of_covers 11 _ (by decide +kernel) fun t hf y => ?_
  blk_simp
  rw [after0_11]
  refine (congrFun (after11 m c t) y).trans ?_
  blk_ext [idx t]

/-- What the grid point stores in window 12. -/
theorem after12 (t : Fin cfg0.N) : out0_12 (iblk m c 0 t) (iblk m c 1 t) (iblk m c 2 t) (iblk m c 3 t) (iblk m c 4 t) (iblk m c 5 t) (iblk m c 6 t) (iblk m c 7 t) = (val_main_v28 (F := Ideal) (m ((c : Thread nD τ).loc main_arg4)) (m ((c : Thread nD τ).loc main_arg6))) := by
  unfold out0_12
  frame_out
  rw [whole4 m c t, whole6 m c t]
  exact mean31 _ _

theorem final12 : (dats m 0 c).arrAt 12 (cfgs 0).N = (val_main_v28 (F := Ideal) (m ((c : Thread nD τ).loc main_arg4)) (m ((c : Thread nD τ).loc main_arg6))) := by
  refine (dats m 0 c).arrAt_eq_of_covers 12 _ (by decide +kernel) fun t hf y => ?_
  blk_simp
  rw [after0_12]
  refine (congrFun (after12 m c t) y).trans ?_
  blk_ext [idx t]

/-- What the grid point stores in window 13. -/
theorem after13 (t : Fin cfg0.N) : out0_13 (iblk m c 0 t) (iblk m c 1 t) (iblk m c 2 t) (iblk m c 3 t) (iblk m c 4 t) (iblk m c 5 t) (iblk m c 6 t) (iblk m c 7 t) = (val_main_v34 (F := Ideal) (m ((c : Thread nD τ).loc main_arg4)) (m ((c : Thread nD τ).loc main_arg7))) := by
  unfold out0_13
  frame_out
  rw [whole4 m c t, whole7 m c t]
  exact square31 _ _

theorem final13 : (dats m 0 c).arrAt 13 (cfgs 0).N = (val_main_v34 (F := Ideal) (m ((c : Thread nD τ).loc main_arg4)) (m ((c : Thread nD τ).loc main_arg7))) := by
  refine (dats m 0 c).arrAt_eq_of_covers 13 _ (by decide +kernel) fun t hf y => ?_
  blk_simp
  rw [after0_13]
  refine (congrFun (after13 m c t) y).trans ?_
  blk_ext [idx t]

set_option maxHeartbeats 1000000 in
/-- From memories that agree on the arguments, the kernel and the reference run and end with equal results. -/
theorem value : @Cert.algebraic_FiltersIdeal_FiltersRefIdeal Cert.FiltersIdeal.Gen.facts Cert.FiltersRefIdeal.Gen.facts := by
  intro m g m' g' _ hagree
  refine ⟨_, _, _, _, _, _, Cert.FiltersIdeal.Value.run_blocks m g, ?_⟩
  refine (θ_run Cert.FiltersRefIdeal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.FiltersRefIdeal.Value.run (F := Ideal) m' g')
  · obtain ⟨a0, a1, a2, a3, _, _, _, _⟩ := hagree c
    refine (Cert.FiltersRefIdeal.Read.val_main_v23_eq _ _ _ _).trans ?_
    rw [a0, a1, a2, a3]
    exact (final8 m c).symm
  · obtain ⟨a0, _, a2, _, _, _, _, _⟩ := hagree c
    refine (Cert.FiltersRefIdeal.Read.val_main_v4_eq _ _).trans ?_
    rw [a0, a2]
    exact (final9 m c).symm
  · obtain ⟨a0, _, _, a3, _, _, _, _⟩ := hagree c
    refine (Cert.FiltersRefIdeal.Read.val_main_v10_eq _ _).trans ?_
    rw [a0, a3]
    exact (final10 m c).symm
  · obtain ⟨_, _, _, _, a4, a5, a6, a7⟩ := hagree c
    refine (Cert.FiltersRefIdeal.Read.val_main_v47_eq _ _ _ _).trans ?_
    rw [a4, a5, a6, a7]
    exact (final11 m c).symm
  · obtain ⟨_, _, _, _, a4, _, a6, _⟩ := hagree c
    refine (Cert.FiltersRefIdeal.Read.val_main_v28_eq _ _).trans ?_
    rw [a4, a6]
    exact (final12 m c).symm
  · obtain ⟨_, _, _, _, a4, _, _, a7⟩ := hagree c
    refine (Cert.FiltersRefIdeal.Read.val_main_v34_eq _ _).trans ?_
    rw [a4, a7]
    exact (final13 m c).symm

end Cert.FiltersValue

end
-- ==== Proof.lean ====
/-
  THE CERTIFICATE: the kernels and the references run and leave their arguments alone, and over the extended reals the kernels'
  results are the references'.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.MlpBwd.Frame
public import proofs.«01_k».proof.Proof.Gen.MlpBwdIdeal.Frame
public import proofs.«01_k».proof.Proof.Gen.MlpBwdIdeal.Value
public import proofs.«01_k».proof.Proof.Gen.MlpBwdRefIdeal.Run
public import proofs.«01_k».proof.Proof.Gen.MlpBwdRefIdeal.Read
public import proofs.«01_k».proof.Proof.Gen.InProjBwd.Frame
public import proofs.«01_k».proof.Proof.Gen.InProjBwdIdeal.Frame
public import proofs.«01_k».proof.Proof.Gen.InProjBwdIdeal.Value
public import proofs.«01_k».proof.Proof.Gen.InProjBwdRefIdeal.Run
public import proofs.«01_k».proof.Proof.Gen.InProjBwdRefIdeal.Read
public import proofs.«01_k».proof.Proof.Gen.DwDown.Frame
public import proofs.«01_k».proof.Proof.Gen.DwDownIdeal.Frame
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.Gen.DwUp.Frame
public import proofs.«01_k».proof.Proof.Gen.DwUpIdeal.Frame
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Gen.DwOut.Frame
public import proofs.«01_k».proof.Proof.Gen.DwOutIdeal.Frame
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.DwInZ.Frame
public import proofs.«01_k».proof.Proof.Gen.DwInZIdeal.Frame
public import proofs.«01_k».proof.Proof.Gen.DwInZIdeal.Value
public import proofs.«01_k».proof.Proof.Gen.DwInZRefIdeal.Run
public import proofs.«01_k».proof.Proof.Gen.DwInZRefIdeal.Read
public import proofs.«01_k».proof.Proof.Gen.DwInXbc.Frame
public import proofs.«01_k».proof.Proof.Gen.DwInXbcIdeal.Frame
public import proofs.«01_k».proof.Proof.Gen.DwInXbcIdeal.Value
public import proofs.«01_k».proof.Proof.Gen.DwInXbcRefIdeal.Run
public import proofs.«01_k».proof.Proof.Gen.DwInXbcRefIdeal.Read
public import proofs.«01_k».proof.Proof.Gen.DwInCvg.Frame
public import proofs.«01_k».proof.Proof.Gen.DwInCvgIdeal.Frame
public import proofs.«01_k».proof.Proof.Gen.DwInCvgIdeal.Value
public import proofs.«01_k».proof.Proof.Gen.DwInCvgRefIdeal.Run
public import proofs.«01_k».proof.Proof.Gen.DwInCvgRefIdeal.Read
public import proofs.«01_k».proof.Proof.Gen.MlpDown.Frame
public import proofs.«01_k».proof.Proof.Gen.MlpDownIdeal.Frame
public import proofs.«01_k».proof.Proof.Gen.MlpDownIdeal.Value
public import proofs.«01_k».proof.Proof.Gen.MlpDownRefIdeal.Run
public import proofs.«01_k».proof.Proof.Gen.MlpDownRefIdeal.Read
public import proofs.«01_k».proof.Proof.Gen.MlpUp.Frame
public import proofs.«01_k».proof.Proof.Gen.MlpUpIdeal.Frame
public import proofs.«01_k».proof.Proof.Gen.MlpUpIdeal.Value
public import proofs.«01_k».proof.Proof.Gen.MlpUpRefIdeal.Run
public import proofs.«01_k».proof.Proof.Gen.MlpUpRefIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProjFwd.Frame
public import proofs.«01_k».proof.Proof.Gen.OutProjFwdIdeal.Frame
public import proofs.«01_k».proof.Proof.Gen.OutProjFwdIdeal.Value
public import proofs.«01_k».proof.Proof.Gen.OutProjFwdRefIdeal.Run
public import proofs.«01_k».proof.Proof.Gen.OutProjFwdRefIdeal.Read
public import proofs.«01_k».proof.Proof.Gen.Tail.Frame
public import proofs.«01_k».proof.Proof.Gen.TailIdeal.Frame
public import proofs.«01_k».proof.Proof.Gen.TailIdeal.Value
public import proofs.«01_k».proof.Proof.Gen.TailRefIdeal.Run
public import proofs.«01_k».proof.Proof.Gen.TailRefIdeal.Read
public import proofs.«01_k».proof.Proof.Gen.Filters.Frame
public import proofs.«01_k».proof.Proof.Gen.FiltersIdeal.Frame
public import proofs.«01_k».proof.Proof.Gen.FiltersIdeal.Value
public import proofs.«01_k».proof.Proof.Gen.FiltersRefIdeal.Run
public import proofs.«01_k».proof.Proof.Gen.FiltersRefIdeal.Read
public import proofs.«01_k».proof.Proof.OutClaim
public import proofs.«01_k».proof.Proof.MlpClaim
public import proofs.«01_k».proof.Proof.InClaim
public import proofs.«01_k».proof.Proof.DwDownValue
public import proofs.«01_k».proof.Proof.DwUpValue
public import proofs.«01_k».proof.Proof.DwOutValue
public import proofs.«01_k».proof.Proof.DwInZValue
public import proofs.«01_k».proof.Proof.DwInXbcValue
public import proofs.«01_k».proof.Proof.DwInCvgValue
public import proofs.«01_k».proof.Proof.MlpDownValue
public import proofs.«01_k».proof.Proof.MlpUpValue
public import proofs.«01_k».proof.Proof.InProjValue
public import proofs.«01_k».proof.Proof.OutProjFwdValue
public import proofs.«01_k».proof.Proof.TailValue
public import proofs.«01_k».proof.Proof.FiltersValue
public import Idealize.ShloMosaic.Lib.Quiescent

@[expose] public section

noncomputable section

namespace Cert.Proof

open Idealize.ShloMosaic Idealize.SL.Sem

/-- The reference of the output projection's backward pass is a program of host operations: it has no semaphore. -/
theorem outReferenceFrame : @Cert.quiescent_ReferenceIdeal Cert.ReferenceIdeal.Gen.facts := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The reference of the MLP's backward pass is a program of host operations: it has no semaphore. -/
theorem mlpReferenceFrame : @Cert.quiescent_MlpBwdRefIdeal Cert.MlpBwdRefIdeal.Gen.facts := fun m ρ _ =>
  (θ_run Cert.MlpBwdRefIdeal.defs _ _).mono (fun r h => ⟨fun c => (h c).2.2.2.2, sem_eq_zero_of_no_sems (by decide) r.2⟩)
    (Cert.MlpBwdRefIdeal.Value.run (F := Ideal) m ρ)

/-- The reference of the input projection's backward pass is a program of host operations: it has no semaphore. -/
theorem inProjReferenceFrame : @Cert.quiescent_InProjBwdRefIdeal Cert.InProjBwdRefIdeal.Gen.facts := fun m ρ _ =>
  (θ_run Cert.InProjBwdRefIdeal.defs _ _).mono (fun r h => ⟨fun c => (h c).2.2, sem_eq_zero_of_no_sems (by decide) r.2⟩)
    (Cert.InProjBwdRefIdeal.Value.run (F := Ideal) m ρ)

/-- The reference of the gradient of `w_down` is a program of host operations: it has no semaphore. -/
theorem dwDownReferenceFrame : @Cert.quiescent_DwDownRefIdeal Cert.DwDownRefIdeal.Gen.facts := fun m ρ _ =>
  (θ_run Cert.DwDownRefIdeal.defs _ _).mono (fun r h => ⟨fun c => (h c).2, sem_eq_zero_of_no_sems (by decide) r.2⟩)
    (Cert.DwDownRefIdeal.Value.run (F := Ideal) m ρ)

/-- The reference of the gradient of `w_up` is a program of host operations: it has no semaphore. -/
theorem dwUpReferenceFrame : @Cert.quiescent_DwUpRefIdeal Cert.DwUpRefIdeal.Gen.facts := fun m ρ _ =>
  (θ_run Cert.DwUpRefIdeal.defs _ _).mono (fun r h => ⟨fun c => (h c).2, sem_eq_zero_of_no_sems (by decide) r.2⟩)
    (Cert.DwUpRefIdeal.Value.run (F := Ideal) m ρ)

/-- The reference of the gradient of `w_out` is a program of host operations: it has no semaphore. -/
theorem dwOutReferenceFrame : @Cert.quiescent_DwOutRefIdeal Cert.DwOutRefIdeal.Gen.facts := fun m ρ _ =>
  (θ_run Cert.DwOutRefIdeal.defs _ _).mono (fun r h => ⟨fun c => (h c).2, sem_eq_zero_of_no_sems (by decide) r.2⟩)
    (Cert.DwOutRefIdeal.Value.run (F := Ideal) m ρ)

/-- The reference of the first segment of the gradient of `w_in` is a program of host operations: it has no semaphore. -/
theorem dwInZReferenceFrame : @Cert.quiescent_DwInZRefIdeal Cert.DwInZRefIdeal.Gen.facts := fun m ρ _ =>
  (θ_run Cert.DwInZRefIdeal.defs _ _).mono (fun r h => ⟨fun c => (h c).2, sem_eq_zero_of_no_sems (by decide) r.2⟩)
    (Cert.DwInZRefIdeal.Value.run (F := Ideal) m ρ)

/-- The reference of the second segment of it is a program of host operations: it has no semaphore. -/
theorem dwInXbcReferenceFrame : @Cert.quiescent_DwInXbcRefIdeal Cert.DwInXbcRefIdeal.Gen.facts := fun m ρ _ =>
  (θ_run Cert.DwInXbcRefIdeal.defs _ _).mono (fun r h => ⟨fun c => (h c).2, sem_eq_zero_of_no_sems (by decide) r.2⟩)
    (Cert.DwInXbcRefIdeal.Value.run (F := Ideal) m ρ)

/-- The reference of the last segment of it is a program of host operations: it has no semaphore. -/
theorem dwInCvgReferenceFrame : @Cert.quiescent_DwInCvgRefIdeal Cert.DwInCvgRefIdeal.Gen.facts := fun m ρ _ =>
  (θ_run Cert.DwInCvgRefIdeal.defs _ _).mono (fun r h => ⟨fun c => (h c).2, sem_eq_zero_of_no_sems (by decide) r.2⟩)
    (Cert.DwInCvgRefIdeal.Value.run (F := Ideal) m ρ)

/-- The reference of the MLP's second product is a program of host operations: it has no semaphore. -/
theorem mlpDownReferenceFrame : @Cert.quiescent_MlpDownRefIdeal Cert.MlpDownRefIdeal.Gen.facts := fun m ρ _ =>
  (θ_run Cert.MlpDownRefIdeal.defs _ _).mono (fun r h => ⟨fun c => (h c).2, sem_eq_zero_of_no_sems (by decide) r.2⟩)
    (Cert.MlpDownRefIdeal.Value.run (F := Ideal) m ρ)

/-- The reference of the MLP's first product is a program of host operations: it has no semaphore. -/
theorem mlpUpReferenceFrame : @Cert.quiescent_MlpUpRefIdeal Cert.MlpUpRefIdeal.Gen.facts := fun m ρ _ =>
  (θ_run Cert.MlpUpRefIdeal.defs _ _).mono (fun r h => ⟨fun c => (h c).2.2, sem_eq_zero_of_no_sems (by decide) r.2⟩)
    (Cert.MlpUpRefIdeal.Value.run (F := Ideal) m ρ)

/-- The reference of the input projection is a program of host operations: it has no semaphore. -/
theorem inFwdReferenceFrame : @Cert.quiescent_InProjRefIdeal Cert.InProjRefIdeal.Gen.facts := fun m ρ _ =>
  (θ_run Cert.InProjRefIdeal.defs _ _).mono (fun r h => ⟨fun c => (h c).2.2.2.2.2.2, sem_eq_zero_of_no_sems (by decide) r.2⟩)
    (Cert.InProjRefIdeal.Value.run (F := Ideal) m ρ)

/-- The reference of the output projection is a program of host operations: it has no semaphore. -/
theorem outFwdReferenceFrame : @Cert.quiescent_OutProjFwdRefIdeal Cert.OutProjFwdRefIdeal.Gen.facts := fun m ρ _ =>
  (θ_run Cert.OutProjFwdRefIdeal.defs _ _).mono (fun r h => ⟨fun c => (h c).2.2.2, sem_eq_zero_of_no_sems (by decide) r.2⟩)
    (Cert.OutProjFwdRefIdeal.Value.run (F := Ideal) m ρ)

/-- The reference of the end of the step is a program of host operations: it has no semaphore. -/
theorem tailReferenceFrame : @Cert.quiescent_TailRefIdeal Cert.TailRefIdeal.Gen.facts := fun m ρ _ =>
  (θ_run Cert.TailRefIdeal.defs _ _).mono (fun r h => ⟨fun c => (h c).2.2.2.2.2, sem_eq_zero_of_no_sems (by decide) r.2⟩)
    (Cert.TailRefIdeal.Value.run (F := Ideal) m ρ)

/-- The reference of the filters' update is a program of host operations: it has no semaphore. -/
theorem filtersReferenceFrame : @Cert.quiescent_FiltersRefIdeal Cert.FiltersRefIdeal.Gen.facts := fun m ρ _ =>
  (θ_run Cert.FiltersRefIdeal.defs _ _).mono (fun r h => ⟨fun c => (h c).2.2.2.2.2.2, sem_eq_zero_of_no_sems (by decide) r.2⟩)
    (Cert.FiltersRefIdeal.Value.run (F := Ideal) m ρ)

set_option maxHeartbeats 4000000 in
theorem claim : Cert.Claim := ⟨Cert.Kernel.Gen.facts, Cert.MlpBwd.Gen.facts, Cert.InProjBwd.Gen.facts, Cert.DwDown.Gen.facts, Cert.DwUp.Gen.facts, Cert.DwOut.Gen.facts, Cert.DwInZ.Gen.facts, Cert.DwInXbc.Gen.facts, Cert.DwInCvg.Gen.facts, Cert.MlpDown.Gen.facts, Cert.MlpUp.Gen.facts, Cert.InProj.Gen.facts, Cert.OutProjFwd.Gen.facts, Cert.Tail.Gen.facts, Cert.Filters.Gen.facts, Cert.KernelIdeal.Gen.facts, Cert.MlpBwdIdeal.Gen.facts, Cert.InProjBwdIdeal.Gen.facts, Cert.DwDownIdeal.Gen.facts, Cert.DwUpIdeal.Gen.facts, Cert.DwOutIdeal.Gen.facts, Cert.DwInZIdeal.Gen.facts, Cert.DwInXbcIdeal.Gen.facts, Cert.DwInCvgIdeal.Gen.facts, Cert.MlpDownIdeal.Gen.facts, Cert.MlpUpIdeal.Gen.facts, Cert.InProjIdeal.Gen.facts, Cert.OutProjFwdIdeal.Gen.facts, Cert.TailIdeal.Gen.facts, Cert.FiltersIdeal.Gen.facts, Cert.ReferenceIdeal.Gen.facts, Cert.MlpBwdRefIdeal.Gen.facts, Cert.InProjBwdRefIdeal.Gen.facts, Cert.DwDownRefIdeal.Gen.facts, Cert.DwUpRefIdeal.Gen.facts, Cert.DwOutRefIdeal.Gen.facts, Cert.DwInZRefIdeal.Gen.facts, Cert.DwInXbcRefIdeal.Gen.facts, Cert.DwInCvgRefIdeal.Gen.facts, Cert.MlpDownRefIdeal.Gen.facts, Cert.MlpUpRefIdeal.Gen.facts, Cert.InProjRefIdeal.Gen.facts, Cert.OutProjFwdRefIdeal.Gen.facts, Cert.TailRefIdeal.Gen.facts, Cert.FiltersRefIdeal.Gen.facts,
  fun m g _ => Cert.Kernel.Gen.frame m g,
  fun m g _ => Cert.MlpBwd.Gen.frame m g,
  fun m g _ => Cert.InProjBwd.Gen.frame m g,
  fun m g _ => Cert.DwDown.Gen.frame m g,
  fun m g _ => Cert.DwUp.Gen.frame m g,
  fun m g _ => Cert.DwOut.Gen.frame m g,
  fun m g _ => Cert.DwInZ.Gen.frame m g,
  fun m g _ => Cert.DwInXbc.Gen.frame m g,
  fun m g _ => Cert.DwInCvg.Gen.frame m g,
  fun m g _ => Cert.MlpDown.Gen.frame m g,
  fun m g _ => Cert.MlpUp.Gen.frame m g,
  fun m g _ => Cert.InProj.Gen.frame m g,
  fun m g _ => Cert.OutProjFwd.Gen.frame m g,
  fun m g _ => Cert.Tail.Gen.frame m g,
  fun m g _ => Cert.Filters.Gen.frame m g,
  fun m g _ => Cert.KernelIdeal.Gen.frame m g,
  fun m g _ => Cert.MlpBwdIdeal.Gen.frame m g,
  fun m g _ => Cert.InProjBwdIdeal.Gen.frame m g,
  fun m g _ => Cert.DwDownIdeal.Gen.frame m g,
  fun m g _ => Cert.DwUpIdeal.Gen.frame m g,
  fun m g _ => Cert.DwOutIdeal.Gen.frame m g,
  fun m g _ => Cert.DwInZIdeal.Gen.frame m g,
  fun m g _ => Cert.DwInXbcIdeal.Gen.frame m g,
  fun m g _ => Cert.DwInCvgIdeal.Gen.frame m g,
  fun m g _ => Cert.MlpDownIdeal.Gen.frame m g,
  fun m g _ => Cert.MlpUpIdeal.Gen.frame m g,
  fun m g _ => Cert.InProjIdeal.Gen.frame m g,
  fun m g _ => Cert.OutProjFwdIdeal.Gen.frame m g,
  fun m g _ => Cert.TailIdeal.Gen.frame m g,
  fun m g _ => Cert.FiltersIdeal.Gen.frame m g,
  outReferenceFrame,
  mlpReferenceFrame,
  inProjReferenceFrame,
  dwDownReferenceFrame,
  dwUpReferenceFrame,
  dwOutReferenceFrame,
  dwInZReferenceFrame,
  dwInXbcReferenceFrame,
  dwInCvgReferenceFrame,
  mlpDownReferenceFrame,
  mlpUpReferenceFrame,
  inFwdReferenceFrame,
  outFwdReferenceFrame,
  tailReferenceFrame,
  filtersReferenceFrame,
  trivial, trivial, trivial, trivial, trivial, trivial, trivial, trivial, trivial, trivial, trivial, trivial, trivial, trivial, trivial,
  Cert.OutProj.value,
  Cert.MlpGrad.value,
  Cert.InGrad.value,
  Cert.DwDownValue.value,
  Cert.DwUpValue.value,
  Cert.DwOutValue.value,
  Cert.DwInZValue.value,
  Cert.DwInXbcValue.value,
  Cert.DwInCvgValue.value,
  Cert.MlpDownValue.value,
  Cert.MlpUpValue.value,
  Cert.InProjValue.value,
  Cert.OutProjFwdValue.value,
  Cert.TailValue.value,
  Cert.FiltersValue.value⟩

end Cert.Proof

end
